-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_real_rows [hPre_real_rows : Cert.Pre_real_rows.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_real_rows.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).1 = (fun _ => 1#1)
    ∧ (Cert.Pre_real_rows.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_real_rows [hPre_real_rows : Cert.Pre_real_rows.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_real_rows.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).1 = (fun _ => 1#1)
    ∧ (Cert.Pre_real_rows.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_real_sample_rows [hPre_real_sample_rows : Cert.Pre_real_sample_rows.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_real_sample_rows.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).1 = (fun _ => 1#1)
    ∧ (Cert.Pre_real_sample_rows.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_real_sample_rows [hPre_real_sample_rows : Cert.Pre_real_sample_rows.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_real_sample_rows.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).1 = (fun _ => 1#1)
    ∧ (Cert.Pre_real_sample_rows.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_real_rows [hKernel12Ideal : Cert.Kernel12Ideal.Facts] [hPre_real_rows : Cert.Pre_real_rows.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_real_rows m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_real_rows [hReference12Ideal : Cert.Reference12Ideal.Facts] [hPre_real_rows : Cert.Pre_real_rows.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_real_rows m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_real_sample_rows [hKernel13Ideal : Cert.Kernel13Ideal.Facts] [hPre_real_sample_rows : Cert.Pre_real_sample_rows.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_real_sample_rows m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_real_sample_rows [hReference13Ideal : Cert.Reference13Ideal.Facts] [hPre_real_sample_rows : Cert.Pre_real_sample_rows.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_real_sample_rows m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v6) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v30) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_v30) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v8) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v8) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_real_rows [hKernel12Ideal : Cert.Kernel12Ideal.Facts] [hReference12Ideal : Cert.Reference12Ideal.Facts] [hPre_real_rows : Cert.Pre_real_rows.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_real_rows m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v38_0)) (v1 : (c : Dev Cert.Kernel12Ideal.nD) → Buf (Elt Ideal) ((c.tc : Thread Cert.Kernel12Ideal.nD Cert.Kernel12Ideal.τ).loc Cert.Kernel12Ideal.main_v38_1)) (v2 : (c : Dev Cert.Kernel12Ideal.nD) → Buf (Elt Ideal) ((c.tc : Thread Cert.Kernel12Ideal.nD Cert.Kernel12Ideal.τ).loc Cert.Kernel12Ideal.main_v38_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v38_0) = v0 c
          ∧ r.2.mem ((c.tc : Thread Cert.Kernel12Ideal.nD Cert.Kernel12Ideal.τ).loc Cert.Kernel12Ideal.main_v38_1) = v1 c
          ∧ r.2.mem ((c.tc : Thread Cert.Kernel12Ideal.nD Cert.Kernel12Ideal.τ).loc Cert.Kernel12Ideal.main_v38_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_v35) = v1 c
          ∧ r.2.mem ((c.tc : Thread Cert.Reference12Ideal.nD Cert.Reference12Ideal.τ).loc Cert.Reference12Ideal.main_v60) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal_pre_real_sample_rows [hKernel13Ideal : Cert.Kernel13Ideal.Facts] [hReference13Ideal : Cert.Reference13Ideal.Facts] [hPre_real_sample_rows : Cert.Pre_real_sample_rows.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_real_sample_rows m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v43_0)) (v1 : (c : Dev Cert.Kernel13Ideal.nD) → Buf (Elt Ideal) ((c.tc : Thread Cert.Kernel13Ideal.nD Cert.Kernel13Ideal.τ).loc Cert.Kernel13Ideal.main_v43_1)) (v2 : (c : Dev Cert.Kernel13Ideal.nD) → Buf (Elt Ideal) ((c.tc : Thread Cert.Kernel13Ideal.nD Cert.Kernel13Ideal.τ).loc Cert.Kernel13Ideal.main_v43_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v43_0) = v0 c
          ∧ r.2.mem ((c.tc : Thread Cert.Kernel13Ideal.nD Cert.Kernel13Ideal.τ).loc Cert.Kernel13Ideal.main_v43_1) = v1 c
          ∧ r.2.mem ((c.tc : Thread Cert.Kernel13Ideal.nD Cert.Kernel13Ideal.τ).loc Cert.Kernel13Ideal.main_v43_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v37) = v1 c
          ∧ r.2.mem ((c.tc : Thread Cert.Reference13Ideal.nD Cert.Reference13Ideal.τ).loc Cert.Reference13Ideal.main_v62) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v5) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v62) = v0 c
          ∧ r.2.mem ((c.tc : Thread Cert.Reference14Ideal.nD Cert.Reference14Ideal.τ).loc Cert.Reference14Ideal.main_v63) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v10_0)) (v1 : (c : Dev Cert.Kernel15Ideal.nD) → Buf (Elt Ideal) ((c.tc : Thread Cert.Kernel15Ideal.nD Cert.Kernel15Ideal.τ).loc Cert.Kernel15Ideal.main_v10_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v10_0) = v0 c
          ∧ r.2.mem ((c.tc : Thread Cert.Kernel15Ideal.nD Cert.Kernel15Ideal.τ).loc Cert.Kernel15Ideal.main_v10_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v91) = v0 c
          ∧ r.2.mem ((c.tc : Thread Cert.Reference15Ideal.nD Cert.Reference15Ideal.τ).loc Cert.Reference15Ideal.main_v69) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_real_rows : Cert.Pre_real_rows.Facts) (hPre_real_sample_rows : Cert.Pre_real_sample_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_real_rows (hKernel12Ideal := hKernel12Ideal) (hPre_real_rows := hPre_real_rows)
    ∧ quiescent_Reference12Ideal (hReference12Ideal := hReference12Ideal)
    ∧ quiescent_Reference12Ideal_pre_real_rows (hReference12Ideal := hReference12Ideal) (hPre_real_rows := hPre_real_rows)
    ∧ quiescent_Kernel13 (hKernel13 := hKernel13)
    ∧ quiescent_Kernel13Ideal (hKernel13Ideal := hKernel13Ideal)
    ∧ quiescent_Kernel13Ideal_pre_real_sample_rows (hKernel13Ideal := hKernel13Ideal) (hPre_real_sample_rows := hPre_real_sample_rows)
    ∧ quiescent_Reference13Ideal (hReference13Ideal := hReference13Ideal)
    ∧ quiescent_Reference13Ideal_pre_real_sample_rows (hReference13Ideal := hReference13Ideal) (hPre_real_sample_rows := hPre_real_sample_rows)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_real_rows (hKernel12Ideal := hKernel12Ideal) (hReference12Ideal := hReference12Ideal) (hPre_real_rows := hPre_real_rows)
    ∧ preserves_Kernel13_Kernel13Ideal
    ∧ algebraic_Kernel13Ideal_Reference13Ideal_pre_real_sample_rows (hKernel13Ideal := hKernel13Ideal) (hReference13Ideal := hReference13Ideal) (hPre_real_sample_rows := hPre_real_sample_rows)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S16x32768x128 : Shape := ⟨3, ![16, 32768, 128]⟩
abbrev S_ : Shape := ⟨0, ![]⟩

class Facts : Prop where
  bitsLt_bf16_f32 : FTy.bits .bf16 < FTy.bits .f32
  bcast_S_S16x32768x128 : S_.BroadcastsInDim S16x32768x128 (![] : Fin 0 → Fin S16x32768x128.rank)

variable [Facts]

def fn {F : FTy → Type} [FloatOps F] (main_arg0 : FVec F S16x32768x128 .bf16) (main_arg1 : FVec F S16x32768x128 .bf16) (main_arg2 : FVec F S16x32768x128 .bf16) : IVec S16x32768x128 1 × IVec S16x32768x128 1 :=
  let main_v0 : FVec F S16x32768x128 .f32 := (extf .f32 · bitsLt_bf16_f32) main_arg0
  let main_v1 : FVec F S16x32768x128 .f32 := Host.absf main_v0
  let main_cst : FVec F S_ .f32 := constant S_ .f32 0x7F800000#32
  let main_v2 : FVec F S16x32768x128 .f32 := broadcastInDim S16x32768x128 ![] bcast_S_S16x32768x128 main_cst
  let main_v3 : IVec S16x32768x128 1 := cmpf .olt main_v1 main_v2
  let main_v4 : FVec F S16x32768x128 .f32 := (extf .f32 · bitsLt_bf16_f32) main_arg1
  let main_v5 : FVec F S16x32768x128 .f32 := Host.absf main_v4
  let main_cst_0 : FVec F S_ .f32 := constant S_ .f32 0x7F800000#32
  let main_v6 : FVec F S16x32768x128 .f32 := broadcastInDim S16x32768x128 ![] bcast_S_S16x32768x128 main_cst_0
  let main_v7 : IVec S16x32768x128 1 := cmpf .olt main_v5 main_v6
  (main_v3, main_v7)
-- ==== Pre_real_rows.lean ====
abbrev S32768x2048 : Shape := ⟨2, ![32768, 2048]⟩
abbrev S2048x1088 : Shape := ⟨2, ![2048, 1088]⟩
abbrev S512 : Shape := ⟨1, ![512]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)
  bcast_S_S2048x1088 : S_.BroadcastsInDim S2048x1088 (![] : Fin 0 → Fin S2048x1088.rank)

variable [Facts]

def fn {F : FTy → Type} [FloatOps F] (main_arg0 : FVec F S32768x2048 .bf16) (main_arg1 : FVec F S2048x1088 .f32) (main_arg2 : FVec F S512 .f32) (main_arg3 : FVec F S512 .f32) : IVec S32768x2048 1 × IVec S2048x1088 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_v4 : FVec F S2048x1088 .f32 := Host.absf main_arg1
  let main_cst_0 : FVec F S_ .f32 := constant S_ .f32 0x7F800000#32
  let main_v5 : FVec F S2048x1088 .f32 := broadcastInDim S2048x1088 ![] bcast_S_S2048x1088 main_cst_0
  let main_v6 : IVec S2048x1088 1 := cmpf .olt main_v4 main_v5
  (main_v3, main_v6)
-- ==== Pre_real_sample_rows.lean ====
abbrev S1024x2048 : Shape := ⟨2, ![1024, 2048]⟩
abbrev S2048x1088 : Shape := ⟨2, ![2048, 1088]⟩
abbrev S512 : Shape := ⟨1, ![512]⟩
abbrev S_ : Shape := ⟨0, ![]⟩

class Facts : Prop where
  bitsLt_bf16_f32 : FTy.bits .bf16 < FTy.bits .f32
  bcast_S_S1024x2048 : S_.BroadcastsInDim S1024x2048 (![] : Fin 0 → Fin S1024x2048.rank)
  bcast_S_S2048x1088 : S_.BroadcastsInDim S2048x1088 (![] : Fin 0 → Fin S2048x1088.rank)

variable [Facts]

def fn {F : FTy → Type} [FloatOps F] (main_arg0 : FVec F S1024x2048 .bf16) (main_arg1 : FVec F S2048x1088 .f32) (main_arg2 : FVec F S512 .f32) (main_arg3 : FVec F S512 .f32) : IVec S1024x2048 1 × IVec S2048x1088 1 :=
  let main_v0 : FVec F S1024x2048 .f32 := (extf .f32 · bitsLt_bf16_f32) main_arg0
  let main_v1 : FVec F S1024x2048 .f32 := Host.absf main_v0
  let main_cst : FVec F S_ .f32 := constant S_ .f32 0x7F800000#32
  let main_v2 : FVec F S1024x2048 .f32 := broadcastInDim S1024x2048 ![] bcast_S_S1024x2048 main_cst
  let main_v3 : IVec S1024x2048 1 := cmpf .olt main_v1 main_v2
  let main_v4 : FVec F S2048x1088 .f32 := Host.absf main_arg1
  let main_cst_0 : FVec F S_ .f32 := constant S_ .f32 0x7F800000#32
  let main_v5 : FVec F S2048x1088 .f32 := broadcastInDim S2048x1088 ![] bcast_S_S2048x1088 main_cst_0
  let main_v6 : IVec S2048x1088 1 := cmpf .olt main_v4 main_v5
  (main_v3, main_v6)
-- ==== Kernel.lean ====
abbrev S16x32768x128 : Shape := ⟨3, ![16, 32768, 128]⟩
abbrev S32768x2048 : Shape := ⟨2, ![32768, 2048]⟩
abbrev S16x256x128 : Shape := ⟨3, ![16, 256, 128]⟩
abbrev S256x2048 : Shape := ⟨2, ![256, 2048]⟩
abbrev S16x256x1 : Shape := ⟨3, ![16, 256, 1]⟩
abbrev S256x256 : Shape := ⟨2, ![256, 256]⟩
abbrev S1x256x128 : Shape := ⟨3, ![1, 256, 128]⟩
abbrev S256x128 : Shape := ⟨2, ![256, 128]⟩
abbrev S1x256x1 : Shape := ⟨3, ![1, 256, 1]⟩
abbrev S256x1 : Shape := ⟨2, ![256, 1]⟩

abbrev nBuf : Space → Nat
  | .hbm => 4
  | .vmem => 10
  | .smem => 0
  | _ => 0

abbrev bufTy : (tb : Table) → Fin (tcTables nBuf tb) → BufTy
  | .hbm, ⟨0, _⟩ => ⟨S16x32768x128, .bf16⟩
  | .hbm, ⟨1, _⟩ => ⟨S16x32768x128, .bf16⟩
  | .hbm, ⟨2, _⟩ => ⟨S16x32768x128, .bf16⟩
  | .hbm, ⟨3, _⟩ => ⟨S32768x2048, .bf16⟩
  | .local _ .vmem, ⟨0, _⟩ => ⟨S16x256x128, .bf16⟩
  | .local _ .vmem, ⟨1, _⟩ => ⟨S16x256x128, .bf16⟩
  | .local _ .vmem, ⟨2, _⟩ => ⟨S16x256x128, .bf16⟩
  | .local _ .vmem, ⟨3, _⟩ => ⟨S16x256x128, .bf16⟩
  | .local _ .vmem, ⟨4, _⟩ => ⟨S16x256x128, .bf16⟩
  | .local _ .vmem, ⟨5, _⟩ => ⟨S16x256x128, .bf16⟩
  | .local _ .vmem, ⟨6, _⟩ => ⟨S256x2048, .bf16⟩
  | .local _ .vmem, ⟨7, _⟩ => ⟨S256x2048, .bf16⟩
  | .local _ .vmem, ⟨8, _⟩ => ⟨S16x256x1, .f32⟩
  | .local _ .vmem, ⟨9, _⟩ => ⟨S16x256x128, .f32⟩
  | _, _ => ⟨S16x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 32, 32], ![false, false, false]⟩

def k0_cond2 (i : grid0.Coords) : BitVec 1 :=
  let arg2 : BitVec 32 := BitVec.ofNat 32 (i 2).val
  let arg1 : BitVec 32 := BitVec.ofNat 32 (i 1).val
  let v3 : BitVec 1 := Scalar.cmpi .sle arg2 arg1
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_4 : BitVec 32 := 0#32
  let c16_i32 : BitVec 32 := 16#32
  let v21 : BitVec 32 := Scalar.addi c0_i32_4 c16_i32
  let c1_i32 : BitVec 32 := 1#32
  ⟨c0_i32_4, v21, c1_i32⟩
def k0_off1 (k0_t1 : Fin k0_t1_loop.trips) : Fin 3 → Nat :=
  let c0_i32_4 : BitVec 32 := 0#32
  let c1_i32 : BitVec 32 := 1#32
  let arg9 : BitVec 32 := Scf.iv c0_i32_4 c1_i32 k0_t1
  let v22 : Index := Scalar.indexCast arg9
  let c0 : Index := 0#32
  let c0_6 : Index := 0#32
  ![v22.toNat, 0, 0]
def k0_off2 (k0_t1 : Fin k0_t1_loop.trips) : Fin 3 → Nat :=
  let c0_i32_4 : BitVec 32 := 0#32
  let c1_i32 : BitVec 32 := 1#32
  let arg9 : BitVec 32 := Scf.iv c0_i32_4 c1_i32 k0_t1
  let v31 : Index := Scalar.indexCast arg9
  let c0_11 : Index := 0#32
  let c0_12 : Index := 0#32
  ![v31.toNat, 0, 0]
def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.subi arg1 arg2
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  let c0_i32_2 : BitVec 32 := 0#32
  ![c0_i32_0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.subi arg1 arg2
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  let c0_i32_2 : BitVec 32 := 0#32
  ![c0_i32_0.toNat, v3.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S16x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S16x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S16x32768x128 : Shape := ⟨3, ![16, 32768, 128]⟩
abbrev S16x4x8192x128 : Shape := ⟨4, ![16, 4, 8192, 128]⟩
abbrev S4x8192x16x128 : Shape := ⟨4, ![4, 8192, 16, 128]⟩
abbrev S8192 : Shape := ⟨1, ![8192]⟩
abbrev S4x16x8192x8192 : Shape := ⟨4, ![4, 16, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x16x128x8192 : Shape := ⟨4, ![4, 16, 128, 8192]⟩
abbrev S32768x2048 : Shape := ⟨2, ![32768, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16x32768x128, .bf16⟩
  | .hbm, ⟨1, _⟩ => ⟨S16x32768x128, .bf16⟩
  | .hbm, ⟨2, _⟩ => ⟨S16x32768x128, .bf16⟩
  | .hbm, ⟨3, _⟩ => ⟨S16x32768x128, .f32⟩
  | .hbm, ⟨4, _⟩ => ⟨S16x4x8192x128, .f32⟩
  | .hbm, ⟨5, _⟩ => ⟨S4x8192x16x128, .f32⟩
  | .hbm, ⟨6, _⟩ => ⟨S16x32768x128, .f32⟩
  | .hbm, ⟨7, _⟩ => ⟨S16x4x8192x128, .f32⟩
  | .hbm, ⟨8, _⟩ => ⟨S4x8192x16x128, .f32⟩
  | .hbm, ⟨9, _⟩ => ⟨S16x32768x128, .f32⟩
  | .hbm, ⟨10, _⟩ => ⟨S16x4x8192x128, .f32⟩
  | .hbm, ⟨11, _⟩ => ⟨S4x8192x16x128, .f32⟩
  | .hbm, ⟨12, _⟩ => ⟨S8192, .i32⟩
  | .hbm, ⟨13, _⟩ => ⟨S4x16x8192x8192, .f32⟩
  | .hbm, ⟨14, _⟩ => ⟨S_, .f32⟩
  | .hbm, ⟨15, _⟩ => ⟨S4x16x8192x8192, .f32⟩
  | .hbm, ⟨16, _⟩ => ⟨S4x16x8192x8192, .f32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S4x16x8192x8192, .f32⟩
  | .hbm, ⟨24, _⟩ => ⟨S4x16x8192x8192, .f32⟩
  | .hbm, ⟨25, _⟩ => ⟨S4x16x8192x8192, .f32⟩
  | .hbm, ⟨26, _⟩ => ⟨S4x16x8192x8192, .f32⟩
  | .hbm, ⟨27, _⟩ => ⟨S4x16x8192x8192, .i1⟩
  | .hbm, ⟨28, _⟩ => ⟨S4x16x8192x8192, .f32⟩
  | .hbm, ⟨29, _⟩ => ⟨S4x16x8192x8192, .f32⟩
  | .hbm, ⟨30, _⟩ => ⟨S4x16x8192x8192, .f32⟩
  | .hbm, ⟨31, _⟩ => ⟨S4x16x8192x8192, .f32⟩
  | .hbm, ⟨32, _⟩ => ⟨S4x16x8192x8192, .f32⟩
  | .hbm, ⟨33, _⟩ => ⟨S4x16x8192x8192, .f32⟩
  | .hbm, ⟨34, _⟩ => ⟨S4x16x8192x8192, .f32⟩
  | .hbm, ⟨35, _⟩ => ⟨S4x16x8192x8192, .f32⟩
  | .hbm, ⟨36, _⟩ => ⟨S_, .f32⟩
  | .hbm, ⟨37, _⟩ => ⟨S_, .f32⟩
  | .hbm, ⟨38, _⟩ => ⟨S4x16x8192x8192, .i1⟩
  | .hbm, ⟨39, _⟩ => ⟨S4x16x8192x8192, .f32⟩
  | .hbm, ⟨40, _⟩ => ⟨S4x16x8192x8192, .f32⟩
  | .hbm, ⟨41, _⟩ => ⟨S_, .f32⟩
  | .hbm, ⟨42, _⟩ => ⟨S_, .f32⟩
  | .hbm, ⟨43, _⟩ => ⟨S4x16x8192x8192, .f32⟩
  | .hbm, ⟨44, _⟩ => ⟨S4x16x8192x8192, .f32⟩
  | .hbm, ⟨45, _⟩ => ⟨S_, .f32⟩
  | .hbm, ⟨46, _⟩ => ⟨S_, .f32⟩
  | .hbm, ⟨47, _⟩ => ⟨S4x16x8192x8192, .i1⟩
  | .hbm, ⟨48, _⟩ => ⟨S4x16x8192x8192, .f32⟩
  | .hbm, ⟨49, _⟩ => ⟨S4x16x8192x8192, .f32⟩
  | .hbm, ⟨50, _⟩ => ⟨S4x16x8192x8192, .f32⟩
  | .hbm, ⟨51, _⟩ => ⟨S4x16x128x8192, .f32⟩
  | .hbm, ⟨52, _⟩ => ⟨S4x8192x16x128, .f32⟩
  | .hbm, ⟨53, _⟩ => ⟨S32768x2048, .f32⟩
  | .hbm, ⟨54, _⟩ => ⟨S32768x2048, .bf16⟩
  | _, _ => ⟨S16x32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩

abbrev nD : Nat := 1
abbrev τ : Topo := Topo.v7x

variable {F : FTy → Type} [FloatOps F]
-- ==== Kernel2.lean ====
abbrev S32768x2048 : Shape := ⟨2, ![32768, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S1x11264 : Shape := ⟨2, ![1, 11264]⟩
abbrev S1x2048 : Shape := ⟨2, ![1, 2048]⟩
abbrev S64x2x5632 : Shape := ⟨3, ![64, 2, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S1x2x512 : Shape := ⟨3, ![1, 2, 512]⟩
abbrev S11x8x512 : Shape := ⟨3, ![11, 8, 512]⟩
abbrev S512x512 : Shape := ⟨2, ![512, 512]⟩
abbrev S1x512x512 : Shape := ⟨3, ![1, 512, 512]⟩
abbrev S1x8x512 : Shape := ⟨3, ![1, 8, 512]⟩
abbrev S8x512 : Shape := ⟨2, ![8, 512]⟩
abbrev S1x1x512 : Shape := ⟨3, ![1, 1, 512]⟩
abbrev S512 : Shape := ⟨1, ![512]⟩
abbrev S512x1 : Shape := ⟨2, ![512, 1]⟩
abbrev S64x2x11264 : Shape := ⟨3, ![64, 2, 11264]⟩
abbrev S4x2x11264 : Shape := ⟨3, ![4, 2, 11264]⟩

abbrev nBuf : Space → Nat
  | .hbm => 17
  | .vmem => 29
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S2048x11264, .bf16⟩
  | .hbm, ⟨3, _⟩ => ⟨S3x11264, .f32⟩
  | .hbm, ⟨4, _⟩ => ⟨S11264, .f32⟩
  | .hbm, ⟨5, _⟩ => ⟨S5632x2048, .bf16⟩
  | .hbm, ⟨6, _⟩ => ⟨S2048, .f32⟩
  | .hbm, ⟨7, _⟩ => ⟨S2048, .f32⟩
  | .hbm, ⟨8, _⟩ => ⟨S1x11264, .f32⟩
  | .hbm, ⟨9, _⟩ => ⟨S1x11264, .f32⟩
  | .hbm, ⟨10, _⟩ => ⟨S1x2048, .f32⟩
  | .hbm, ⟨11, _⟩ => ⟨S1x2048, .f32⟩
  | .hbm, ⟨12, _⟩ => ⟨S32768x2048, .f32⟩
  | .hbm, ⟨13, _⟩ => ⟨S64x2x5632, .f32⟩
  | .hbm, ⟨14, _⟩ => ⟨S64x2x5632, .f32⟩
  | .hbm, ⟨15, _⟩ => ⟨S64x2x11264, .f32⟩
  | .hbm, ⟨16, _⟩ => ⟨S4x2x11264, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x2048, .bf16⟩
  | .local _ .vmem, ⟨17, _⟩ => ⟨S512x2048, .bf16⟩
  | .local _ .vmem, ⟨18, _⟩ => ⟨S1x2048, .f32⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S1x2x512, .f32⟩
  | .local _ .vmem, ⟨23, _⟩ => ⟨S1x2x512, .f32⟩
  | .local _ .vmem, ⟨24, _⟩ => ⟨S1x2x512, .f32⟩
  | .local _ .vmem, ⟨25, _⟩ => ⟨S1x2x512, .f32⟩
  | .local _ .vmem, ⟨26, _⟩ => ⟨S512x2048, .f32⟩
  | .local _ .vmem, ⟨27, _⟩ => ⟨S11x8x512, .f32⟩
  | .local _ .vmem, ⟨28, _⟩ => ⟨S11x8x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![64, 11], ![false, false]⟩

def k0_off1 (i : grid0.Coords) : Fin 3 → Nat :=
  let arg1 : BitVec 32 := BitVec.ofNat 32 (i 1).val
  let v20 : Index := Scalar.indexCast arg1
  let c0_10 : Index := 0#32
  let c0_11 : Index := 0#32
  ![v20.toNat, 0, 0]
def k0_cond3 (i : grid0.Coords) : BitVec 1 :=
  let arg1 : BitVec 32 := BitVec.ofNat 32 (i 1).val
  let c10_i32 : BitVec 32 := 10#32
  let v171 : BitVec 1 := Scalar.cmpi .eq arg1 c10_i32
  let v172 : BitVec 32 := Scalar.extui v171
  let c0_i32_66 : BitVec 32 := 0#32
  let v173 : BitVec 1 := Scalar.cmpi .ne v172 c0_i32_66
  v173

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S32768x2048 : Shape := ⟨2, ![32768, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S4x8192x2048 : Shape := ⟨3, ![4, 8192, 2048]⟩
abbrev S_ : Shape := ⟨0, ![]⟩
abbrev S4x2x11264 : Shape := ⟨3, ![4, 2, 11264]⟩
abbrev S4x8192x11264 : Shape := ⟨3, ![4, 8192, 11264]⟩
abbrev S4x8194x11264 : Shape := ⟨3, ![4, 8194, 11264]⟩
abbrev S1x11264 : Shape := ⟨2, ![1, 11264]⟩
abbrev S1x1x11264 : Shape := ⟨3, ![1, 1, 11264]⟩
abbrev S4x8192x5632 : Shape := ⟨3, ![4, 8192, 5632]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 82
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S2048x11264, .bf16⟩
  | .hbm, ⟨3, _⟩ => ⟨S3x11264, .f32⟩
  | .hbm, ⟨4, _⟩ => ⟨S11264, .f32⟩
  | .hbm, ⟨5, _⟩ => ⟨S5632x2048, .bf16⟩
  | .hbm, ⟨6, _⟩ => ⟨S2048, .f32⟩
  | .hbm, ⟨7, _⟩ => ⟨S2048, .f32⟩
  | .hbm, ⟨8, _⟩ => ⟨S32768x2048, .f32⟩
  | .hbm, ⟨9, _⟩ => ⟨S4x8192x2048, .f32⟩
  | .hbm, ⟨10, _⟩ => ⟨S2048x11264, .f32⟩
  | .hbm, ⟨11, _⟩ => ⟨S5632x2048, .f32⟩
  | .hbm, ⟨12, _⟩ => ⟨S_, .f32⟩
  | .hbm, ⟨13, _⟩ => ⟨S4x2x11264, .f32⟩
  | .hbm, ⟨14, _⟩ => ⟨S4x8192x11264, .f32⟩
  | .hbm, ⟨15, _⟩ => ⟨S4x8194x11264, .f32⟩
  | .hbm, ⟨16, _⟩ => ⟨S1x11264, .f32⟩
  | .hbm, ⟨17, _⟩ => ⟨S11264, .f32⟩
  | .hbm, ⟨18, _⟩ => ⟨S4x8192x11264, .f32⟩
  | .hbm, ⟨19, _⟩ => ⟨S1x1x11264, .f32⟩
  | .hbm, ⟨20, _⟩ => ⟨S4x8192x11264, .f32⟩
  | .hbm, ⟨21, _⟩ => ⟨S4x8192x11264, .f32⟩
  | .hbm, ⟨22, _⟩ => ⟨S_, .f32⟩
  | .hbm, ⟨23, _⟩ => ⟨S4x8192x11264, .f32⟩
  | .hbm, ⟨24, _⟩ => ⟨S4x8192x11264, .f32⟩
  | .hbm, ⟨25, _⟩ => ⟨S1x11264, .f32⟩
  | .hbm, ⟨26, _⟩ => ⟨S11264, .f32⟩
  | .hbm, ⟨27, _⟩ => ⟨S4x8192x11264, .f32⟩
  | .hbm, ⟨28, _⟩ => ⟨S1x1x11264, .f32⟩
  | .hbm, ⟨29, _⟩ => ⟨S4x8192x11264, .f32⟩
  | .hbm, ⟨30, _⟩ => ⟨S4x8192x11264, .f32⟩
  | .hbm, ⟨31, _⟩ => ⟨S4x8192x11264, .f32⟩
  | .hbm, ⟨32, _⟩ => ⟨S1x11264, .f32⟩
  | .hbm, ⟨33, _⟩ => ⟨S11264, .f32⟩
  | .hbm, ⟨34, _⟩ => ⟨S4x8192x11264, .f32⟩
  | .hbm, ⟨35, _⟩ => ⟨S1x1x11264, .f32⟩
  | .hbm, ⟨36, _⟩ => ⟨S4x8192x11264, .f32⟩
  | .hbm, ⟨37, _⟩ => ⟨S4x8192x11264, .f32⟩
  | .hbm, ⟨38, _⟩ => ⟨S4x8192x11264, .f32⟩
  | .hbm, ⟨39, _⟩ => ⟨S1x1x11264, .f32⟩
  | .hbm, ⟨40, _⟩ => ⟨S4x8192x11264, .f32⟩
  | .hbm, ⟨41, _⟩ => ⟨S4x8192x11264, .f32⟩
  | .hbm, ⟨42, _⟩ => ⟨S4x8192x5632, .f32⟩
  | .hbm, ⟨43, _⟩ => ⟨S4x8192x5632, .f32⟩
  | .hbm, ⟨44, _⟩ => ⟨S4x8192x5632, .f32⟩
  | .hbm, ⟨45, _⟩ => ⟨S4x8192x5632, .f32⟩
  | .hbm, ⟨46, _⟩ => ⟨S_, .f32⟩
  | .hbm, ⟨47, _⟩ => ⟨S4x8192x5632, .f32⟩
  | .hbm, ⟨48, _⟩ => ⟨S4x8192x5632, .f32⟩
  | .hbm, ⟨49, _⟩ => ⟨S4x8192x5632, .f32⟩
  | .hbm, ⟨50, _⟩ => ⟨S_, .f32⟩
  | .hbm, ⟨51, _⟩ => ⟨S4x8192x5632, .f32⟩
  | .hbm, ⟨52, _⟩ => ⟨S4x8192x5632, .f32⟩
  | .hbm, ⟨53, _⟩ => ⟨S4x8192x5632, .f32⟩
  | .hbm, ⟨54, _⟩ => ⟨S_, .f32⟩
  | .hbm, ⟨55, _⟩ => ⟨S4x8192x5632, .f32⟩
  | .hbm, ⟨56, _⟩ => ⟨S4x8192x5632, .f32⟩
  | .hbm, ⟨57, _⟩ => ⟨S_, .f32⟩
  | .hbm, ⟨58, _⟩ => ⟨S4x8192x5632, .f32⟩
  | .hbm, ⟨59, _⟩ => ⟨S4x8192x5632, .f32⟩
  | .hbm, ⟨60, _⟩ => ⟨S4x8192x5632, .f32⟩
  | .hbm, ⟨61, _⟩ => ⟨S4x8192x5632, .f32⟩
  | .hbm, ⟨62, _⟩ => ⟨S4x8192x2048, .f32⟩
  | .hbm, ⟨63, _⟩ => ⟨S4x8192x2048, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S_, .f32⟩
  | .hbm, ⟨68, _⟩ => ⟨S4x8192x1, .f32⟩
  | .hbm, ⟨69, _⟩ => ⟨S4x8192x1, .f32⟩
  | .hbm, ⟨70, _⟩ => ⟨S_, .f32⟩
  | .hbm, ⟨71, _⟩ => ⟨S4x8192x1, .f32⟩
  | .hbm, ⟨72, _⟩ => ⟨S4x8192x1, .f32⟩
  | .hbm, ⟨73, _⟩ => ⟨S4x8192x1, .f32⟩
  | .hbm, ⟨74, _⟩ => ⟨S4x8192x2048, .f32⟩
  | .hbm, ⟨75, _⟩ => ⟨S4x8192x2048, .f32⟩
  | .hbm, ⟨76, _⟩ => ⟨S1x1x2048, .f32⟩
  | .hbm, ⟨77, _⟩ => ⟨S4x8192x2048, .f32⟩
  | .hbm, ⟨78, _⟩ => ⟨S4x8192x2048, .f32⟩
  | .hbm, ⟨79, _⟩ => ⟨S32768x2048, .f32⟩
  | .hbm, ⟨80, _⟩ => ⟨S32768x2048, .f32⟩
  | .hbm, ⟨81, _⟩ => ⟨S4x2x11264, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Kernel3.lean ====
abbrev S32768x2048 : Shape := ⟨2, ![32768, 2048]⟩
abbrev S2048x6144 : Shape := ⟨2, ![2048, 6144]⟩
abbrev S16x32768x128 : Shape := ⟨3, ![16, 32768, 128]⟩
abbrev S1024x2048 : Shape := ⟨2, ![1024, 2048]⟩
abbrev S2048x512 : Shape := ⟨2, ![2048, 512]⟩
abbrev S1024x512 : Shape := ⟨2, ![1024, 512]⟩
abbrev S4x1024x128 : Shape := ⟨3, ![4, 1024, 128]⟩
abbrev S1024x128 : Shape := ⟨2, ![1024, 128]⟩
abbrev S1x1024x128 : Shape := ⟨3, ![1, 1024, 128]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x6144, .bf16⟩
  | .hbm, ⟨2, _⟩ => ⟨S32768x2048, .f32⟩
  | .hbm, ⟨3, _⟩ => ⟨S16x32768x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S4x1024x128, .bf16⟩
  | .local _ .vmem, ⟨7, _⟩ => ⟨S4x1024x128, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S32768x2048 : Shape := ⟨2, ![32768, 2048]⟩
abbrev S2048x6144 : Shape := ⟨2, ![2048, 6144]⟩
abbrev S32768x6144 : Shape := ⟨2, ![32768, 6144]⟩
abbrev S32768x16x128 : Shape := ⟨3, ![32768, 16, 128]⟩
abbrev S16x32768x128 : Shape := ⟨3, ![16, 32768, 128]⟩

abbrev nBuf : Space → Nat
  | .hbm => 11
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x6144, .bf16⟩
  | .hbm, ⟨2, _⟩ => ⟨S32768x2048, .f32⟩
  | .hbm, ⟨3, _⟩ => ⟨S2048x6144, .f32⟩
  | .hbm, ⟨4, _⟩ => ⟨S32768x6144, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S32768x16x128, .f32⟩
  | .hbm, ⟨9, _⟩ => ⟨S16x32768x128, .f32⟩
  | .hbm, ⟨10, _⟩ => ⟨S16x32768x128, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel4.lean ====
abbrev S32768x2048 : Shape := ⟨2, ![32768, 2048]⟩
abbrev S2048x6144 : Shape := ⟨2, ![2048, 6144]⟩
abbrev S16x32768x128 : Shape := ⟨3, ![16, 32768, 128]⟩
abbrev S1024x2048 : Shape := ⟨2, ![1024, 2048]⟩
abbrev S2048x512 : Shape := ⟨2, ![2048, 512]⟩
abbrev S1024x512 : Shape := ⟨2, ![1024, 512]⟩
abbrev S4x1024x128 : Shape := ⟨3, ![4, 1024, 128]⟩
abbrev S1024x128 : Shape := ⟨2, ![1024, 128]⟩
abbrev S1x1024x128 : Shape := ⟨3, ![1, 1024, 128]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x6144, .bf16⟩
  | .hbm, ⟨2, _⟩ => ⟨S32768x2048, .f32⟩
  | .hbm, ⟨3, _⟩ => ⟨S16x32768x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S4x1024x128, .bf16⟩
  | .local _ .vmem, ⟨7, _⟩ => ⟨S4x1024x128, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S32768x2048 : Shape := ⟨2, ![32768, 2048]⟩
abbrev S2048x6144 : Shape := ⟨2, ![2048, 6144]⟩
abbrev S32768x6144 : Shape := ⟨2, ![32768, 6144]⟩
abbrev S32768x16x128 : Shape := ⟨3, ![32768, 16, 128]⟩
abbrev S16x32768x128 : Shape := ⟨3, ![16, 32768, 128]⟩

abbrev nBuf : Space → Nat
  | .hbm => 11
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x6144, .bf16⟩
  | .hbm, ⟨2, _⟩ => ⟨S32768x2048, .f32⟩
  | .hbm, ⟨3, _⟩ => ⟨S2048x6144, .f32⟩
  | .hbm, ⟨4, _⟩ => ⟨S32768x6144, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S32768x16x128, .f32⟩
  | .hbm, ⟨9, _⟩ => ⟨S16x32768x128, .f32⟩
  | .hbm, ⟨10, _⟩ => ⟨S16x32768x128, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel5.lean ====
abbrev S32768x2048 : Shape := ⟨2, ![32768, 2048]⟩
abbrev S2048x6144 : Shape := ⟨2, ![2048, 6144]⟩
abbrev S16x32768x128 : Shape := ⟨3, ![16, 32768, 128]⟩
abbrev S1024x2048 : Shape := ⟨2, ![1024, 2048]⟩
abbrev S2048x512 : Shape := ⟨2, ![2048, 512]⟩
abbrev S4x1024x128 : Shape := ⟨3, ![4, 1024, 128]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x6144, .bf16⟩
  | .hbm, ⟨2, _⟩ => ⟨S16x32768x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S4x1024x128, .bf16⟩
  | .local _ .vmem, ⟨5, _⟩ => ⟨S4x1024x128, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x2048 : Shape := ⟨2, ![32768, 2048]⟩
abbrev S2048x6144 : Shape := ⟨2, ![2048, 6144]⟩
abbrev S32768x6144 : Shape := ⟨2, ![32768, 6144]⟩
abbrev S32768x16x128 : Shape := ⟨3, ![32768, 16, 128]⟩
abbrev S16x32768x128 : Shape := ⟨3, ![16, 32768, 128]⟩

abbrev nBuf : Space → Nat
  | .hbm => 11
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x6144, .bf16⟩
  | .hbm, ⟨2, _⟩ => ⟨S32768x2048, .f32⟩
  | .hbm, ⟨3, _⟩ => ⟨S2048x6144, .f32⟩
  | .hbm, ⟨4, _⟩ => ⟨S32768x6144, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S32768x16x128, .f32⟩
  | .hbm, ⟨9, _⟩ => ⟨S16x32768x128, .f32⟩
  | .hbm, ⟨10, _⟩ => ⟨S16x32768x128, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel6.lean ====
abbrev S32768x2048 : Shape := ⟨2, ![32768, 2048]⟩
abbrev S2048x12288 : Shape := ⟨2, ![2048, 12288]⟩
abbrev S32768x4096 : Shape := ⟨2, ![32768, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x12288, .bf16⟩
  | .hbm, ⟨2, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S32768x2048 : Shape := ⟨2, ![32768, 2048]⟩
abbrev S2048x12288 : Shape := ⟨2, ![2048, 12288]⟩
abbrev S32768x12288 : Shape := ⟨2, ![32768, 12288]⟩
abbrev S32768x4096 : Shape := ⟨2, ![32768, 4096]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x12288, .bf16⟩
  | .hbm, ⟨2, _⟩ => ⟨S32768x2048, .f32⟩
  | .hbm, ⟨3, _⟩ => ⟨S2048x12288, .f32⟩
  | .hbm, ⟨4, _⟩ => ⟨S32768x12288, .f32⟩
  | .hbm, ⟨5, _⟩ => ⟨S32768x2048, .f32⟩
  | .hbm, ⟨6, _⟩ => ⟨S32768x2048, .f32⟩
  | .hbm, ⟨7, _⟩ => ⟨S32768x4096, .f32⟩
  | .hbm, ⟨8, _⟩ => ⟨S32768x4096, .f32⟩
  | .hbm, ⟨9, _⟩ => ⟨S32768x4096, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel7.lean ====
abbrev S32768x2048 : Shape := ⟨2, ![32768, 2048]⟩
abbrev S2048x12288 : Shape := ⟨2, ![2048, 12288]⟩
abbrev S32768x4096 : Shape := ⟨2, ![32768, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x12288, .bf16⟩
  | .hbm, ⟨2, _⟩ => ⟨S32768x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S32768x2048 : Shape := ⟨2, ![32768, 2048]⟩
abbrev S2048x12288 : Shape := ⟨2, ![2048, 12288]⟩
abbrev S32768x12288 : Shape := ⟨2, ![32768, 12288]⟩
abbrev S32768x4096 : Shape := ⟨2, ![32768, 4096]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x12288, .bf16⟩
  | .hbm, ⟨2, _⟩ => ⟨S32768x2048, .f32⟩
  | .hbm, ⟨3, _⟩ => ⟨S2048x12288, .f32⟩
  | .hbm, ⟨4, _⟩ => ⟨S32768x12288, .f32⟩
  | .hbm, ⟨5, _⟩ => ⟨S32768x2048, .f32⟩
  | .hbm, ⟨6, _⟩ => ⟨S32768x2048, .f32⟩
  | .hbm, ⟨7, _⟩ => ⟨S32768x4096, .f32⟩
  | .hbm, ⟨8, _⟩ => ⟨S32768x4096, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel8.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S32768x2048, .f32⟩
  | .hbm, ⟨8, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference8Ideal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S32768x2048, .f32⟩
  | .hbm, ⟨6, _⟩ => ⟨S2048x2048, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1, .f32⟩
  | .hbm, ⟨36, _⟩ => ⟨S32768x2048, .f32⟩
  | .hbm, ⟨37, _⟩ => ⟨S32768x2048, .f32⟩
  | .hbm, ⟨38, _⟩ => ⟨S1x2048, .f32⟩
  | .hbm, ⟨39, _⟩ => ⟨S32768x2048, .f32⟩
  | .hbm, ⟨40, _⟩ => ⟨S32768x2048, .f32⟩
  | .hbm, ⟨41, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel9.lean ====
abbrev S32768x4096 : Shape := ⟨2, ![32768, 4096]⟩
abbrev S4096x2048 : Shape := ⟨2, ![4096, 2048]⟩
abbrev S32768x2048 : Shape := ⟨2, ![32768, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .bf16⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S32768x2048, .f32⟩
  | .hbm, ⟨8, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference9Ideal.lean ====
abbrev S32768x4096 : Shape := ⟨2, ![32768, 4096]⟩
abbrev S4096x2048 : Shape := ⟨2, ![4096, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .bf16⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S32768x4096, .f32⟩
  | .hbm, ⟨6, _⟩ => ⟨S4096x2048, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1, .f32⟩
  | .hbm, ⟨36, _⟩ => ⟨S32768x2048, .f32⟩
  | .hbm, ⟨37, _⟩ => ⟨S32768x2048, .f32⟩
  | .hbm, ⟨38, _⟩ => ⟨S1x2048, .f32⟩
  | .hbm, ⟨39, _⟩ => ⟨S32768x2048, .f32⟩
  | .hbm, ⟨40, _⟩ => ⟨S32768x2048, .f32⟩
  | .hbm, ⟨41, _⟩ => ⟨S32768x2048, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel10.lean ====
abbrev S1024x2048 : Shape := ⟨2, ![1024, 2048]⟩
abbrev S2048x6144 : Shape := ⟨2, ![2048, 6144]⟩
abbrev S16x1024x128 : Shape := ⟨3, ![16, 1024, 128]⟩
abbrev S2048x512 : Shape := ⟨2, ![2048, 512]⟩
abbrev S1024x512 : Shape := ⟨2, ![1024, 512]⟩
abbrev S4x1024x128 : Shape := ⟨3, ![4, 1024, 128]⟩
abbrev S1024x128 : Shape := ⟨2, ![1024, 128]⟩
abbrev S1x1024x128 : Shape := ⟨3, ![1, 1024, 128]⟩

abbrev nBuf : Space → Nat
  | .hbm => 4
  | .vmem => 7
  | .smem => 0
  | _ => 0

abbrev bufTy : (tb : Table) → Fin (tcTables nBuf tb) → BufTy
  | .hbm, ⟨0, _⟩ => ⟨S1024x2048, .bf16⟩
  | .hbm, ⟨1, _⟩ => ⟨S2048x6144, .bf16⟩
  | .hbm, ⟨2, _⟩ => ⟨S1024x2048, .f32⟩
  | .hbm, ⟨3, _⟩ => ⟨S16x1024x128, .bf16⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S4x1024x128, .bf16⟩
  | .local _ .vmem, ⟨6, _⟩ => ⟨S4x1024x128, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S1024x2048 : Shape := ⟨2, ![1024, 2048]⟩
abbrev S2048x6144 : Shape := ⟨2, ![2048, 6144]⟩
abbrev S1024x6144 : Shape := ⟨2, ![1024, 6144]⟩
abbrev S1024x16x128 : Shape := ⟨3, ![1024, 16, 128]⟩
abbrev S16x1024x128 : Shape := ⟨3, ![16, 1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x6144, .bf16⟩
  | .hbm, ⟨2, _⟩ => ⟨S1024x2048, .f32⟩
  | .hbm, ⟨3, _⟩ => ⟨S2048x6144, .f32⟩
  | .hbm, ⟨4, _⟩ => ⟨S1024x6144, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x16x128, .f32⟩
  | .hbm, ⟨9, _⟩ => ⟨S16x1024x128, .f32⟩
  | .hbm, ⟨10, _⟩ => ⟨S16x1024x128, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel11.lean ====
abbrev S1024x2048 : Shape := ⟨2, ![1024, 2048]⟩
abbrev S2048x6144 : Shape := ⟨2, ![2048, 6144]⟩
abbrev S16x1024x128 : Shape := ⟨3, ![16, 1024, 128]⟩
abbrev S2048x512 : Shape := ⟨2, ![2048, 512]⟩
abbrev S1024x512 : Shape := ⟨2, ![1024, 512]⟩
abbrev S4x1024x128 : Shape := ⟨3, ![4, 1024, 128]⟩
abbrev S1024x128 : Shape := ⟨2, ![1024, 128]⟩
abbrev S1x1024x128 : Shape := ⟨3, ![1, 1024, 128]⟩

abbrev nBuf : Space → Nat
  | .hbm => 4
  | .vmem => 7
  | .smem => 0
  | _ => 0

abbrev bufTy : (tb : Table) → Fin (tcTables nBuf tb) → BufTy
  | .hbm, ⟨0, _⟩ => ⟨S1024x2048, .bf16⟩
  | .hbm, ⟨1, _⟩ => ⟨S2048x6144, .bf16⟩
  | .hbm, ⟨2, _⟩ => ⟨S1024x2048, .f32⟩
  | .hbm, ⟨3, _⟩ => ⟨S16x1024x128, .bf16⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | .local _ .vmem, ⟨5, _⟩ => ⟨S4x1024x128, .bf16⟩
  | .local _ .vmem, ⟨6, _⟩ => ⟨S4x1024x128, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S1024x2048 : Shape := ⟨2, ![1024, 2048]⟩
abbrev S2048x6144 : Shape := ⟨2, ![2048, 6144]⟩
abbrev S1024x6144 : Shape := ⟨2, ![1024, 6144]⟩
abbrev S1024x16x128 : Shape := ⟨3, ![1024, 16, 128]⟩
abbrev S16x1024x128 : Shape := ⟨3, ![16, 1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x6144, .bf16⟩
  | .hbm, ⟨2, _⟩ => ⟨S1024x2048, .f32⟩
  | .hbm, ⟨3, _⟩ => ⟨S2048x6144, .f32⟩
  | .hbm, ⟨4, _⟩ => ⟨S1024x6144, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x16x128, .f32⟩
  | .hbm, ⟨9, _⟩ => ⟨S16x1024x128, .f32⟩
  | .hbm, ⟨10, _⟩ => ⟨S16x1024x128, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel12.lean ====
abbrev S32768x2048 : Shape := ⟨2, ![32768, 2048]⟩
abbrev S2048x1088 : Shape := ⟨2, ![2048, 1088]⟩
abbrev S512 : Shape := ⟨1, ![512]⟩
abbrev S8192 : Shape := ⟨1, ![8192]⟩
abbrev S2048x64 : Shape := ⟨2, ![2048, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x2x32 : Shape := ⟨4, ![1, 8192, 2, 32]⟩
abbrev S8192x64 : Shape := ⟨2, ![8192, 64]⟩
abbrev S2048x512 : Shape := ⟨2, ![2048, 512]⟩
abbrev S2048x1x64 : Shape := ⟨3, ![2048, 1, 64]⟩
abbrev S2048x1x32 : Shape := ⟨3, ![2048, 1, 32]⟩
abbrev S1x512 : Shape := ⟨2, ![1, 512]⟩
abbrev S32768x512 : Shape := ⟨2, ![32768, 512]⟩
abbrev S32768x64 : Shape := ⟨2, ![32768, 64]⟩
abbrev S512x2048 : Shape := ⟨2, ![512, 2048]⟩
abbrev S512x64 : Shape := ⟨2, ![512, 64]⟩
abbrev S512x512 : Shape := ⟨2, ![512, 512]⟩
abbrev S512x1 : Shape := ⟨2, ![512, 1]⟩

abbrev nBuf : Space → Nat
  | .hbm => 48
  | .vmem => 18
  | .smem => 0
  | _ => 0

abbrev bufTy : (tb : Table) → Fin (tcTables nBuf tb) → BufTy
  | .hbm, ⟨0, _⟩ => ⟨S32768x2048, .bf16⟩
  | .hbm, ⟨1, _⟩ => ⟨S2048x1088, .f32⟩
  | .hbm, ⟨2, _⟩ => ⟨S512, .f32⟩
  | .hbm, ⟨3, _⟩ => ⟨S512, .f32⟩
  | .hbm, ⟨4, _⟩ => ⟨S8192, .i32⟩
  | .hbm, ⟨5, _⟩ => ⟨S2048x64, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8192, .f32⟩
  | .hbm, ⟨18, _⟩ => ⟨S8192x1, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S1x8192x1x32, .f32⟩
  | .hbm, ⟨25, _⟩ => ⟨S1x8192x2x32, .f32⟩
  | .hbm, ⟨26, _⟩ => ⟨S8192x64, .f32⟩
  | .hbm, ⟨27, _⟩ => ⟨S8192x32, .f32⟩
  | .hbm, ⟨28, _⟩ => ⟨S1x8192x1x32, .f32⟩
  | .hbm, ⟨29, _⟩ => ⟨S1x8192x2x32, .f32⟩
  | .hbm, ⟨30, _⟩ => ⟨S8192x64, .f32⟩
  | .hbm, ⟨31, _⟩ => ⟨S2048x512, .f32⟩
  | .hbm, ⟨32, _⟩ => ⟨S2048x512, .bf16⟩
  | .hbm, ⟨33, _⟩ => ⟨S2048x512, .f32⟩
  | .hbm, ⟨34, _⟩ => ⟨S2048x512, .bf16⟩
  | .hbm, ⟨35, _⟩ => ⟨S2048x64, .bf16⟩
  | .hbm, ⟨36, _⟩ => ⟨S2048x1x64, .f32⟩
  | .hbm, ⟨37, _⟩ => ⟨S2048x1x32, .f32⟩
  | .hbm, ⟨38, _⟩ => ⟨S2048x1x32, .f32⟩
  | .hbm, ⟨39, _⟩ => ⟨S2048x1x32, .f32⟩
  | .hbm, ⟨40, _⟩ => ⟨S2048x1x64, .f32⟩
  | .hbm, ⟨41, _⟩ => ⟨S2048x64, .f32⟩
  | .hbm, ⟨42, _⟩ => ⟨S2048x64, .bf16⟩
  | .hbm, ⟨43, _⟩ => ⟨S1x512, .f32⟩
  | .hbm, ⟨44, _⟩ => ⟨S1x512, .f32⟩
  | .hbm, ⟨45, _⟩ => ⟨S32768x512, .bf16⟩
  | .hbm, ⟨46, _⟩ => ⟨S32768x512, .f32⟩
  | .hbm, ⟨47, _⟩ => ⟨S32768x64, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x64, .bf16⟩
  | .local _ .vmem, ⟨5, _⟩ => ⟨S2048x64, .bf16⟩
  | .local _ .vmem, ⟨6, _⟩ => ⟨S1x512, .f32⟩
  | .local _ .vmem, ⟨7, _⟩ => ⟨S1x512, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x64, .f32⟩
  | .local _ .vmem, ⟨17, _⟩ => ⟨S512x64, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38_0 : Ref sig .tc := ⟨.hbm, 45, rfl⟩
abbrev main_v38_1 : Ref sig .tc := ⟨.hbm, 46, rfl⟩
abbrev main_v38_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference12Ideal.lean ====
abbrev S32768x2048 : Shape := ⟨2, ![32768, 2048]⟩
abbrev S2048x1088 : Shape := ⟨2, ![2048, 1088]⟩
abbrev S512 : Shape := ⟨1, ![512]⟩
abbrev S8192 : Shape := ⟨1, ![8192]⟩
abbrev S1x8192 : Shape := ⟨2, ![1, 8192]⟩
abbrev S4x8192 : Shape := ⟨2, ![4, 8192]⟩
abbrev S32768 : Shape := ⟨1, ![32768]⟩
abbrev S32768x1088 : Shape := ⟨2, ![32768, 1088]⟩
abbrev S32768x512 : Shape := ⟨2, ![32768, 512]⟩
abbrev S32768x64 : Shape := ⟨2, ![32768, 64]⟩
abbrev S_ : Shape := ⟨0, ![]⟩
abbrev S32768x1 : Shape := ⟨2, ![32768, 1]⟩
abbrev S1x512 : Shape := ⟨2, ![1, 512]⟩
abbrev S32 : Shape := ⟨1, ![32]⟩
abbrev S1x32 : Shape := ⟨2, ![1, 32]⟩
abbrev S32768x32 : Shape := ⟨2, ![32768, 32]⟩

abbrev nBuf : Space → Nat
  | .hbm => 74
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1088, .f32⟩
  | .hbm, ⟨2, _⟩ => ⟨S512, .f32⟩
  | .hbm, ⟨3, _⟩ => ⟨S512, .f32⟩
  | .hbm, ⟨4, _⟩ => ⟨S8192, .i32⟩
  | .hbm, ⟨5, _⟩ => ⟨S1x8192, .i32⟩
  | .hbm, ⟨6, _⟩ => ⟨S4x8192, .i32⟩
  | .hbm, ⟨7, _⟩ => ⟨S32768, .i32⟩
  | .hbm, ⟨8, _⟩ => ⟨S32768x2048, .f32⟩
  | .hbm, ⟨9, _⟩ => ⟨S32768x1088, .f32⟩
  | .hbm, ⟨10, _⟩ => ⟨S32768x512, .f32⟩
  | .hbm, ⟨11, _⟩ => ⟨S32768x512, .f32⟩
  | .hbm, ⟨12, _⟩ => ⟨S32768x64, .f32⟩
  | .hbm, ⟨13, _⟩ => ⟨S32768x512, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x512, .f32⟩
  | .hbm, ⟨25, _⟩ => ⟨S32768x512, .f32⟩
  | .hbm, ⟨26, _⟩ => ⟨S1x512, .f32⟩
  | .hbm, ⟨27, _⟩ => ⟨S32768x512, .f32⟩
  | .hbm, ⟨28, _⟩ => ⟨S32768x512, .f32⟩
  | .hbm, ⟨29, _⟩ => ⟨S32768x512, .bf16⟩
  | .hbm, ⟨30, _⟩ => ⟨S32768x512, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1, .f32⟩
  | .hbm, ⟨41, _⟩ => ⟨S32768x512, .f32⟩
  | .hbm, ⟨42, _⟩ => ⟨S32768x512, .f32⟩
  | .hbm, ⟨43, _⟩ => ⟨S1x512, .f32⟩
  | .hbm, ⟨44, _⟩ => ⟨S32768x512, .f32⟩
  | .hbm, ⟨45, _⟩ => ⟨S32768x512, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S32768, .f32⟩
  | .hbm, ⟨58, _⟩ => ⟨S32768x1, .f32⟩
  | .hbm, ⟨59, _⟩ => ⟨S1x32, .f32⟩
  | .hbm, ⟨60, _⟩ => ⟨S32768x32, .f32⟩
  | .hbm, ⟨61, _⟩ => ⟨S32768x32, .f32⟩
  | .hbm, ⟨62, _⟩ => ⟨S32768x32, .f32⟩
  | .hbm, ⟨63, _⟩ => ⟨S32768x32, .f32⟩
  | .hbm, ⟨64, _⟩ => ⟨S32768x32, .f32⟩
  | .hbm, ⟨65, _⟩ => ⟨S32768x32, .f32⟩
  | .hbm, ⟨66, _⟩ => ⟨S32768x32, .f32⟩
  | .hbm, ⟨67, _⟩ => ⟨S32768x32, .f32⟩
  | .hbm, ⟨68, _⟩ => ⟨S32768x32, .f32⟩
  | .hbm, ⟨69, _⟩ => ⟨S32768x32, .f32⟩
  | .hbm, ⟨70, _⟩ => ⟨S32768x32, .f32⟩
  | .hbm, ⟨71, _⟩ => ⟨S32768x32, .f32⟩
  | .hbm, ⟨72, _⟩ => ⟨S32768x32, .f32⟩
  | .hbm, ⟨73, _⟩ => ⟨S32768x64, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩

abbrev nD : Nat := 1
abbrev τ : Topo := Topo.v7x

variable {F : FTy → Type} [FloatOps F]
-- ==== Kernel13.lean ====
abbrev S1024x2048 : Shape := ⟨2, ![1024, 2048]⟩
abbrev S2048x1088 : Shape := ⟨2, ![2048, 1088]⟩
abbrev S512 : Shape := ⟨1, ![512]⟩
abbrev S32 : Shape := ⟨1, ![32]⟩
abbrev S_ : Shape := ⟨0, ![]⟩
abbrev S1x32 : Shape := ⟨2, ![1, 32]⟩
abbrev S32x32 : Shape := ⟨2, ![32, 32]⟩
abbrev S1024 : Shape := ⟨1, ![1024]⟩
abbrev S2048x64 : Shape := ⟨2, ![2048, 64]⟩
abbrev S1024x1 : Shape := ⟨2, ![1024, 1]⟩
abbrev S1024x32 : Shape := ⟨2, ![1024, 32]⟩
abbrev S1x1024x1x32 : Shape := ⟨4, ![1, 1024, 1, 32]⟩
abbrev S1x1024x2x32 : Shape := ⟨4, ![1, 1024, 2, 32]⟩
abbrev S1024x64 : Shape := ⟨2, ![1024, 64]⟩
abbrev S2048x512 : Shape := ⟨2, ![2048, 512]⟩
abbrev S2048x1x64 : Shape := ⟨3, ![2048, 1, 64]⟩
abbrev S2048x1x32 : Shape := ⟨3, ![2048, 1, 32]⟩
abbrev S1x512 : Shape := ⟨2, ![1, 512]⟩
abbrev S1024x512 : Shape := ⟨2, ![1024, 512]⟩
abbrev S512x2048 : Shape := ⟨2, ![512, 2048]⟩
abbrev S512x64 : Shape := ⟨2, ![512, 64]⟩
abbrev S512x512 : Shape := ⟨2, ![512, 512]⟩
abbrev S512x1 : Shape := ⟨2, ![512, 1]⟩

abbrev nBuf : Space → Nat
  | .hbm => 54
  | .vmem => 18
  | .smem => 0
  | _ => 0

abbrev bufTy : (tb : Table) → Fin (tcTables nBuf tb) → BufTy
  | .hbm, ⟨0, _⟩ => ⟨S1024x2048, .bf16⟩
  | .hbm, ⟨1, _⟩ => ⟨S2048x1088, .f32⟩
  | .hbm, ⟨2, _⟩ => ⟨S512, .f32⟩
  | .hbm, ⟨3, _⟩ => ⟨S512, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S1x32, .i32⟩
  | .hbm, ⟨9, _⟩ => ⟨S32x32, .i32⟩
  | .hbm, ⟨10, _⟩ => ⟨S1024, .i32⟩
  | .hbm, ⟨11, _⟩ => ⟨S2048x64, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S1024, .f32⟩
  | .hbm, ⟨24, _⟩ => ⟨S1024x1, .f32⟩
  | .hbm, ⟨25, _⟩ => ⟨S1x32, .f32⟩
  | .hbm, ⟨26, _⟩ => ⟨S1024x32, .f32⟩
  | .hbm, ⟨27, _⟩ => ⟨S1024x32, .f32⟩
  | .hbm, ⟨28, _⟩ => ⟨S1024x32, .f32⟩
  | .hbm, ⟨29, _⟩ => ⟨S1024x32, .f32⟩
  | .hbm, ⟨30, _⟩ => ⟨S1x1024x1x32, .f32⟩
  | .hbm, ⟨31, _⟩ => ⟨S1x1024x2x32, .f32⟩
  | .hbm, ⟨32, _⟩ => ⟨S1024x64, .f32⟩
  | .hbm, ⟨33, _⟩ => ⟨S1024x32, .f32⟩
  | .hbm, ⟨34, _⟩ => ⟨S1x1024x1x32, .f32⟩
  | .hbm, ⟨35, _⟩ => ⟨S1x1024x2x32, .f32⟩
  | .hbm, ⟨36, _⟩ => ⟨S1024x64, .f32⟩
  | .hbm, ⟨37, _⟩ => ⟨S2048x512, .f32⟩
  | .hbm, ⟨38, _⟩ => ⟨S2048x512, .bf16⟩
  | .hbm, ⟨39, _⟩ => ⟨S2048x512, .f32⟩
  | .hbm, ⟨40, _⟩ => ⟨S2048x512, .bf16⟩
  | .hbm, ⟨41, _⟩ => ⟨S2048x64, .bf16⟩
  | .hbm, ⟨42, _⟩ => ⟨S2048x1x64, .f32⟩
  | .hbm, ⟨43, _⟩ => ⟨S2048x1x32, .f32⟩
  | .hbm, ⟨44, _⟩ => ⟨S2048x1x32, .f32⟩
  | .hbm, ⟨45, _⟩ => ⟨S2048x1x32, .f32⟩
  | .hbm, ⟨46, _⟩ => ⟨S2048x1x64, .f32⟩
  | .hbm, ⟨47, _⟩ => ⟨S2048x64, .f32⟩
  | .hbm, ⟨48, _⟩ => ⟨S2048x64, .bf16⟩
  | .hbm, ⟨49, _⟩ => ⟨S1x512, .f32⟩
  | .hbm, ⟨50, _⟩ => ⟨S1x512, .f32⟩
  | .hbm, ⟨51, _⟩ => ⟨S1024x512, .bf16⟩
  | .hbm, ⟨52, _⟩ => ⟨S1024x512, .f32⟩
  | .hbm, ⟨53, _⟩ => ⟨S1024x64, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x64, .bf16⟩
  | .local _ .vmem, ⟨5, _⟩ => ⟨S2048x64, .bf16⟩
  | .local _ .vmem, ⟨6, _⟩ => ⟨S1x512, .f32⟩
  | .local _ .vmem, ⟨7, _⟩ => ⟨S1x512, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x64, .f32⟩
  | .local _ .vmem, ⟨17, _⟩ => ⟨S512x64, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43_0 : Ref sig .tc := ⟨.hbm, 51, rfl⟩
abbrev main_v43_1 : Ref sig .tc := ⟨.hbm, 52, rfl⟩
abbrev main_v43_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference13Ideal.lean ====
abbrev S1024x2048 : Shape := ⟨2, ![1024, 2048]⟩
abbrev S2048x1088 : Shape := ⟨2, ![2048, 1088]⟩
abbrev S512 : Shape := ⟨1, ![512]⟩
abbrev S32 : Shape := ⟨1, ![32]⟩
abbrev S_ : Shape := ⟨0, ![]⟩
abbrev S1x32 : Shape := ⟨2, ![1, 32]⟩
abbrev S32x32 : Shape := ⟨2, ![32, 32]⟩
abbrev S1024 : Shape := ⟨1, ![1024]⟩
abbrev S1024x1088 : Shape := ⟨2, ![1024, 1088]⟩
abbrev S1024x512 : Shape := ⟨2, ![1024, 512]⟩
abbrev S1024x64 : Shape := ⟨2, ![1024, 64]⟩
abbrev S1024x1 : Shape := ⟨2, ![1024, 1]⟩
abbrev S1x512 : Shape := ⟨2, ![1, 512]⟩
abbrev S1024x32 : Shape := ⟨2, ![1024, 32]⟩

abbrev nBuf : Space → Nat
  | .hbm => 77
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x1088, .f32⟩
  | .hbm, ⟨2, _⟩ => ⟨S512, .f32⟩
  | .hbm, ⟨3, _⟩ => ⟨S512, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S1x32, .i32⟩
  | .hbm, ⟨9, _⟩ => ⟨S32x32, .i32⟩
  | .hbm, ⟨10, _⟩ => ⟨S1024, .i32⟩
  | .hbm, ⟨11, _⟩ => ⟨S1024x2048, .f32⟩
  | .hbm, ⟨12, _⟩ => ⟨S1024x1088, .f32⟩
  | .hbm, ⟨13, _⟩ => ⟨S1024x512, .f32⟩
  | .hbm, ⟨14, _⟩ => ⟨S1024x512, .f32⟩
  | .hbm, ⟨15, _⟩ => ⟨S1024x64, .f32⟩
  | .hbm, ⟨16, _⟩ => ⟨S1024x512, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S_, .f32⟩
  | .hbm, ⟨21, _⟩ => ⟨S1024x1, .f32⟩
  | .hbm, ⟨22, _⟩ => ⟨S1024x1, .f32⟩
  | .hbm, ⟨23, _⟩ => ⟨S_, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S1024x512, .f32⟩
  | .hbm, ⟨28, _⟩ => ⟨S1024x512, .f32⟩
  | .hbm, ⟨29, _⟩ => ⟨S1x512, .f32⟩
  | .hbm, ⟨30, _⟩ => ⟨S1024x512, .f32⟩
  | .hbm, ⟨31, _⟩ => ⟨S1024x512, .f32⟩
  | .hbm, ⟨32, _⟩ => ⟨S1024x512, .bf16⟩
  | .hbm, ⟨33, _⟩ => ⟨S1024x512, .f32⟩
  | .hbm, ⟨34, _⟩ => ⟨S_, .f32⟩
  | .hbm, ⟨35, _⟩ => ⟨S1024, .f32⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S_, .f32⟩
  | .hbm, ⟨41, _⟩ => ⟨S1024x1, .f32⟩
  | .hbm, ⟨42, _⟩ => ⟨S1024x1, .f32⟩
  | .hbm, ⟨43, _⟩ => ⟨S1024x1, .f32⟩
  | .hbm, ⟨44, _⟩ => ⟨S1024x512, .f32⟩
  | .hbm, ⟨45, _⟩ => ⟨S1024x512, .f32⟩
  | .hbm, ⟨46, _⟩ => ⟨S1x512, .f32⟩
  | .hbm, ⟨47, _⟩ => ⟨S1024x512, .f32⟩
  | .hbm, ⟨48, _⟩ => ⟨S1024x512, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S1024, .f32⟩
  | .hbm, ⟨61, _⟩ => ⟨S1024x1, .f32⟩
  | .hbm, ⟨62, _⟩ => ⟨S1x32, .f32⟩
  | .hbm, ⟨63, _⟩ => ⟨S1024x32, .f32⟩
  | .hbm, ⟨64, _⟩ => ⟨S1024x32, .f32⟩
  | .hbm, ⟨65, _⟩ => ⟨S1024x32, .f32⟩
  | .hbm, ⟨66, _⟩ => ⟨S1024x32, .f32⟩
  | .hbm, ⟨67, _⟩ => ⟨S1024x32, .f32⟩
  | .hbm, ⟨68, _⟩ => ⟨S1024x32, .f32⟩
  | .hbm, ⟨69, _⟩ => ⟨S1024x32, .f32⟩
  | .hbm, ⟨70, _⟩ => ⟨S1024x32, .f32⟩
  | .hbm, ⟨71, _⟩ => ⟨S1024x32, .f32⟩
  | .hbm, ⟨72, _⟩ => ⟨S1024x32, .f32⟩
  | .hbm, ⟨73, _⟩ => ⟨S1024x32, .f32⟩
  | .hbm, ⟨74, _⟩ => ⟨S1024x32, .f32⟩
  | .hbm, ⟨75, _⟩ => ⟨S1024x32, .f32⟩
  | .hbm, ⟨76, _⟩ => ⟨S1024x64, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩

abbrev nD : Nat := 1
abbrev τ : Topo := Topo.v7x

variable {F : FTy → Type} [FloatOps F]
-- ==== Kernel14.lean ====
abbrev S1024x2048 : Shape := ⟨2, ![1024, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S32x2x11264 : Shape := ⟨3, ![32, 2, 11264]⟩
abbrev S1x11264 : Shape := ⟨2, ![1, 11264]⟩
abbrev S1x2048 : Shape := ⟨2, ![1, 2048]⟩
abbrev S32x2x5632 : Shape := ⟨3, ![32, 2, 5632]⟩
abbrev S512x2048 : Shape := ⟨2, ![512, 2048]⟩
abbrev S2048x512 : Shape := ⟨2, ![2048, 512]⟩
abbrev S3x512 : Shape := ⟨2, ![3, 512]⟩
abbrev S1x512 : Shape := ⟨2, ![1, 512]⟩
abbrev S16x2x512 : Shape := ⟨3, ![16, 2, 512]⟩
abbrev S512x512 : Shape := ⟨2, ![512, 512]⟩
abbrev S16x32x512 : Shape := ⟨3, ![16, 32, 512]⟩
abbrev S16x1x512 : Shape := ⟨3, ![16, 1, 512]⟩
abbrev S1x1x512 : Shape := ⟨3, ![1, 1, 512]⟩
abbrev S512 : Shape := ⟨1, ![512]⟩
abbrev S512x1 : Shape := ⟨2, ![512, 1]⟩

abbrev nBuf : Space → Nat
  | .hbm => 17
  | .vmem => 31
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .f32⟩
  | .hbm, ⟨2, _⟩ => ⟨S2048x11264, .bf16⟩
  | .hbm, ⟨3, _⟩ => ⟨S3x11264, .f32⟩
  | .hbm, ⟨4, _⟩ => ⟨S11264, .f32⟩
  | .hbm, ⟨5, _⟩ => ⟨S5632x2048, .bf16⟩
  | .hbm, ⟨6, _⟩ => ⟨S2048, .f32⟩
  | .hbm, ⟨7, _⟩ => ⟨S2048, .f32⟩
  | .hbm, ⟨8, _⟩ => ⟨S32x2x11264, .f32⟩
  | .hbm, ⟨9, _⟩ => ⟨S1x11264, .f32⟩
  | .hbm, ⟨10, _⟩ => ⟨S1x11264, .f32⟩
  | .hbm, ⟨11, _⟩ => ⟨S1x2048, .f32⟩
  | .hbm, ⟨12, _⟩ => ⟨S1x2048, .f32⟩
  | .hbm, ⟨13, _⟩ => ⟨S1024x2048, .f32⟩
  | .hbm, ⟨14, _⟩ => ⟨S32x2x5632, .f32⟩
  | .hbm, ⟨15, _⟩ => ⟨S32x2x5632, .f32⟩
  | .hbm, ⟨16, _⟩ => ⟨S32x2x11264, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x2048, .bf16⟩
  | .local _ .vmem, ⟨17, _⟩ => ⟨S512x2048, .bf16⟩
  | .local _ .vmem, ⟨18, _⟩ => ⟨S1x2048, .f32⟩
  | .local _ .vmem, ⟨19, _⟩ => ⟨S1x2048, .f32⟩
  | .local _ .vmem, ⟨20, _⟩ => ⟨S16x2x512, .f32⟩
  | .local _ .vmem, ⟨21, _⟩ => ⟨S16x2x512, .f32⟩
  | .local _ .vmem, ⟨22, _⟩ => ⟨S16x2x512, .f32⟩
  | .local _ .vmem, ⟨23, _⟩ => ⟨S16x2x512, .f32⟩
  | .local _ .vmem, ⟨24, _⟩ => ⟨S512x2048, .f32⟩
  | .local _ .vmem, ⟨25, _⟩ => ⟨S512x2048, .f32⟩
  | .local _ .vmem, ⟨26, _⟩ => ⟨S16x2x512, .f32⟩
  | .local _ .vmem, ⟨27, _⟩ => ⟨S16x2x512, .f32⟩
  | .local _ .vmem, ⟨28, _⟩ => ⟨S16x2x512, .f32⟩
  | .local _ .vmem, ⟨29, _⟩ => ⟨S16x2x512, .f32⟩
  | .local _ .vmem, ⟨30, _⟩ => ⟨S512x2048, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v118 : BitVec 1 := Scalar.cmpi .eq arg1 c10_i32
  let v119 : BitVec 32 := Scalar.extui v118
  let c0_i32_51 : BitVec 32 := 0#32
  let v120 : BitVec 1 := Scalar.cmpi .ne v119 c0_i32_51
  v120

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![arg0.toNat, c0_i32.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S16x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x2x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S16x2x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x2x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference14Ideal.lean ====
abbrev S1024x2048 : Shape := ⟨2, ![1024, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S32x2x11264 : Shape := ⟨3, ![32, 2, 11264]⟩
abbrev S32x32x2048 : Shape := ⟨3, ![32, 32, 2048]⟩
abbrev S32x32x11264 : Shape := ⟨3, ![32, 32, 11264]⟩
abbrev S32x34x11264 : Shape := ⟨3, ![32, 34, 11264]⟩
abbrev S1x11264 : Shape := ⟨2, ![1, 11264]⟩
abbrev S1x1x11264 : Shape := ⟨3, ![1, 1, 11264]⟩
abbrev S_ : Shape := ⟨0, ![]⟩
abbrev S32x32x5632 : Shape := ⟨3, ![32, 32, 5632]⟩
abbrev S32x32 : Shape := ⟨2, ![32, 32]⟩
abbrev S32x32x1 : Shape := ⟨3, ![32, 32, 1]⟩
abbrev S1x1x2048 : Shape := ⟨3, ![1, 1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .f32⟩
  | .hbm, ⟨2, _⟩ => ⟨S2048x11264, .bf16⟩
  | .hbm, ⟨3, _⟩ => ⟨S3x11264, .f32⟩
  | .hbm, ⟨4, _⟩ => ⟨S11264, .f32⟩
  | .hbm, ⟨5, _⟩ => ⟨S5632x2048, .bf16⟩
  | .hbm, ⟨6, _⟩ => ⟨S2048, .f32⟩
  | .hbm, ⟨7, _⟩ => ⟨S2048, .f32⟩
  | .hbm, ⟨8, _⟩ => ⟨S32x2x11264, .f32⟩
  | .hbm, ⟨9, _⟩ => ⟨S1024x2048, .f32⟩
  | .hbm, ⟨10, _⟩ => ⟨S32x32x2048, .f32⟩
  | .hbm, ⟨11, _⟩ => ⟨S2048x11264, .f32⟩
  | .hbm, ⟨12, _⟩ => ⟨S5632x2048, .f32⟩
  | .hbm, ⟨13, _⟩ => ⟨S32x32x11264, .f32⟩
  | .hbm, ⟨14, _⟩ => ⟨S32x34x11264, .f32⟩
  | .hbm, ⟨15, _⟩ => ⟨S1x11264, .f32⟩
  | .hbm, ⟨16, _⟩ => ⟨S11264, .f32⟩
  | .hbm, ⟨17, _⟩ => ⟨S32x32x11264, .f32⟩
  | .hbm, ⟨18, _⟩ => ⟨S1x1x11264, .f32⟩
  | .hbm, ⟨19, _⟩ => ⟨S32x32x11264, .f32⟩
  | .hbm, ⟨20, _⟩ => ⟨S32x32x11264, .f32⟩
  | .hbm, ⟨21, _⟩ => ⟨S_, .f32⟩
  | .hbm, ⟨22, _⟩ => ⟨S32x32x11264, .f32⟩
  | .hbm, ⟨23, _⟩ => ⟨S32x32x11264, .f32⟩
  | .hbm, ⟨24, _⟩ => ⟨S1x11264, .f32⟩
  | .hbm, ⟨25, _⟩ => ⟨S11264, .f32⟩
  | .hbm, ⟨26, _⟩ => ⟨S32x32x11264, .f32⟩
  | .hbm, ⟨27, _⟩ => ⟨S1x1x11264, .f32⟩
  | .hbm, ⟨28, _⟩ => ⟨S32x32x11264, .f32⟩
  | .hbm, ⟨29, _⟩ => ⟨S32x32x11264, .f32⟩
  | .hbm, ⟨30, _⟩ => ⟨S32x32x11264, .f32⟩
  | .hbm, ⟨31, _⟩ => ⟨S1x11264, .f32⟩
  | .hbm, ⟨32, _⟩ => ⟨S11264, .f32⟩
  | .hbm, ⟨33, _⟩ => ⟨S32x32x11264, .f32⟩
  | .hbm, ⟨34, _⟩ => ⟨S1x1x11264, .f32⟩
  | .hbm, ⟨35, _⟩ => ⟨S32x32x11264, .f32⟩
  | .hbm, ⟨36, _⟩ => ⟨S32x32x11264, .f32⟩
  | .hbm, ⟨37, _⟩ => ⟨S32x32x11264, .f32⟩
  | .hbm, ⟨38, _⟩ => ⟨S1x1x11264, .f32⟩
  | .hbm, ⟨39, _⟩ => ⟨S32x32x11264, .f32⟩
  | .hbm, ⟨40, _⟩ => ⟨S32x32x11264, .f32⟩
  | .hbm, ⟨41, _⟩ => ⟨S32x32x5632, .f32⟩
  | .hbm, ⟨42, _⟩ => ⟨S32x32x5632, .f32⟩
  | .hbm, ⟨43, _⟩ => ⟨S32x32x5632, .f32⟩
  | .hbm, ⟨44, _⟩ => ⟨S32x32x5632, .f32⟩
  | .hbm, ⟨45, _⟩ => ⟨S_, .f32⟩
  | .hbm, ⟨46, _⟩ => ⟨S32x32x5632, .f32⟩
  | .hbm, ⟨47, _⟩ => ⟨S32x32x5632, .f32⟩
  | .hbm, ⟨48, _⟩ => ⟨S32x32x5632, .f32⟩
  | .hbm, ⟨49, _⟩ => ⟨S_, .f32⟩
  | .hbm, ⟨50, _⟩ => ⟨S32x32x5632, .f32⟩
  | .hbm, ⟨51, _⟩ => ⟨S32x32x5632, .f32⟩
  | .hbm, ⟨52, _⟩ => ⟨S32x32x5632, .f32⟩
  | .hbm, ⟨53, _⟩ => ⟨S_, .f32⟩
  | .hbm, ⟨54, _⟩ => ⟨S32x32x5632, .f32⟩
  | .hbm, ⟨55, _⟩ => ⟨S32x32x5632, .f32⟩
  | .hbm, ⟨56, _⟩ => ⟨S_, .f32⟩
  | .hbm, ⟨57, _⟩ => ⟨S32x32x5632, .f32⟩
  | .hbm, ⟨58, _⟩ => ⟨S32x32x5632, .f32⟩
  | .hbm, ⟨59, _⟩ => ⟨S32x32x5632, .f32⟩
  | .hbm, ⟨60, _⟩ => ⟨S32x32x5632, .f32⟩
  | .hbm, ⟨61, _⟩ => ⟨S32x32x2048, .f32⟩
  | .hbm, ⟨62, _⟩ => ⟨S32x32x2048, .f32⟩
  | .hbm, ⟨63, _⟩ => ⟨S_, .f32⟩
  | .hbm, ⟨64, _⟩ => ⟨S32x32, .f32⟩
  | .hbm, ⟨65, _⟩ => ⟨S32x32x1, .f32⟩
  | .hbm, ⟨66, _⟩ => ⟨S_, .f32⟩
  | .hbm, ⟨67, _⟩ => ⟨S32x32x1, .f32⟩
  | .hbm, ⟨68, _⟩ => ⟨S32x32x1, .f32⟩
  | .hbm, ⟨69, _⟩ => ⟨S_, .f32⟩
  | .hbm, ⟨70, _⟩ => ⟨S32x32x1, .f32⟩
  | .hbm, ⟨71, _⟩ => ⟨S32x32x1, .f32⟩
  | .hbm, ⟨72, _⟩ => ⟨S32x32x1, .f32⟩
  | .hbm, ⟨73, _⟩ => ⟨S32x32x2048, .f32⟩
  | .hbm, ⟨74, _⟩ => ⟨S32x32x2048, .f32⟩
  | .hbm, ⟨75, _⟩ => ⟨S1x1x2048, .f32⟩
  | .hbm, ⟨76, _⟩ => ⟨S32x32x2048, .f32⟩
  | .hbm, ⟨77, _⟩ => ⟨S32x32x2048, .f32⟩
  | .hbm, ⟨78, _⟩ => ⟨S1024x2048, .f32⟩
  | .hbm, ⟨79, _⟩ => ⟨S1024x2048, .f32⟩
  | .hbm, ⟨80, _⟩ => ⟨S32x2x11264, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_0 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_1 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_4 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Kernel15.lean ====
abbrev S1024x4096 : Shape := ⟨2, ![1024, 4096]⟩
abbrev S32x8x256x512 : Shape := ⟨4, ![32, 8, 256, 512]⟩
abbrev S8 : Shape := ⟨1, ![8]⟩
abbrev S_ : Shape := ⟨0, ![]⟩
abbrev S8x1x1 : Shape := ⟨3, ![8, 1, 1]⟩
abbrev S8x8x128 : Shape := ⟨3, ![8, 8, 128]⟩
abbrev S1x8x128 : Shape := ⟨3, ![1, 8, 128]⟩
abbrev S32x256 : Shape := ⟨2, ![32, 256]⟩
abbrev S32x512 : Shape := ⟨2, ![32, 512]⟩
abbrev S1x1x256x512 : Shape := ⟨4, ![1, 1, 256, 512]⟩
abbrev S256x512 : Shape := ⟨2, ![256, 512]⟩
abbrev S1x1x1 : Shape := ⟨3, ![1, 1, 1]⟩
abbrev S1x1 : Shape := ⟨2, ![1, 1]⟩
abbrev S32x32 : Shape := ⟨2, ![32, 32]⟩
abbrev S32x1 : Shape := ⟨2, ![32, 1]⟩
abbrev S256x32 : Shape := ⟨2, ![256, 32]⟩
abbrev S32 : Shape := ⟨1, ![32]⟩

abbrev nBuf : Space → Nat
  | .hbm => 18
  | .vmem => 17
  | .smem => 0
  | _ => 0

abbrev bufTy : (tb : Table) → Fin (tcTables nBuf tb) → BufTy
  | .hbm, ⟨0, _⟩ => ⟨S1024x4096, .f32⟩
  | .hbm, ⟨1, _⟩ => ⟨S1024x4096, .bf16⟩
  | .hbm, ⟨2, _⟩ => ⟨S1024x4096, .f32⟩
  | .hbm, ⟨3, _⟩ => ⟨S32x8x256x512, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8x1x1, .f32⟩
  | .hbm, ⟨15, _⟩ => ⟨S8x8x128, .f32⟩
  | .hbm, ⟨16, _⟩ => ⟨S1024x4096, .bf16⟩
  | .hbm, ⟨17, _⟩ => ⟨S32x8x256x512, .f32⟩
  | .local _ .vmem, ⟨0, _⟩ => ⟨S1x8x128, .f32⟩
  | .local _ .vmem, ⟨1, _⟩ => ⟨S1x8x128, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x512, .bf16⟩
  | .local _ .vmem, ⟨7, _⟩ => ⟨S32x512, .bf16⟩
  | .local _ .vmem, ⟨8, _⟩ => ⟨S32x512, .f32⟩
  | .local _ .vmem, ⟨9, _⟩ => ⟨S32x512, .f32⟩
  | .local _ .vmem, ⟨10, _⟩ => ⟨S1x1x256x512, .f32⟩
  | .local _ .vmem, ⟨11, _⟩ => ⟨S1x1x256x512, .f32⟩
  | .local _ .vmem, ⟨12, _⟩ => ⟨S32x512, .bf16⟩
  | .local _ .vmem, ⟨13, _⟩ => ⟨S32x512, .bf16⟩
  | .local _ .vmem, ⟨14, _⟩ => ⟨S1x1x256x512, .f32⟩
  | .local _ .vmem, ⟨15, _⟩ => ⟨S1x1x256x512, .f32⟩
  | .local _ .vmem, ⟨16, _⟩ => ⟨S256x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![32, 8, 1], ![false, false, false]⟩

def k0_cond2 (i : grid0.Coords) : BitVec 1 :=
  let arg2 : BitVec 32 := BitVec.ofNat 32 (i 2).val
  let c0_i32_31 : BitVec 32 := 0#32
  let v84 : BitVec 1 := Scalar.cmpi .eq arg2 c0_i32_31
  let v85 : BitVec 32 := Scalar.extui v84
  let c0_i32_32 : BitVec 32 := 0#32
  let v86 : BitVec 1 := Scalar.cmpi .ne v85 c0_i32_32
  v86

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference15Ideal.lean ====
abbrev S1024x4096 : Shape := ⟨2, ![1024, 4096]⟩
abbrev S32x8x256x512 : Shape := ⟨4, ![32, 8, 256, 512]⟩
abbrev S1024x2048 : Shape := ⟨2, ![1024, 2048]⟩
abbrev S32x32x8x256 : Shape := ⟨4, ![32, 32, 8, 256]⟩
abbrev S32x32x8x512 : Shape := ⟨4, ![32, 32, 8, 512]⟩
abbrev S8 : Shape := ⟨1, ![8]⟩
abbrev S_ : Shape := ⟨0, ![]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S1x32x32 : Shape := ⟨3, ![1, 32, 32]⟩
abbrev S8x1x1 : Shape := ⟨3, ![8, 1, 1]⟩
abbrev S8x32x32 : Shape := ⟨3, ![8, 32, 32]⟩
abbrev S32x8x32x32 : Shape := ⟨4, ![32, 8, 32, 32]⟩
abbrev S1x8x32x32 : Shape := ⟨4, ![1, 8, 32, 32]⟩
abbrev S32x8x512x32 : Shape := ⟨4, ![32, 8, 512, 32]⟩
abbrev S1x8 : Shape := ⟨2, ![1, 8]⟩
abbrev S32x8 : Shape := ⟨2, ![32, 8]⟩
abbrev S1x32x8x1 : Shape := ⟨4, ![1, 32, 8, 1]⟩
abbrev S1x8x1x1 : Shape := ⟨4, ![1, 8, 1, 1]⟩
abbrev S32x32x8 : Shape := ⟨3, ![32, 32, 8]⟩
abbrev S32x32x8x1 : Shape := ⟨4, ![32, 32, 8, 1]⟩

abbrev nBuf : Space → Nat
  | .hbm => 120
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .bf16⟩
  | .hbm, ⟨2, _⟩ => ⟨S1024x4096, .f32⟩
  | .hbm, ⟨3, _⟩ => ⟨S32x8x256x512, .f32⟩
  | .hbm, ⟨4, _⟩ => ⟨S1024x2048, .f32⟩
  | .hbm, ⟨5, _⟩ => ⟨S1024x2048, .f32⟩
  | .hbm, ⟨6, _⟩ => ⟨S32x32x8x256, .f32⟩
  | .hbm, ⟨7, _⟩ => ⟨S32x32x8x256, .f32⟩
  | .hbm, ⟨8, _⟩ => ⟨S1024x4096, .f32⟩
  | .hbm, ⟨9, _⟩ => ⟨S32x32x8x512, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S32, .f32⟩
  | .hbm, ⟨21, _⟩ => ⟨S32x1, .f32⟩
  | .hbm, ⟨22, _⟩ => ⟨S1x32, .f32⟩
  | .hbm, ⟨23, _⟩ => ⟨S32x32, .f32⟩
  | .hbm, ⟨24, _⟩ => ⟨S32x32, .f32⟩
  | .hbm, ⟨25, _⟩ => ⟨S32x32, .f32⟩
  | .hbm, ⟨26, _⟩ => ⟨S_, .f32⟩
  | .hbm, ⟨27, _⟩ => ⟨S32x32, .f32⟩
  | .hbm, ⟨28, _⟩ => ⟨S32x32, .i1⟩
  | .hbm, ⟨29, _⟩ => ⟨S_, .f32⟩
  | .hbm, ⟨30, _⟩ => ⟨S32x32, .f32⟩
  | .hbm, ⟨31, _⟩ => ⟨S32x32, .f32⟩
  | .hbm, ⟨32, _⟩ => ⟨S1x32x32, .f32⟩
  | .hbm, ⟨33, _⟩ => ⟨S8x1x1, .f32⟩
  | .hbm, ⟨34, _⟩ => ⟨S8x32x32, .f32⟩
  | .hbm, ⟨35, _⟩ => ⟨S8x32x32, .f32⟩
  | .hbm, ⟨36, _⟩ => ⟨S8x32x32, .f32⟩
  | .hbm, ⟨37, _⟩ => ⟨S8x32x32, .f32⟩
  | .hbm, ⟨38, _⟩ => ⟨S_, .f32⟩
  | .hbm, ⟨39, _⟩ => ⟨S_, .f32⟩
  | .hbm, ⟨40, _⟩ => ⟨S8x32x32, .i1⟩
  | .hbm, ⟨41, _⟩ => ⟨S8x32x32, .f32⟩
  | .hbm, ⟨42, _⟩ => ⟨S8x32x32, .f32⟩
  | .hbm, ⟨43, _⟩ => ⟨S32x8x32x32, .f32⟩
  | .hbm, ⟨44, _⟩ => ⟨S1x8x32x32, .f32⟩
  | .hbm, ⟨45, _⟩ => ⟨S32x8x32x32, .f32⟩
  | .hbm, ⟨46, _⟩ => ⟨S32x8x32x32, .f32⟩
  | .hbm, ⟨47, _⟩ => ⟨S32x8x512x32, .f32⟩
  | .hbm, ⟨48, _⟩ => ⟨S32x32x8x512, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S32x1, .f32⟩
  | .hbm, ⟨53, _⟩ => ⟨S1x8, .f32⟩
  | .hbm, ⟨54, _⟩ => ⟨S32x8, .f32⟩
  | .hbm, ⟨55, _⟩ => ⟨S32x8, .f32⟩
  | .hbm, ⟨56, _⟩ => ⟨S32x8, .f32⟩
  | .hbm, ⟨57, _⟩ => ⟨S32x8, .f32⟩
  | .hbm, ⟨58, _⟩ => ⟨S1x32x8x1, .f32⟩
  | .hbm, ⟨59, _⟩ => ⟨S32x32x8x256, .f32⟩
  | .hbm, ⟨60, _⟩ => ⟨S32x32x8x256, .f32⟩
  | .hbm, ⟨61, _⟩ => ⟨S32x8x512x32, .f32⟩
  | .hbm, ⟨62, _⟩ => ⟨S32x32x8x512, .f32⟩
  | .hbm, ⟨63, _⟩ => ⟨S32x32x8x512, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S32x1, .f32⟩
  | .hbm, ⟨68, _⟩ => ⟨S1x8, .f32⟩
  | .hbm, ⟨69, _⟩ => ⟨S32x8, .f32⟩
  | .hbm, ⟨70, _⟩ => ⟨S32x8, .f32⟩
  | .hbm, ⟨71, _⟩ => ⟨S32x8, .f32⟩
  | .hbm, ⟨72, _⟩ => ⟨S32x8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S8, .f32⟩
  | .hbm, ⟨77, _⟩ => ⟨S1x8x1x1, .f32⟩
  | .hbm, ⟨78, _⟩ => ⟨S32x8x256x512, .f32⟩
  | .hbm, ⟨79, _⟩ => ⟨S32x8x256x512, .f32⟩
  | .hbm, ⟨80, _⟩ => ⟨S1x32x8x1, .f32⟩
  | .hbm, ⟨81, _⟩ => ⟨S32x32x8x256, .f32⟩
  | .hbm, ⟨82, _⟩ => ⟨S32x32x8x256, .f32⟩
  | .hbm, ⟨83, _⟩ => ⟨S32x8x256x512, .f32⟩
  | .hbm, ⟨84, _⟩ => ⟨S32x8x256x512, .f32⟩
  | .hbm, ⟨85, _⟩ => ⟨S_, .f32⟩
  | .hbm, ⟨86, _⟩ => ⟨S32x32x8, .f32⟩
  | .hbm, ⟨87, _⟩ => ⟨S32x32x8x1, .f32⟩
  | .hbm, ⟨88, _⟩ => ⟨S_, .f32⟩
  | .hbm, ⟨89, _⟩ => ⟨S32x32x8x1, .f32⟩
  | .hbm, ⟨90, _⟩ => ⟨S32x32x8x1, .f32⟩
  | .hbm, ⟨91, _⟩ => ⟨S32x32x8x512, .f32⟩
  | .hbm, ⟨92, _⟩ => ⟨S32x32x8x512, .f32⟩
  | .hbm, ⟨93, _⟩ => ⟨S32x32x8x512, .f32⟩
  | .hbm, ⟨94, _⟩ => ⟨S_, .f32⟩
  | .hbm, ⟨95, _⟩ => ⟨S32x32x8, .f32⟩
  | .hbm, ⟨96, _⟩ => ⟨S32x32x8x1, .f32⟩
  | .hbm, ⟨97, _⟩ => ⟨S_, .f32⟩
  | .hbm, ⟨98, _⟩ => ⟨S32x32x8x1, .f32⟩
  | .hbm, ⟨99, _⟩ => ⟨S32x32x8x1, .f32⟩
  | .hbm, ⟨100, _⟩ => ⟨S32x32x8x512, .f32⟩
  | .hbm, ⟨101, _⟩ => ⟨S32x32x8x512, .f32⟩
  | .hbm, ⟨102, _⟩ => ⟨S_, .f32⟩
  | .hbm, ⟨103, _⟩ => ⟨S32x32x8x1, .f32⟩
  | .hbm, ⟨104, _⟩ => ⟨S32x32x8x1, .f32⟩
  | .hbm, ⟨105, _⟩ => ⟨S32x32x8x1, .f32⟩
  | .hbm, ⟨106, _⟩ => ⟨S32x32x8x512, .f32⟩
  | .hbm, ⟨107, _⟩ => ⟨S32x32x8x512, .f32⟩
  | .hbm, ⟨108, _⟩ => ⟨S1024x4096, .f32⟩
  | .hbm, ⟨109, _⟩ => ⟨S1024x4096, .f32⟩
  | .hbm, ⟨110, _⟩ => ⟨S_, .f32⟩
  | .hbm, ⟨111, _⟩ => ⟨S1024x4096, .f32⟩
  | .hbm, ⟨112, _⟩ => ⟨S1024x4096, .f32⟩
  | .hbm, ⟨113, _⟩ => ⟨S_, .f32⟩
  | .hbm, ⟨114, _⟩ => ⟨S1024x4096, .f32⟩
  | .hbm, ⟨115, _⟩ => ⟨S1024x4096, .f32⟩
  | .hbm, ⟨116, _⟩ => ⟨S1024x4096, .f32⟩
  | .hbm, ⟨117, _⟩ => ⟨S1024x4096, .f32⟩
  | .hbm, ⟨118, _⟩ => ⟨S1024x4096, .f32⟩
  | .hbm, ⟨119, _⟩ => ⟨S1024x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_7 : Ref sig .tc := ⟨.hbm, 85, rfl⟩
abbrev main_v70 : Ref sig .tc := ⟨.hbm, 86, rfl⟩
abbrev main_v71 : Ref sig .tc := ⟨.hbm, 87, rfl⟩
abbrev main_cst_8 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_v77 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_11 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_call1_v0 : Ref sig .tc := ⟨.hbm, 108, rfl⟩
abbrev main_call1_v1 : Ref sig .tc := ⟨.hbm, 109, rfl⟩
abbrev main_call1_cst : Ref sig .tc := ⟨.hbm, 110, rfl⟩
abbrev main_call1_v2 : Ref sig .tc := ⟨.hbm, 111, rfl⟩
abbrev main_call1_v3 : Ref sig .tc := ⟨.hbm, 112, rfl⟩
abbrev main_call1_cst_0 : Ref sig .tc := ⟨.hbm, 113, rfl⟩
abbrev main_call1_v4 : Ref sig .tc := ⟨.hbm, 114, rfl⟩
abbrev main_call1_v5 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩

abbrev nD : Nat := 1
abbrev τ : Topo := Topo.v7x

variable {F : FTy → Type} [FloatOps F]
-- ==== Proof.Lin.Math.lean ====
/-
A product of two matrices over the extended reals, its rows and columns named by number.
-/
module

public import Idealize.ShloMosaic.PureOps.Ideal
public import Idealize.ShloMosaic.Lib.Pointwise
public import Idealize.ShloMosaic.Lib.Pipeline.Value
public import Idealize.ShloMosaic.Lib.Pipeline.ValueKit.Basic

@[expose] public section

noncomputable section

namespace Cert.Lin

open Idealize.ShloMosaic Finset

theorem z2 : (![0, 0] : Fin 2 → Nat) = fun _ => 0 := funext fun a => by fin_cases a <;> rfl

theorem ofNat_self {K : ℕ} [NeZero K] (e : Fin K) : Fin.ofNat K e.val = e := Fin.ext (Nat.mod_eq_of_lt e.isLt)

theorem ofNat_of {K n : ℕ} [NeZero K] (e : Fin K) (h : n = e.val) : Fin.ofNat K n = e := h ▸ ofNat_self e

/-- Row `n` of `h` times column `e` of `w`. -/
def prod {N K E : ℕ} [NeZero N] [NeZero E] (h : (⟨2, ![N, K]⟩ : Shape).Idx → EReal) (w : (⟨2, ![K, E]⟩ : Shape).Idx → EReal)
    (n e : ℕ) : EReal := ∑ k : Fin K, h (ix2 (Fin.ofNat N n) k) * w (ix2 k (Fin.ofNat E e))

theorem prod_of {N K E : ℕ} [NeZero N] [NeZero E] (h : (⟨2, ![N, K]⟩ : Shape).Idx → EReal) (w : (⟨2, ![K, E]⟩ : Shape).Idx → EReal)
    (n e : ℕ) (i : Fin N) (j : Fin E) (hn : n = i.val) (he : e = j.val) :
    prod h w n e = ∑ k : Fin K, h (ix2 i k) * w (ix2 k j) := by
  unfold prod
  rw [ofNat_of i hn, ofNat_of j he]

/-- Row `n` of `h` times column `e` of `w`, over the first `L` of the inner index. -/
def cut {N K E : ℕ} [NeZero N] [NeZero K] (h : (⟨2, ![N, K]⟩ : Shape).Idx → EReal) (w : (⟨2, ![K, E]⟩ : Shape).Idx → EReal)
    (n L : ℕ) (e : Fin E) : EReal := ∑ k ∈ range L, h (ix2 (Fin.ofNat N n) (Fin.ofNat K k)) * w (ix2 (Fin.ofNat K k) e)

theorem cut_zero {N K E : ℕ} [NeZero N] [NeZero K] (h : (⟨2, ![N, K]⟩ : Shape).Idx → EReal) (w : (⟨2, ![K, E]⟩ : Shape).Idx → EReal)
    (n : ℕ) (e : Fin E) : cut h w n 0 e = 0 := by
  unfold cut
  rw [range_zero, sum_empty]

theorem cut_step {N K E : ℕ} [NeZero N] [NeZero K] (h : (⟨2, ![N, K]⟩ : Shape).Idx → EReal) (w : (⟨2, ![K, E]⟩ : Shape).Idx → EReal)
    (n j : ℕ) (e : Fin E) : cut h w n (512 * (j + 1)) e = cut h w n (512 * j) e
      + ∑ f : Fin 512, h (ix2 (Fin.ofNat N n) (Fin.ofNat K (j * 512 + f.val))) * w (ix2 (Fin.ofNat K (j * 512 + f.val)) e) := by
  unfold cut
  rw [show 512 * (j + 1) = j * 512 + 512 by ring, sum_range_add, show 512 * j = j * 512 by ring, sum_range (n := 512)]

theorem cut_full {N K E : ℕ} [NeZero N] [NeZero K] (h : (⟨2, ![N, K]⟩ : Shape).Idx → EReal) (w : (⟨2, ![K, E]⟩ : Shape).Idx → EReal)
    (n : ℕ) (i : Fin N) (e : Fin E) (hn : n = i.val) : cut h w n K e = ∑ k : Fin K, h (ix2 i k) * w (ix2 k e) := by
  unfold cut
  rw [sum_range, ofNat_of i hn]
  exact sum_congr rfl fun k _ => by rw [ofNat_self]

end Cert.Lin

end
-- ==== Proof.Lin.Keys.lean ====
/-
The key projection of the stick-breaking layer: kernel and reference are the product with the keys' columns.
-/
module

public import proofs.«01_k».proof.Proof.Gen.Kernel3Ideal.Value
public import proofs.«01_k».proof.Proof.Gen.Reference3Ideal.Run
public import proofs.«01_k».proof.Proof.Lin.Math
public import Idealize.ShloMosaic.Lib.Pipeline.ValueKit.Geometry
public import Idealize.ShloMosaic.Lib.Tactic

@[expose] public section

noncomputable section

namespace Cert.Lin.K

open Idealize.ShloMosaic Idealize.ShloMosaic.TcCoe Idealize.SL.Sem

section Kernel

open Cert.Kernel3Ideal Cert.Kernel3Ideal.Gen

variable (m : (ℓ : Loc nD τ sig) → Buf (Elt Ideal) ℓ) (ρ : Dev nD → PrngReg) (c : Dev nD)

/-- The input rows. -/
abbrev argH : S32768x2048.Idx → EReal := m ((c.tc : Thread nD τ).loc main_arg0)
/-- The weights. -/
abbrev argW : S2048x6144.Idx → EReal := m ((c.tc : Thread nD τ).loc main_arg1)

/-- The product, row by row. -/
def rows (h : S32768x2048.Idx → EReal) (w : S2048x6144.Idx → EReal) : S32768x2048.Idx → EReal :=
  fun y => prod h w (y 0).val (2048 + (y 1).val)

/-- The product, head by head. -/
def heads (h : S32768x2048.Idx → EReal) (w : S2048x6144.Idx → EReal) : S16x32768x128.Idx → EReal :=
  fun y => prod h w (y 1).val (2048 + ((y 0).val * 128 + (y 2).val))

theorem pay_at (x : Vec Ideal S1024x2048 .bf16) (w : Vec Ideal S2048x512 .bf16) (r : Fin 1024) (e : Fin 512) :
    k0_pay1 x w (ix2 r e) = ∑ k : Fin 2048, x (ix2 r k) * w (ix2 k e) := by
  pointwise [k0_pay1]

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, 4 + t.val % 4] := (by decide +kernel : ∀ t : Fin grid0.N, win0_1.index t = ![0, 4 + t.val % 4])
theorem idx2 : ∀ t : Fin cfg0.N, win0_2.index t = ![t.val / 4, t.val % 4] := (by decide +kernel : ∀ t : Fin grid0.N, win0_2.index t = ![t.val / 4, t.val % 4])
theorem covers2 : (cfg0.win 2).Covers := (by decide +kernel : win0_2.Covers)
theorem idx3 : ∀ t : Fin cfg0.N, win0_3.index t = ![t.val % 4, t.val / 4, 0] := (by decide +kernel : ∀ t : Fin grid0.N, win0_3.index t = ![t.val % 4, t.val / 4, 0])
theorem covers3 : (cfg0.win 3).Covers := (by decide +kernel : win0_3.Covers)

theorem lt_grid (t : Fin cfg0.N) : t.val < 128 := Nat.lt_of_lt_of_eq t.isLt N_0

theorem blk0 (t : Fin cfg0.N) (r : Fin 1024) (k : Fin 2048) :
    iblk m c 0 t (ix2 r k) = argH m c (ix2 (Fin.ofNat 32768 (t.val / 4 * 1024 + r.val)) k) := by
  have ht := lt_grid t
  unfold iblk
  rw [show V m c (Pipeline.arrRef spec0 0) = m ((c : Thread nD τ).loc main_arg0) from V_main_arg0 m c]
  blk_simp [idx0 t]
  congr 1
  blk_ext [idx0 t]
  rw [Fin.val_ofNat]; omega

theorem blk1 (t : Fin cfg0.N) (k : Fin 2048) (e : Fin 512) :
    iblk m c 1 t (ix2 k e) = argW m c (ix2 k (Fin.ofNat 6144 (2048 + (t.val % 4 * 512 + e.val)))) := by
  have ht := lt_grid t
  unfold iblk
  rw [show V m c (Pipeline.arrRef spec0 1) = m ((c : Thread nD τ).loc main_arg1) from V_main_arg1 m c]
  blk_simp [idx1 t]
  congr 1
  blk_ext [idx1 t]
  rw [Fin.val_ofNat]; omega

/-- The product of a point's blocks is a block of the product. -/
theorem point (t : Fin cfg0.N) (r : Fin 1024) (e : Fin 512) : k0_pay1 (iblk m c 0 t) (iblk m c 1 t) (ix2 r e)
    = prod (argH m c) (argW m c) (t.val / 4 * 1024 + r.val) (2048 + (t.val % 4 * 512 + e.val)) := by
  rw [pay_at]
  exact Finset.sum_congr rfl fun k _ => congrArg₂ (· * ·) (blk0 m c t r k) (blk1 m c t k e)

theorem out2_at (t : Fin cfg0.N) (r : Fin 1024) (e : Fin 512) : out0_2 (iblk m c 0 t) (iblk m c 1 t) (ix2 r e)
    = prod (argH m c) (argW m c) (t.val / 4 * 1024 + r.val) (2048 + (t.val % 4 * 512 + e.val)) := by
  unfold out0_2
  rw [View.canon_unit_zero z2, View.ld_unit_zero (S := S1024x2048) z2, View.ld_unit_zero (S := S2048x512) z2]
  exact point m c t r e

theorem emb2_0 (t : Fin cfg0.N) (y : S1024x512.Idx) :
    (((cfg0.win 2).blk t).view.emb y 0).val = t.val / 4 * 1024 + (y 0).val := by blk_simp [idx2 t]
theorem emb2_1 (t : Fin cfg0.N) (y : S1024x512.Idx) :
    (((cfg0.win 2).blk t).view.emb y 1).val = t.val % 4 * 512 + (y 1).val := by blk_simp [idx2 t]

theorem final2 : (dats m 0 c).arrAt 2 cfg0.N = rows (argH m c) (argW m c) := by
  refine (dats m 0 c).arrAt_eq_of_covers 2 (rows (argH m c) (argW m c)) covers2 fun t hf y => ?_
  refine (congrFun (after0_2 m c t) y).trans ?_
  have e0 := emb2_0 t y
  have e1 := emb2_1 t y
  revert e0 e1
  generalize ((cfg0.win 2).blk t).view.emb y = i
  intro e0 e1
  obtain ⟨r, e, rfl⟩ : ∃ (r : Fin 1024) (e : Fin 512), y = ix2 r e := ⟨y 0, y 1, eq_ix2 y⟩
  refine (out2_at m c t r e).trans ?_
  show _ = prod (argH m c) (argW m c) (i 0).val (2048 + (i 1).val)
  rw [e0, e1]
  rfl

theorem out3_at (t : Fin cfg0.N) (p : Fin 4) (r : Fin 1024) (e : Fin 128) :
    out0_3 (iblk m c 0 t) (iblk m c 1 t) (ix3 p r e)
      = prod (argH m c) (argW m c) (t.val / 4 * 1024 + r.val) (2048 + (t.val % 4 * 512 + (p.val * 128 + e.val))) := by
  unfold out0_3
  rw [View.ld_unit_zero (S := S1024x2048) z2, View.ld_unit_zero (S := S2048x512) z2]
  refine (Value.canon3_eq (iblk m c 0 t) (iblk m c 1 t) (ix3 p r e)).trans ?_
  refine Eq.trans ?_ (point m c t r ⟨p.val * 128 + e.val, by omega⟩)
  exact congrArg (k0_pay1 (iblk m c 0 t) (iblk m c 1 t)) (eq_ix2 _)

theorem emb3_0 (t : Fin cfg0.N) (y : S4x1024x128.Idx) :
    (((cfg0.win 3).blk t).view.emb y 0).val = t.val % 4 * 4 + (y 0).val := by blk_simp [idx3 t]
theorem emb3_1 (t : Fin cfg0.N) (y : S4x1024x128.Idx) :
    (((cfg0.win 3).blk t).view.emb y 1).val = t.val / 4 * 1024 + (y 1).val := by blk_simp [idx3 t]
theorem emb3_2 (t : Fin cfg0.N) (y : S4x1024x128.Idx) : (((cfg0.win 3).blk t).view.emb y 2).val = (y 2).val := by
  blk_simp [idx3 t]

theorem final3 : (dats m 0 c).arrAt 3 cfg0.N = heads (argH m c) (argW m c) := by
  refine (dats m 0 c).arrAt_eq_of_covers 3 (heads (argH m c) (argW m c)) covers3 fun t hf y => ?_
  refine (congrFun (after0_3 m c t) y).trans ?_
  have e0 := emb3_0 t y
  have e1 := emb3_1 t y
  have e2 := emb3_2 t y
  revert e0 e1 e2
  generalize ((cfg0.win 3).blk t).view.emb y = i
  intro e0 e1 e2
  obtain ⟨p, r, e, rfl⟩ : ∃ (p : Fin 4) (r : Fin 1024) (e : Fin 128), y = ix3 p r e := ⟨y 0, y 1, y 2, eq_ix3 y⟩
  refine (out3_at m c t p r e).trans ?_
  show _ = prod (argH m c) (argW m c) (i 1).val (2048 + ((i 0).val * 128 + (i 2).val))
  rw [e0, e1, e2]
  exact congrArg _ (by show _ = 2048 + ((t.val % 4 * 4 + p.val) * 128 + e.val); omega)

/-- The run: the result holds the product, the arguments are unchanged. -/
theorem run : θ_run defs (onTc (τ := τ) (main (F := Ideal))) ⟨m, fun _ => 0, ρ⟩ fun r => ∀ c : Dev nD,
      r.2.mem ((c.tc : Thread nD τ).loc main_v0_0) = rows (argH m c) (argW m c)
      ∧ r.2.mem ((c.tc : Thread nD τ).loc main_v0_1) = heads (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2.1.trans (final3 m c), (h c).2.2⟩) (Value.run_blocks m ρ)

end Kernel

section Reference

open Cert.Reference3Ideal Cert.Reference3Ideal.Gen

theorem ref_rows (h : FVec Ideal S32768x2048 .bf16) (w : FVec Ideal S2048x6144 .bf16) :
    extractStridedSlice S32768x2048 ![0, 2048] (Host.dotGeneral dot_S32768x2048_S2048x6144_S32768x6144_1_0_0_1_n_n none (extf .f32 h bitsLt_bf16_f32) (extf .f32 w bitsLt_bf16_f32)) slices_S32768x6144_S32768x2048_0_2048 = rows h w := by
  funext y
  obtain ⟨n, e, rfl⟩ : ∃ (n : Fin 32768) (e : Fin 2048), y = ix2 n e := ⟨y 0, y 1, eq_ix2 y⟩
  refine Eq.trans ?_ (prod_of h w _ _ n ⟨2048 + e.val, by omega⟩ rfl rfl).symm
  pointwise []

theorem ref_heads (h : FVec Ideal S32768x2048 .bf16) (w : FVec Ideal S2048x6144 .bf16) :
    truncf .bf16 (transpose S16x32768x128 [1, 0, 2] (shapeCast _ (extractStridedSlice S32768x2048 ![0, 2048] (Host.dotGeneral dot_S32768x2048_S2048x6144_S32768x6144_1_0_0_1_n_n none (extf .f32 h bitsLt_bf16_f32) (extf .f32 w bitsLt_bf16_f32)) slices_S32768x6144_S32768x2048_0_2048) shapeCasts_S32768x2048_S32768x16x128) transposes_S32768x16x128_S16x32768x128_1_0_2) bitsLt_bf16_f32 = heads h w := by
  funext y
  obtain ⟨p, n, e, rfl⟩ : ∃ (p : Fin 16) (n : Fin 32768) (e : Fin 128), y = ix3 p n e := ⟨y 0, y 1, y 2, eq_ix3 y⟩
  refine Eq.trans ?_ (prod_of h w _ _ n ⟨2048 + (p.val * 128 + e.val), by omega⟩ rfl rfl).symm
  pointwise []

end Reference

end Cert.Lin.K

end
-- ==== Proof.Ret.Pieces.lean ====
/-
What a grid point of the sample's retention kernel leaves behind, in terms of the values its stores hold.
-/
module

public import proofs.«01_k».proof.Proof.Gen.Kernel15Ideal.Frame
public import Idealize.ShloMosaic.Lib.Pipeline.ValueKit.Basic
public import Idealize.ShloMosaic.Lib.WritesUnit

@[expose] public section

noncomputable section

namespace Cert.Ret

open Idealize.ShloMosaic Idealize.ShloMosaic.TcCoe Idealize.ShloMosaic.Tactic Idealize.SL.Sem Cert.Kernel15Ideal Cert.Kernel15Ideal.Gen

variable {F : FTy → Type} [FloatOps F]

theorem zero2 : (![0, 0] : Fin 2 → Nat) = fun _ => 0 := funext fun a => by fin_cases a <;> rfl
theorem zero4 : (![0, 0, 0, 0] : Fin 4 → Nat) = fun _ => 0 := funext fun a => by fin_cases a <;> rfl

variable (m : (ℓ : Loc nD τ sig) → Buf (Elt F) ℓ)

/-- The head's rate out of the table's block. -/
def corner (x : Vec F S1x8x128 .f32) : Vec F S1x1x1 .f32 :=
  View.ld x (Rect.unit (s := S1x8x128) ![0, 0, 0] S1x1x1.size inb_S1x8x128_S1x1x1_0_0_0)

/-- The output block of a point, from its input blocks. -/
def outBlock (x0 : Vec F S1x8x128 .f32) (x1 x2 : Vec F S32x256 .f32) (x3 : Vec F S32x512 .bf16) (x4 : Vec F S32x512 .f32)
    (x5 : Vec F S1x1x256x512 .f32) : FVec F S32x512 .bf16 :=
  k0_pay9 (k0_pay4 (corner x0) x1 x2 x3) (k0_pay2 x5) (k0_pay6 (corner x0) x1) x4

/-- The state block of a point, from its input blocks. -/
def stateBlock (x0 : Vec F S1x8x128 .f32) (x2 : Vec F S32x256 .f32) (x3 : Vec F S32x512 .bf16)
    (x5 : Vec F S1x1x256x512 .f32) : FVec F S1x1x256x512 .f32 :=
  k0_pay1 (k0_pay7 (k0_pay3 (corner x0)) x2 x3 (k0_pay5 (F := F)) (k0_pay2 x5))

theorem read_scratch (h : (scM0_0).IsWhole) (X : Vec F S256x512 .f32) :
    View.read (Elt F) (View.whole cc0_scratch0) (h.unread X) = X := Memref.IsWhole.read_unread _ _

theorem outBlock_eq (c : Dev nD) (t : Fin cfg0.N) :
    (outsAt0 m c t).1 = outBlock (iblk m c 0 t) (iblk m c 1 t) (iblk m c 2 t) (iblk m c 3 t) (iblk m c 4 t) (iblk m c 5 t) := by
  unfold outsAt0
  dsimp only
  unfold out0_A_6
  rw [View.read_writes_junk_eq_canon]
  unfold kernelRun0_A
  dsimp only
  sl_unfold_words
  rw [View.canon_cons_unit_zero (S := S32x512) zero2]
  rw [View.readCov_unit_zero (S := S256x512) _ zero2]
  simp only [View.readAt_eq_ld, Memref.IsWhole.read_unread, read_scratch, View.ld_unit_zero (S := S32x256) zero2,
    View.ld_unit_zero (S := S32x512) zero2, View.ld_unit_zero (S := S256x512) zero2, View.ld_unit_zero (S := S1x1x256x512) zero4]
  unfold outBlock corner
  rfl

theorem stateBlock_eq (c : Dev nD) (t : Fin cfg0.N) :
    (outsAt0 m c t).2 = stateBlock (iblk m c 0 t) (iblk m c 2 t) (iblk m c 3 t) (iblk m c 5 t) := by
  unfold outsAt0
  dsimp only
  unfold out0_A_7
  rw [View.read_writes_junk_eq_canon]
  unfold kernelRun0_A
  dsimp only
  sl_unfold_words
  rw [View.canon_cons_unit_zero (S := S1x1x256x512) zero4]
  rw [View.readCov_unit_zero (S := S256x512) _ zero2]
  simp only [View.readAt_eq_ld, Memref.IsWhole.read_unread, read_scratch, View.ld_unit_zero (S := S32x256) zero2,
    View.ld_unit_zero (S := S32x512) zero2, View.ld_unit_zero (S := S256x512) zero2, View.ld_unit_zero (S := S1x1x256x512) zero4]
  unfold stateBlock corner
  rfl

end Cert.Ret

end
-- ==== Proof.Ret.Math.lean ====
/-
One head of one sequence of the retention over a block of 32 rows, as formulas over the extended reals.
-/
module

public import Idealize.ShloMosaic.PureOps.Ideal
public import Idealize.ShloMosaic.Lib.Pointwise
public import proofs.«01_k».proof.Proof.Lin.Math

@[expose] public section

noncomputable section

namespace Cert.Ret

open Idealize.ShloMosaic

/-- A row's number. -/
def pt (i : ℕ) : EReal := ((i : ℝ) : EReal)

/-- The logarithms of the heads' decays. -/
def rates (b : (⟨0, ![]⟩ : Shape).BroadcastsInDim ⟨1, ![8]⟩ (![] : Fin 0 → Fin 1)) : FVec Ideal ⟨1, ![8]⟩ .f32 :=
  Host.log1p (Host.negf (Host.exp (mulf (broadcastInDim ⟨1, ![8]⟩ ![] b (constant ⟨0, ![]⟩ .f32 0x3F317218#32))
    (subf (broadcastInDim ⟨1, ![8]⟩ ![] b (constant ⟨0, ![]⟩ .f32 0xC0A00000#32)) (sitofp .f32 (iotaInDim ⟨1, ![8]⟩ 32 0))))))

/-- The decay at a distance, none for a negative one. -/
def decay (L x : EReal) : EReal :=
  if 0 ≤ x then Ideal.exp (max x 0 * L) else 0

variable (q k : Fin 32 → Fin 256 → EReal) (v : Fin 32 → Fin 512 → EReal) (s : Fin 256 → Fin 512 → EReal) (L : EReal)

/-- The block's own part of the output. -/
def own (l : Fin 32) (e : Fin 512) : EReal := ∑ n : Fin 32, ((∑ d : Fin 256, q l d * k n d) * decay L (pt l.val - pt n.val)) * v n e

/-- The part of the state before the block. -/
def old (l : Fin 32) (e : Fin 512) : EReal := ∑ d : Fin 256, (q l d * Ideal.exp ((pt l.val + Ideal.ofBits .f32 0x3F800000#32) * L)) * s d e

/-- The state after the block. -/
def state (d : Fin 256) (e : Fin 512) : EReal := Ideal.exp (Ideal.ofBits .f32 0x42000000#32 * L) * s d e
  + ∑ n : Fin 32, (k n d * Ideal.exp ((Ideal.ofBits .f32 0x41F80000#32 - pt n.val) * L)) * v n e

/-- The mean of a head's row. -/
def mean (o : Fin 512 → EReal) : EReal := Ideal.div (∑ e, o e) (Ideal.ofBits .f32 0x44000000#32)

/-- The norm of a head's row. -/
def grp (o : Fin 512 → EReal) (e : Fin 512) : EReal :=
  (o e - mean o) * Ideal.rsqrt (mean (fun j => (o j - mean o) * (o j - mean o)) + Ideal.ofBits .f32 0x3727C5AC#32)

/-- The gated result. -/
def gated (g : EReal) (l : Fin 32) (e : Fin 512) : EReal := g * Ideal.logistic g * grp (fun j => own q k v L l j + old q s L l j) e

theorem sub_toInt : ∀ l n : Fin 32, (BitVec.ofNat 32 l.val - BitVec.ofNat 32 n.val).toInt = (l.val : Int) - (n.val : Int) := by decide +kernel

theorem pt_toInt (l : Fin 32) : (((BitVec.ofNat 32 l.val).toInt : ℝ) : EReal) = pt l.val := by
  have h : ∀ l : Fin 32, (BitVec.ofNat 32 l.val).toInt = (l.val : Int) := by decide +kernel
  rw [h]
  rfl

theorem pt_sub (l n : Fin 32) : (((BitVec.ofNat 32 l.val - BitVec.ofNat 32 n.val).toInt : ℝ) : EReal) = pt l.val - pt n.val := by
  rw [sub_toInt]
  unfold pt
  rw [← EReal.coe_sub]
  push_cast
  rfl

end Cert.Ret

end
-- ==== Proof.Ret.Step.lean ====
/-
The values a grid point of the sample's retention kernel computes, element by element over the extended reals.
-/
module

public import proofs.«01_k».proof.Proof.Ret.Pieces
public import proofs.«01_k».proof.Proof.Ret.Math
public import Idealize.ShloMosaic.Lib.WordCmp

@[expose] public section

noncomputable section

namespace Cert.Ret

open Idealize.ShloMosaic Idealize.ShloMosaic.TcCoe Idealize.ShloMosaic.WordCmp Cert.Kernel15Ideal Cert.Kernel15Ideal.Gen

theorem corner_at (x : Vec Ideal S1x8x128 .f32) : corner x (ix3 0 0 0) = x (ix3 0 0 0) := by
  pointwise [corner]

theorem pay4_at (x0 : Vec Ideal S1x1x1 .f32) (x1 x2 : Vec Ideal S32x256 .f32) (x3 : Vec Ideal S32x512 .bf16) (l : Fin 32) (e : Fin 512) :
    k0_pay4 x0 x1 x2 x3 (ix2 l e) = own (fun l d => x1 (ix2 l d)) (fun l d => x2 (ix2 l d)) (fun l e => x3 (ix2 l e)) (x0 (ix3 0 0 0)) l e := by
  unfold own
  pointwise [k0_pay4, k0_pay3]
  refine Finset.sum_congr rfl fun n _ => ?_
  rw [← pt_sub]
  rfl

theorem pay6_at (x0 : Vec Ideal S1x1x1 .f32) (x1 : Vec Ideal S32x256 .f32) (l : Fin 32) (d : Fin 256) :
    k0_pay6 x0 x1 (ix2 l d) = x1 (ix2 l d) * Ideal.exp ((pt l.val + Ideal.ofBits .f32 0x3F800000#32) * x0 (ix3 0 0 0)) := by
  rw [← pt_toInt]
  pointwise [k0_pay6, k0_pay5, k0_pay3]
  rfl

theorem pay2_at (x : Vec Ideal S1x1x256x512 .f32) (d : Fin 256) (e : Fin 512) : k0_pay2 x (ix2 d e) = x (ix4 0 0 d e) := by
  pointwise [k0_pay2]

theorem pay9_at (a : FVec Ideal S32x512 .f32) (s : FVec Ideal S256x512 .f32) (q : FVec Ideal S32x256 .f32) (g : Vec Ideal S32x512 .f32)
    (l : Fin 32) (e : Fin 512) :
    k0_pay9 a s q g (ix2 l e) = (g (ix2 l e) * Ideal.logistic (g (ix2 l e)))
      * grp (fun j => a (ix2 l j) + ∑ d : Fin 256, q (ix2 l d) * s (ix2 d j)) e := by
  pointwise [k0_pay9]
  rfl

theorem pay7_at (x0 : Vec Ideal S1x1x1 .f32) (x2 : Vec Ideal S32x256 .f32) (x3 : Vec Ideal S32x512 .bf16) (s : FVec Ideal S256x512 .f32)
    (d : Fin 256) (e : Fin 512) :
    k0_pay7 (k0_pay3 x0) x2 x3 (k0_pay5 (F := Ideal)) s (ix2 d e)
      = state (fun l d => x2 (ix2 l d)) (fun l e => x3 (ix2 l e)) (fun d e => s (ix2 d e)) (x0 (ix3 0 0 0)) d e := by
  unfold state
  pointwise [k0_pay7, k0_pay3, k0_pay5]
  rfl

theorem pay1_at (s : FVec Ideal S256x512 .f32) (d : Fin 256) (e : Fin 512) : k0_pay1 s (ix4 0 0 d e) = s (ix2 d e) := by
  pointwise [k0_pay1]

end Cert.Ret

end
-- ==== Proof.Ret.Result.lean ====
/-
The sample's retention kernel: its results as formulas of its arguments.
-/
module

public import proofs.«01_k».proof.Proof.Gen.Kernel15Ideal.Value
public import proofs.«01_k».proof.Proof.Ret.Step
public import Idealize.ShloMosaic.Lib.StableHlo.ReadAt
public import Idealize.ShloMosaic.Lib.Pipeline.ValueKit.Geometry
public import Idealize.ShloMosaic.Lib.Tactic

@[expose] public section

noncomputable section

namespace Cert.Ret

open Idealize.ShloMosaic Idealize.ShloMosaic.TcCoe Idealize.SL.Sem Cert.Kernel15Ideal Cert.Kernel15Ideal.Gen

/-! ### The arguments by sequence and head -/

/-- A head's queries in a sequence. -/
def qs (x : S1024x4096.Idx → EReal) (b : Fin 32) (h : Fin 8) (l : Fin 32) (d : Fin 256) : EReal :=
  x (ix2 ⟨b.val * 32 + l.val, by omega⟩ ⟨h.val * 256 + d.val, by omega⟩)

/-- A head's keys in a sequence. -/
def ks (x : S1024x4096.Idx → EReal) (b : Fin 32) (h : Fin 8) (l : Fin 32) (d : Fin 256) : EReal :=
  x (ix2 ⟨b.val * 32 + l.val, by omega⟩ ⟨2048 + (h.val * 256 + d.val), by omega⟩)

/-- A head's columns of the values or the gate in a sequence. -/
def vs (x : S1024x4096.Idx → EReal) (b : Fin 32) (h : Fin 8) (l : Fin 32) (e : Fin 512) : EReal :=
  x (ix2 ⟨b.val * 32 + l.val, by omega⟩ ⟨h.val * 512 + e.val, by omega⟩)

/-- A head's state before the block. -/
def ss (x : S32x8x256x512.Idx → EReal) (b : Fin 32) (h : Fin 8) (d : Fin 256) (e : Fin 512) : EReal := x (ix4 b h d e)

/-- A head's rate. -/
def rate (h : Fin 8) : EReal := rates bcast_S_S8 (ix1 h)

/-- The gated result at a sequence, a head, a row and a column. -/
def outAt (x v g : S1024x4096.Idx → EReal) (s : S32x8x256x512.Idx → EReal) (b : Fin 32) (h : Fin 8) (l : Fin 32) (e : Fin 512) : EReal :=
  gated (qs x b h) (ks x b h) (vs v b h) (ss s b h) (rate h) (vs g b h l e) l e

/-- The gated result. -/
def rows (x v g : S1024x4096.Idx → EReal) (s : S32x8x256x512.Idx → EReal) : S1024x4096.Idx → EReal :=
  fun y => outAt x v g s (Fin.ofNat 32 ((y 0).val / 32)) (Fin.ofNat 8 ((y 1).val / 512)) (Fin.ofNat 32 ((y 0).val % 32)) (Fin.ofNat 512 ((y 1).val % 512))

/-- The state after the block. -/
def states (x v : S1024x4096.Idx → EReal) (s : S32x8x256x512.Idx → EReal) : S32x8x256x512.Idx → EReal :=
  fun y => state (ks x (y 0) (y 1)) (vs v (y 0) (y 1)) (ss s (y 0) (y 1)) (rate (y 1)) (y 2) (y 3)

variable (m : (ℓ : Loc nD τ sig) → Buf (Elt Ideal) ℓ) (ρ : Dev nD → PrngReg) (c : Dev nD)

/-- The queries and the keys. -/
abbrev argX : S1024x4096.Idx → EReal := m ((c.tc : Thread nD τ).loc main_arg0)
/-- The values. -/
abbrev argV : S1024x4096.Idx → EReal := m ((c.tc : Thread nD τ).loc main_arg1)
/-- The gate. -/
abbrev argG : S1024x4096.Idx → EReal := m ((c.tc : Thread nD τ).loc main_arg2)
/-- The state before the block. -/
abbrev argS : S32x8x256x512.Idx → EReal := m ((c.tc : Thread nD τ).loc main_arg3)

/-- The table holds a head's rate everywhere. -/
theorem V_rate (h : Fin 8) (a : Fin 8) (b : Fin 128) : V m c main_v9 (ix3 h a b) = rate h := by
  unfold V
  simp only [hostOps0, List.flatten_cons, List.flatten_nil, List.append_nil]
  after_reads_at
  rfl

/-! ### The blocks of a point -/

theorem idx0 : ∀ t : Fin cfg0.N, win0_0.index t = ![t.val % 8, 0, 0] := (by decide +kernel : ∀ t : Fin grid0.N, win0_0.index t = ![t.val % 8, 0, 0])
theorem idx1 : ∀ t : Fin cfg0.N, win0_1.index t = ![t.val / 8, t.val % 8] := (by decide +kernel : ∀ t : Fin grid0.N, win0_1.index t = ![t.val / 8, t.val % 8])
theorem idx2 : ∀ t : Fin cfg0.N, win0_2.index t = ![t.val / 8, 8 + t.val % 8] := (by decide +kernel : ∀ t : Fin grid0.N, win0_2.index t = ![t.val / 8, 8 + t.val % 8])
theorem idx3 : ∀ t : Fin cfg0.N, win0_3.index t = ![t.val / 8, t.val % 8] := (by decide +kernel : ∀ t : Fin grid0.N, win0_3.index t = ![t.val / 8, t.val % 8])
theorem idx4 : ∀ t : Fin cfg0.N, win0_4.index t = ![t.val / 8, t.val % 8] := (by decide +kernel : ∀ t : Fin grid0.N, win0_4.index t = ![t.val / 8, t.val % 8])
theorem idx5 : ∀ t : Fin cfg0.N, win0_5.index t = ![t.val / 8, t.val % 8, 0, 0] := (by decide +kernel : ∀ t : Fin grid0.N, win0_5.index t = ![t.val / 8, t.val % 8, 0, 0])
theorem idx6 : ∀ t : Fin cfg0.N, win0_6.index t = ![t.val / 8, t.val % 8] := (by decide +kernel : ∀ t : Fin grid0.N, win0_6.index t = ![t.val / 8, t.val % 8])
theorem idx7 : ∀ t : Fin cfg0.N, win0_7.index t = ![t.val / 8, t.val % 8, 0, 0] := (by decide +kernel : ∀ t : Fin grid0.N, win0_7.index t = ![t.val / 8, t.val % 8, 0, 0])
theorem covers6 : (cfg0.win 6).Covers := (by decide +kernel : win0_6.Covers)
theorem covers7 : (cfg0.win 7).Covers := (by decide +kernel : win0_7.Covers)

theorem lt_grid (t : Fin cfg0.N) : t.val < 256 := Nat.lt_of_lt_of_eq t.isLt N_0

/-- A point's sequence. -/
def seqAt (t : Fin cfg0.N) : Fin 32 := ⟨t.val / 8, by have := lt_grid t; omega⟩
/-- A point's head. -/
def headAt (t : Fin cfg0.N) : Fin 8 := ⟨t.val % 8, by omega⟩

section Blocks

variable (t : Fin cfg0.N)

theorem blk0 : iblk m c 0 t (ix3 0 0 0) = rate (headAt t) := by
  refine Eq.trans ?_ (V_rate m c (headAt t) 0 0)
  unfold iblk headAt
  blk_simp [idx0 t]
  congr 1
  blk_ext [idx0 t]

theorem blk1 (l : Fin 32) (d : Fin 256) : iblk m c 1 t (ix2 l d) = qs (argX m c) (seqAt t) (headAt t) l d := by
  unfold iblk qs seqAt headAt
  rw [show V m c (Pipeline.arrRef spec0 1) = m ((c : Thread nD τ).loc main_arg0) from V_main_arg0 m c]
  blk_simp [idx1 t]
  congr 1
  blk_ext [idx1 t]

theorem blk2 (l : Fin 32) (d : Fin 256) : iblk m c 2 t (ix2 l d) = ks (argX m c) (seqAt t) (headAt t) l d := by
  unfold iblk ks seqAt headAt
  rw [show V m c (Pipeline.arrRef spec0 2) = m ((c : Thread nD τ).loc main_arg0) from V_main_arg0 m c]
  blk_simp [idx2 t]
  congr 1
  blk_ext [idx2 t]

theorem blk3 (l : Fin 32) (e : Fin 512) : iblk m c 3 t (ix2 l e) = vs (argV m c) (seqAt t) (headAt t) l e := by
  unfold iblk vs seqAt headAt
  rw [show V m c (Pipeline.arrRef spec0 3) = m ((c : Thread nD τ).loc main_arg1) from V_main_arg1 m c]
  blk_simp [idx3 t]
  congr 1
  blk_ext [idx3 t]

theorem blk4 (l : Fin 32) (e : Fin 512) : iblk m c 4 t (ix2 l e) = vs (argG m c) (seqAt t) (headAt t) l e := by
  unfold iblk vs seqAt headAt
  rw [show V m c (Pipeline.arrRef spec0 4) = m ((c : Thread nD τ).loc main_arg2) from V_main_arg2 m c]
  blk_simp [idx4 t]
  congr 1
  blk_ext [idx4 t]

theorem blk5 (d : Fin 256) (e : Fin 512) : iblk m c 5 t (ix4 0 0 d e) = ss (argS m c) (seqAt t) (headAt t) d e := by
  unfold iblk ss seqAt headAt
  rw [show V m c (Pipeline.arrRef spec0 5) = m ((c : Thread nD τ).loc main_arg3) from V_main_arg3 m c]
  blk_simp [idx5 t]
  congr 1
  blk_ext [idx5 t]

theorem out_at (l : Fin 32) (e : Fin 512) :
    (outsAt0 m c t).1 (ix2 l e) = outAt (argX m c) (argV m c) (argG m c) (argS m c) (seqAt t) (headAt t) l e := by
  rw [outBlock_eq]
  unfold outBlock
  rw [pay9_at]
  unfold outAt gated old
  simp only [pay4_at, pay6_at, pay2_at, corner_at, blk0 m c t, blk1 m c t, blk2 m c t, blk3 m c t, blk4 m c t, blk5 m c t]

theorem state_at (d : Fin 256) (e : Fin 512) :
    (outsAt0 m c t).2 (ix4 0 0 d e) = state (ks (argX m c) (seqAt t) (headAt t)) (vs (argV m c) (seqAt t) (headAt t))
      (ss (argS m c) (seqAt t) (headAt t)) (rate (headAt t)) d e := by
  rw [stateBlock_eq]
  unfold stateBlock
  rw [pay1_at, pay7_at]
  simp only [pay2_at, corner_at, blk0 m c t, blk2 m c t, blk3 m c t, blk5 m c t]

end Blocks

/-! ### The results -/

theorem emb6_0 (t : Fin cfg0.N) (y : S32x512.Idx) : (((cfg0.win 6).blk t).view.emb y 0).val = t.val / 8 * 32 + (y 0).val := by
  blk_simp [idx6 t]
theorem emb6_1 (t : Fin cfg0.N) (y : S32x512.Idx) : (((cfg0.win 6).blk t).view.emb y 1).val = t.val % 8 * 512 + (y 1).val := by
  blk_simp [idx6 t]

theorem final6 : (dats m 0 c).arrAt 6 cfg0.N = rows (argX m c) (argV m c) (argG m c) (argS m c) := by
  refine (dats m 0 c).arrAt_eq_of_covers 6 (rows (argX m c) (argV m c) (argG m c) (argS m c)) covers6 fun t hf y => ?_
  refine (congrFun (after0_6 m c t) y).trans ?_
  have e0 := emb6_0 t y
  have e1 := emb6_1 t y
  revert e0 e1
  generalize ((cfg0.win 6).blk t).view.emb y = i
  intro e0 e1
  obtain ⟨l, e, rfl⟩ : ∃ (l : Fin 32) (e : Fin 512), y = ix2 l e := ⟨y 0, y 1, eq_ix2 y⟩
  replace e0 : (i 0).val = t.val / 8 * 32 + l.val := e0
  replace e1 : (i 1).val = t.val % 8 * 512 + e.val := e1
  have ht := lt_grid t
  refine (out_at m c t l e).trans ?_
  show _ = outAt _ _ _ _ (Fin.ofNat 32 ((i 0).val / 32)) (Fin.ofNat 8 ((i 1).val / 512)) (Fin.ofNat 32 ((i 0).val % 32)) (Fin.ofNat 512 ((i 1).val % 512))
  rw [e0, e1, Lin.ofNat_of (seqAt t) (show (t.val / 8 * 32 + l.val) / 32 = t.val / 8 by omega),
    Lin.ofNat_of (headAt t) (show (t.val % 8 * 512 + e.val) / 512 = t.val % 8 by omega),
    Lin.ofNat_of l (show (t.val / 8 * 32 + l.val) % 32 = l.val by omega),
    Lin.ofNat_of e (show (t.val % 8 * 512 + e.val) % 512 = e.val by omega)]

theorem emb7_0 (t : Fin cfg0.N) (y : S1x1x256x512.Idx) : (((cfg0.win 7).blk t).view.emb y 0).val = t.val / 8 + (y 0).val := by
  blk_simp [idx7 t]
theorem emb7_1 (t : Fin cfg0.N) (y : S1x1x256x512.Idx) : (((cfg0.win 7).blk t).view.emb y 1).val = t.val % 8 + (y 1).val := by
  blk_simp [idx7 t]
theorem emb7_2 (t : Fin cfg0.N) (y : S1x1x256x512.Idx) : (((cfg0.win 7).blk t).view.emb y 2).val = (y 2).val := by
  blk_simp [idx7 t]
theorem emb7_3 (t : Fin cfg0.N) (y : S1x1x256x512.Idx) : (((cfg0.win 7).blk t).view.emb y 3).val = (y 3).val := by
  blk_simp [idx7 t]

theorem final7 : (dats m 0 c).arrAt 7 cfg0.N = states (argX m c) (argV m c) (argS m c) := by
  refine (dats m 0 c).arrAt_eq_of_covers 7 (states (argX m c) (argV m c) (argS m c)) covers7 fun t hf y => ?_
  refine (congrFun (after0_7 m c t) y).trans ?_
  have e0 := emb7_0 t y
  have e1 := emb7_1 t y
  have e2 := emb7_2 t y
  have e3 := emb7_3 t y
  revert e0 e1 e2 e3
  generalize ((cfg0.win 7).blk t).view.emb y = i
  intro e0 e1 e2 e3
  obtain ⟨a, b, d, e, rfl⟩ : ∃ (a : Fin 1) (b : Fin 1) (d : Fin 256) (e : Fin 512), y = ix4 a b d e := ⟨y 0, y 1, y 2, y 3, eq_ix4 y⟩
  obtain rfl : a = 0 := Subsingleton.elim _ _
  obtain rfl : b = 0 := Subsingleton.elim _ _
  refine (state_at m c t d e).trans ?_
  show _ = state (ks _ (i 0) (i 1)) (vs _ (i 0) (i 1)) (ss _ (i 0) (i 1)) (rate (i 1)) (i 2) (i 3)
  rw [show i 0 = seqAt t from Fin.ext e0, show i 1 = headAt t from Fin.ext e1, show i 2 = d from Fin.ext e2, show i 3 = e from Fin.ext e3]

/-- The run: the results hold the gated result and the state, the arguments are unchanged. -/
theorem run :
    θ_run defs (onTc (τ := τ) (main (F := Ideal))) ⟨m, fun _ => 0, ρ⟩ fun r => ∀ c : Dev nD,
      r.2.mem ((c.tc : Thread nD τ).loc main_v10_0) = rows (argX m c) (argV m c) (argG m c) (argS m c)
      ∧ r.2.mem ((c.tc : Thread nD τ).loc main_v10_1) = states (argX m c) (argV m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final6 m c), (h c).2.1.trans (final7 m c), (h c).2.2⟩) (Value.run_blocks m ρ)

end Cert.Ret

end
-- ==== Proof.Ret.Ref.lean ====
/-
The reference of the sample's retention: its results are the kernel's.
-/
module

public import proofs.«01_k».proof.Proof.Gen.Reference15Ideal.Run
public import proofs.«01_k».proof.Proof.Ret.Result

@[expose] public section

noncomputable section

namespace Cert.Ret.Ref

open Idealize.ShloMosaic Idealize.ShloMosaic.TcCoe Cert.Reference15Ideal Cert.Reference15Ideal.Gen

/-! ### The reference in stages -/

/-- The queries by sequence, row and head. -/
def qB (x : FVec Ideal S1024x4096 .f32) : FVec Ideal S32x32x8x256 .f32 :=
  shapeCast _ (extractStridedSlice S1024x2048 ![0, 0] x slices_S1024x4096_S1024x2048_0_0) shapeCasts_S1024x2048_S32x32x8x256

/-- The keys by sequence, row and head. -/
def kB (x : FVec Ideal S1024x4096 .f32) : FVec Ideal S32x32x8x256 .f32 :=
  shapeCast _ (extractStridedSlice S1024x2048 ![0, 2048] x slices_S1024x4096_S1024x2048_0_2048) shapeCasts_S1024x2048_S32x32x8x256

/-- The values by sequence, row and head. -/
def vB (v : FVec Ideal S1024x4096 .bf16) : FVec Ideal S32x32x8x512 .f32 :=
  shapeCast _ (extf .f32 v bitsLt_bf16_f32) shapeCasts_S1024x4096_S32x32x8x512

/-- The rows' numbers. -/
def pts : FVec Ideal S32 .f32 := sitofp .f32 (iotaInDim S32 32 0)

/-- The distance of two rows. -/
def dist : FVec Ideal S32x32 .f32 :=
  subf (broadcastInDim S32x32 ![0, 1] bcast_S32x1_S32x32_0_1 (broadcastInDim S32x1 ![0] bcast_S32_S32x1_0 pts))
    (broadcastInDim S32x32 ![0, 1] bcast_S1x32_S32x32_0_1 (broadcastInDim S1x32 ![1] bcast_S32_S1x32_1 pts))

/-- The decay between two rows, head by head. -/
def decayB (r : FVec Ideal S8 .f32) : FVec Ideal S8x32x32 .f32 :=
  select (broadcastInDim S8x32x32 ![1, 2] bcast_S32x32_S8x32x32_1_2 (cmpf .oge dist (broadcastInDim S32x32 ![] bcast_S_S32x32 (constant S_ .f32 0x00000000#32))))
    (Host.exp (mulf (broadcastInDim S8x32x32 ![0, 1, 2] bcast_S1x32x32_S8x32x32_0_1_2 (broadcastInDim S1x32x32 ![1, 2] bcast_S32x32_S1x32x32_1_2
      (maximumf dist (broadcastInDim S32x32 ![] bcast_S_S32x32 (constant S_ .f32 0x00000000#32)))))
      (broadcastInDim S8x32x32 ![0, 1, 2] bcast_S8x1x1_S8x32x32_0_1_2 (broadcastInDim S8x1x1 ![0] bcast_S8_S8x1x1_0 r))))
    (broadcastInDim S8x32x32 ![] bcast_S_S8x32x32 (id (constant S_ .f32 0x00000000#32)))

/-- The decayed scores. -/
def scores (q k : FVec Ideal S32x32x8x256 .f32) (r : FVec Ideal S8 .f32) : FVec Ideal S32x8x32x32 .f32 :=
  mulf (Host.dotGeneral dot_S32x32x8x256_S32x32x8x256_S32x8x32x32_3_3_1_1_02_02 none q k)
    (broadcastInDim S32x8x32x32 ![0, 1, 2, 3] bcast_S1x8x32x32_S32x8x32x32_0_1_2_3 (broadcastInDim S1x8x32x32 ![1, 2, 3] bcast_S8x32x32_S1x8x32x32_1_2_3 (decayB r)))

/-- The block's own part. -/
def ownB (v : FVec Ideal S32x32x8x512 .f32) (p : FVec Ideal S32x8x32x32 .f32) : FVec Ideal S32x32x8x512 .f32 :=
  transpose S32x32x8x512 [0, 3, 1, 2] (Host.dotGeneral dot_S32x32x8x512_S32x8x32x32_S32x8x512x32_1_3_3_2_02_01 none v p) transposes_S32x8x512x32_S32x32x8x512_0_3_1_2

/-- A factor for each row and head: the exponential of a row's number times the head's rate. -/
def fac (p : FVec Ideal S32 .f32) (r : FVec Ideal S8 .f32) : FVec Ideal S32x32x8x256 .f32 :=
  broadcastInDim S32x32x8x256 ![0, 1, 2, 3] bcast_S1x32x8x1_S32x32x8x256_0_1_2_3 (broadcastInDim S1x32x8x1 ![1, 2] bcast_S32x8_S1x32x8x1_1_2
    (Host.exp (mulf (broadcastInDim S32x8 ![0, 1] bcast_S32x1_S32x8_0_1 (broadcastInDim S32x1 ![0] bcast_S32_S32x1_0 p))
      (broadcastInDim S32x8 ![0, 1] bcast_S1x8_S32x8_0_1 (broadcastInDim S1x8 ![1] bcast_S8_S1x8_1 r)))))

/-- The part of the state before the block. -/
def oldB (s : FVec Ideal S32x8x256x512 .f32) (q : FVec Ideal S32x32x8x256 .f32) : FVec Ideal S32x32x8x512 .f32 :=
  transpose S32x32x8x512 [0, 3, 1, 2] (Host.dotGeneral dot_S32x8x256x512_S32x32x8x256_S32x8x512x32_2_3_3_1_01_02 none s q) transposes_S32x8x512x32_S32x32x8x512_0_3_1_2

/-- The block's output before the norm. -/
def outB (x : FVec Ideal S1024x4096 .f32) (v : FVec Ideal S1024x4096 .bf16) (s : FVec Ideal S32x8x256x512 .f32) : FVec Ideal S32x32x8x512 .f32 :=
  addf (ownB (vB v) (scores (qB x) (kB x) (rates bcast_S_S8)))
    (oldB s (mulf (qB x) (fac (addf pts (broadcastInDim S32 ![] bcast_S_S32 (constant S_ .f32 0x3F800000#32))) (rates bcast_S_S8))))

/-- The mean over a head's columns. -/
def meanB (o : FVec Ideal S32x32x8x512 .f32) : FVec Ideal S32x32x8x1 .f32 :=
  Host.divf (broadcastInDim S32x32x8x1 ![0, 1, 2] bcast_S32x32x8_S32x32x8x1_0_1_2
    (Host.reduceAdd o (constant S_ .f32 0x00000000#32) reducesTo_S32x32x8x512_S32x32x8_d3 h_S_))
    (broadcastInDim S32x32x8x1 ![] bcast_S_S32x32x8x1 (constant S_ .f32 0x44000000#32))

/-- The rows without their mean. -/
def cent (o : FVec Ideal S32x32x8x512 .f32) : FVec Ideal S32x32x8x512 .f32 :=
  subf o (broadcastInDim S32x32x8x512 ![0, 1, 2, 3] bcast_S32x32x8x1_S32x32x8x512_0_1_2_3 (meanB o))

/-- The norm over a head's columns. -/
def grpB (o : FVec Ideal S32x32x8x512 .f32) : FVec Ideal S32x32x8x512 .f32 :=
  mulf (cent o) (broadcastInDim S32x32x8x512 ![0, 1, 2, 3] bcast_S32x32x8x1_S32x32x8x512_0_1_2_3
    (Host.rsqrt (addf (meanB (mulf (cent o) (cent o))) (broadcastInDim S32x32x8x1 ![] bcast_S_S32x32x8x1 (constant S_ .f32 0x3727C5AC#32)))))

/-- The gate's factor. -/
def silu (g : FVec Ideal S1024x4096 .f32) : FVec Ideal S1024x4096 .f32 :=
  mulf g (Host.divf (broadcastInDim S1024x4096 ![] bcast_S_S1024x4096 (constant S_ .f32 0x3F800000#32))
    (addf (broadcastInDim S1024x4096 ![] bcast_S_S1024x4096 (constant S_ .f32 0x3F800000#32)) (Host.exp (Host.negf g))))

/-- The gated result. -/
def rowsB (x : FVec Ideal S1024x4096 .f32) (v : FVec Ideal S1024x4096 .bf16) (g : FVec Ideal S1024x4096 .f32) (s : FVec Ideal S32x8x256x512 .f32) :
    FVec Ideal S1024x4096 .bf16 :=
  truncf .bf16 (mulf (silu g) (shapeCast _ (grpB (outB x v s)) shapeCasts_S32x32x8x512_S1024x4096)) bitsLt_bf16_f32

/-- The state's decay over the block. -/
def whole (r : FVec Ideal S8 .f32) : FVec Ideal S32x8x256x512 .f32 :=
  broadcastInDim S32x8x256x512 ![0, 1, 2, 3] bcast_S1x8x1x1_S32x8x256x512_0_1_2_3 (broadcastInDim S1x8x1x1 ![1] bcast_S8_S1x8x1x1_1
    (Host.exp (mulf (broadcastInDim S8 ![] bcast_S_S8 (constant S_ .f32 0x42000000#32)) r)))

/-- The state after the block. -/
def statesB (x : FVec Ideal S1024x4096 .f32) (v : FVec Ideal S1024x4096 .bf16) (s : FVec Ideal S32x8x256x512 .f32) : FVec Ideal S32x8x256x512 .f32 :=
  addf (mulf (whole (rates bcast_S_S8)) s) (Host.dotGeneral dot_S32x32x8x256_S32x32x8x512_S32x8x256x512_1_1_3_3_02_02 none
    (mulf (kB x) (fac (subf (broadcastInDim S32 ![] bcast_S_S32 (constant S_ .f32 0x41F80000#32)) pts) (rates bcast_S_S8))) (vB v))

theorem res_eq (m : (ℓ : Loc nD τ sig) → Buf (Elt Ideal) ℓ) (c : Dev nD) :
    Value.res_main_v91 (F := Ideal) m c = rowsB (m ((c.tc : Thread nD τ).loc main_arg0)) (m ((c.tc : Thread nD τ).loc main_arg1))
      (m ((c.tc : Thread nD τ).loc main_arg2)) (m ((c.tc : Thread nD τ).loc main_arg3)) := by
  unfold Value.res_main_v91 rowsB silu grpB cent meanB outB oldB ownB scores decayB fac dist pts vB kB qB rates
  rfl

/-! ### The stages at an index -/

theorem qB_at (x : FVec Ideal S1024x4096 .f32) (b : Fin 32) (l : Fin 32) (h : Fin 8) (d : Fin 256) : qB x (ix4 b l h d) = qs x b h l d := by
  pointwise [qB, qs]
theorem kB_at (x : FVec Ideal S1024x4096 .f32) (b : Fin 32) (l : Fin 32) (h : Fin 8) (d : Fin 256) : kB x (ix4 b l h d) = ks x b h l d := by
  pointwise [kB, ks]
theorem vB_at (v : FVec Ideal S1024x4096 .bf16) (b : Fin 32) (l : Fin 32) (h : Fin 8) (e : Fin 512) : vB v (ix4 b l h e) = vs v b h l e := by
  pointwise [vB, vs]

theorem pts_at (l : Fin 32) : pts (ix1 l) = pt l.val := by
  refine Eq.trans ?_ (pt_toInt l)
  pointwise [pts]
  rfl

theorem dist_at (l n : Fin 32) : dist (ix2 l n) = pt l.val - pt n.val := by
  rw [← pts_at, ← pts_at]
  pointwise [dist]

theorem decayB_at (r : FVec Ideal S8 .f32) (h : Fin 8) (l n : Fin 32) : decayB r (ix3 h l n) = decay (r (ix1 h)) (pt l.val - pt n.val) := by
  rw [← dist_at]
  unfold decayB
  rw [id_eq]
  pointwise []
  rfl

theorem scores_at (q k : FVec Ideal S32x32x8x256 .f32) (r : FVec Ideal S8 .f32) (b : Fin 32) (h : Fin 8) (l n : Fin 32) :
    scores q k r (ix4 b h l n) = (∑ d : Fin 256, q (ix4 b l h d) * k (ix4 b n h d)) * decay (r (ix1 h)) (pt l.val - pt n.val) := by
  rw [← decayB_at]
  pointwise [scores]

theorem ownB_at (v : FVec Ideal S32x32x8x512 .f32) (p : FVec Ideal S32x8x32x32 .f32) (b : Fin 32) (l : Fin 32) (h : Fin 8) (e : Fin 512) :
    ownB v p (ix4 b l h e) = ∑ n : Fin 32, p (ix4 b h l n) * v (ix4 b n h e) := by
  pointwise [ownB]
  exact Finset.sum_congr rfl fun n _ => mul_comm _ _

theorem fac_at (p : FVec Ideal S32 .f32) (r : FVec Ideal S8 .f32) (b : Fin 32) (l : Fin 32) (h : Fin 8) (d : Fin 256) :
    fac p r (ix4 b l h d) = Ideal.exp (p (ix1 l) * r (ix1 h)) := by
  pointwise [fac]

theorem oldB_at (s : FVec Ideal S32x8x256x512 .f32) (q : FVec Ideal S32x32x8x256 .f32) (b : Fin 32) (l : Fin 32) (h : Fin 8) (e : Fin 512) :
    oldB s q (ix4 b l h e) = ∑ d : Fin 256, q (ix4 b l h d) * s (ix4 b h d e) := by
  pointwise [oldB]
  exact Finset.sum_congr rfl fun n _ => mul_comm _ _

theorem outB_at (x : FVec Ideal S1024x4096 .f32) (v : FVec Ideal S1024x4096 .bf16) (s : FVec Ideal S32x8x256x512 .f32) (b : Fin 32) (l : Fin 32) (h : Fin 8)
    (e : Fin 512) : outB x v s (ix4 b l h e) = own (qs x b h) (ks x b h) (vs v b h) (rate h) l e + old (qs x b h) (ss s b h) (rate h) l e := by
  have key : outB x v s (ix4 b l h e) = (ownB (vB v) (scores (qB x) (kB x) (rates bcast_S_S8)) (ix4 b l h e) : EReal)
      + oldB s (mulf (qB x) (fac (addf pts (broadcastInDim S32 ![] bcast_S_S32 (constant S_ .f32 0x3F800000#32))) (rates bcast_S_S8))) (ix4 b l h e) := by
    pointwise [outB]
  rw [key, ownB_at, oldB_at]
  refine congrArg₂ (· + ·) ?_ ?_
  · unfold own
    refine Finset.sum_congr rfl fun n _ => ?_
    rw [scores_at, vB_at]
    simp only [qB_at, kB_at]
    rfl
  · unfold old
    refine Finset.sum_congr rfl fun d _ => ?_
    have k2 : (mulf (qB x) (fac (addf pts (broadcastInDim S32 ![] bcast_S_S32 (constant S_ .f32 0x3F800000#32))) (rates bcast_S_S8)) : FVec Ideal S32x32x8x256 .f32) (ix4 b l h d)
        = (qB x (ix4 b l h d) : EReal) * fac (addf pts (broadcastInDim S32 ![] bcast_S_S32 (constant S_ .f32 0x3F800000#32))) (rates bcast_S_S8) (ix4 b l h d) := by
      pointwise []
    have k3 : (addf pts (broadcastInDim S32 ![] bcast_S_S32 (constant S_ .f32 0x3F800000#32)) : FVec Ideal S32 .f32) (ix1 l)
        = (pts (ix1 l) : EReal) + Ideal.ofBits .f32 0x3F800000#32 := by
      pointwise []
    rw [k2, fac_at, k3, qB_at, pts_at]
    rfl

theorem meanB_at (o : FVec Ideal S32x32x8x512 .f32) (b : Fin 32) (l : Fin 32) (h : Fin 8) :
    meanB o (ix4 b l h 0) = mean (fun e => o (ix4 b l h e)) := by
  pointwise [meanB, mean]

theorem cent_at (o : FVec Ideal S32x32x8x512 .f32) (b : Fin 32) (l : Fin 32) (h : Fin 8) (e : Fin 512) :
    cent o (ix4 b l h e) = (o (ix4 b l h e) - mean (fun e => o (ix4 b l h e)) : EReal) := by
  rw [← meanB_at]
  pointwise [cent]

theorem grpB_at (o : FVec Ideal S32x32x8x512 .f32) (b : Fin 32) (l : Fin 32) (h : Fin 8) (e : Fin 512) :
    grpB o (ix4 b l h e) = grp (fun e => o (ix4 b l h e)) e := by
  have key : grpB o (ix4 b l h e) = (cent o (ix4 b l h e) : EReal)
      * Ideal.rsqrt (meanB (mulf (cent o) (cent o)) (ix4 b l h 0) + Ideal.ofBits .f32 0x3727C5AC#32) := by
    pointwise [grpB]
  have sq : ∀ j : Fin 512, (mulf (cent o) (cent o) : FVec Ideal S32x32x8x512 .f32) (ix4 b l h j) = (cent o (ix4 b l h j) : EReal) * cent o (ix4 b l h j) := by
    intro j
    pointwise []
  rw [key, meanB_at]
  simp only [sq, cent_at]
  rfl

theorem silu_at (g : FVec Ideal S1024x4096 .f32) (y : S1024x4096.Idx) : silu g y = (g y * Ideal.logistic (g y) : EReal) := by
  pointwise [silu]
  rfl

/-- The first result. -/
theorem rowsB_eq (x : FVec Ideal S1024x4096 .f32) (v : FVec Ideal S1024x4096 .bf16) (g : FVec Ideal S1024x4096 .f32) (s : FVec Ideal S32x8x256x512 .f32) :
    rowsB x v g s = rows x v g s := by
  funext y
  obtain ⟨n, c, rfl⟩ : ∃ (n : Fin 1024) (c : Fin 4096), y = ix2 n c := ⟨y 0, y 1, eq_ix2 y⟩
  have key : rowsB x v g s (ix2 n c) = (silu g (ix2 n c) : EReal)
      * grpB (outB x v s) (ix4 ⟨n.val / 32, by omega⟩ ⟨n.val % 32, by omega⟩ ⟨c.val / 512, by omega⟩ ⟨c.val % 512, by omega⟩) := by
    pointwise [rowsB]
  show _ = outAt x v g s (Fin.ofNat 32 (n.val / 32)) (Fin.ofNat 8 (c.val / 512)) (Fin.ofNat 32 (n.val % 32)) (Fin.ofNat 512 (c.val % 512))
  rw [Lin.ofNat_of (⟨n.val / 32, by omega⟩ : Fin 32) rfl, Lin.ofNat_of (⟨c.val / 512, by omega⟩ : Fin 8) rfl,
    Lin.ofNat_of (⟨n.val % 32, by omega⟩ : Fin 32) rfl, Lin.ofNat_of (⟨c.val % 512, by omega⟩ : Fin 512) rfl]
  rw [key, silu_at, grpB_at]
  unfold outAt gated
  refine congrArg₂ (· * ·) ?_ (congrArg (fun o => grp o _) (funext fun j => outB_at x v s _ _ _ j))
  refine congrArg (fun z : EReal => z * Ideal.logistic z) (congrArg g ?_)
  exact congrArg₂ ix2 (Fin.ext (by show n.val = n.val / 32 * 32 + n.val % 32; omega)) (Fin.ext (by show c.val = c.val / 512 * 512 + c.val % 512; omega))

/-- The second result. -/
theorem statesB_eq (x : FVec Ideal S1024x4096 .f32) (v : FVec Ideal S1024x4096 .bf16) (s : FVec Ideal S32x8x256x512 .f32) :
    statesB x v s = states x v s := by
  funext y
  obtain ⟨b, h, d, e, rfl⟩ : ∃ (b : Fin 32) (h : Fin 8) (d : Fin 256) (e : Fin 512), y = ix4 b h d e := ⟨y 0, y 1, y 2, y 3, eq_ix4 y⟩
  have key : statesB x v s (ix4 b h d e) = Ideal.exp (Ideal.ofBits .f32 0x42000000#32 * (rates bcast_S_S8 (ix1 h) : EReal)) * s (ix4 b h d e)
      + ∑ n : Fin 32, (kB x (ix4 b n h d) * fac (subf (broadcastInDim S32 ![] bcast_S_S32 (constant S_ .f32 0x41F80000#32)) pts) (rates bcast_S_S8) (ix4 b n h d))
        * vB v (ix4 b n h e) := by
    pointwise [statesB, whole]
  rw [key]
  show _ = state (ks x b h) (vs v b h) (ss s b h) (rate h) d e
  unfold state
  refine congrArg₂ (· + ·) rfl (Finset.sum_congr rfl fun n _ => ?_)
  have k3 : (subf (broadcastInDim S32 ![] bcast_S_S32 (constant S_ .f32 0x41F80000#32)) pts : FVec Ideal S32 .f32) (ix1 n)
      = (Ideal.ofBits .f32 0x41F80000#32 - pts (ix1 n) : EReal) := by
    pointwise []
  rw [fac_at, k3, pts_at, kB_at, vB_at]
  rfl

/-- The reference's run: its results are the kernel's, the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91) = rows (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v69) = states (m ((c.tc : Thread nD τ).loc main_arg0)) (m ((c.tc : Thread nD τ).loc main_arg1))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans ((res_eq m c).trans (rowsB_eq _ _ _ _)),
    (h c).2.1.trans ((show _ = statesB _ _ _ from rfl).trans (statesB_eq _ _ _)), (h c).2.2⟩) (Value.run m ρ)

end Cert.Ret.Ref

end
-- ==== Proof.Lin.Values.lean ====
/-
The value projection of the stick-breaking layer: kernel and reference are the product with the values' columns.
-/
module

public import proofs.«01_k».proof.Proof.Gen.Kernel4Ideal.Value
public import proofs.«01_k».proof.Proof.Gen.Reference4Ideal.Run
public import proofs.«01_k».proof.Proof.Lin.Math
public import Idealize.ShloMosaic.Lib.Pipeline.ValueKit.Geometry
public import Idealize.ShloMosaic.Lib.Tactic

@[expose] public section

noncomputable section

namespace Cert.Lin.V

open Idealize.ShloMosaic Idealize.ShloMosaic.TcCoe Idealize.SL.Sem

section Kernel

open Cert.Kernel4Ideal Cert.Kernel4Ideal.Gen

variable (m : (ℓ : Loc nD τ sig) → Buf (Elt Ideal) ℓ) (ρ : Dev nD → PrngReg) (c : Dev nD)

/-- The input rows. -/
abbrev argH : S32768x2048.Idx → EReal := m ((c.tc : Thread nD τ).loc main_arg0)
/-- The weights. -/
abbrev argW : S2048x6144.Idx → EReal := m ((c.tc : Thread nD τ).loc main_arg1)

/-- The product, row by row. -/
def rows (h : S32768x2048.Idx → EReal) (w : S2048x6144.Idx → EReal) : S32768x2048.Idx → EReal :=
  fun y => prod h w (y 0).val (4096 + (y 1).val)

/-- The product, head by head. -/
def heads (h : S32768x2048.Idx → EReal) (w : S2048x6144.Idx → EReal) : S16x32768x128.Idx → EReal :=
  fun y => prod h w (y 1).val (4096 + ((y 0).val * 128 + (y 2).val))

theorem pay_at (x : Vec Ideal S1024x2048 .bf16) (w : Vec Ideal S2048x512 .bf16) (r : Fin 1024) (e : Fin 512) :
    k0_pay1 x w (ix2 r e) = ∑ k : Fin 2048, x (ix2 r k) * w (ix2 k e) := by
  pointwise [k0_pay1]

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, 8 + t.val % 4] := (by decide +kernel : ∀ t : Fin grid0.N, win0_1.index t = ![0, 8 + t.val % 4])
theorem idx2 : ∀ t : Fin cfg0.N, win0_2.index t = ![t.val / 4, t.val % 4] := (by decide +kernel : ∀ t : Fin grid0.N, win0_2.index t = ![t.val / 4, t.val % 4])
theorem covers2 : (cfg0.win 2).Covers := (by decide +kernel : win0_2.Covers)
theorem idx3 : ∀ t : Fin cfg0.N, win0_3.index t = ![t.val % 4, t.val / 4, 0] := (by decide +kernel : ∀ t : Fin grid0.N, win0_3.index t = ![t.val % 4, t.val / 4, 0])
theorem covers3 : (cfg0.win 3).Covers := (by decide +kernel : win0_3.Covers)

theorem lt_grid (t : Fin cfg0.N) : t.val < 128 := Nat.lt_of_lt_of_eq t.isLt N_0

theorem blk0 (t : Fin cfg0.N) (r : Fin 1024) (k : Fin 2048) :
    iblk m c 0 t (ix2 r k) = argH m c (ix2 (Fin.ofNat 32768 (t.val / 4 * 1024 + r.val)) k) := by
  have ht := lt_grid t
  unfold iblk
  rw [show V m c (Pipeline.arrRef spec0 0) = m ((c : Thread nD τ).loc main_arg0) from V_main_arg0 m c]
  blk_simp [idx0 t]
  congr 1
  blk_ext [idx0 t]
  rw [Fin.val_ofNat]; omega

theorem blk1 (t : Fin cfg0.N) (k : Fin 2048) (e : Fin 512) :
    iblk m c 1 t (ix2 k e) = argW m c (ix2 k (Fin.ofNat 6144 (4096 + (t.val % 4 * 512 + e.val)))) := by
  have ht := lt_grid t
  unfold iblk
  rw [show V m c (Pipeline.arrRef spec0 1) = m ((c : Thread nD τ).loc main_arg1) from V_main_arg1 m c]
  blk_simp [idx1 t]
  congr 1
  blk_ext [idx1 t]
  rw [Fin.val_ofNat]; omega

/-- The product of a point's blocks is a block of the product. -/
theorem point (t : Fin cfg0.N) (r : Fin 1024) (e : Fin 512) : k0_pay1 (iblk m c 0 t) (iblk m c 1 t) (ix2 r e)
    = prod (argH m c) (argW m c) (t.val / 4 * 1024 + r.val) (4096 + (t.val % 4 * 512 + e.val)) := by
  rw [pay_at]
  exact Finset.sum_congr rfl fun k _ => congrArg₂ (· * ·) (blk0 m c t r k) (blk1 m c t k e)

theorem out2_at (t : Fin cfg0.N) (r : Fin 1024) (e : Fin 512) : out0_2 (iblk m c 0 t) (iblk m c 1 t) (ix2 r e)
    = prod (argH m c) (argW m c) (t.val / 4 * 1024 + r.val) (4096 + (t.val % 4 * 512 + e.val)) := by
  unfold out0_2
  rw [View.canon_unit_zero z2, View.ld_unit_zero (S := S1024x2048) z2, View.ld_unit_zero (S := S2048x512) z2]
  exact point m c t r e

theorem emb2_0 (t : Fin cfg0.N) (y : S1024x512.Idx) :
    (((cfg0.win 2).blk t).view.emb y 0).val = t.val / 4 * 1024 + (y 0).val := by blk_simp [idx2 t]
theorem emb2_1 (t : Fin cfg0.N) (y : S1024x512.Idx) :
    (((cfg0.win 2).blk t).view.emb y 1).val = t.val % 4 * 512 + (y 1).val := by blk_simp [idx2 t]

theorem final2 : (dats m 0 c).arrAt 2 cfg0.N = rows (argH m c) (argW m c) := by
  refine (dats m 0 c).arrAt_eq_of_covers 2 (rows (argH m c) (argW m c)) covers2 fun t hf y => ?_
  refine (congrFun (after0_2 m c t) y).trans ?_
  have e0 := emb2_0 t y
  have e1 := emb2_1 t y
  revert e0 e1
  generalize ((cfg0.win 2).blk t).view.emb y = i
  intro e0 e1
  obtain ⟨r, e, rfl⟩ : ∃ (r : Fin 1024) (e : Fin 512), y = ix2 r e := ⟨y 0, y 1, eq_ix2 y⟩
  refine (out2_at m c t r e).trans ?_
  show _ = prod (argH m c) (argW m c) (i 0).val (4096 + (i 1).val)
  rw [e0, e1]
  rfl

theorem out3_at (t : Fin cfg0.N) (p : Fin 4) (r : Fin 1024) (e : Fin 128) :
    out0_3 (iblk m c 0 t) (iblk m c 1 t) (ix3 p r e)
      = prod (argH m c) (argW m c) (t.val / 4 * 1024 + r.val) (4096 + (t.val % 4 * 512 + (p.val * 128 + e.val))) := by
  unfold out0_3
  rw [View.ld_unit_zero (S := S1024x2048) z2, View.ld_unit_zero (S := S2048x512) z2]
  refine (Value.canon3_eq (iblk m c 0 t) (iblk m c 1 t) (ix3 p r e)).trans ?_
  refine Eq.trans ?_ (point m c t r ⟨p.val * 128 + e.val, by omega⟩)
  exact congrArg (k0_pay1 (iblk m c 0 t) (iblk m c 1 t)) (eq_ix2 _)

theorem emb3_0 (t : Fin cfg0.N) (y : S4x1024x128.Idx) :
    (((cfg0.win 3).blk t).view.emb y 0).val = t.val % 4 * 4 + (y 0).val := by blk_simp [idx3 t]
theorem emb3_1 (t : Fin cfg0.N) (y : S4x1024x128.Idx) :
    (((cfg0.win 3).blk t).view.emb y 1).val = t.val / 4 * 1024 + (y 1).val := by blk_simp [idx3 t]
theorem emb3_2 (t : Fin cfg0.N) (y : S4x1024x128.Idx) : (((cfg0.win 3).blk t).view.emb y 2).val = (y 2).val := by
  blk_simp [idx3 t]

theorem final3 : (dats m 0 c).arrAt 3 cfg0.N = heads (argH m c) (argW m c) := by
  refine (dats m 0 c).arrAt_eq_of_covers 3 (heads (argH m c) (argW m c)) covers3 fun t hf y => ?_
  refine (congrFun (after0_3 m c t) y).trans ?_
  have e0 := emb3_0 t y
  have e1 := emb3_1 t y
  have e2 := emb3_2 t y
  revert e0 e1 e2
  generalize ((cfg0.win 3).blk t).view.emb y = i
  intro e0 e1 e2
  obtain ⟨p, r, e, rfl⟩ : ∃ (p : Fin 4) (r : Fin 1024) (e : Fin 128), y = ix3 p r e := ⟨y 0, y 1, y 2, eq_ix3 y⟩
  refine (out3_at m c t p r e).trans ?_
  show _ = prod (argH m c) (argW m c) (i 1).val (4096 + ((i 0).val * 128 + (i 2).val))
  rw [e0, e1, e2]
  exact congrArg _ (by show _ = 4096 + ((t.val % 4 * 4 + p.val) * 128 + e.val); omega)

/-- The run: the result holds the product, the arguments are unchanged. -/
theorem run : θ_run defs (onTc (τ := τ) (main (F := Ideal))) ⟨m, fun _ => 0, ρ⟩ fun r => ∀ c : Dev nD,
      r.2.mem ((c.tc : Thread nD τ).loc main_v0_0) = rows (argH m c) (argW m c)
      ∧ r.2.mem ((c.tc : Thread nD τ).loc main_v0_1) = heads (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2.1.trans (final3 m c), (h c).2.2⟩) (Value.run_blocks m ρ)

end Kernel

section Reference

open Cert.Reference4Ideal Cert.Reference4Ideal.Gen

theorem ref_rows (h : FVec Ideal S32768x2048 .bf16) (w : FVec Ideal S2048x6144 .bf16) :
    extractStridedSlice S32768x2048 ![0, 4096] (Host.dotGeneral dot_S32768x2048_S2048x6144_S32768x6144_1_0_0_1_n_n none (extf .f32 h bitsLt_bf16_f32) (extf .f32 w bitsLt_bf16_f32)) slices_S32768x6144_S32768x2048_0_4096 = rows h w := by
  funext y
  obtain ⟨n, e, rfl⟩ : ∃ (n : Fin 32768) (e : Fin 2048), y = ix2 n e := ⟨y 0, y 1, eq_ix2 y⟩
  refine Eq.trans ?_ (prod_of h w _ _ n ⟨4096 + e.val, by omega⟩ rfl rfl).symm
  pointwise []

theorem ref_heads (h : FVec Ideal S32768x2048 .bf16) (w : FVec Ideal S2048x6144 .bf16) :
    truncf .bf16 (transpose S16x32768x128 [1, 0, 2] (shapeCast _ (extractStridedSlice S32768x2048 ![0, 4096] (Host.dotGeneral dot_S32768x2048_S2048x6144_S32768x6144_1_0_0_1_n_n none (extf .f32 h bitsLt_bf16_f32) (extf .f32 w bitsLt_bf16_f32)) slices_S32768x6144_S32768x2048_0_4096) shapeCasts_S32768x2048_S32768x16x128) transposes_S32768x16x128_S16x32768x128_1_0_2) bitsLt_bf16_f32 = heads h w := by
  funext y
  obtain ⟨p, n, e, rfl⟩ : ∃ (p : Fin 16) (n : Fin 32768) (e : Fin 128), y = ix3 p n e := ⟨y 0, y 1, y 2, eq_ix3 y⟩
  refine Eq.trans ?_ (prod_of h w _ _ n ⟨4096 + (p.val * 128 + e.val), by omega⟩ rfl rfl).symm
  pointwise []

end Reference

end Cert.Lin.V

end
-- ==== Proof.Lin.Queries.lean ====
/-
The query projection of the stick-breaking layer: kernel and reference are the product with the queries' columns.
-/
module

public import proofs.«01_k».proof.Proof.Gen.Kernel5Ideal.Value
public import proofs.«01_k».proof.Proof.Gen.Reference5Ideal.Run
public import proofs.«01_k».proof.Proof.Lin.Math
public import Idealize.ShloMosaic.Lib.Pipeline.ValueKit.Geometry
public import Idealize.ShloMosaic.Lib.Tactic

@[expose] public section

noncomputable section

namespace Cert.Lin.Q

open Idealize.ShloMosaic Idealize.ShloMosaic.TcCoe Idealize.SL.Sem

section Kernel

open Cert.Kernel5Ideal Cert.Kernel5Ideal.Gen

variable (m : (ℓ : Loc nD τ sig) → Buf (Elt Ideal) ℓ) (ρ : Dev nD → PrngReg) (c : Dev nD)

/-- The input rows. -/
abbrev argH : S32768x2048.Idx → EReal := m ((c.tc : Thread nD τ).loc main_arg0)
/-- The weights. -/
abbrev argW : S2048x6144.Idx → EReal := m ((c.tc : Thread nD τ).loc main_arg1)

/-- The product, head by head. -/
def heads (h : S32768x2048.Idx → EReal) (w : S2048x6144.Idx → EReal) : S16x32768x128.Idx → EReal :=
  fun y => prod h w (y 1).val (0 + ((y 0).val * 128 + (y 2).val))

theorem pay_at (x : Vec Ideal S1024x2048 .bf16) (w : Vec Ideal S2048x512 .bf16) (r : Fin 1024) (e : Fin 512) :
    k0_pay1 x w (ix2 r e) = ∑ k : Fin 2048, x (ix2 r k) * w (ix2 k e) := by
  pointwise [k0_pay1]

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, 0 + t.val % 4] := (by decide +kernel : ∀ t : Fin grid0.N, win0_1.index t = ![0, 0 + t.val % 4])
theorem idx2 : ∀ t : Fin cfg0.N, win0_2.index t = ![t.val % 4, t.val / 4, 0] := (by decide +kernel : ∀ t : Fin grid0.N, win0_2.index t = ![t.val % 4, t.val / 4, 0])
theorem covers2 : (cfg0.win 2).Covers := (by decide +kernel : win0_2.Covers)

theorem lt_grid (t : Fin cfg0.N) : t.val < 128 := Nat.lt_of_lt_of_eq t.isLt N_0

theorem blk0 (t : Fin cfg0.N) (r : Fin 1024) (k : Fin 2048) :
    iblk m c 0 t (ix2 r k) = argH m c (ix2 (Fin.ofNat 32768 (t.val / 4 * 1024 + r.val)) k) := by
  have ht := lt_grid t
  unfold iblk
  rw [show V m c (Pipeline.arrRef spec0 0) = m ((c : Thread nD τ).loc main_arg0) from V_main_arg0 m c]
  blk_simp [idx0 t]
  congr 1
  blk_ext [idx0 t]
  rw [Fin.val_ofNat]; omega

theorem blk1 (t : Fin cfg0.N) (k : Fin 2048) (e : Fin 512) :
    iblk m c 1 t (ix2 k e) = argW m c (ix2 k (Fin.ofNat 6144 (0 + (t.val % 4 * 512 + e.val)))) := by
  have ht := lt_grid t
  unfold iblk
  rw [show V m c (Pipeline.arrRef spec0 1) = m ((c : Thread nD τ).loc main_arg1) from V_main_arg1 m c]
  blk_simp [idx1 t]
  congr 1
  blk_ext [idx1 t]
  rw [Fin.val_ofNat]; omega

/-- The product of a point's blocks is a block of the product. -/
theorem point (t : Fin cfg0.N) (r : Fin 1024) (e : Fin 512) : k0_pay1 (iblk m c 0 t) (iblk m c 1 t) (ix2 r e)
    = prod (argH m c) (argW m c) (t.val / 4 * 1024 + r.val) (0 + (t.val % 4 * 512 + e.val)) := by
  rw [pay_at]
  exact Finset.sum_congr rfl fun k _ => congrArg₂ (· * ·) (blk0 m c t r k) (blk1 m c t k e)

theorem out2_at (t : Fin cfg0.N) (p : Fin 4) (r : Fin 1024) (e : Fin 128) :
    out0_2 (iblk m c 0 t) (iblk m c 1 t) (ix3 p r e)
      = prod (argH m c) (argW m c) (t.val / 4 * 1024 + r.val) (0 + (t.val % 4 * 512 + (p.val * 128 + e.val))) := by
  unfold out0_2
  rw [View.ld_unit_zero (S := S1024x2048) z2, View.ld_unit_zero (S := S2048x512) z2]
  refine (Value.canon2_eq (iblk m c 0 t) (iblk m c 1 t) (ix3 p r e)).trans ?_
  refine Eq.trans ?_ (point m c t r ⟨p.val * 128 + e.val, by omega⟩)
  exact congrArg (k0_pay1 (iblk m c 0 t) (iblk m c 1 t)) (eq_ix2 _)

theorem emb2_0 (t : Fin cfg0.N) (y : S4x1024x128.Idx) :
    (((cfg0.win 2).blk t).view.emb y 0).val = t.val % 4 * 4 + (y 0).val := by blk_simp [idx2 t]
theorem emb2_1 (t : Fin cfg0.N) (y : S4x1024x128.Idx) :
    (((cfg0.win 2).blk t).view.emb y 1).val = t.val / 4 * 1024 + (y 1).val := by blk_simp [idx2 t]
theorem emb2_2 (t : Fin cfg0.N) (y : S4x1024x128.Idx) : (((cfg0.win 2).blk t).view.emb y 2).val = (y 2).val := by
  blk_simp [idx2 t]

theorem final2 : (dats m 0 c).arrAt 2 cfg0.N = heads (argH m c) (argW m c) := by
  refine (dats m 0 c).arrAt_eq_of_covers 2 (heads (argH m c) (argW m c)) covers2 fun t hf y => ?_
  refine (congrFun (after0_2 m c t) y).trans ?_
  have e0 := emb2_0 t y
  have e1 := emb2_1 t y
  have e2 := emb2_2 t y
  revert e0 e1 e2
  generalize ((cfg0.win 2).blk t).view.emb y = i
  intro e0 e1 e2
  obtain ⟨p, r, e, rfl⟩ : ∃ (p : Fin 4) (r : Fin 1024) (e : Fin 128), y = ix3 p r e := ⟨y 0, y 1, y 2, eq_ix3 y⟩
  refine (out2_at m c t p r e).trans ?_
  show _ = prod (argH m c) (argW m c) (i 1).val (0 + ((i 0).val * 128 + (i 2).val))
  rw [e0, e1, e2]
  exact congrArg _ (by show _ = 0 + ((t.val % 4 * 4 + p.val) * 128 + e.val); omega)

/-- The run: the result holds the product, the arguments are unchanged. -/
theorem run : θ_run defs (onTc (τ := τ) (main (F := Ideal))) ⟨m, fun _ => 0, ρ⟩ fun r => ∀ c : Dev nD,
      r.2.mem ((c.tc : Thread nD τ).loc main_v0) = heads (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩) (Value.run_blocks m ρ)

end Kernel

section Reference

open Cert.Reference5Ideal Cert.Reference5Ideal.Gen

theorem ref_heads (h : FVec Ideal S32768x2048 .bf16) (w : FVec Ideal S2048x6144 .bf16) :
    truncf .bf16 (transpose S16x32768x128 [1, 0, 2] (shapeCast _ (extractStridedSlice S32768x2048 ![0, 0] (Host.dotGeneral dot_S32768x2048_S2048x6144_S32768x6144_1_0_0_1_n_n none (extf .f32 h bitsLt_bf16_f32) (extf .f32 w bitsLt_bf16_f32)) slices_S32768x6144_S32768x2048_0_0) shapeCasts_S32768x2048_S32768x16x128) transposes_S32768x16x128_S16x32768x128_1_0_2) bitsLt_bf16_f32 = heads h w := by
  funext y
  obtain ⟨p, n, e, rfl⟩ : ∃ (p : Fin 16) (n : Fin 32768) (e : Fin 128), y = ix3 p n e := ⟨y 0, y 1, y 2, eq_ix3 y⟩
  refine Eq.trans ?_ (prod_of h w _ _ n ⟨0 + (p.val * 128 + e.val), by omega⟩ rfl rfl).symm
  pointwise []

end Reference

end Cert.Lin.Q

end
-- ==== Proof.Lin.RetValues.lean ====
/-
The value projection of the retention layer: kernel and reference are the product with the values' columns.
-/
module

public import proofs.«01_k».proof.Proof.Gen.Kernel6Ideal.Value
public import proofs.«01_k».proof.Proof.Gen.Reference6Ideal.Run
public import proofs.«01_k».proof.Proof.Lin.Math
public import Idealize.ShloMosaic.Lib.Pipeline.ValueKit.Geometry
public import Idealize.ShloMosaic.Lib.Tactic

@[expose] public section

noncomputable section

namespace Cert.Lin.RV

open Idealize.ShloMosaic Idealize.ShloMosaic.TcCoe Idealize.SL.Sem

section Kernel

open Cert.Kernel6Ideal Cert.Kernel6Ideal.Gen

variable (m : (ℓ : Loc nD τ sig) → Buf (Elt Ideal) ℓ) (ρ : Dev nD → PrngReg) (c : Dev nD)

/-- The input rows. -/
abbrev argH : S32768x2048.Idx → EReal := m ((c.tc : Thread nD τ).loc main_arg0)
/-- The weights. -/
abbrev argW : S2048x12288.Idx → EReal := m ((c.tc : Thread nD τ).loc main_arg1)

/-- The product, row by row. -/
def rows (h : S32768x2048.Idx → EReal) (w : S2048x12288.Idx → EReal) : S32768x4096.Idx → EReal :=
  fun y => prod h w (y 0).val (4096 + (y 1).val)

theorem pay_at (x : Vec Ideal S1024x2048 .bf16) (w : Vec Ideal S2048x512 .bf16) (r : Fin 1024) (e : Fin 512) :
    k0_pay1 x w (ix2 r e) = ∑ k : Fin 2048, x (ix2 r k) * w (ix2 k e) := by
  pointwise [k0_pay1]

theorem idx0 : ∀ t : Fin cfg0.N, win0_0.index t = ![t.val / 8, 0] := (by decide +kernel : ∀ t : Fin grid0.N, win0_0.index t = ![t.val / 8, 0])
theorem idx1 : ∀ t : Fin cfg0.N, win0_1.index t = ![0, 8 + t.val % 8] := (by decide +kernel : ∀ t : Fin grid0.N, win0_1.index t = ![0, 8 + t.val % 8])
theorem idx2 : ∀ t : Fin cfg0.N, win0_2.index t = ![t.val / 8, t.val % 8] := (by decide +kernel : ∀ t : Fin grid0.N, win0_2.index t = ![t.val / 8, t.val % 8])
theorem covers2 : (cfg0.win 2).Covers := (by decide +kernel : win0_2.Covers)

theorem lt_grid (t : Fin cfg0.N) : t.val < 256 := Nat.lt_of_lt_of_eq t.isLt N_0

theorem blk0 (t : Fin cfg0.N) (r : Fin 1024) (k : Fin 2048) :
    iblk m c 0 t (ix2 r k) = argH m c (ix2 (Fin.ofNat 32768 (t.val / 8 * 1024 + r.val)) k) := by
  have ht := lt_grid t
  unfold iblk
  rw [show V m c (Pipeline.arrRef spec0 0) = m ((c : Thread nD τ).loc main_arg0) from V_main_arg0 m c]
  blk_simp [idx0 t]
  congr 1
  blk_ext [idx0 t]
  rw [Fin.val_ofNat]; omega

theorem blk1 (t : Fin cfg0.N) (k : Fin 2048) (e : Fin 512) :
    iblk m c 1 t (ix2 k e) = argW m c (ix2 k (Fin.ofNat 12288 (4096 + (t.val % 8 * 512 + e.val)))) := by
  have ht := lt_grid t
  unfold iblk
  rw [show V m c (Pipeline.arrRef spec0 1) = m ((c : Thread nD τ).loc main_arg1) from V_main_arg1 m c]
  blk_simp [idx1 t]
  congr 1
  blk_ext [idx1 t]
  rw [Fin.val_ofNat]; omega

/-- The product of a point's blocks is a block of the product. -/
theorem point (t : Fin cfg0.N) (r : Fin 1024) (e : Fin 512) : k0_pay1 (iblk m c 0 t) (iblk m c 1 t) (ix2 r e)
    = prod (argH m c) (argW m c) (t.val / 8 * 1024 + r.val) (4096 + (t.val % 8 * 512 + e.val)) := by
  rw [pay_at]
  exact Finset.sum_congr rfl fun k _ => congrArg₂ (· * ·) (blk0 m c t r k) (blk1 m c t k e)

theorem out2_at (t : Fin cfg0.N) (r : Fin 1024) (e : Fin 512) : out0_2 (iblk m c 0 t) (iblk m c 1 t) (ix2 r e)
    = prod (argH m c) (argW m c) (t.val / 8 * 1024 + r.val) (4096 + (t.val % 8 * 512 + e.val)) := by
  unfold out0_2
  rw [View.canon_unit_zero z2, View.ld_unit_zero (S := S1024x2048) z2, View.ld_unit_zero (S := S2048x512) z2]
  exact point m c t r e

theorem emb2_0 (t : Fin cfg0.N) (y : S1024x512.Idx) :
    (((cfg0.win 2).blk t).view.emb y 0).val = t.val / 8 * 1024 + (y 0).val := by blk_simp [idx2 t]
theorem emb2_1 (t : Fin cfg0.N) (y : S1024x512.Idx) :
    (((cfg0.win 2).blk t).view.emb y 1).val = t.val % 8 * 512 + (y 1).val := by blk_simp [idx2 t]

theorem final2 : (dats m 0 c).arrAt 2 cfg0.N = rows (argH m c) (argW m c) := by
  refine (dats m 0 c).arrAt_eq_of_covers 2 (rows (argH m c) (argW m c)) covers2 fun t hf y => ?_
  refine (congrFun (after0_2 m c t) y).trans ?_
  have e0 := emb2_0 t y
  have e1 := emb2_1 t y
  revert e0 e1
  generalize ((cfg0.win 2).blk t).view.emb y = i
  intro e0 e1
  obtain ⟨r, e, rfl⟩ : ∃ (r : Fin 1024) (e : Fin 512), y = ix2 r e := ⟨y 0, y 1, eq_ix2 y⟩
  refine (out2_at m c t r e).trans ?_
  show _ = prod (argH m c) (argW m c) (i 0).val (4096 + (i 1).val)
  rw [e0, e1]
  rfl

/-- The run: the result holds the product, the arguments are unchanged. -/
theorem run : θ_run defs (onTc (τ := τ) (main (F := Ideal))) ⟨m, fun _ => 0, ρ⟩ fun r => ∀ c : Dev nD,
      r.2.mem ((c.tc : Thread nD τ).loc main_v0) = rows (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩) (Value.run_blocks m ρ)

end Kernel

section Reference

open Cert.Reference6Ideal Cert.Reference6Ideal.Gen

theorem ref_rows (h : FVec Ideal S32768x2048 .bf16) (w : FVec Ideal S2048x12288 .bf16) :
    truncf .bf16 (extractStridedSlice S32768x4096 ![0, 4096] (Host.dotGeneral dot_S32768x2048_S2048x12288_S32768x12288_1_0_0_1_n_n none (extf .f32 h bitsLt_bf16_f32) (extf .f32 w bitsLt_bf16_f32)) slices_S32768x12288_S32768x4096_0_4096) bitsLt_bf16_f32 = rows h w := by
  funext y
  obtain ⟨n, e, rfl⟩ : ∃ (n : Fin 32768) (e : Fin 4096), y = ix2 n e := ⟨y 0, y 1, eq_ix2 y⟩
  refine Eq.trans ?_ (prod_of h w _ _ n ⟨4096 + e.val, by omega⟩ rfl rfl).symm
  pointwise []

end Reference

end Cert.Lin.RV

end
-- ==== Proof.Lin.RetGate.lean ====
/-
The gate projection of the retention layer: kernel and reference are the product with the gate's columns.
-/
module

public import proofs.«01_k».proof.Proof.Gen.Kernel7Ideal.Value
public import proofs.«01_k».proof.Proof.Gen.Reference7Ideal.Run
public import proofs.«01_k».proof.Proof.Lin.Math
public import Idealize.ShloMosaic.Lib.Pipeline.ValueKit.Geometry
public import Idealize.ShloMosaic.Lib.Tactic

@[expose] public section

noncomputable section

namespace Cert.Lin.RG

open Idealize.ShloMosaic Idealize.ShloMosaic.TcCoe Idealize.SL.Sem

section Kernel

open Cert.Kernel7Ideal Cert.Kernel7Ideal.Gen

variable (m : (ℓ : Loc nD τ sig) → Buf (Elt Ideal) ℓ) (ρ : Dev nD → PrngReg) (c : Dev nD)

/-- The input rows. -/
abbrev argH : S32768x2048.Idx → EReal := m ((c.tc : Thread nD τ).loc main_arg0)
/-- The weights. -/
abbrev argW : S2048x12288.Idx → EReal := m ((c.tc : Thread nD τ).loc main_arg1)

/-- The product, row by row. -/
def rows (h : S32768x2048.Idx → EReal) (w : S2048x12288.Idx → EReal) : S32768x4096.Idx → EReal :=
  fun y => prod h w (y 0).val (8192 + (y 1).val)

theorem pay_at (x : Vec Ideal S1024x2048 .bf16) (w : Vec Ideal S2048x512 .bf16) (r : Fin 1024) (e : Fin 512) :
    k0_pay1 x w (ix2 r e) = ∑ k : Fin 2048, x (ix2 r k) * w (ix2 k e) := by
  pointwise [k0_pay1]

theorem idx0 : ∀ t : Fin cfg0.N, win0_0.index t = ![t.val / 8, 0] := (by decide +kernel : ∀ t : Fin grid0.N, win0_0.index t = ![t.val / 8, 0])
theorem idx1 : ∀ t : Fin cfg0.N, win0_1.index t = ![0, 16 + t.val % 8] := (by decide +kernel : ∀ t : Fin grid0.N, win0_1.index t = ![0, 16 + t.val % 8])
theorem idx2 : ∀ t : Fin cfg0.N, win0_2.index t = ![t.val / 8, t.val % 8] := (by decide +kernel : ∀ t : Fin grid0.N, win0_2.index t = ![t.val / 8, t.val % 8])
theorem covers2 : (cfg0.win 2).Covers := (by decide +kernel : win0_2.Covers)

theorem lt_grid (t : Fin cfg0.N) : t.val < 256 := Nat.lt_of_lt_of_eq t.isLt N_0

theorem blk0 (t : Fin cfg0.N) (r : Fin 1024) (k : Fin 2048) :
    iblk m c 0 t (ix2 r k) = argH m c (ix2 (Fin.ofNat 32768 (t.val / 8 * 1024 + r.val)) k) := by
  have ht := lt_grid t
  unfold iblk
  rw [show V m c (Pipeline.arrRef spec0 0) = m ((c : Thread nD τ).loc main_arg0) from V_main_arg0 m c]
  blk_simp [idx0 t]
  congr 1
  blk_ext [idx0 t]
  rw [Fin.val_ofNat]; omega

theorem blk1 (t : Fin cfg0.N) (k : Fin 2048) (e : Fin 512) :
    iblk m c 1 t (ix2 k e) = argW m c (ix2 k (Fin.ofNat 12288 (8192 + (t.val % 8 * 512 + e.val)))) := by
  have ht := lt_grid t
  unfold iblk
  rw [show V m c (Pipeline.arrRef spec0 1) = m ((c : Thread nD τ).loc main_arg1) from V_main_arg1 m c]
  blk_simp [idx1 t]
  congr 1
  blk_ext [idx1 t]
  rw [Fin.val_ofNat]; omega

/-- The product of a point's blocks is a block of the product. -/
theorem point (t : Fin cfg0.N) (r : Fin 1024) (e : Fin 512) : k0_pay1 (iblk m c 0 t) (iblk m c 1 t) (ix2 r e)
    = prod (argH m c) (argW m c) (t.val / 8 * 1024 + r.val) (8192 + (t.val % 8 * 512 + e.val)) := by
  rw [pay_at]
  exact Finset.sum_congr rfl fun k _ => congrArg₂ (· * ·) (blk0 m c t r k) (blk1 m c t k e)

theorem out2_at (t : Fin cfg0.N) (r : Fin 1024) (e : Fin 512) : out0_2 (iblk m c 0 t) (iblk m c 1 t) (ix2 r e)
    = prod (argH m c) (argW m c) (t.val / 8 * 1024 + r.val) (8192 + (t.val % 8 * 512 + e.val)) := by
  unfold out0_2
  rw [View.canon_unit_zero z2, View.ld_unit_zero (S := S1024x2048) z2, View.ld_unit_zero (S := S2048x512) z2]
  exact point m c t r e

theorem emb2_0 (t : Fin cfg0.N) (y : S1024x512.Idx) :
    (((cfg0.win 2).blk t).view.emb y 0).val = t.val / 8 * 1024 + (y 0).val := by blk_simp [idx2 t]
theorem emb2_1 (t : Fin cfg0.N) (y : S1024x512.Idx) :
    (((cfg0.win 2).blk t).view.emb y 1).val = t.val % 8 * 512 + (y 1).val := by blk_simp [idx2 t]

theorem final2 : (dats m 0 c).arrAt 2 cfg0.N = rows (argH m c) (argW m c) := by
  refine (dats m 0 c).arrAt_eq_of_covers 2 (rows (argH m c) (argW m c)) covers2 fun t hf y => ?_
  refine (congrFun (after0_2 m c t) y).trans ?_
  have e0 := emb2_0 t y
  have e1 := emb2_1 t y
  revert e0 e1
  generalize ((cfg0.win 2).blk t).view.emb y = i
  intro e0 e1
  obtain ⟨r, e, rfl⟩ : ∃ (r : Fin 1024) (e : Fin 512), y = ix2 r e := ⟨y 0, y 1, eq_ix2 y⟩
  refine (out2_at m c t r e).trans ?_
  show _ = prod (argH m c) (argW m c) (i 0).val (8192 + (i 1).val)
  rw [e0, e1]
  rfl

/-- The run: the result holds the product, the arguments are unchanged. -/
theorem run : θ_run defs (onTc (τ := τ) (main (F := Ideal))) ⟨m, fun _ => 0, ρ⟩ fun r => ∀ c : Dev nD,
      r.2.mem ((c.tc : Thread nD τ).loc main_v0) = rows (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2⟩) (Value.run_blocks m ρ)

end Kernel

section Reference

open Cert.Reference7Ideal Cert.Reference7Ideal.Gen

theorem ref_rows (h : FVec Ideal S32768x2048 .bf16) (w : FVec Ideal S2048x12288 .bf16) :
    extractStridedSlice S32768x4096 ![0, 8192] (Host.dotGeneral dot_S32768x2048_S2048x12288_S32768x12288_1_0_0_1_n_n none (extf .f32 h bitsLt_bf16_f32) (extf .f32 w bitsLt_bf16_f32)) slices_S32768x12288_S32768x4096_0_8192 = rows h w := by
  funext y
  obtain ⟨n, e, rfl⟩ : ∃ (n : Fin 32768) (e : Fin 4096), y = ix2 n e := ⟨y 0, y 1, eq_ix2 y⟩
  refine Eq.trans ?_ (prod_of h w _ _ n ⟨8192 + e.val, by omega⟩ rfl rfl).symm
  pointwise []

end Reference

end Cert.Lin.RG

end
-- ==== Proof.Ffn.Pieces.lean ====
/-
What a grid point of the feed-forward kernel leaves behind, in terms of the values its stores hold.
-/
module

public import proofs.«01_k».proof.Proof.Gen.Kernel2Ideal.Frame
public import Idealize.ShloMosaic.Lib.Pipeline.ValueKit.Basic
public import Idealize.ShloMosaic.Lib.WritesUnit

@[expose] public section

noncomputable section

namespace Cert.Ffn

open Idealize.ShloMosaic Idealize.ShloMosaic.TcCoe Idealize.ShloMosaic.Tactic Idealize.SL.Sem Cert.Kernel2Ideal Cert.Kernel2Ideal.Gen

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

variable (m : (ℓ : Loc nD τ sig) → Buf (Elt F) ℓ)

/-- Column block `t`'s slab of the carried rows. -/
def slab (t : Fin cfg0.N) (xs : Vec F S11x8x512 .f32) : Vec F S1x8x512 .f32 :=
  View.ld xs (Rect.unit (s := S11x8x512) (k0_off1 (grid0.coords t)) S1x8x512.size (k0_off1_inb (grid0.coords t)))

/-- The activation of a point, from its input blocks and the two slabs of carried rows. -/
def act (t : Fin cfg0.N) (x0 : Vec F S512x2048 .bf16) (x2 x3 : Vec F S2048x512 .bf16) (x4 x5 : Vec F S3x512 .f32)
    (x6 x7 : Vec F S1x512 .f32) (v w : Vec F S1x8x512 .f32) : FVec F S512x512 .bf16 :=
  k0_pay21 (k0_pay11 (k0_pay5 x0 x2) (k0_pay7 (grid0.coords t) v) (k0_pay8 (grid0.coords t) v)
      (iota .tc S1x512x512 32 [1] iota_S1x512x512_d1_w32) x4 x6)
    (k0_pay12 x0 x3)
    (k0_pay16 (BitVec.ofNat 32 (grid0.coords t 0).val) (k0_pay12 x0 x3) 16#32 w) k0_pay17
    (k0_pay18 (BitVec.ofNat 32 (grid0.coords t 0).val) (k0_pay12 x0 x3) 16#32 w)
    (k0_pay19 (BitVec.ofNat 32 (grid0.coords t 0).val) 16#32 w) x5 x7

/-- The activation of a point over its input blocks. -/
abbrev actAt (c : Dev nD) (t : Fin cfg0.N) (v w : Vec F S1x8x512 .f32) : FVec F S512x512 .bf16 :=
  act t (iblk m c 0 t) (iblk m c 2 t) (iblk m c 3 t) (iblk m c 4 t) (iblk m c 5 t) (iblk m c 6 t) (iblk m c 7 t) v w

/-- What the point before left. -/
abbrev prev (c : Dev nD) (t : Fin cfg0.N) := outsAt0 m c (t.val - 1) (Nat.lt_of_le_of_lt (Nat.sub_le _ _) t.isLt)

/-- Column block `t`'s slab of the carried rows replaced. -/
def put (t : Fin cfg0.N) (w : Vec F S1x8x512 .f32) (xs : Vec F S11x8x512 .f32) (y : S11x8x512.Idx) : Elt F .f32 :=
  if h : ∀ a, k0_off1 (grid0.coords t) a ≤ (y a).val ∧ (y a).val < k0_off1 (grid0.coords t) a + S1x8x512.size a then
    w (Rect.unitLocal (s := S11x8x512) (off := k0_off1 (grid0.coords t)) (size := S1x8x512.size) y h)
  else xs y

theorem read_put {sp : Space} (v : View sig .tc sp S11x8x512 .f32) (f : v.ty.Contents (Elt F)) (t : Fin cfg0.N)
    (inb : ∀ a, k0_off1 (grid0.coords t) a + S1x8x512.size a ≤ S11x8x512.size a) (w : Vec F S1x8x512 .f32)
    (L : List (View.Piece (Elt F) S11x8x512 .f32)) (y : S11x8x512.Idx) :
    v.read (Elt F) (v.writes (Elt F) f (⟨Rect.unit (s := S11x8x512) (k0_off1 (grid0.coords t)) S1x8x512.size inb, w⟩ :: L)) y
      = put t w (v.read (Elt F) (v.writes (Elt F) f L)) y :=
  View.read_writes_cons_unit (off' := k0_off1 (grid0.coords t)) v f inb w L y rfl

theorem read_s0 (h : (scM0_0).IsWhole) (X : Vec F S512x2048 .f32) :
    View.read (Elt F) (View.whole cc0_scratch0) (h.unread X) = X := Memref.IsWhole.read_unread _ _

theorem read_s1 (h : (scM0_1).IsWhole) (X : Vec F S11x8x512 .f32) :
    View.read (Elt F) (View.whole cc0_scratch1) (h.unread X) = X := Memref.IsWhole.read_unread _ _

theorem read_s2 (h : (scM0_2).IsWhole) (X : Vec F S11x8x512 .f32) :
    View.read (Elt F) (View.whole cc0_scratch2) (h.unread X) = X := Memref.IsWhole.read_unread _ _

theorem tailV_B (c : Dev nD) (t : Fin cfg0.N) (h0 : ¬t.val % 704 = 0) (h1 : ¬t.val % 11 = 0) (h2 : ¬t.val % 11 = 10) :
    (outsAt0 m c t.val t.isLt).2.1 = k0_pay10 (k0_pay5 (iblk m c 0 t) (iblk m c 2 t)) := by
  rw [outsAt0_B m c t h0 h1 h2]
  dsimp only
  unfold out0_B_12
  rw [View.read_writes_junk_eq_canon]
  unfold kernelRun0_B
  dsimp only
  sl_unfold_words
  rw [View.canon_cons_unit_zero (S := S1x2x512) z3]
  simp only [View.readAt_eq_ld, Memref.IsWhole.read_unread, View.ld_unit_zero (S := S512x2048) z2, View.ld_unit_zero (S := S2048x512) z2,
    View.ld_unit_zero (S := S3x512) z2, View.ld_unit_zero (S := S1x512) z2, View.ld_unit_zero (S := S1x2048) z2]

theorem tailG_B (c : Dev nD) (t : Fin cfg0.N) (h0 : ¬t.val % 704 = 0) (h1 : ¬t.val % 11 = 0) (h2 : ¬t.val % 11 = 10) :
    (outsAt0 m c t.val t.isLt).2.2.1 = k0_pay20 (k0_pay12 (iblk m c 0 t) (iblk m c 3 t)) := by
  rw [outsAt0_B m c t h0 h1 h2]
  dsimp only
  unfold out0_B_13
  rw [View.read_writes_junk_eq_canon]
  unfold kernelRun0_B
  dsimp only
  sl_unfold_words
  rw [View.canon_cons_unit_zero (S := S1x2x512) z3]
  simp only [View.readAt_eq_ld, Memref.IsWhole.read_unread, View.ld_unit_zero (S := S512x2048) z2, View.ld_unit_zero (S := S2048x512) z2,
    View.ld_unit_zero (S := S3x512) z2, View.ld_unit_zero (S := S1x512) z2, View.ld_unit_zero (S := S1x2048) z2]

theorem acc_B (c : Dev nD) (t : Fin cfg0.N) (h0 : ¬t.val % 704 = 0) (h1 : ¬t.val % 11 = 0) (h2 : ¬t.val % 11 = 10) :
    (outsAt0 m c t.val t.isLt).2.2.2.1 = k0_pay1 (actAt m c t (slab t (prev m c t).2.2.2.2.1) (slab t (prev m c t).2.2.2.2.2)) (prev m c t).2.2.2.1 (iblk m c 8 t) := by
  rw [outsAt0_B m c t h0 h1 h2]
  dsimp only
  unfold sout0_B_0
  rw [View.read_writes_junk_eq_canon]
  unfold kernelRun0_B
  dsimp only
  sl_unfold_words
  rw [View.canon_cons_unit_zero (S := S512x2048) z2]
  simp only [View.readAt_eq_ld, Memref.IsWhole.read_unread, View.ld_unit_zero (S := S512x2048) z2, View.ld_unit_zero (S := S2048x512) z2,
    View.ld_unit_zero (S := S3x512) z2, View.ld_unit_zero (S := S1x512) z2, View.ld_unit_zero (S := S1x2048) z2, read_s0, read_s1, read_s2]
  unfold actAt act slab
  rfl

theorem tailV_D (c : Dev nD) (t : Fin cfg0.N) (h0 : ¬t.val % 704 = 0) (h1 : t.val % 11 = 0) (h2 : ¬t.val % 11 = 10) :
    (outsAt0 m c t.val t.isLt).2.1 = k0_pay10 (k0_pay5 (iblk m c 0 t) (iblk m c 2 t)) := by
  rw [outsAt0_D m c t h0 h1 h2]
  dsimp only
  unfold out0_D_12
  rw [View.read_writes_junk_eq_canon]
  unfold kernelRun0_D
  dsimp only
  sl_unfold_words
  rw [View.canon_cons_unit_zero (S := S1x2x512) z3]
  simp only [View.readAt_eq_ld, Memref.IsWhole.read_unread, View.ld_unit_zero (S := S512x2048) z2, View.ld_unit_zero (S := S2048x512) z2,
    View.ld_unit_zero (S := S3x512) z2, View.ld_unit_zero (S := S1x512) z2, View.ld_unit_zero (S := S1x2048) z2]

theorem tailG_D (c : Dev nD) (t : Fin cfg0.N) (h0 : ¬t.val % 704 = 0) (h1 : t.val % 11 = 0) (h2 : ¬t.val % 11 = 10) :
    (outsAt0 m c t.val t.isLt).2.2.1 = k0_pay20 (k0_pay12 (iblk m c 0 t) (iblk m c 3 t)) := by
  rw [outsAt0_D m c t h0 h1 h2]
  dsimp only
  unfold out0_D_13
  rw [View.read_writes_junk_eq_canon]
  unfold kernelRun0_D
  dsimp only
  sl_unfold_words
  rw [View.canon_cons_unit_zero (S := S1x2x512) z3]
  simp only [View.readAt_eq_ld, Memref.IsWhole.read_unread, View.ld_unit_zero (S := S512x2048) z2, View.ld_unit_zero (S := S2048x512) z2,
    View.ld_unit_zero (S := S3x512) z2, View.ld_unit_zero (S := S1x512) z2, View.ld_unit_zero (S := S1x2048) z2]

theorem acc_D (c : Dev nD) (t : Fin cfg0.N) (h0 : ¬t.val % 704 = 0) (h1 : t.val % 11 = 0) (h2 : ¬t.val % 11 = 10) :
    (outsAt0 m c t.val t.isLt).2.2.2.1 = k0_pay1 (actAt m c t (slab t (prev m c t).2.2.2.2.1) (slab t (prev m c t).2.2.2.2.2)) k0_pay22 (iblk m c 8 t) := by
  rw [outsAt0_D m c t h0 h1 h2]
  dsimp only
  unfold sout0_D_0
  rw [View.read_writes_junk_eq_canon]
  unfold kernelRun0_D
  dsimp only
  sl_unfold_words
  rw [View.canon_cons_unit_zero (S := S512x2048) z2]
  rw [View.readCov_unit_zero (S := S512x2048) _ z2]
  simp only [View.readAt_eq_ld, Memref.IsWhole.read_unread, View.ld_unit_zero (S := S512x2048) z2, View.ld_unit_zero (S := S2048x512) z2,
    View.ld_unit_zero (S := S3x512) z2, View.ld_unit_zero (S := S1x512) z2, View.ld_unit_zero (S := S1x2048) z2, read_s0, read_s1, read_s2]
  unfold actAt act slab
  rfl

theorem tailV_C (c : Dev nD) (t : Fin cfg0.N) (h0 : ¬t.val % 704 = 0) (h1 : ¬t.val % 11 = 0) (h2 : t.val % 11 = 10) :
    (outsAt0 m c t.val t.isLt).2.1 = k0_pay10 (k0_pay5 (iblk m c 0 t) (iblk m c 2 t)) := by
  rw [outsAt0_C m c t h0 h1 h2]
  dsimp only
  unfold out0_C_12
  rw [View.read_writes_junk_eq_canon]
  unfold kernelRun0_C
  dsimp only
  sl_unfold_words
  rw [View.canon_cons_unit_zero (S := S1x2x512) z3]
  simp only [View.readAt_eq_ld, Memref.IsWhole.read_unread, View.ld_unit_zero (S := S512x2048) z2, View.ld_unit_zero (S := S2048x512) z2,
    View.ld_unit_zero (S := S3x512) z2, View.ld_unit_zero (S := S1x512) z2, View.ld_unit_zero (S := S1x2048) z2]

theorem tailG_C (c : Dev nD) (t : Fin cfg0.N) (h0 : ¬t.val % 704 = 0) (h1 : ¬t.val % 11 = 0) (h2 : t.val % 11 = 10) :
    (outsAt0 m c t.val t.isLt).2.2.1 = k0_pay20 (k0_pay12 (iblk m c 0 t) (iblk m c 3 t)) := by
  rw [outsAt0_C m c t h0 h1 h2]
  dsimp only
  unfold out0_C_13
  rw [View.read_writes_junk_eq_canon]
  unfold kernelRun0_C
  dsimp only
  sl_unfold_words
  rw [View.canon_cons_unit_zero (S := S1x2x512) z3]
  simp only [View.readAt_eq_ld, Memref.IsWhole.read_unread, View.ld_unit_zero (S := S512x2048) z2, View.ld_unit_zero (S := S2048x512) z2,
    View.ld_unit_zero (S := S3x512) z2, View.ld_unit_zero (S := S1x512) z2, View.ld_unit_zero (S := S1x2048) z2]

theorem acc_C (c : Dev nD) (t : Fin cfg0.N) (h0 : ¬t.val % 704 = 0) (h1 : ¬t.val % 11 = 0) (h2 : t.val % 11 = 10) :
    (outsAt0 m c t.val t.isLt).2.2.2.1 = k0_pay1 (actAt m c t (slab t (prev m c t).2.2.2.2.1) (slab t (prev m c t).2.2.2.2.2)) (prev m c t).2.2.2.1 (iblk m c 8 t) := by
  rw [outsAt0_C m c t h0 h1 h2]
  dsimp only
  unfold sout0_C_0
  rw [View.read_writes_junk_eq_canon]
  unfold kernelRun0_C
  dsimp only
  sl_unfold_words
  rw [View.canon_cons_unit_zero (S := S512x2048) z2]
  simp only [View.readAt_eq_ld, Memref.IsWhole.read_unread, View.ld_unit_zero (S := S512x2048) z2, View.ld_unit_zero (S := S2048x512) z2,
    View.ld_unit_zero (S := S3x512) z2, View.ld_unit_zero (S := S1x512) z2, View.ld_unit_zero (S := S1x2048) z2, read_s0, read_s1, read_s2]
  unfold actAt act slab
  rfl

theorem tailV_A (c : Dev nD) (t : Fin cfg0.N) (h0 : t.val % 704 = 0) (h1 : t.val % 11 = 0) (h2 : ¬t.val % 11 = 10) :
    (outsAt0 m c t.val t.isLt).2.1 = k0_pay10 (k0_pay5 (iblk m c 0 t) (iblk m c 2 t)) := by
  rw [outsAt0_A m c t h0 h1 h2]
  dsimp only
  unfold out0_A_12
  rw [View.read_writes_junk_eq_canon]
  unfold kernelRun0_A
  dsimp only
  sl_unfold_words
  rw [View.canon_cons_unit_zero (S := S1x2x512) z3]
  simp only [View.readAt_eq_ld, Memref.IsWhole.read_unread, View.ld_unit_zero (S := S512x2048) z2, View.ld_unit_zero (S := S2048x512) z2,
    View.ld_unit_zero (S := S3x512) z2, View.ld_unit_zero (S := S1x512) z2, View.ld_unit_zero (S := S1x2048) z2]

theorem tailG_A (c : Dev nD) (t : Fin cfg0.N) (h0 : t.val % 704 = 0) (h1 : t.val % 11 = 0) (h2 : ¬t.val % 11 = 10) :
    (outsAt0 m c t.val t.isLt).2.2.1 = k0_pay20 (k0_pay12 (iblk m c 0 t) (iblk m c 3 t)) := by
  rw [outsAt0_A m c t h0 h1 h2]
  dsimp only
  unfold out0_A_13
  rw [View.read_writes_junk_eq_canon]
  unfold kernelRun0_A
  dsimp only
  sl_unfold_words
  rw [View.canon_cons_unit_zero (S := S1x2x512) z3]
  simp only [View.readAt_eq_ld, Memref.IsWhole.read_unread, View.ld_unit_zero (S := S512x2048) z2, View.ld_unit_zero (S := S2048x512) z2,
    View.ld_unit_zero (S := S3x512) z2, View.ld_unit_zero (S := S1x512) z2, View.ld_unit_zero (S := S1x2048) z2]

theorem acc_A (c : Dev nD) (t : Fin cfg0.N) (h0 : t.val % 704 = 0) (h1 : t.val % 11 = 0) (h2 : ¬t.val % 11 = 10) :
    (outsAt0 m c t.val t.isLt).2.2.2.1 = k0_pay1 (actAt m c t (slab t k0_pay3) (slab t k0_pay4)) k0_pay22 (iblk m c 8 t) := by
  rw [outsAt0_A m c t h0 h1 h2]
  dsimp only
  unfold sout0_A_0
  rw [View.read_writes_junk_eq_canon]
  unfold kernelRun0_A
  dsimp only
  sl_unfold_words
  rw [View.canon_cons_unit_zero (S := S512x2048) z2]
  rw [View.readCov_unit_zero (S := S512x2048) _ z2]
  simp only [View.read_writes_junk_eq_canon, View.canon_unit_zero (S := S11x8x512) z3, View.readAt_eq_ld, Memref.IsWhole.read_unread, View.ld_unit_zero (S := S512x2048) z2, View.ld_unit_zero (S := S2048x512) z2,
    View.ld_unit_zero (S := S3x512) z2, View.ld_unit_zero (S := S1x512) z2, View.ld_unit_zero (S := S1x2048) z2, read_s0, read_s1, read_s2]
  unfold actAt act slab
  rfl

theorem out_C (c : Dev nD) (t : Fin cfg0.N) (h0 : ¬t.val % 704 = 0) (h1 : ¬t.val % 11 = 0) (h2 : t.val % 11 = 10) :
    (outsAt0 m c t.val t.isLt).1 = k0_pay2 (iblk m c 1 t) (outsAt0 m c t.val t.isLt).2.2.2.1 (iblk m c 9 t) := by
  rw [acc_C m c t h0 h1 h2, outsAt0_C m c t h0 h1 h2]
  dsimp only
  unfold out0_C_11
  rw [View.read_writes_junk_eq_canon]
  unfold kernelRun0_C
  dsimp only
  sl_unfold_words
  rw [View.canon_cons_unit_zero (S := S512x2048) z2, View.readCov_unit_zero (S := S512x2048) _ z2]
  simp only [View.readAt_eq_ld, Memref.IsWhole.read_unread, View.ld_unit_zero (S := S512x2048) z2, View.ld_unit_zero (S := S2048x512) z2,
    View.ld_unit_zero (S := S3x512) z2, View.ld_unit_zero (S := S1x512) z2, View.ld_unit_zero (S := S1x2048) z2, read_s0, read_s1, read_s2]
  unfold actAt act slab
  rfl

theorem carryV_B (c : Dev nD) (t : Fin cfg0.N) (h0 : ¬t.val % 704 = 0) (h1 : ¬t.val % 11 = 0) (h2 : ¬t.val % 11 = 10) (y : S11x8x512.Idx) :
    (outsAt0 m c t.val t.isLt).2.2.2.2.1 y = put t (k0_pay9 (iblk m c 0 t) (iblk m c 2 t)) ((prev m c t).2.2.2.2.1) y := by
  rw [outsAt0_B m c t h0 h1 h2]
  dsimp only
  unfold sout0_B_1
  unfold kernelRun0_B
  dsimp only
  refine (read_put _ _ t _ _ _ y).trans (congrArg₂ (fun w xs => put t w xs y) ?_ ?_)
  · sl_unfold_words
    simp only [View.readAt_eq_ld, Memref.IsWhole.read_unread, View.ld_unit_zero (S := S512x2048) z2, View.ld_unit_zero (S := S2048x512) z2]
  · exact Memref.IsWhole.read_unread _ _

theorem carryG_B (c : Dev nD) (t : Fin cfg0.N) (h0 : ¬t.val % 704 = 0) (h1 : ¬t.val % 11 = 0) (h2 : ¬t.val % 11 = 10) (y : S11x8x512.Idx) :
    (outsAt0 m c t.val t.isLt).2.2.2.2.2 y = put t (k0_pay15 (k0_pay12 (iblk m c 0 t) (iblk m c 3 t))) ((prev m c t).2.2.2.2.2) y := by
  rw [outsAt0_B m c t h0 h1 h2]
  dsimp only
  unfold sout0_B_2
  unfold kernelRun0_B
  dsimp only
  refine (read_put _ _ t _ _ _ y).trans (congrArg₂ (fun w xs => put t w xs y) ?_ ?_)
  · sl_unfold_words
    simp only [View.readAt_eq_ld, Memref.IsWhole.read_unread, View.ld_unit_zero (S := S512x2048) z2, View.ld_unit_zero (S := S2048x512) z2]
  · exact Memref.IsWhole.read_unread _ _

theorem carryV_D (c : Dev nD) (t : Fin cfg0.N) (h0 : ¬t.val % 704 = 0) (h1 : t.val % 11 = 0) (h2 : ¬t.val % 11 = 10) (y : S11x8x512.Idx) :
    (outsAt0 m c t.val t.isLt).2.2.2.2.1 y = put t (k0_pay9 (iblk m c 0 t) (iblk m c 2 t)) ((prev m c t).2.2.2.2.1) y := by
  rw [outsAt0_D m c t h0 h1 h2]
  dsimp only
  unfold sout0_D_1
  unfold kernelRun0_D
  dsimp only
  refine (read_put _ _ t _ _ _ y).trans (congrArg₂ (fun w xs => put t w xs y) ?_ ?_)
  · sl_unfold_words
    simp only [View.readAt_eq_ld, Memref.IsWhole.read_unread, View.ld_unit_zero (S := S512x2048) z2, View.ld_unit_zero (S := S2048x512) z2]
  · exact Memref.IsWhole.read_unread _ _

theorem carryG_D (c : Dev nD) (t : Fin cfg0.N) (h0 : ¬t.val % 704 = 0) (h1 : t.val % 11 = 0) (h2 : ¬t.val % 11 = 10) (y : S11x8x512.Idx) :
    (outsAt0 m c t.val t.isLt).2.2.2.2.2 y = put t (k0_pay15 (k0_pay12 (iblk m c 0 t) (iblk m c 3 t))) ((prev m c t).2.2.2.2.2) y := by
  rw [outsAt0_D m c t h0 h1 h2]
  dsimp only
  unfold sout0_D_2
  unfold kernelRun0_D
  dsimp only
  refine (read_put _ _ t _ _ _ y).trans (congrArg₂ (fun w xs => put t w xs y) ?_ ?_)
  · sl_unfold_words
    simp only [View.readAt_eq_ld, Memref.IsWhole.read_unread, View.ld_unit_zero (S := S512x2048) z2, View.ld_unit_zero (S := S2048x512) z2]
  · exact Memref.IsWhole.read_unread _ _

theorem carryV_C (c : Dev nD) (t : Fin cfg0.N) (h0 : ¬t.val % 704 = 0) (h1 : ¬t.val % 11 = 0) (h2 : t.val % 11 = 10) (y : S11x8x512.Idx) :
    (outsAt0 m c t.val t.isLt).2.2.2.2.1 y = put t (k0_pay9 (iblk m c 0 t) (iblk m c 2 t)) ((prev m c t).2.2.2.2.1) y := by
  rw [outsAt0_C m c t h0 h1 h2]
  dsimp only
  unfold sout0_C_1
  unfold kernelRun0_C
  dsimp only
  refine (read_put _ _ t _ _ _ y).trans (congrArg₂ (fun w xs => put t w xs y) ?_ ?_)
  · sl_unfold_words
    simp only [View.readAt_eq_ld, Memref.IsWhole.read_unread, View.ld_unit_zero (S := S512x2048) z2, View.ld_unit_zero (S := S2048x512) z2]
  · exact Memref.IsWhole.read_unread _ _

theorem carryG_C (c : Dev nD) (t : Fin cfg0.N) (h0 : ¬t.val % 704 = 0) (h1 : ¬t.val % 11 = 0) (h2 : t.val % 11 = 10) (y : S11x8x512.Idx) :
    (outsAt0 m c t.val t.isLt).2.2.2.2.2 y = put t (k0_pay15 (k0_pay12 (iblk m c 0 t) (iblk m c 3 t))) ((prev m c t).2.2.2.2.2) y := by
  rw [outsAt0_C m c t h0 h1 h2]
  dsimp only
  unfold sout0_C_2
  unfold kernelRun0_C
  dsimp only
  refine (read_put _ _ t _ _ _ y).trans (congrArg₂ (fun w xs => put t w xs y) ?_ ?_)
  · sl_unfold_words
    simp only [View.readAt_eq_ld, Memref.IsWhole.read_unread, View.ld_unit_zero (S := S512x2048) z2, View.ld_unit_zero (S := S2048x512) z2]
  · exact Memref.IsWhole.read_unread _ _

theorem carryV_A (c : Dev nD) (t : Fin cfg0.N) (h0 : t.val % 704 = 0) (h1 : t.val % 11 = 0) (h2 : ¬t.val % 11 = 10) (y : S11x8x512.Idx) :
    (outsAt0 m c t.val t.isLt).2.2.2.2.1 y = put t (k0_pay9 (iblk m c 0 t) (iblk m c 2 t)) (k0_pay3) y := by
  rw [outsAt0_A m c t h0 h1 h2]
  dsimp only
  unfold sout0_A_1
  unfold kernelRun0_A
  dsimp only
  refine (read_put _ _ t _ _ _ y).trans (congrArg₂ (fun w xs => put t w xs y) ?_ ?_)
  · sl_unfold_words
    simp only [View.readAt_eq_ld, Memref.IsWhole.read_unread, View.ld_unit_zero (S := S512x2048) z2, View.ld_unit_zero (S := S2048x512) z2]
  · rw [View.read_writes_junk_eq_canon]
    sl_unfold_words
    exact View.canon_unit_zero (S := S11x8x512) z3 _ _

theorem carryG_A (c : Dev nD) (t : Fin cfg0.N) (h0 : t.val % 704 = 0) (h1 : t.val % 11 = 0) (h2 : ¬t.val % 11 = 10) (y : S11x8x512.Idx) :
    (outsAt0 m c t.val t.isLt).2.2.2.2.2 y = put t (k0_pay15 (k0_pay12 (iblk m c 0 t) (iblk m c 3 t))) (k0_pay4) y := by
  rw [outsAt0_A m c t h0 h1 h2]
  dsimp only
  unfold sout0_A_2
  unfold kernelRun0_A
  dsimp only
  refine (read_put _ _ t _ _ _ y).trans (congrArg₂ (fun w xs => put t w xs y) ?_ ?_)
  · sl_unfold_words
    simp only [View.readAt_eq_ld, Memref.IsWhole.read_unread, View.ld_unit_zero (S := S512x2048) z2, View.ld_unit_zero (S := S2048x512) z2]
  · rw [View.read_writes_junk_eq_canon]
    sl_unfold_words
    exact View.canon_unit_zero (S := S11x8x512) z3 _ _

end Cert.Ffn

end
-- ==== Proof.Ffn.Step.lean ====
/-
The values a grid point of the feed-forward kernel computes, element by element over the extended reals.
-/
module

public import proofs.«01_k».proof.Proof.Ffn.Pieces
public import Idealize.ShloMosaic.PureOps.Ideal
public import Idealize.ShloMosaic.Lib.Pointwise
public import Idealize.ShloMosaic.Lib.WordCmp

@[expose] public section

noncomputable section

namespace Cert.Ffn

open Idealize.ShloMosaic Idealize.ShloMosaic.TcCoe Idealize.ShloMosaic.WordCmp Cert.Kernel2Ideal Cert.Kernel2Ideal.Gen

theorem pay5_at (x : Vec Ideal S512x2048 .bf16) (w : Vec Ideal S2048x512 .bf16) (r e : Fin 512) :
    k0_pay5 x w (ix3 0 r e) = ∑ k : Fin 2048, x (ix2 r k) * w (ix2 k e) := by
  pointwise [k0_pay5]

theorem pay12_at (x : Vec Ideal S512x2048 .bf16) (w : Vec Ideal S2048x512 .bf16) (r e : Fin 512) :
    k0_pay12 x w (ix3 0 r e) = ∑ k : Fin 2048, x (ix2 r k) * w (ix2 k e) := by
  pointwise [k0_pay12]

theorem pay9_at (x : Vec Ideal S512x2048 .bf16) (w : Vec Ideal S2048x512 .bf16) (r : Fin 8) (e : Fin 512) :
    k0_pay9 x w (ix3 0 r e) = k0_pay5 x w (ix3 0 ⟨504 + r.val, by omega⟩ e) := by
  pointwise [k0_pay9]

theorem pay15_at (v : FVec Ideal S1x512x512 .f32) (r : Fin 8) (e : Fin 512) :
    k0_pay15 v (ix3 0 r e) = v (ix3 0 ⟨504 + r.val, by omega⟩ e) := by
  pointwise [k0_pay15]

theorem pay10_at (v : FVec Ideal S1x512x512 .f32) (r : Fin 2) (e : Fin 512) :
    k0_pay10 v (ix3 0 r e) = v (ix3 0 ⟨510 + r.val, by omega⟩ e) := by
  pointwise [k0_pay10]

theorem pay20_at (v : FVec Ideal S1x512x512 .f32) (r : Fin 2) (e : Fin 512) :
    k0_pay20 v (ix3 0 r e) = v (ix3 0 ⟨510 + r.val, by omega⟩ e) := by
  pointwise [k0_pay20]

theorem pay3_at (y : S11x8x512.Idx) : k0_pay3 (F := Ideal) y = 0 := by
  pointwise [k0_pay3]

theorem pay22_at (y : S512x2048.Idx) : k0_pay22 (F := Ideal) y = 0 := by
  pointwise [k0_pay22]

theorem pay1_at (a : FVec Ideal S512x512 .bf16) (x : Vec Ideal S512x2048 .f32) (w : Vec Ideal S512x2048 .bf16) (r : Fin 512) (d : Fin 2048) :
    k0_pay1 a x w (ix2 r d) = x (ix2 r d) + ∑ f : Fin 512, a (ix2 r f) * w (ix2 f d) := by
  pointwise [k0_pay1]

theorem pay4_at (y : S11x8x512.Idx) : k0_pay4 (F := Ideal) y = 0 := by
  pointwise [k0_pay4]

/-- A row's elements over the root of their mean square, scaled. -/
def norm (a : Fin 2048 → EReal) (g : Fin 2048 → EReal) (d : Fin 2048) : EReal :=
  a d * Ideal.rsqrt (Ideal.div (∑ k, a k * a k) (Ideal.ofBits .f32 0x45000000#32) + Ideal.ofBits .f32 0x358637BD#32) * g d

theorem pay2_at (x a : Vec Ideal S512x2048 .f32) (g : Vec Ideal S1x2048 .f32) (r : Fin 512) (d : Fin 2048) :
    k0_pay2 x a g (ix2 r d) = x (ix2 r d) + norm (fun k => a (ix2 r k)) (fun k => g (ix2 0 k)) d := by
  pointwise [k0_pay2]
  rfl

/-- The gate function, in its tanh form. -/
def gelu (x : EReal) : EReal :=
  Ideal.ofBits .f32 0x3F000000#32 * x
    * (1 + Ideal.tanh (Ideal.ofBits .f32 0x3F4C422A#32 * (x + Ideal.ofBits .f32 0x3D372713#32 * (x * x * x))))

/-- A three-tap filter at one element: the bias, the taps, and the elements two rows back, one row back and at the row. -/
def tap (b c₀ c₁ c₂ u₂ u₁ u₀ : EReal) : EReal := b + c₀ * u₂ + c₁ * u₁ + c₂ * u₀

/-- The element one row back: of the same block, or row 7 of the rows carried over, or zero at a sequence's start. -/
def back1 (t : Fin cfg0.N) (u : Fin 512 → EReal) (v : Fin 8 → EReal) (r : Fin 512) : EReal :=
  if r.val = 0 then (if t.val / 11 % 16 = 0 then 0 else v 7) else u ⟨r.val - 1, by omega⟩

/-- The element two rows back. -/
def back2 (t : Fin cfg0.N) (u : Fin 512 → EReal) (v : Fin 8 → EReal) (r : Fin 512) : EReal :=
  if r.val = 0 then (if t.val / 11 % 16 = 0 then 0 else v 6)
  else if r.val = 1 then (if t.val / 11 % 16 = 0 then 0 else v 7) else u ⟨r.val - 2, by omega⟩

theorem coord0 : ∀ t : Fin cfg0.N, (grid0.coords t 0).val = t.val / 11 :=
  (by decide +kernel : ∀ t : Fin grid0.N, (grid0.coords t 0).val = t.val / 11)
theorem coord1 : ∀ t : Fin cfg0.N, (grid0.coords t 1).val = t.val % 11 :=
  (by decide +kernel : ∀ t : Fin grid0.N, (grid0.coords t 1).val = t.val % 11)

/-- The kernel's test that a row tile does not begin a sequence. -/
def inner (n : BitVec 32) : BitVec 1 :=
  Scalar.cmpi .ne (Scalar.select
    (Scalar.andi (Scalar.xori (Scalar.cmpi .slt (Scalar.remsi n (Scalar.select (Scalar.cmpi .eq 16#32 0#32) 1#32 16#32)) 0#32)
        (Scalar.cmpi .slt (Scalar.select (Scalar.cmpi .eq 16#32 0#32) 1#32 16#32) 0#32))
      (Scalar.cmpi .ne (Scalar.remsi n (Scalar.select (Scalar.cmpi .eq 16#32 0#32) 1#32 16#32)) 0#32))
    (Scalar.addi (Scalar.remsi n (Scalar.select (Scalar.cmpi .eq 16#32 0#32) 1#32 16#32))
      (Scalar.select (Scalar.cmpi .eq 16#32 0#32) 1#32 16#32))
    (Scalar.remsi n (Scalar.select (Scalar.cmpi .eq 16#32 0#32) 1#32 16#32))) 0#32

theorem inner_eq : ∀ i : Fin 64, inner (BitVec.ofNat 32 i.val) = if i.val % 16 = 0 then 0#1 else 1#1 := by decide +kernel

theorem inner_at (t : Fin cfg0.N) : inner (BitVec.ofNat 32 (grid0.coords t 0).val) = if t.val / 11 % 16 = 0 then 0#1 else 1#1 := by
  have ht : t.val < 704 := Nat.lt_of_lt_of_eq t.isLt N_0
  rw [coord0 t]
  exact inner_eq ⟨t.val / 11, by omega⟩

theorem sel_if {α : Type} (p : Prop) [Decidable p] (a b : α) : Scalar.select (if p then 0#1 else 1#1) a b = if p then b else a := by
  by_cases h : p
  · rw [if_pos h, if_pos h]; rfl
  · rw [if_neg h, if_neg h]; rfl

theorem pay6_at (t : Fin cfg0.N) (v : Vec Ideal S1x8x512 .f32) (r : Fin 8) (e : Fin 512) :
    k0_pay6 (grid0.coords t) v (ix2 r e) = if t.val / 11 % 16 = 0 then 0 else v (ix3 0 r e) := by
  pointwise [k0_pay6]
  exact (congrArg (fun b => Scalar.select b (v (ix3 0 r e)) 0) (inner_at t)).trans (sel_if _ _ _)

theorem pay13_at (t : Fin cfg0.N) (v : Vec Ideal S1x8x512 .f32) (r : Fin 8) (e : Fin 512) :
    k0_pay13 (BitVec.ofNat 32 (grid0.coords t 0).val) 16#32 v (ix2 r e) = if t.val / 11 % 16 = 0 then 0 else v (ix3 0 r e) := by
  pointwise [k0_pay13]
  exact (congrArg (fun b => Scalar.select b (v (ix3 0 r e)) 0) (inner_at t)).trans (sel_if _ _ _)

theorem pay7_at (t : Fin cfg0.N) (v : Vec Ideal S1x8x512 .f32) (e : Fin 512) :
    k0_pay7 (grid0.coords t) v (ix3 0 0 e) = if t.val / 11 % 16 = 0 then 0 else v (ix3 0 7 e) := by
  refine Eq.trans ?_ (pay6_at t v 7 e)
  pointwise [k0_pay7]

theorem pay8_at (t : Fin cfg0.N) (v : Vec Ideal S1x8x512 .f32) (e : Fin 512) :
    k0_pay8 (grid0.coords t) v (ix3 0 0 e) = if t.val / 11 % 16 = 0 then 0 else v (ix3 0 6 e) := by
  refine Eq.trans ?_ (pay6_at t v 6 e)
  pointwise [k0_pay8]

theorem pay14_at (t : Fin cfg0.N) (v : Vec Ideal S1x8x512 .f32) (e : Fin 512) :
    k0_pay14 (BitVec.ofNat 32 (grid0.coords t 0).val) 16#32 v (ix3 0 0 e) = if t.val / 11 % 16 = 0 then 0 else v (ix3 0 7 e) := by
  refine Eq.trans ?_ (pay13_at t v 7 e)
  pointwise [k0_pay14]

theorem pay19_at (t : Fin cfg0.N) (v : Vec Ideal S1x8x512 .f32) (r e : Fin 512) :
    k0_pay19 (BitVec.ofNat 32 (grid0.coords t 0).val) 16#32 v (ix3 0 r e) = if t.val / 11 % 16 = 0 then 0 else v (ix3 0 6 e) := by
  refine Eq.trans ?_ (pay13_at t v 6 e)
  pointwise [k0_pay19]

/-- A choice by the row's number: at row `k` the first, elsewhere the second. -/
theorem sel_row {α : Type} (r : Fin 512) (k : ℕ) (hk : k < 512) (a b : α) :
    Scalar.select (IntOp.cmpi .eq (BitVec.ofNat 32 r.val) (BitVec.ofNat 32 k)) a b = if r.val = k then a else b := by
  have hr := r.isLt
  by_cases h : r.val = k
  · subst h
    rw [if_pos rfl, show IntOp.cmpi .eq (BitVec.ofNat 32 r.val) (BitVec.ofNat 32 r.val) = 1#1 from by simp [IntOp.cmpi]]
    rfl
  · have hne : BitVec.ofNat 32 r.val ≠ BitVec.ofNat 32 k := fun w => h (by
      have := congrArg BitVec.toNat w
      rwa [BitVec.toNat_ofNat, BitVec.toNat_ofNat, Nat.mod_eq_of_lt (by omega), Nat.mod_eq_of_lt (by omega)] at this)
    rw [if_neg h, show IntOp.cmpi .eq (BitVec.ofNat 32 r.val) (BitVec.ofNat 32 k) = 0#1 from by
      show BitVec.ofBool (BitVec.ofNat 32 r.val == BitVec.ofNat 32 k) = 0#1
      rw [beq_false_of_ne hne]; rfl]
    rfl

theorem sel_row0 {α : Type} (r : Fin 512) (a b : α) :
    Scalar.select (IntOp.cmpi .eq (BitVec.ofNat 32 r.val) 0#32) a b = if r.val = 0 then a else b := sel_row r 0 (by omega) a b

theorem sel_row1 {α : Type} (r : Fin 512) (a b : α) :
    Scalar.select (IntOp.cmpi .eq (BitVec.ofNat 32 r.val) 1#32) a b = if r.val = 1 then a else b := sel_row r 1 (by omega) a b

/-- A rotated row reads the row before it, away from the rows the rotation wraps. -/
theorem sel_rot (r : Fin 512) (k : ℕ) (hk : k < 512) (x : Fin 512 → EReal) (h : (r.val + 512 - k) % 512 < 512) (hr : k ≤ r.val) :
    x ⟨(r.val + 512 - k) % 512, h⟩ = x ⟨r.val - k, by omega⟩ := by
  congr 1
  apply Fin.ext
  show (r.val + 512 - k) % 512 = r.val - k
  omega

theorem pay11_at (t : Fin cfg0.N) (x : FVec Ideal S1x512x512 .f32) (v : Vec Ideal S1x8x512 .f32)
    (cw : Vec Ideal S3x512 .f32) (cb : Vec Ideal S1x512 .f32) (r e : Fin 512) :
    k0_pay11 x (k0_pay7 (grid0.coords t) v) (k0_pay8 (grid0.coords t) v) (iota .tc S1x512x512 32 [1] iota_S1x512x512_d1_w32) cw cb (ix2 r e)
      = tap (cb (ix2 0 e)) (cw (ix2 0 e)) (cw (ix2 1 e)) (cw (ix2 2 e)) (back2 t (fun s => x (ix3 0 s e)) (fun s => v (ix3 0 s e)) r)
          (back1 t (fun s => x (ix3 0 s e)) (fun s => v (ix3 0 s e)) r) (x (ix3 0 r e)) := by
  pointwise [k0_pay11]
  rw [pay7_at, pay8_at]
  unfold tap back1 back2
  rw [sel_row0, sel_row1, sel_row0]
  by_cases h0 : r.val = 0
  · simp only [h0, if_true]
  · have e1 := sel_rot r 1 (by omega) (fun s => x (ix3 0 s e)) (by omega) (by omega)
    by_cases h1 : r.val = 1
    · rw [if_neg h0, if_neg h0, if_neg h0, if_neg h0, if_pos h1, if_pos h1]
      exact congrArg (fun z => _ + _ * z + _) e1
    · have e2 := sel_rot r 2 (by omega) (fun s => x (ix3 0 s e)) (by omega) (by omega)
      rw [if_neg h0, if_neg h0, if_neg h0, if_neg h0, if_neg h1, if_neg h1]
      exact congrArg₂ (fun z w => _ + _ * z + _ * w + _) e2 e1

theorem pay16_at (t : Fin cfg0.N) (x : FVec Ideal S1x512x512 .f32) (v : Vec Ideal S1x8x512 .f32) (r e : Fin 512) :
    k0_pay16 (BitVec.ofNat 32 (grid0.coords t 0).val) x 16#32 v (ix3 0 r e)
      = back1 t (fun s => x (ix3 0 s e)) (fun s => v (ix3 0 s e)) r := by
  pointwise [k0_pay16]
  rw [pay14_at]
  unfold back1
  rw [sel_row0]
  by_cases h0 : r.val = 0
  · rw [if_pos h0, if_pos h0]
  · rw [if_neg h0, if_neg h0]
    exact sel_rot r 1 (by omega) (fun s => x (ix3 0 s e)) (by omega) (by omega)

theorem pay18_at (t : Fin cfg0.N) (x : FVec Ideal S1x512x512 .f32) (v : Vec Ideal S1x8x512 .f32) (r e : Fin 512) :
    Scalar.select (IntOp.cmpi .eq (BitVec.ofNat 32 r.val) 0#32) (k0_pay19 (BitVec.ofNat 32 (grid0.coords t 0).val) 16#32 v (ix3 0 r e))
      (k0_pay18 (BitVec.ofNat 32 (grid0.coords t 0).val) x 16#32 v (ix3 0 r e))
      = back2 t (fun s => x (ix3 0 s e)) (fun s => v (ix3 0 s e)) r := by
  rw [pay19_at]
  pointwise [k0_pay18]
  rw [pay14_at]
  unfold back2
  rw [sel_row0, sel_row1]
  by_cases h0 : r.val = 0
  · rw [if_pos h0, if_pos h0]
  · rw [if_neg h0, if_neg h0]
    by_cases h1 : r.val = 1
    · rw [if_pos h1, if_pos h1]
    · rw [if_neg h1, if_neg h1]
      exact sel_rot r 2 (by omega) (fun s => x (ix3 0 s e)) (by omega) (by omega)

theorem pay21_at (cv : FVec Ideal S512x512 .f32) (x p q o : FVec Ideal S1x512x512 .f32) (cw : Vec Ideal S3x512 .f32) (cb : Vec Ideal S1x512 .f32) (r e : Fin 512) :
    k0_pay21 cv x p k0_pay17 q o cw cb (ix2 r e)
      = gelu (tap (cb (ix2 0 e)) (cw (ix2 0 e)) (cw (ix2 1 e)) (cw (ix2 2 e))
          (Scalar.select (IntOp.cmpi .eq (BitVec.ofNat 32 r.val) 0#32) (o (ix3 0 r e)) (q (ix3 0 r e))) (p (ix3 0 r e)) (x (ix3 0 r e)))
        * cv (ix2 r e) := by
  pointwise [k0_pay21, k0_pay17]
  rfl

/-- An activation: the gate's and the value's filtered element, from the two products of a point and the rows carried over. -/
theorem act_at (t : Fin cfg0.N) (x0 : Vec Ideal S512x2048 .bf16) (x2 x3 : Vec Ideal S2048x512 .bf16) (x4 x5 : Vec Ideal S3x512 .f32)
    (x6 x7 : Vec Ideal S1x512 .f32) (v w : Vec Ideal S1x8x512 .f32) (r e : Fin 512) :
    act t x0 x2 x3 x4 x5 x6 x7 v w (ix2 r e)
      = gelu (tap (x7 (ix2 0 e)) (x5 (ix2 0 e)) (x5 (ix2 1 e)) (x5 (ix2 2 e))
          (back2 t (fun s => k0_pay12 x0 x3 (ix3 0 s e)) (fun s => w (ix3 0 s e)) r)
          (back1 t (fun s => k0_pay12 x0 x3 (ix3 0 s e)) (fun s => w (ix3 0 s e)) r) (k0_pay12 x0 x3 (ix3 0 r e)))
        * tap (x6 (ix2 0 e)) (x4 (ix2 0 e)) (x4 (ix2 1 e)) (x4 (ix2 2 e))
          (back2 t (fun s => k0_pay5 x0 x2 (ix3 0 s e)) (fun s => v (ix3 0 s e)) r)
          (back1 t (fun s => k0_pay5 x0 x2 (ix3 0 s e)) (fun s => v (ix3 0 s e)) r) (k0_pay5 x0 x2 (ix3 0 r e)) := by
  unfold act
  rw [pay21_at, pay11_at, pay16_at, pay18_at]

end Cert.Ffn

end
-- ==== Proof.Lin.Out.lean ====
/-
The output projection of the stick-breaking and the latent layer with its norms: the kernel's sum over the grid, its
results and its run.
-/
module

public import proofs.«01_k».proof.Proof.Gen.Kernel8Ideal.Frame
public import proofs.«01_k».proof.Proof.Ffn.Step
public import proofs.«01_k».proof.Proof.Lin.Math
public import Idealize.ShloMosaic.Lib.Pipeline.ValueKit.Geometry
public import Idealize.ShloMosaic.Lib.StableHlo.ReadAt
public import Idealize.ShloMosaic.Lib.Tactic

@[expose] public section

noncomputable section

namespace Cert.Lin.O

open Idealize.ShloMosaic Idealize.ShloMosaic.TcCoe Idealize.ShloMosaic.Tactic Idealize.SL.Sem
open Cert.Kernel8Ideal Cert.Kernel8Ideal.Gen

/-! ### What a grid point leaves -/

section Pieces

variable {F : FTy → Type} [FloatOps F] (m : (ℓ : Loc nD τ sig) → Buf (Elt F) ℓ)

/-- What the point before left in the sum. -/
abbrev prev (c : Dev nD) (t : Fin cfg0.N) : Vec F S512x2048 .f32 := (outsAt0 m c (t.val - 1) (Nat.lt_of_le_of_lt (Nat.sub_le _ _) t.isLt)).2.2

theorem read_s0 (h : (scM0_0).IsWhole) (X : Vec F S512x2048 .f32) :
    View.read (Elt F) (View.whole cc0_scratch0) (h.unread X) = X := Memref.IsWhole.read_unread _ _

theorem acc_A (c : Dev nD) (t : Fin cfg0.N) (h0 : t.val % 4 = 0) (h1 : ¬t.val % 4 = 3) :
    (outsAt0 m c t.val t.isLt).2.2 = k0_pay2 k0_pay1 (iblk m c 0 t) (iblk m c 1 t) := by
  rw [outsAt0_A m c t h0 h1]
  dsimp only
  unfold sout0_A_0
  rw [View.read_writes_junk_eq_canon]
  unfold kernelRun0_A
  dsimp only
  sl_unfold_words
  rw [View.canon_cons_unit_zero (S := S512x2048) z2]
  rw [View.readCov_unit_zero (S := S512x2048) _ z2]
  simp only [View.readAt_eq_ld, Memref.IsWhole.read_unread, View.ld_unit_zero (S := S512x2048) z2, View.ld_unit_zero (S := S512x512) z2, read_s0]

theorem acc_B (c : Dev nD) (t : Fin cfg0.N) (h0 : ¬t.val % 4 = 0) (h1 : ¬t.val % 4 = 3) :
    (outsAt0 m c t.val t.isLt).2.2 = k0_pay2 (prev m c t) (iblk m c 0 t) (iblk m c 1 t) := by
  rw [outsAt0_B m c t h0 h1]
  dsimp only
  unfold sout0_B_0
  rw [View.read_writes_junk_eq_canon]
  unfold kernelRun0_B
  dsimp only
  sl_unfold_words
  rw [View.canon_cons_unit_zero (S := S512x2048) z2]
  simp only [View.readAt_eq_ld, Memref.IsWhole.read_unread, View.ld_unit_zero (S := S512x2048) z2, View.ld_unit_zero (S := S512x512) z2, read_s0]

theorem acc_C (c : Dev nD) (t : Fin cfg0.N) (h0 : ¬t.val % 4 = 0) (h1 : t.val % 4 = 3) :
    (outsAt0 m c t.val t.isLt).2.2 = k0_pay2 (prev m c t) (iblk m c 0 t) (iblk m c 1 t) := by
  rw [outsAt0_C m c t h0 h1]
  dsimp only
  unfold sout0_C_0
  rw [View.read_writes_junk_eq_canon]
  unfold kernelRun0_C
  dsimp only
  sl_unfold_words
  rw [View.canon_cons_unit_zero (S := S512x2048) z2]
  simp only [View.readAt_eq_ld, Memref.IsWhole.read_unread, View.ld_unit_zero (S := S512x2048) z2, View.ld_unit_zero (S := S512x512) z2, read_s0]

theorem x_C (c : Dev nD) (t : Fin cfg0.N) (h0 : ¬t.val % 4 = 0) (h1 : t.val % 4 = 3) :
    (outsAt0 m c t.val t.isLt).1 = k0_pay3 (iblk m c 2 t) (outsAt0 m c t.val t.isLt).2.2 (iblk m c 3 t) := by
  rw [acc_C m c t h0 h1, outsAt0_C m c t h0 h1]
  dsimp only
  unfold out0_C_5
  rw [View.read_writes_junk_eq_canon]
  unfold kernelRun0_C
  dsimp only
  sl_unfold_words
  rw [View.canon_cons_unit_zero (S := S512x2048) z2, View.readCov_unit_zero (S := S512x2048) _ z2]
  simp only [View.readAt_eq_ld, Memref.IsWhole.read_unread, View.ld_unit_zero (S := S512x2048) z2, View.ld_unit_zero (S := S512x512) z2,
    View.ld_unit_zero (S := S1x2048) z2, read_s0]

theorem h_C (c : Dev nD) (t : Fin cfg0.N) (h0 : ¬t.val % 4 = 0) (h1 : t.val % 4 = 3) :
    (outsAt0 m c t.val t.isLt).2.1 = k0_pay4 (iblk m c 2 t) (outsAt0 m c t.val t.isLt).2.2 (iblk m c 3 t) (iblk m c 4 t) := by
  rw [acc_C m c t h0 h1, outsAt0_C m c t h0 h1]
  dsimp only
  unfold out0_C_6
  rw [View.read_writes_junk_eq_canon]
  unfold kernelRun0_C
  dsimp only
  sl_unfold_words
  rw [View.canon_cons_unit_zero (S := S512x2048) z2, View.readCov_unit_zero (S := S512x2048) _ z2]
  simp only [View.readAt_eq_ld, Memref.IsWhole.read_unread, View.ld_unit_zero (S := S512x2048) z2, View.ld_unit_zero (S := S512x512) z2,
    View.ld_unit_zero (S := S1x2048) z2, read_s0]

end Pieces

/-! ### The stored values at an index -/

theorem pay1_at (y : S512x2048.Idx) : k0_pay1 (F := Ideal) y = 0 := by
  pointwise [k0_pay1]

theorem pay2_at (x : Vec Ideal S512x2048 .f32) (a : Vec Ideal S512x512 .bf16) (w : Vec Ideal S512x2048 .bf16) (r : Fin 512) (d : Fin 2048) :
    k0_pay2 x a w (ix2 r d) = x (ix2 r d) + ∑ f : Fin 512, a (ix2 r f) * w (ix2 f d) := by
  pointwise [k0_pay2]

theorem pay3_at (x a : Vec Ideal S512x2048 .f32) (g : Vec Ideal S1x2048 .f32) (r : Fin 512) (d : Fin 2048) :
    k0_pay3 x a g (ix2 r d) = x (ix2 r d) + Cert.Ffn.norm (fun k => a (ix2 r k)) (fun k => g (ix2 0 k)) d := by
  pointwise [k0_pay3]
  rfl

theorem pay4_at (x a : Vec Ideal S512x2048 .f32) (g g' : Vec Ideal S1x2048 .f32) (r : Fin 512) (d : Fin 2048) :
    k0_pay4 x a g g' (ix2 r d) = Cert.Ffn.norm (fun k => k0_pay3 x a g (ix2 r k)) (fun k => g' (ix2 0 k)) d := by
  pointwise [k0_pay4]
  rfl

/-! ### The blocks a grid point reads -/

variable (m : (ℓ : Loc nD τ sig) → Buf (Elt Ideal) ℓ) (ρ : Dev nD → PrngReg) (c : Dev nD)

/-- The mixer's rows. -/
abbrev argA : S32768x2048.Idx → EReal := m ((c.tc : Thread nD τ).loc main_arg0)
/-- The weights. -/
abbrev argW : S2048x2048.Idx → EReal := m ((c.tc : Thread nD τ).loc main_arg1)
/-- The residual rows. -/
abbrev argX : S32768x2048.Idx → EReal := m ((c.tc : Thread nD τ).loc main_arg2)
/-- The post-norm's scale. -/
abbrev argG : S2048.Idx → EReal := m ((c.tc : Thread nD τ).loc main_arg3)
/-- The next norm's scale. -/
abbrev argG' : S2048.Idx → EReal := m ((c.tc : Thread nD τ).loc main_arg4)

theorem idx0 : ∀ t : Fin cfg0.N, win0_0.index t = ![t.val / 4, t.val % 4] := (by decide +kernel : ∀ t : Fin grid0.N, win0_0.index t = ![t.val / 4, t.val % 4])
theorem idx1 : ∀ t : Fin cfg0.N, win0_1.index t = ![t.val % 4, 0] := (by decide +kernel : ∀ t : Fin grid0.N, win0_1.index t = ![t.val % 4, 0])
theorem idx2 : ∀ t : Fin cfg0.N, win0_2.index t = ![t.val / 4, 0] := (by decide +kernel : ∀ t : Fin grid0.N, win0_2.index t = ![t.val / 4, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val / 4, 0] := (by decide +kernel : ∀ t : Fin grid0.N, win0_5.index t = ![t.val / 4, 0])
theorem idx6 : ∀ t : Fin cfg0.N, win0_6.index t = ![t.val / 4, 0] := (by decide +kernel : ∀ t : Fin grid0.N, win0_6.index t = ![t.val / 4, 0])
theorem covers5 : (cfg0.win 5).Covers := (by decide +kernel : win0_5.Covers)
theorem covers6 : (cfg0.win 6).Covers := (by decide +kernel : win0_6.Covers)

theorem lt_grid (t : Fin cfg0.N) : t.val < 256 := Nat.lt_of_lt_of_eq t.isLt N_0

variable (t : Fin cfg0.N)

theorem blk0 (r k : Fin 512) : iblk m c 0 t (ix2 r k)
    = argA m c (ix2 (Fin.ofNat 32768 (t.val / 4 * 512 + r.val)) (Fin.ofNat 2048 (t.val % 4 * 512 + k.val))) := by
  have ht := lt_grid t
  unfold iblk
  rw [show V m c (Pipeline.arrRef spec0 0) = m ((c : Thread nD τ).loc main_arg0) from V_main_arg0 m c]
  blk_simp [idx0 t]
  congr 1
  blk_ext [idx0 t]
  · rw [Fin.val_ofNat]; omega
  · rw [Fin.val_ofNat]; omega

theorem blk1 (k : Fin 512) (d : Fin 2048) : iblk m c 1 t (ix2 k d) = argW m c (ix2 (Fin.ofNat 2048 (t.val % 4 * 512 + k.val)) d) := by
  have ht := lt_grid t
  unfold iblk
  rw [show V m c (Pipeline.arrRef spec0 1) = m ((c : Thread nD τ).loc main_arg1) from V_main_arg1 m c]
  blk_simp [idx1 t]
  congr 1
  blk_ext [idx1 t]
  rw [Fin.val_ofNat]; omega

theorem blk2 (r : Fin 512) (d : Fin 2048) : iblk m c 2 t (ix2 r d) = argX m c (ix2 (Fin.ofNat 32768 (t.val / 4 * 512 + r.val)) d) := by
  have ht := lt_grid t
  unfold iblk
  rw [show V m c (Pipeline.arrRef spec0 2) = m ((c : Thread nD τ).loc main_arg2) from V_main_arg2 m c]
  blk_simp [idx2 t]
  congr 1
  blk_ext [idx2 t]
  rw [Fin.val_ofNat]; omega

/-- The post-norm's scale as one row. -/
theorem V_post (d : Fin 2048) : V m c main_v0 (ix2 0 d) = argG m c (ix1 d) := by
  unfold V
  simp only [hostOps0, List.flatten_cons, List.flatten_nil, List.append_nil]
  after_reads_at

/-- The next norm's scale as one row. -/
theorem V_next (d : Fin 2048) : V m c main_v1 (ix2 0 d) = argG' m c (ix1 d) := by
  unfold V
  simp only [hostOps0, List.flatten_cons, List.flatten_nil, List.append_nil]
  after_reads_at

theorem blk3 (d : Fin 2048) : iblk m c 3 t (ix2 0 d) = argG m c (ix1 d) := by
  refine Eq.trans ?_ (V_post m c d)
  unfold iblk
  blk_simp [idx3 t]
  congr 1
  blk_ext [idx3 t]

theorem blk4 (d : Fin 2048) : iblk m c 4 t (ix2 0 d) = argG' m c (ix1 d) := by
  refine Eq.trans ?_ (V_next m c d)
  unfold iblk
  blk_simp [idx4 t]
  congr 1
  blk_ext [idx4 t]

/-! ### The sum over the grid's last axis -/

theorem acc_step (h : t.val % 4 ≠ 0 → ∀ (r : Fin 512) (d : Fin 2048), prev m c t (ix2 r d)
      = cut (argA m c) (argW m c) ((t.val - 1) / 4 * 512 + r.val) (512 * ((t.val - 1) % 4 + 1)) d) (r : Fin 512) (d : Fin 2048) :
    (outsAt0 m c t.val t.isLt).2.2 (ix2 r d) = cut (argA m c) (argW m c) (t.val / 4 * 512 + r.val) (512 * (t.val % 4 + 1)) d := by
  obtain ⟨a, ha, ha', he⟩ : ∃ a : Vec Ideal S512x2048 .f32, (t.val % 4 = 0 → a = k0_pay1 (F := Ideal)) ∧ (t.val % 4 ≠ 0 → a = prev m c t) ∧
      (outsAt0 m c t.val t.isLt).2.2 = k0_pay2 a (iblk m c 0 t) (iblk m c 1 t) := by
    by_cases h0 : t.val % 4 = 0
    · exact ⟨k0_pay1 (F := Ideal), fun _ => rfl, fun h => absurd h0 h, acc_A m c t h0 (by omega)⟩
    · by_cases h1 : t.val % 4 = 3
      · exact ⟨_, fun h => absurd h h0, fun _ => rfl, acc_C m c t h0 h1⟩
      · exact ⟨_, fun h => absurd h h0, fun _ => rfl, acc_B m c t h0 h1⟩
  rw [he, pay2_at]
  refine Eq.trans ?_ (cut_step _ _ _ _ _).symm
  refine congrArg₂ (· + ·) ?_ (Finset.sum_congr rfl fun f _ => congrArg₂ (· * ·) (blk0 m c t r f) (blk1 m c t f d))
  by_cases h0 : t.val % 4 = 0
  · rw [ha h0, pay1_at, h0, Nat.mul_zero]
    exact (cut_zero _ _ _ _).symm
  · rw [ha' h0, h h0, show (t.val - 1) / 4 = t.val / 4 by omega, show (t.val - 1) % 4 + 1 = t.val % 4 by omega]

theorem acc (n : ℕ) : ∀ (hn : n < cfg0.N) (r : Fin 512) (d : Fin 2048),
    (outsAt0 m c n hn).2.2 (ix2 r d) = cut (argA m c) (argW m c) (n / 4 * 512 + r.val) (512 * (n % 4 + 1)) d := by
  induction n with
  | zero => exact fun hn => acc_step m c ⟨0, hn⟩ fun h => absurd rfl h
  | succ n ih => exact fun hn => acc_step m c ⟨n + 1, hn⟩ fun _ => ih _

/-! ### The results -/

/-- Row `n` of the first result: the residual and the normed product. -/
def row (a : S32768x2048.Idx → EReal) (w : S2048x2048.Idx → EReal) (x : S32768x2048.Idx → EReal) (g : S2048.Idx → EReal) (n : ℕ)
    (d : Fin 2048) : EReal :=
  x (ix2 (Fin.ofNat 32768 n) d) + Cert.Ffn.norm (fun k => cut a w n 2048 k) (fun k => g (ix1 k)) d

/-- The first result. -/
def rows (a : S32768x2048.Idx → EReal) (w : S2048x2048.Idx → EReal) (x : S32768x2048.Idx → EReal) (g : S2048.Idx → EReal) :
    S32768x2048.Idx → EReal := fun y => row a w x g (y 0).val (y 1)

/-- The second result: the first one's rows, normed. -/
def normed (a : S32768x2048.Idx → EReal) (w : S2048x2048.Idx → EReal) (x : S32768x2048.Idx → EReal) (g g' : S2048.Idx → EReal) :
    S32768x2048.Idx → EReal := fun y => Cert.Ffn.norm (row a w x g (y 0).val) (fun k => g' (ix1 k)) (y 1)

theorem x_at (h : t.val % 4 = 3) (r : Fin 512) (d : Fin 2048) :
    k0_pay3 (iblk m c 2 t) (outsAt0 m c t.val t.isLt).2.2 (iblk m c 3 t) (ix2 r d)
      = row (argA m c) (argW m c) (argX m c) (argG m c) (t.val / 4 * 512 + r.val) d := by
  rw [pay3_at, blk2]
  unfold row
  refine congrArg (fun z => argX m c (ix2 (Fin.ofNat 32768 (t.val / 4 * 512 + r.val)) d) + z) ?_
  refine congrArg₂ (fun a b => Cert.Ffn.norm a b d) (funext fun k => ?_) (funext fun k => blk3 m c t k)
  rw [acc, h]

theorem emb5_0 (y : S512x2048.Idx) : (((cfg0.win 5).blk t).view.emb y 0).val = t.val / 4 * 512 + (y 0).val := by blk_simp [idx5 t]
theorem emb5_1 (y : S512x2048.Idx) : (((cfg0.win 5).blk t).view.emb y 1).val = (y 1).val := by blk_simp [idx5 t]
theorem emb6_0 (y : S512x2048.Idx) : (((cfg0.win 6).blk t).view.emb y 0).val = t.val / 4 * 512 + (y 0).val := by blk_simp [idx6 t]
theorem emb6_1 (y : S512x2048.Idx) : (((cfg0.win 6).blk t).view.emb y 1).val = (y 1).val := by blk_simp [idx6 t]

theorem final5 : (dats m 0 c).arrAt 5 cfg0.N = rows (argA m c) (argW m c) (argX m c) (argG m c) := by
  refine (dats m 0 c).arrAt_eq_of_covers 5 (rows (argA m c) (argW m c) (argX m c) (argG m c)) covers5 fun t hf y => ?_
  refine (congrFun (after0_5 m c t) y).trans ?_
  have h := (flush0_5 t).mp hf
  have e0 := emb5_0 t y
  have e1 := emb5_1 t y
  revert e0 e1
  generalize ((cfg0.win 5).blk t).view.emb y = i
  intro e0 e1
  obtain ⟨r, d, rfl⟩ : ∃ (r : Fin 512) (d : Fin 2048), y = ix2 r d := ⟨y 0, y 1, eq_ix2 y⟩
  rw [x_C m c t (by omega) h]
  refine (x_at m c t h r d).trans ?_
  show _ = row (argA m c) (argW m c) (argX m c) (argG m c) (i 0).val (i 1)
  rw [e0]
  exact congrArg _ (Fin.ext e1.symm)

theorem final6 : (dats m 0 c).arrAt 6 cfg0.N = normed (argA m c) (argW m c) (argX m c) (argG m c) (argG' m c) := by
  refine (dats m 0 c).arrAt_eq_of_covers 6 (normed (argA m c) (argW m c) (argX m c) (argG m c) (argG' m c)) covers6 fun t hf y => ?_
  refine (congrFun (after0_6 m c t) y).trans ?_
  have h := (flush0_6 t).mp hf
  have e0 := emb6_0 t y
  have e1 := emb6_1 t y
  revert e0 e1
  generalize ((cfg0.win 6).blk t).view.emb y = i
  intro e0 e1
  obtain ⟨r, d, rfl⟩ : ∃ (r : Fin 512) (d : Fin 2048), y = ix2 r d := ⟨y 0, y 1, eq_ix2 y⟩
  rw [h_C m c t (by omega) h, pay4_at]
  show _ = Cert.Ffn.norm (row (argA m c) (argW m c) (argX m c) (argG m c) (i 0).val) (fun k => argG' m c (ix1 k)) (i 1)
  rw [e0, show i 1 = d from Fin.ext e1]
  exact congrArg₂ (fun a b => Cert.Ffn.norm a b d) (funext fun k => x_at m c t h r k) (funext fun k => blk4 m c t k)

/-- The run: the results hold `rows` and `normed`, the arguments are unchanged. -/
theorem run : θ_run defs (onTc (τ := τ) (main (F := Ideal))) ⟨m, fun _ => 0, ρ⟩ fun r => ∀ c : Dev nD,
      r.2.mem ((c.tc : Thread nD τ).loc main_v2_0) = rows (argA m c) (argW m c) (argX m c) (argG m c)
      ∧ r.2.mem ((c.tc : Thread nD τ).loc main_v2_1) = normed (argA m c) (argW m c) (argX m c) (argG m c) (argG' m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final5 m c), ((h c).1 6).trans (final6 m c),
    ((h c).1 0).trans (((dats m 0 c).arrAt_in 0 rfl _).trans (V_main_arg0 m c)),
    ((h c).1 1).trans (((dats m 0 c).arrAt_in 1 rfl _).trans (V_main_arg1 m c)),
    ((h c).1 2).trans (((dats m 0 c).arrAt_in 2 rfl _).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩)
    (run_main m ρ)

end Cert.Lin.O

end
-- ==== Proof.Lin.OutRef.lean ====
/-
The reference of the output projection: its results are the kernel's.
-/
module

public import proofs.«01_k».proof.Proof.Gen.Reference8Ideal.Run
public import proofs.«01_k».proof.Proof.Lin.Out

@[expose] public section

noncomputable section

namespace Cert.Lin.O.Ref

open Idealize.ShloMosaic Idealize.ShloMosaic.TcCoe Cert.Reference8Ideal Cert.Reference8Ideal.Gen

/-- The product. -/
def mul (a : FVec Ideal S32768x2048 .bf16) (w : FVec Ideal S2048x2048 .bf16) : FVec Ideal S32768x2048 .f32 :=
  Host.dotGeneral dot_S32768x2048_S2048x2048_S32768x2048_1_0_0_1_n_n none (extf .f32 a bitsLt_bf16_f32) (extf .f32 w bitsLt_bf16_f32)

/-- The norm. -/
def nrm (y : FVec Ideal S32768x2048 .f32) (g : FVec Ideal S2048 .f32) : FVec Ideal S32768x2048 .f32 :=
  mulf (mulf y (broadcastInDim S32768x2048 ![0, 1] bcast_S32768x1_S32768x2048_0_1 (Host.rsqrt (addf (Host.divf
    (broadcastInDim S32768x1 ![0] bcast_S32768_S32768x1_0
      (Host.reduceAdd (mulf y y) (constant S_ .f32 0x00000000#32) reducesTo_S32768x2048_S32768_d1 h_S_))
    (broadcastInDim S32768x1 ![] bcast_S_S32768x1 (constant S_ .f32 0x45000000#32)))
    (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 g))

theorem nrm_at (y : FVec Ideal S32768x2048 .f32) (g : FVec Ideal S2048 .f32) (n : Fin 32768) (d : Fin 2048) :
    nrm y g (ix2 n d) = Cert.Ffn.norm (fun k => y (ix2 n k)) (fun k => g (ix1 k)) d := by
  pointwise [nrm]
  rfl

theorem mul_at (a : FVec Ideal S32768x2048 .bf16) (w : FVec Ideal S2048x2048 .bf16) (n : Fin 32768) (d : Fin 2048) :
    mul a w (ix2 n d) = cut a w n.val 2048 d := by
  refine Eq.trans ?_ (cut_full a w n.val n d rfl).symm
  pointwise [mul]

theorem rows_at (a : FVec Ideal S32768x2048 .bf16) (w : FVec Ideal S2048x2048 .bf16) (x : FVec Ideal S32768x2048 .f32)
    (g : FVec Ideal S2048 .f32) (n : Fin 32768) (d : Fin 2048) :
    addf x (nrm (mul a w) g) (ix2 n d) = row a w x g n.val d := by
  have key : addf x (nrm (mul a w) g) (ix2 n d) = (x (ix2 n d) : EReal) + nrm (mul a w) g (ix2 n d) := by
    pointwise []
  rw [key, nrm_at]
  unfold row
  rw [ofNat_self]
  simp only [mul_at]

theorem rows_eq (a : FVec Ideal S32768x2048 .bf16) (w : FVec Ideal S2048x2048 .bf16) (x : FVec Ideal S32768x2048 .f32)
    (g : FVec Ideal S2048 .f32) : addf x (nrm (mul a w) g) = rows a w x g := by
  funext y
  obtain ⟨n, d, rfl⟩ : ∃ (n : Fin 32768) (d : Fin 2048), y = ix2 n d := ⟨y 0, y 1, eq_ix2 y⟩
  exact rows_at a w x g n d

theorem normed_eq (a : FVec Ideal S32768x2048 .bf16) (w : FVec Ideal S2048x2048 .bf16) (x : FVec Ideal S32768x2048 .f32)
    (g g' : FVec Ideal S2048 .f32) : truncf .bf16 (nrm (addf x (nrm (mul a w) g)) g') bitsLt_bf16_f32 = normed a w x g g' := by
  funext y
  obtain ⟨n, d, rfl⟩ : ∃ (n : Fin 32768) (d : Fin 2048), y = ix2 n d := ⟨y 0, y 1, eq_ix2 y⟩
  have key : truncf .bf16 (nrm (addf x (nrm (mul a w) g)) g') bitsLt_bf16_f32 (ix2 n d)
      = nrm (addf x (nrm (mul a w) g)) g' (ix2 n d) := by
    pointwise []
  rw [key, nrm_at]
  exact congrArg (fun z => Cert.Ffn.norm z _ d) (funext fun k => rows_at a w x g n k)

/-- The reference's run: its results are the kernel's `rows` and `normed`, the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = rows (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v30) = normed (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (rows_eq _ _ _ _), (h c).2.1.trans (normed_eq _ _ _ _ _), (h c).2.2⟩) (Value.run m ρ)

end Cert.Lin.O.Ref

end
-- ==== Proof.Lin.RetOut.lean ====
/-
The output projection of the retention layer with its norms: the kernel's sum over the grid, its results and its run.
-/
module

public import proofs.«01_k».proof.Proof.Gen.Kernel9Ideal.Frame
public import proofs.«01_k».proof.Proof.Ffn.Step
public import proofs.«01_k».proof.Proof.Lin.Math
public import Idealize.ShloMosaic.Lib.Pipeline.ValueKit.Geometry
public import Idealize.ShloMosaic.Lib.StableHlo.ReadAt
public import Idealize.ShloMosaic.Lib.Tactic

@[expose] public section

noncomputable section

namespace Cert.Lin.RO

open Idealize.ShloMosaic Idealize.ShloMosaic.TcCoe Idealize.ShloMosaic.Tactic Idealize.SL.Sem
open Cert.Kernel9Ideal Cert.Kernel9Ideal.Gen

/-! ### What a grid point leaves -/

section Pieces

variable {F : FTy → Type} [FloatOps F] (m : (ℓ : Loc nD τ sig) → Buf (Elt F) ℓ)

/-- What the point before left in the sum. -/
abbrev prev (c : Dev nD) (t : Fin cfg0.N) : Vec F S512x2048 .f32 := (outsAt0 m c (t.val - 1) (Nat.lt_of_le_of_lt (Nat.sub_le _ _) t.isLt)).2.2

theorem read_s0 (h : (scM0_0).IsWhole) (X : Vec F S512x2048 .f32) :
    View.read (Elt F) (View.whole cc0_scratch0) (h.unread X) = X := Memref.IsWhole.read_unread _ _

theorem acc_A (c : Dev nD) (t : Fin cfg0.N) (h0 : t.val % 8 = 0) (h1 : ¬t.val % 8 = 7) :
    (outsAt0 m c t.val t.isLt).2.2 = k0_pay2 k0_pay1 (iblk m c 0 t) (iblk m c 1 t) := by
  rw [outsAt0_A m c t h0 h1]
  dsimp only
  unfold sout0_A_0
  rw [View.read_writes_junk_eq_canon]
  unfold kernelRun0_A
  dsimp only
  sl_unfold_words
  rw [View.canon_cons_unit_zero (S := S512x2048) z2]
  rw [View.readCov_unit_zero (S := S512x2048) _ z2]
  simp only [View.readAt_eq_ld, Memref.IsWhole.read_unread, View.ld_unit_zero (S := S512x2048) z2, View.ld_unit_zero (S := S512x512) z2, read_s0]

theorem acc_B (c : Dev nD) (t : Fin cfg0.N) (h0 : ¬t.val % 8 = 0) (h1 : ¬t.val % 8 = 7) :
    (outsAt0 m c t.val t.isLt).2.2 = k0_pay2 (prev m c t) (iblk m c 0 t) (iblk m c 1 t) := by
  rw [outsAt0_B m c t h0 h1]
  dsimp only
  unfold sout0_B_0
  rw [View.read_writes_junk_eq_canon]
  unfold kernelRun0_B
  dsimp only
  sl_unfold_words
  rw [View.canon_cons_unit_zero (S := S512x2048) z2]
  simp only [View.readAt_eq_ld, Memref.IsWhole.read_unread, View.ld_unit_zero (S := S512x2048) z2, View.ld_unit_zero (S := S512x512) z2, read_s0]

theorem acc_C (c : Dev nD) (t : Fin cfg0.N) (h0 : ¬t.val % 8 = 0) (h1 : t.val % 8 = 7) :
    (outsAt0 m c t.val t.isLt).2.2 = k0_pay2 (prev m c t) (iblk m c 0 t) (iblk m c 1 t) := by
  rw [outsAt0_C m c t h0 h1]
  dsimp only
  unfold sout0_C_0
  rw [View.read_writes_junk_eq_canon]
  unfold kernelRun0_C
  dsimp only
  sl_unfold_words
  rw [View.canon_cons_unit_zero (S := S512x2048) z2]
  simp only [View.readAt_eq_ld, Memref.IsWhole.read_unread, View.ld_unit_zero (S := S512x2048) z2, View.ld_unit_zero (S := S512x512) z2, read_s0]

theorem x_C (c : Dev nD) (t : Fin cfg0.N) (h0 : ¬t.val % 8 = 0) (h1 : t.val % 8 = 7) :
    (outsAt0 m c t.val t.isLt).1 = k0_pay3 (iblk m c 2 t) (outsAt0 m c t.val t.isLt).2.2 (iblk m c 3 t) := by
  rw [acc_C m c t h0 h1, outsAt0_C m c t h0 h1]
  dsimp only
  unfold out0_C_5
  rw [View.read_writes_junk_eq_canon]
  unfold kernelRun0_C
  dsimp only
  sl_unfold_words
  rw [View.canon_cons_unit_zero (S := S512x2048) z2, View.readCov_unit_zero (S := S512x2048) _ z2]
  simp only [View.readAt_eq_ld, Memref.IsWhole.read_unread, View.ld_unit_zero (S := S512x2048) z2, View.ld_unit_zero (S := S512x512) z2,
    View.ld_unit_zero (S := S1x2048) z2, read_s0]

theorem h_C (c : Dev nD) (t : Fin cfg0.N) (h0 : ¬t.val % 8 = 0) (h1 : t.val % 8 = 7) :
    (outsAt0 m c t.val t.isLt).2.1 = k0_pay4 (iblk m c 2 t) (outsAt0 m c t.val t.isLt).2.2 (iblk m c 3 t) (iblk m c 4 t) := by
  rw [acc_C m c t h0 h1, outsAt0_C m c t h0 h1]
  dsimp only
  unfold out0_C_6
  rw [View.read_writes_junk_eq_canon]
  unfold kernelRun0_C
  dsimp only
  sl_unfold_words
  rw [View.canon_cons_unit_zero (S := S512x2048) z2, View.readCov_unit_zero (S := S512x2048) _ z2]
  simp only [View.readAt_eq_ld, Memref.IsWhole.read_unread, View.ld_unit_zero (S := S512x2048) z2, View.ld_unit_zero (S := S512x512) z2,
    View.ld_unit_zero (S := S1x2048) z2, read_s0]

end Pieces

/-! ### The stored values at an index -/

theorem pay1_at (y : S512x2048.Idx) : k0_pay1 (F := Ideal) y = 0 := by
  pointwise [k0_pay1]

theorem pay2_at (x : Vec Ideal S512x2048 .f32) (a : Vec Ideal S512x512 .bf16) (w : Vec Ideal S512x2048 .bf16) (r : Fin 512) (d : Fin 2048) :
    k0_pay2 x a w (ix2 r d) = x (ix2 r d) + ∑ f : Fin 512, a (ix2 r f) * w (ix2 f d) := by
  pointwise [k0_pay2]

theorem pay3_at (x a : Vec Ideal S512x2048 .f32) (g : Vec Ideal S1x2048 .f32) (r : Fin 512) (d : Fin 2048) :
    k0_pay3 x a g (ix2 r d) = x (ix2 r d) + Cert.Ffn.norm (fun k => a (ix2 r k)) (fun k => g (ix2 0 k)) d := by
  pointwise [k0_pay3]
  rfl

theorem pay4_at (x a : Vec Ideal S512x2048 .f32) (g g' : Vec Ideal S1x2048 .f32) (r : Fin 512) (d : Fin 2048) :
    k0_pay4 x a g g' (ix2 r d) = Cert.Ffn.norm (fun k => k0_pay3 x a g (ix2 r k)) (fun k => g' (ix2 0 k)) d := by
  pointwise [k0_pay4]
  rfl

/-! ### The blocks a grid point reads -/

variable (m : (ℓ : Loc nD τ sig) → Buf (Elt Ideal) ℓ) (ρ : Dev nD → PrngReg) (c : Dev nD)

/-- The mixer's rows. -/
abbrev argA : S32768x4096.Idx → EReal := m ((c.tc : Thread nD τ).loc main_arg0)
/-- The weights. -/
abbrev argW : S4096x2048.Idx → EReal := m ((c.tc : Thread nD τ).loc main_arg1)
/-- The residual rows. -/
abbrev argX : S32768x2048.Idx → EReal := m ((c.tc : Thread nD τ).loc main_arg2)
/-- The post-norm's scale. -/
abbrev argG : S2048.Idx → EReal := m ((c.tc : Thread nD τ).loc main_arg3)
/-- The next norm's scale. -/
abbrev argG' : S2048.Idx → EReal := m ((c.tc : Thread nD τ).loc main_arg4)

theorem idx0 : ∀ t : Fin cfg0.N, win0_0.index t = ![t.val / 8, t.val % 8] := (by decide +kernel : ∀ t : Fin grid0.N, win0_0.index t = ![t.val / 8, t.val % 8])
theorem idx1 : ∀ t : Fin cfg0.N, win0_1.index t = ![t.val % 8, 0] := (by decide +kernel : ∀ t : Fin grid0.N, win0_1.index t = ![t.val % 8, 0])
theorem idx2 : ∀ t : Fin cfg0.N, win0_2.index t = ![t.val / 8, 0] := (by decide +kernel : ∀ t : Fin grid0.N, win0_2.index t = ![t.val / 8, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val / 8, 0] := (by decide +kernel : ∀ t : Fin grid0.N, win0_5.index t = ![t.val / 8, 0])
theorem idx6 : ∀ t : Fin cfg0.N, win0_6.index t = ![t.val / 8, 0] := (by decide +kernel : ∀ t : Fin grid0.N, win0_6.index t = ![t.val / 8, 0])
theorem covers5 : (cfg0.win 5).Covers := (by decide +kernel : win0_5.Covers)
theorem covers6 : (cfg0.win 6).Covers := (by decide +kernel : win0_6.Covers)

theorem lt_grid (t : Fin cfg0.N) : t.val < 512 := Nat.lt_of_lt_of_eq t.isLt N_0

variable (t : Fin cfg0.N)

theorem blk0 (r k : Fin 512) : iblk m c 0 t (ix2 r k)
    = argA m c (ix2 (Fin.ofNat 32768 (t.val / 8 * 512 + r.val)) (Fin.ofNat 4096 (t.val % 8 * 512 + k.val))) := by
  have ht := lt_grid t
  unfold iblk
  rw [show V m c (Pipeline.arrRef spec0 0) = m ((c : Thread nD τ).loc main_arg0) from V_main_arg0 m c]
  blk_simp [idx0 t]
  congr 1
  blk_ext [idx0 t]
  · rw [Fin.val_ofNat]; omega
  · rw [Fin.val_ofNat]; omega

theorem blk1 (k : Fin 512) (d : Fin 2048) : iblk m c 1 t (ix2 k d) = argW m c (ix2 (Fin.ofNat 4096 (t.val % 8 * 512 + k.val)) d) := by
  have ht := lt_grid t
  unfold iblk
  rw [show V m c (Pipeline.arrRef spec0 1) = m ((c : Thread nD τ).loc main_arg1) from V_main_arg1 m c]
  blk_simp [idx1 t]
  congr 1
  blk_ext [idx1 t]
  rw [Fin.val_ofNat]; omega

theorem blk2 (r : Fin 512) (d : Fin 2048) : iblk m c 2 t (ix2 r d) = argX m c (ix2 (Fin.ofNat 32768 (t.val / 8 * 512 + r.val)) d) := by
  have ht := lt_grid t
  unfold iblk
  rw [show V m c (Pipeline.arrRef spec0 2) = m ((c : Thread nD τ).loc main_arg2) from V_main_arg2 m c]
  blk_simp [idx2 t]
  congr 1
  blk_ext [idx2 t]
  rw [Fin.val_ofNat]; omega

/-- The post-norm's scale as one row. -/
theorem V_post (d : Fin 2048) : V m c main_v0 (ix2 0 d) = argG m c (ix1 d) := by
  unfold V
  simp only [hostOps0, List.flatten_cons, List.flatten_nil, List.append_nil]
  after_reads_at

/-- The next norm's scale as one row. -/
theorem V_next (d : Fin 2048) : V m c main_v1 (ix2 0 d) = argG' m c (ix1 d) := by
  unfold V
  simp only [hostOps0, List.flatten_cons, List.flatten_nil, List.append_nil]
  after_reads_at

theorem blk3 (d : Fin 2048) : iblk m c 3 t (ix2 0 d) = argG m c (ix1 d) := by
  refine Eq.trans ?_ (V_post m c d)
  unfold iblk
  blk_simp [idx3 t]
  congr 1
  blk_ext [idx3 t]

theorem blk4 (d : Fin 2048) : iblk m c 4 t (ix2 0 d) = argG' m c (ix1 d) := by
  refine Eq.trans ?_ (V_next m c d)
  unfold iblk
  blk_simp [idx4 t]
  congr 1
  blk_ext [idx4 t]

/-! ### The sum over the grid's last axis -/

theorem acc_step (h : t.val % 8 ≠ 0 → ∀ (r : Fin 512) (d : Fin 2048), prev m c t (ix2 r d)
      = cut (argA m c) (argW m c) ((t.val - 1) / 8 * 512 + r.val) (512 * ((t.val - 1) % 8 + 1)) d) (r : Fin 512) (d : Fin 2048) :
    (outsAt0 m c t.val t.isLt).2.2 (ix2 r d) = cut (argA m c) (argW m c) (t.val / 8 * 512 + r.val) (512 * (t.val % 8 + 1)) d := by
  obtain ⟨a, ha, ha', he⟩ : ∃ a : Vec Ideal S512x2048 .f32, (t.val % 8 = 0 → a = k0_pay1 (F := Ideal)) ∧ (t.val % 8 ≠ 0 → a = prev m c t) ∧
      (outsAt0 m c t.val t.isLt).2.2 = k0_pay2 a (iblk m c 0 t) (iblk m c 1 t) := by
    by_cases h0 : t.val % 8 = 0
    · exact ⟨k0_pay1 (F := Ideal), fun _ => rfl, fun h => absurd h0 h, acc_A m c t h0 (by omega)⟩
    · by_cases h1 : t.val % 8 = 7
      · exact ⟨_, fun h => absurd h h0, fun _ => rfl, acc_C m c t h0 h1⟩
      · exact ⟨_, fun h => absurd h h0, fun _ => rfl, acc_B m c t h0 h1⟩
  rw [he, pay2_at]
  refine Eq.trans ?_ (cut_step _ _ _ _ _).symm
  refine congrArg₂ (· + ·) ?_ (Finset.sum_congr rfl fun f _ => congrArg₂ (· * ·) (blk0 m c t r f) (blk1 m c t f d))
  by_cases h0 : t.val % 8 = 0
  · rw [ha h0, pay1_at, h0, Nat.mul_zero]
    exact (cut_zero _ _ _ _).symm
  · rw [ha' h0, h h0, show (t.val - 1) / 8 = t.val / 8 by omega, show (t.val - 1) % 8 + 1 = t.val % 8 by omega]

theorem acc (n : ℕ) : ∀ (hn : n < cfg0.N) (r : Fin 512) (d : Fin 2048),
    (outsAt0 m c n hn).2.2 (ix2 r d) = cut (argA m c) (argW m c) (n / 8 * 512 + r.val) (512 * (n % 8 + 1)) d := by
  induction n with
  | zero => exact fun hn => acc_step m c ⟨0, hn⟩ fun h => absurd rfl h
  | succ n ih => exact fun hn => acc_step m c ⟨n + 1, hn⟩ fun _ => ih _

/-! ### The results -/

/-- Row `n` of the first result: the residual and the normed product. -/
def row (a : S32768x4096.Idx → EReal) (w : S4096x2048.Idx → EReal) (x : S32768x2048.Idx → EReal) (g : S2048.Idx → EReal) (n : ℕ)
    (d : Fin 2048) : EReal :=
  x (ix2 (Fin.ofNat 32768 n) d) + Cert.Ffn.norm (fun k => cut a w n 4096 k) (fun k => g (ix1 k)) d

/-- The first result. -/
def rows (a : S32768x4096.Idx → EReal) (w : S4096x2048.Idx → EReal) (x : S32768x2048.Idx → EReal) (g : S2048.Idx → EReal) :
    S32768x2048.Idx → EReal := fun y => row a w x g (y 0).val (y 1)

/-- The second result: the first one's rows, normed. -/
def normed (a : S32768x4096.Idx → EReal) (w : S4096x2048.Idx → EReal) (x : S32768x2048.Idx → EReal) (g g' : S2048.Idx → EReal) :
    S32768x2048.Idx → EReal := fun y => Cert.Ffn.norm (row a w x g (y 0).val) (fun k => g' (ix1 k)) (y 1)

theorem x_at (h : t.val % 8 = 7) (r : Fin 512) (d : Fin 2048) :
    k0_pay3 (iblk m c 2 t) (outsAt0 m c t.val t.isLt).2.2 (iblk m c 3 t) (ix2 r d)
      = row (argA m c) (argW m c) (argX m c) (argG m c) (t.val / 8 * 512 + r.val) d := by
  rw [pay3_at, blk2]
  unfold row
  refine congrArg (fun z => argX m c (ix2 (Fin.ofNat 32768 (t.val / 8 * 512 + r.val)) d) + z) ?_
  refine congrArg₂ (fun a b => Cert.Ffn.norm a b d) (funext fun k => ?_) (funext fun k => blk3 m c t k)
  rw [acc, h]

theorem emb5_0 (y : S512x2048.Idx) : (((cfg0.win 5).blk t).view.emb y 0).val = t.val / 8 * 512 + (y 0).val := by blk_simp [idx5 t]
theorem emb5_1 (y : S512x2048.Idx) : (((cfg0.win 5).blk t).view.emb y 1).val = (y 1).val := by blk_simp [idx5 t]
theorem emb6_0 (y : S512x2048.Idx) : (((cfg0.win 6).blk t).view.emb y 0).val = t.val / 8 * 512 + (y 0).val := by blk_simp [idx6 t]
theorem emb6_1 (y : S512x2048.Idx) : (((cfg0.win 6).blk t).view.emb y 1).val = (y 1).val := by blk_simp [idx6 t]

theorem final5 : (dats m 0 c).arrAt 5 cfg0.N = rows (argA m c) (argW m c) (argX m c) (argG m c) := by
  refine (dats m 0 c).arrAt_eq_of_covers 5 (rows (argA m c) (argW m c) (argX m c) (argG m c)) covers5 fun t hf y => ?_
  refine (congrFun (after0_5 m c t) y).trans ?_
  have h := (flush0_5 t).mp hf
  have e0 := emb5_0 t y
  have e1 := emb5_1 t y
  revert e0 e1
  generalize ((cfg0.win 5).blk t).view.emb y = i
  intro e0 e1
  obtain ⟨r, d, rfl⟩ : ∃ (r : Fin 512) (d : Fin 2048), y = ix2 r d := ⟨y 0, y 1, eq_ix2 y⟩
  rw [x_C m c t (by omega) h]
  refine (x_at m c t h r d).trans ?_
  show _ = row (argA m c) (argW m c) (argX m c) (argG m c) (i 0).val (i 1)
  rw [e0]
  exact congrArg _ (Fin.ext e1.symm)

theorem final6 : (dats m 0 c).arrAt 6 cfg0.N = normed (argA m c) (argW m c) (argX m c) (argG m c) (argG' m c) := by
  refine (dats m 0 c).arrAt_eq_of_covers 6 (normed (argA m c) (argW m c) (argX m c) (argG m c) (argG' m c)) covers6 fun t hf y => ?_
  refine (congrFun (after0_6 m c t) y).trans ?_
  have h := (flush0_6 t).mp hf
  have e0 := emb6_0 t y
  have e1 := emb6_1 t y
  revert e0 e1
  generalize ((cfg0.win 6).blk t).view.emb y = i
  intro e0 e1
  obtain ⟨r, d, rfl⟩ : ∃ (r : Fin 512) (d : Fin 2048), y = ix2 r d := ⟨y 0, y 1, eq_ix2 y⟩
  rw [h_C m c t (by omega) h, pay4_at]
  show _ = Cert.Ffn.norm (row (argA m c) (argW m c) (argX m c) (argG m c) (i 0).val) (fun k => argG' m c (ix1 k)) (i 1)
  rw [e0, show i 1 = d from Fin.ext e1]
  exact congrArg₂ (fun a b => Cert.Ffn.norm a b d) (funext fun k => x_at m c t h r k) (funext fun k => blk4 m c t k)

/-- The run: the results hold `rows` and `normed`, the arguments are unchanged. -/
theorem run : θ_run defs (onTc (τ := τ) (main (F := Ideal))) ⟨m, fun _ => 0, ρ⟩ fun r => ∀ c : Dev nD,
      r.2.mem ((c.tc : Thread nD τ).loc main_v2_0) = rows (argA m c) (argW m c) (argX m c) (argG m c)
      ∧ r.2.mem ((c.tc : Thread nD τ).loc main_v2_1) = normed (argA m c) (argW m c) (argX m c) (argG m c) (argG' m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final5 m c), ((h c).1 6).trans (final6 m c),
    ((h c).1 0).trans (((dats m 0 c).arrAt_in 0 rfl _).trans (V_main_arg0 m c)),
    ((h c).1 1).trans (((dats m 0 c).arrAt_in 1 rfl _).trans (V_main_arg1 m c)),
    ((h c).1 2).trans (((dats m 0 c).arrAt_in 2 rfl _).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩)
    (run_main m ρ)

end Cert.Lin.RO

end
-- ==== Proof.Lin.RetOutRef.lean ====
/-
The reference of the retention layer's output projection: its results are the kernel's.
-/
module

public import proofs.«01_k».proof.Proof.Gen.Reference9Ideal.Run
public import proofs.«01_k».proof.Proof.Lin.RetOut

@[expose] public section

noncomputable section

namespace Cert.Lin.RO.Ref

open Idealize.ShloMosaic Idealize.ShloMosaic.TcCoe Cert.Reference9Ideal Cert.Reference9Ideal.Gen

/-- The product. -/
def mul (a : FVec Ideal S32768x4096 .bf16) (w : FVec Ideal S4096x2048 .bf16) : FVec Ideal S32768x2048 .f32 :=
  Host.dotGeneral dot_S32768x4096_S4096x2048_S32768x2048_1_0_0_1_n_n none (extf .f32 a bitsLt_bf16_f32) (extf .f32 w bitsLt_bf16_f32)

/-- The norm. -/
def nrm (y : FVec Ideal S32768x2048 .f32) (g : FVec Ideal S2048 .f32) : FVec Ideal S32768x2048 .f32 :=
  mulf (mulf y (broadcastInDim S32768x2048 ![0, 1] bcast_S32768x1_S32768x2048_0_1 (Host.rsqrt (addf (Host.divf
    (broadcastInDim S32768x1 ![0] bcast_S32768_S32768x1_0
      (Host.reduceAdd (mulf y y) (constant S_ .f32 0x00000000#32) reducesTo_S32768x2048_S32768_d1 h_S_))
    (broadcastInDim S32768x1 ![] bcast_S_S32768x1 (constant S_ .f32 0x45000000#32)))
    (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 g))

theorem nrm_at (y : FVec Ideal S32768x2048 .f32) (g : FVec Ideal S2048 .f32) (n : Fin 32768) (d : Fin 2048) :
    nrm y g (ix2 n d) = Cert.Ffn.norm (fun k => y (ix2 n k)) (fun k => g (ix1 k)) d := by
  pointwise [nrm]
  rfl

theorem mul_at (a : FVec Ideal S32768x4096 .bf16) (w : FVec Ideal S4096x2048 .bf16) (n : Fin 32768) (d : Fin 2048) :
    mul a w (ix2 n d) = cut a w n.val 4096 d := by
  refine Eq.trans ?_ (cut_full a w n.val n d rfl).symm
  pointwise [mul]

theorem rows_at (a : FVec Ideal S32768x4096 .bf16) (w : FVec Ideal S4096x2048 .bf16) (x : FVec Ideal S32768x2048 .f32)
    (g : FVec Ideal S2048 .f32) (n : Fin 32768) (d : Fin 2048) :
    addf x (nrm (mul a w) g) (ix2 n d) = row a w x g n.val d := by
  have key : addf x (nrm (mul a w) g) (ix2 n d) = (x (ix2 n d) : EReal) + nrm (mul a w) g (ix2 n d) := by
    pointwise []
  rw [key, nrm_at]
  unfold row
  rw [ofNat_self]
  simp only [mul_at]

theorem rows_eq (a : FVec Ideal S32768x4096 .bf16) (w : FVec Ideal S4096x2048 .bf16) (x : FVec Ideal S32768x2048 .f32)
    (g : FVec Ideal S2048 .f32) : addf x (nrm (mul a w) g) = rows a w x g := by
  funext y
  obtain ⟨n, d, rfl⟩ : ∃ (n : Fin 32768) (d : Fin 2048), y = ix2 n d := ⟨y 0, y 1, eq_ix2 y⟩
  exact rows_at a w x g n d

theorem normed_eq (a : FVec Ideal S32768x4096 .bf16) (w : FVec Ideal S4096x2048 .bf16) (x : FVec Ideal S32768x2048 .f32)
    (g g' : FVec Ideal S2048 .f32) : truncf .bf16 (nrm (addf x (nrm (mul a w) g)) g') bitsLt_bf16_f32 = normed a w x g g' := by
  funext y
  obtain ⟨n, d, rfl⟩ : ∃ (n : Fin 32768) (d : Fin 2048), y = ix2 n d := ⟨y 0, y 1, eq_ix2 y⟩
  have key : truncf .bf16 (nrm (addf x (nrm (mul a w) g)) g') bitsLt_bf16_f32 (ix2 n d)
      = nrm (addf x (nrm (mul a w) g)) g' (ix2 n d) := by
    pointwise []
  rw [key, nrm_at]
  exact congrArg (fun z => Cert.Ffn.norm z _ d) (funext fun k => rows_at a w x g n k)

/-- The reference's run: its results are the kernel's `rows` and `normed`, the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = rows (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v30) = normed (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (rows_eq _ _ _ _), (h c).2.1.trans (normed_eq _ _ _ _ _), (h c).2.2⟩) (Value.run m ρ)

end Cert.Lin.RO.Ref

end
-- ==== Proof.Lin.SampleKeys.lean ====
/-
The sample's key projection of the stick-breaking layer: kernel and reference are the product with the keys' columns.
-/
module

public import proofs.«01_k».proof.Proof.Gen.Kernel10Ideal.Value
public import proofs.«01_k».proof.Proof.Gen.Reference10Ideal.Run
public import proofs.«01_k».proof.Proof.Lin.Math
public import Idealize.ShloMosaic.Lib.Pipeline.ValueKit.Geometry
public import Idealize.ShloMosaic.Lib.Tactic

@[expose] public section

noncomputable section

namespace Cert.Lin.SK

open Idealize.ShloMosaic Idealize.ShloMosaic.TcCoe Idealize.SL.Sem

section Kernel

open Cert.Kernel10Ideal Cert.Kernel10Ideal.Gen

variable (m : (ℓ : Loc nD τ sig) → Buf (Elt Ideal) ℓ) (ρ : Dev nD → PrngReg) (c : Dev nD)

/-- The input rows. -/
abbrev argH : S1024x2048.Idx → EReal := m ((c.tc : Thread nD τ).loc main_arg0)
/-- The weights. -/
abbrev argW : S2048x6144.Idx → EReal := m ((c.tc : Thread nD τ).loc main_arg1)

/-- The product, row by row. -/
def rows (h : S1024x2048.Idx → EReal) (w : S2048x6144.Idx → EReal) : S1024x2048.Idx → EReal :=
  fun y => prod h w (y 0).val (2048 + (y 1).val)

/-- The product, head by head. -/
def heads (h : S1024x2048.Idx → EReal) (w : S2048x6144.Idx → EReal) : S16x1024x128.Idx → EReal :=
  fun y => prod h w (y 1).val (2048 + ((y 0).val * 128 + (y 2).val))

theorem pay_at (x : Vec Ideal S1024x2048 .bf16) (w : Vec Ideal S2048x512 .bf16) (r : Fin 1024) (e : Fin 512) :
    k0_pay1 x w (ix2 r e) = ∑ k : Fin 2048, x (ix2 r k) * w (ix2 k e) := by
  pointwise [k0_pay1]

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, 4 + t.val % 4] := (by decide +kernel : ∀ t : Fin grid0.N, win0_1.index t = ![0, 4 + t.val % 4])
theorem idx2 : ∀ t : Fin cfg0.N, win0_2.index t = ![t.val / 4, t.val % 4] := (by decide +kernel : ∀ t : Fin grid0.N, win0_2.index t = ![t.val / 4, t.val % 4])
theorem covers2 : (cfg0.win 2).Covers := (by decide +kernel : win0_2.Covers)
theorem idx3 : ∀ t : Fin cfg0.N, win0_3.index t = ![t.val % 4, t.val / 4, 0] := (by decide +kernel : ∀ t : Fin grid0.N, win0_3.index t = ![t.val % 4, t.val / 4, 0])
theorem covers3 : (cfg0.win 3).Covers := (by decide +kernel : win0_3.Covers)

theorem lt_grid (t : Fin cfg0.N) : t.val < 4 := Nat.lt_of_lt_of_eq t.isLt N_0

theorem blk0 (t : Fin cfg0.N) (r : Fin 1024) (k : Fin 2048) :
    iblk m c 0 t (ix2 r k) = argH m c (ix2 (Fin.ofNat 1024 (t.val / 4 * 1024 + r.val)) k) := by
  have ht := lt_grid t
  unfold iblk
  rw [show V m c (Pipeline.arrRef spec0 0) = m ((c : Thread nD τ).loc main_arg0) from V_main_arg0 m c]
  blk_simp [idx0 t]
  congr 1
  blk_ext [idx0 t]
  rw [Fin.val_ofNat]; omega

theorem blk1 (t : Fin cfg0.N) (k : Fin 2048) (e : Fin 512) :
    iblk m c 1 t (ix2 k e) = argW m c (ix2 k (Fin.ofNat 6144 (2048 + (t.val % 4 * 512 + e.val)))) := by
  have ht := lt_grid t
  unfold iblk
  rw [show V m c (Pipeline.arrRef spec0 1) = m ((c : Thread nD τ).loc main_arg1) from V_main_arg1 m c]
  blk_simp [idx1 t]
  congr 1
  blk_ext [idx1 t]
  rw [Fin.val_ofNat]; omega

/-- The product of a point's blocks is a block of the product. -/
theorem point (t : Fin cfg0.N) (r : Fin 1024) (e : Fin 512) : k0_pay1 (iblk m c 0 t) (iblk m c 1 t) (ix2 r e)
    = prod (argH m c) (argW m c) (t.val / 4 * 1024 + r.val) (2048 + (t.val % 4 * 512 + e.val)) := by
  rw [pay_at]
  exact Finset.sum_congr rfl fun k _ => congrArg₂ (· * ·) (blk0 m c t r k) (blk1 m c t k e)

theorem out2_at (t : Fin cfg0.N) (r : Fin 1024) (e : Fin 512) : out0_2 (iblk m c 0 t) (iblk m c 1 t) (ix2 r e)
    = prod (argH m c) (argW m c) (t.val / 4 * 1024 + r.val) (2048 + (t.val % 4 * 512 + e.val)) := by
  unfold out0_2
  rw [View.canon_unit_zero z2, View.ld_unit_zero (S := S1024x2048) z2, View.ld_unit_zero (S := S2048x512) z2]
  exact point m c t r e

theorem emb2_0 (t : Fin cfg0.N) (y : S1024x512.Idx) :
    (((cfg0.win 2).blk t).view.emb y 0).val = t.val / 4 * 1024 + (y 0).val := by blk_simp [idx2 t]
theorem emb2_1 (t : Fin cfg0.N) (y : S1024x512.Idx) :
    (((cfg0.win 2).blk t).view.emb y 1).val = t.val % 4 * 512 + (y 1).val := by blk_simp [idx2 t]

theorem final2 : (dats m 0 c).arrAt 2 cfg0.N = rows (argH m c) (argW m c) := by
  refine (dats m 0 c).arrAt_eq_of_covers 2 (rows (argH m c) (argW m c)) covers2 fun t hf y => ?_
  refine (congrFun (after0_2 m c t) y).trans ?_
  have e0 := emb2_0 t y
  have e1 := emb2_1 t y
  revert e0 e1
  generalize ((cfg0.win 2).blk t).view.emb y = i
  intro e0 e1
  obtain ⟨r, e, rfl⟩ : ∃ (r : Fin 1024) (e : Fin 512), y = ix2 r e := ⟨y 0, y 1, eq_ix2 y⟩
  refine (out2_at m c t r e).trans ?_
  show _ = prod (argH m c) (argW m c) (i 0).val (2048 + (i 1).val)
  rw [e0, e1]
  rfl

theorem out3_at (t : Fin cfg0.N) (p : Fin 4) (r : Fin 1024) (e : Fin 128) :
    out0_3 (iblk m c 0 t) (iblk m c 1 t) (ix3 p r e)
      = prod (argH m c) (argW m c) (t.val / 4 * 1024 + r.val) (2048 + (t.val % 4 * 512 + (p.val * 128 + e.val))) := by
  unfold out0_3
  rw [View.ld_unit_zero (S := S1024x2048) z2, View.ld_unit_zero (S := S2048x512) z2]
  refine (Value.canon3_eq (iblk m c 0 t) (iblk m c 1 t) (ix3 p r e)).trans ?_
  refine Eq.trans ?_ (point m c t r ⟨p.val * 128 + e.val, by omega⟩)
  exact congrArg (k0_pay1 (iblk m c 0 t) (iblk m c 1 t)) (eq_ix2 _)

theorem emb3_0 (t : Fin cfg0.N) (y : S4x1024x128.Idx) :
    (((cfg0.win 3).blk t).view.emb y 0).val = t.val % 4 * 4 + (y 0).val := by blk_simp [idx3 t]
theorem emb3_1 (t : Fin cfg0.N) (y : S4x1024x128.Idx) :
    (((cfg0.win 3).blk t).view.emb y 1).val = t.val / 4 * 1024 + (y 1).val := by blk_simp [idx3 t]
theorem emb3_2 (t : Fin cfg0.N) (y : S4x1024x128.Idx) : (((cfg0.win 3).blk t).view.emb y 2).val = (y 2).val := by
  blk_simp [idx3 t]

theorem final3 : (dats m 0 c).arrAt 3 cfg0.N = heads (argH m c) (argW m c) := by
  refine (dats m 0 c).arrAt_eq_of_covers 3 (heads (argH m c) (argW m c)) covers3 fun t hf y => ?_
  refine (congrFun (after0_3 m c t) y).trans ?_
  have e0 := emb3_0 t y
  have e1 := emb3_1 t y
  have e2 := emb3_2 t y
  revert e0 e1 e2
  generalize ((cfg0.win 3).blk t).view.emb y = i
  intro e0 e1 e2
  obtain ⟨p, r, e, rfl⟩ : ∃ (p : Fin 4) (r : Fin 1024) (e : Fin 128), y = ix3 p r e := ⟨y 0, y 1, y 2, eq_ix3 y⟩
  refine (out3_at m c t p r e).trans ?_
  show _ = prod (argH m c) (argW m c) (i 1).val (2048 + ((i 0).val * 128 + (i 2).val))
  rw [e0, e1, e2]
  exact congrArg _ (by show _ = 2048 + ((t.val % 4 * 4 + p.val) * 128 + e.val); omega)

/-- The run: the result holds the product, the arguments are unchanged. -/
theorem run : θ_run defs (onTc (τ := τ) (main (F := Ideal))) ⟨m, fun _ => 0, ρ⟩ fun r => ∀ c : Dev nD,
      r.2.mem ((c.tc : Thread nD τ).loc main_v0_0) = rows (argH m c) (argW m c)
      ∧ r.2.mem ((c.tc : Thread nD τ).loc main_v0_1) = heads (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2.1.trans (final3 m c), (h c).2.2⟩) (Value.run_blocks m ρ)

end Kernel

section Reference

open Cert.Reference10Ideal Cert.Reference10Ideal.Gen

theorem ref_rows (h : FVec Ideal S1024x2048 .bf16) (w : FVec Ideal S2048x6144 .bf16) :
    extractStridedSlice S1024x2048 ![0, 2048] (Host.dotGeneral dot_S1024x2048_S2048x6144_S1024x6144_1_0_0_1_n_n none (extf .f32 h bitsLt_bf16_f32) (extf .f32 w bitsLt_bf16_f32)) slices_S1024x6144_S1024x2048_0_2048 = rows h w := by
  funext y
  obtain ⟨n, e, rfl⟩ : ∃ (n : Fin 1024) (e : Fin 2048), y = ix2 n e := ⟨y 0, y 1, eq_ix2 y⟩
  refine Eq.trans ?_ (prod_of h w _ _ n ⟨2048 + e.val, by omega⟩ rfl rfl).symm
  pointwise []

theorem ref_heads (h : FVec Ideal S1024x2048 .bf16) (w : FVec Ideal S2048x6144 .bf16) :
    truncf .bf16 (transpose S16x1024x128 [1, 0, 2] (shapeCast _ (extractStridedSlice S1024x2048 ![0, 2048] (Host.dotGeneral dot_S1024x2048_S2048x6144_S1024x6144_1_0_0_1_n_n none (extf .f32 h bitsLt_bf16_f32) (extf .f32 w bitsLt_bf16_f32)) slices_S1024x6144_S1024x2048_0_2048) shapeCasts_S1024x2048_S1024x16x128) transposes_S1024x16x128_S16x1024x128_1_0_2) bitsLt_bf16_f32 = heads h w := by
  funext y
  obtain ⟨p, n, e, rfl⟩ : ∃ (p : Fin 16) (n : Fin 1024) (e : Fin 128), y = ix3 p n e := ⟨y 0, y 1, y 2, eq_ix3 y⟩
  refine Eq.trans ?_ (prod_of h w _ _ n ⟨2048 + (p.val * 128 + e.val), by omega⟩ rfl rfl).symm
  pointwise []

end Reference

end Cert.Lin.SK

end
-- ==== Proof.Lin.SampleValues.lean ====
/-
The sample's value projection of the stick-breaking layer: kernel and reference are the product with the values' columns.
-/
module

public import proofs.«01_k».proof.Proof.Gen.Kernel11Ideal.Value
public import proofs.«01_k».proof.Proof.Gen.Reference11Ideal.Run
public import proofs.«01_k».proof.Proof.Lin.Math
public import Idealize.ShloMosaic.Lib.Pipeline.ValueKit.Geometry
public import Idealize.ShloMosaic.Lib.Tactic

@[expose] public section

noncomputable section

namespace Cert.Lin.SV

open Idealize.ShloMosaic Idealize.ShloMosaic.TcCoe Idealize.SL.Sem

section Kernel

open Cert.Kernel11Ideal Cert.Kernel11Ideal.Gen

variable (m : (ℓ : Loc nD τ sig) → Buf (Elt Ideal) ℓ) (ρ : Dev nD → PrngReg) (c : Dev nD)

/-- The input rows. -/
abbrev argH : S1024x2048.Idx → EReal := m ((c.tc : Thread nD τ).loc main_arg0)
/-- The weights. -/
abbrev argW : S2048x6144.Idx → EReal := m ((c.tc : Thread nD τ).loc main_arg1)

/-- The product, row by row. -/
def rows (h : S1024x2048.Idx → EReal) (w : S2048x6144.Idx → EReal) : S1024x2048.Idx → EReal :=
  fun y => prod h w (y 0).val (4096 + (y 1).val)

/-- The product, head by head. -/
def heads (h : S1024x2048.Idx → EReal) (w : S2048x6144.Idx → EReal) : S16x1024x128.Idx → EReal :=
  fun y => prod h w (y 1).val (4096 + ((y 0).val * 128 + (y 2).val))

theorem pay_at (x : Vec Ideal S1024x2048 .bf16) (w : Vec Ideal S2048x512 .bf16) (r : Fin 1024) (e : Fin 512) :
    k0_pay1 x w (ix2 r e) = ∑ k : Fin 2048, x (ix2 r k) * w (ix2 k e) := by
  pointwise [k0_pay1]

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, 8 + t.val % 4] := (by decide +kernel : ∀ t : Fin grid0.N, win0_1.index t = ![0, 8 + t.val % 4])
theorem idx2 : ∀ t : Fin cfg0.N, win0_2.index t = ![t.val / 4, t.val % 4] := (by decide +kernel : ∀ t : Fin grid0.N, win0_2.index t = ![t.val / 4, t.val % 4])
theorem covers2 : (cfg0.win 2).Covers := (by decide +kernel : win0_2.Covers)
theorem idx3 : ∀ t : Fin cfg0.N, win0_3.index t = ![t.val % 4, t.val / 4, 0] := (by decide +kernel : ∀ t : Fin grid0.N, win0_3.index t = ![t.val % 4, t.val / 4, 0])
theorem covers3 : (cfg0.win 3).Covers := (by decide +kernel : win0_3.Covers)

theorem lt_grid (t : Fin cfg0.N) : t.val < 4 := Nat.lt_of_lt_of_eq t.isLt N_0

theorem blk0 (t : Fin cfg0.N) (r : Fin 1024) (k : Fin 2048) :
    iblk m c 0 t (ix2 r k) = argH m c (ix2 (Fin.ofNat 1024 (t.val / 4 * 1024 + r.val)) k) := by
  have ht := lt_grid t
  unfold iblk
  rw [show V m c (Pipeline.arrRef spec0 0) = m ((c : Thread nD τ).loc main_arg0) from V_main_arg0 m c]
  blk_simp [idx0 t]
  congr 1
  blk_ext [idx0 t]
  rw [Fin.val_ofNat]; omega

theorem blk1 (t : Fin cfg0.N) (k : Fin 2048) (e : Fin 512) :
    iblk m c 1 t (ix2 k e) = argW m c (ix2 k (Fin.ofNat 6144 (4096 + (t.val % 4 * 512 + e.val)))) := by
  have ht := lt_grid t
  unfold iblk
  rw [show V m c (Pipeline.arrRef spec0 1) = m ((c : Thread nD τ).loc main_arg1) from V_main_arg1 m c]
  blk_simp [idx1 t]
  congr 1
  blk_ext [idx1 t]
  rw [Fin.val_ofNat]; omega

/-- The product of a point's blocks is a block of the product. -/
theorem point (t : Fin cfg0.N) (r : Fin 1024) (e : Fin 512) : k0_pay1 (iblk m c 0 t) (iblk m c 1 t) (ix2 r e)
    = prod (argH m c) (argW m c) (t.val / 4 * 1024 + r.val) (4096 + (t.val % 4 * 512 + e.val)) := by
  rw [pay_at]
  exact Finset.sum_congr rfl fun k _ => congrArg₂ (· * ·) (blk0 m c t r k) (blk1 m c t k e)

theorem out2_at (t : Fin cfg0.N) (r : Fin 1024) (e : Fin 512) : out0_2 (iblk m c 0 t) (iblk m c 1 t) (ix2 r e)
    = prod (argH m c) (argW m c) (t.val / 4 * 1024 + r.val) (4096 + (t.val % 4 * 512 + e.val)) := by
  unfold out0_2
  rw [View.canon_unit_zero z2, View.ld_unit_zero (S := S1024x2048) z2, View.ld_unit_zero (S := S2048x512) z2]
  exact point m c t r e

theorem emb2_0 (t : Fin cfg0.N) (y : S1024x512.Idx) :
    (((cfg0.win 2).blk t).view.emb y 0).val = t.val / 4 * 1024 + (y 0).val := by blk_simp [idx2 t]
theorem emb2_1 (t : Fin cfg0.N) (y : S1024x512.Idx) :
    (((cfg0.win 2).blk t).view.emb y 1).val = t.val % 4 * 512 + (y 1).val := by blk_simp [idx2 t]

theorem final2 : (dats m 0 c).arrAt 2 cfg0.N = rows (argH m c) (argW m c) := by
  refine (dats m 0 c).arrAt_eq_of_covers 2 (rows (argH m c) (argW m c)) covers2 fun t hf y => ?_
  refine (congrFun (after0_2 m c t) y).trans ?_
  have e0 := emb2_0 t y
  have e1 := emb2_1 t y
  revert e0 e1
  generalize ((cfg0.win 2).blk t).view.emb y = i
  intro e0 e1
  obtain ⟨r, e, rfl⟩ : ∃ (r : Fin 1024) (e : Fin 512), y = ix2 r e := ⟨y 0, y 1, eq_ix2 y⟩
  refine (out2_at m c t r e).trans ?_
  show _ = prod (argH m c) (argW m c) (i 0).val (4096 + (i 1).val)
  rw [e0, e1]
  rfl

theorem out3_at (t : Fin cfg0.N) (p : Fin 4) (r : Fin 1024) (e : Fin 128) :
    out0_3 (iblk m c 0 t) (iblk m c 1 t) (ix3 p r e)
      = prod (argH m c) (argW m c) (t.val / 4 * 1024 + r.val) (4096 + (t.val % 4 * 512 + (p.val * 128 + e.val))) := by
  unfold out0_3
  rw [View.ld_unit_zero (S := S1024x2048) z2, View.ld_unit_zero (S := S2048x512) z2]
  refine (Value.canon3_eq (iblk m c 0 t) (iblk m c 1 t) (ix3 p r e)).trans ?_
  refine Eq.trans ?_ (point m c t r ⟨p.val * 128 + e.val, by omega⟩)
  exact congrArg (k0_pay1 (iblk m c 0 t) (iblk m c 1 t)) (eq_ix2 _)

theorem emb3_0 (t : Fin cfg0.N) (y : S4x1024x128.Idx) :
    (((cfg0.win 3).blk t).view.emb y 0).val = t.val % 4 * 4 + (y 0).val := by blk_simp [idx3 t]
theorem emb3_1 (t : Fin cfg0.N) (y : S4x1024x128.Idx) :
    (((cfg0.win 3).blk t).view.emb y 1).val = t.val / 4 * 1024 + (y 1).val := by blk_simp [idx3 t]
theorem emb3_2 (t : Fin cfg0.N) (y : S4x1024x128.Idx) : (((cfg0.win 3).blk t).view.emb y 2).val = (y 2).val := by
  blk_simp [idx3 t]

theorem final3 : (dats m 0 c).arrAt 3 cfg0.N = heads (argH m c) (argW m c) := by
  refine (dats m 0 c).arrAt_eq_of_covers 3 (heads (argH m c) (argW m c)) covers3 fun t hf y => ?_
  refine (congrFun (after0_3 m c t) y).trans ?_
  have e0 := emb3_0 t y
  have e1 := emb3_1 t y
  have e2 := emb3_2 t y
  revert e0 e1 e2
  generalize ((cfg0.win 3).blk t).view.emb y = i
  intro e0 e1 e2
  obtain ⟨p, r, e, rfl⟩ : ∃ (p : Fin 4) (r : Fin 1024) (e : Fin 128), y = ix3 p r e := ⟨y 0, y 1, y 2, eq_ix3 y⟩
  refine (out3_at m c t p r e).trans ?_
  show _ = prod (argH m c) (argW m c) (i 1).val (4096 + ((i 0).val * 128 + (i 2).val))
  rw [e0, e1, e2]
  exact congrArg _ (by show _ = 4096 + ((t.val % 4 * 4 + p.val) * 128 + e.val); omega)

/-- The run: the result holds the product, the arguments are unchanged. -/
theorem run : θ_run defs (onTc (τ := τ) (main (F := Ideal))) ⟨m, fun _ => 0, ρ⟩ fun r => ∀ c : Dev nD,
      r.2.mem ((c.tc : Thread nD τ).loc main_v0_0) = rows (argH m c) (argW m c)
      ∧ r.2.mem ((c.tc : Thread nD τ).loc main_v0_1) = heads (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final2 m c), (h c).2.1.trans (final3 m c), (h c).2.2⟩) (Value.run_blocks m ρ)

end Kernel

section Reference

open Cert.Reference11Ideal Cert.Reference11Ideal.Gen

theorem ref_rows (h : FVec Ideal S1024x2048 .bf16) (w : FVec Ideal S2048x6144 .bf16) :
    extractStridedSlice S1024x2048 ![0, 4096] (Host.dotGeneral dot_S1024x2048_S2048x6144_S1024x6144_1_0_0_1_n_n none (extf .f32 h bitsLt_bf16_f32) (extf .f32 w bitsLt_bf16_f32)) slices_S1024x6144_S1024x2048_0_4096 = rows h w := by
  funext y
  obtain ⟨n, e, rfl⟩ : ∃ (n : Fin 1024) (e : Fin 2048), y = ix2 n e := ⟨y 0, y 1, eq_ix2 y⟩
  refine Eq.trans ?_ (prod_of h w _ _ n ⟨4096 + e.val, by omega⟩ rfl rfl).symm
  pointwise []

theorem ref_heads (h : FVec Ideal S1024x2048 .bf16) (w : FVec Ideal S2048x6144 .bf16) :
    truncf .bf16 (transpose S16x1024x128 [1, 0, 2] (shapeCast _ (extractStridedSlice S1024x2048 ![0, 4096] (Host.dotGeneral dot_S1024x2048_S2048x6144_S1024x6144_1_0_0_1_n_n none (extf .f32 h bitsLt_bf16_f32) (extf .f32 w bitsLt_bf16_f32)) slices_S1024x6144_S1024x2048_0_4096) shapeCasts_S1024x2048_S1024x16x128) transposes_S1024x16x128_S16x1024x128_1_0_2) bitsLt_bf16_f32 = heads h w := by
  funext y
  obtain ⟨p, n, e, rfl⟩ : ∃ (p : Fin 16) (n : Fin 1024) (e : Fin 128), y = ix3 p n e := ⟨y 0, y 1, y 2, eq_ix3 y⟩
  refine Eq.trans ?_ (prod_of h w _ _ n ⟨4096 + (p.val * 128 + e.val), by omega⟩ rfl rfl).symm
  pointwise []

end Reference

end Cert.Lin.SV

end
-- ==== Proof.Sb.Math.lean ====
/-
The real-number side of stick-breaking attention, for one head: scores are real numbers, a row's weight at a key is
`exp (score - sum of the softplus of the scores from that key up to the row)`, and sums over blocks of 256 keys put
together the sums over all keys below a row. Nothing here mentions a program.
-/
module

public import Idealize.ShloMosaic.Lib.Pointwise
public import Mathlib.Algebra.BigOperators.Intervals
public import Mathlib.Analysis.SpecialFunctions.Log.Basic
public import Mathlib.Tactic.NormNum

@[expose] public section

noncomputable section

namespace Cert.Sb

open Idealize.ShloMosaic Finset

/-! ### Literals and the elementary functions at real numbers -/

/-- The scale literal is a real number. -/
def scale : ℝ := (Ideal.ofBits .f32 0x3DB504F3#32 : EReal).toReal

theorem ofBits_scale : (Ideal.ofBits .f32 1035273459#32 : EReal) = (scale : EReal) := by
  have h : ∃ r : ℝ, (Ideal.ofBits .f32 0x3DB504F3#32 : EReal) = (r : EReal) := by
    simp only [Ideal.ofBits, Ideal.ieee]
    norm_num
    exact ⟨_, rfl⟩
  obtain ⟨r, hr⟩ := h
  unfold scale
  rw [hr]
  simp

theorem ofBits_bot : (Ideal.ofBits .f32 4286578688#32 : EReal) = ⊥ := by
  simp only [Ideal.ofBits, Ideal.ieee]
  rw [if_pos (by decide), if_pos (by decide), if_pos (by decide)]

theorem ofBits_top : (Ideal.ofBits .f32 2139095040#32 : EReal) = ⊤ := by
  simp only [Ideal.ofBits, Ideal.ieee]
  rw [if_pos (by decide), if_pos (by decide), if_neg (by decide)]

/-- The softplus of a real number. -/
def soft (x : ℝ) : ℝ := max x 0 + Real.log (1 + Real.exp (0 - max x (-x)))

theorem log_one_exp (y : ℝ) : Ideal.log (1 + Ideal.exp (y : EReal)) = (Real.log (1 + Real.exp y) : EReal) := by
  have h : (1 : EReal) + Ideal.exp (y : EReal) = ((1 + Real.exp y : ℝ) : EReal) := by
    rw [Ideal.exp_coe]; push_cast; rfl
  rw [h, Ideal.log_coe, if_neg (not_le.mpr (by positivity))]

/-- The softplus as the kernel writes it. -/
theorem soft_kernel (x : ℝ) :
    max (x : EReal) 0 + Ideal.log (1 + Ideal.exp (0 - max (x : EReal) (-(x : EReal)))) = (soft x : EReal) := by
  have h : (0 : EReal) - max (x : EReal) (-(x : EReal)) = ((0 - max x (-x) : ℝ) : EReal) := by
    rw [EReal.coe_sub, EReal.coe_strictMono.monotone.map_max]; simp
  rw [h, log_one_exp, soft, EReal.coe_add, EReal.coe_strictMono.monotone.map_max]; simp

/-- A finite sum of real numbers, formed in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-! ### Sums over blocks of keys -/

/-- The sum from key `s` of a block up to the row: the part inside the block, plus the part behind it. -/
theorem tail_block {M : Type*} [AddCommMonoid M] (f : ℕ → M) (a n s : ℕ) (hs : s ≤ 256) :
    (∑ t : Fin 256, if s ≤ (t : ℕ) ∧ a + (t : ℕ) < n then f (a + t) else 0) + ∑ j ∈ Ico (a + 256) n, f j
      = ∑ j ∈ Ico (a + s) n, f j := by
  have e : ∀ l, l ≤ a + 256 → ∑ j ∈ Ico l n, f j
      = ∑ j ∈ Ico l (max n (a + 256)), if j < n then f j else 0 := by
    intro l _
    rw [← sum_filter]
    congr 1
    ext j
    simp only [mem_filter, mem_Ico]
    omega
  rw [e _ le_rfl, e (a + s) (by omega),
    ← sum_Ico_consecutive _ (show a + s ≤ a + 256 by omega) (le_max_right n (a + 256))]
  congr 1
  rw [Fin.sum_univ_eq_sum_range (fun t => if s ≤ t ∧ a + t < n then f (a + t) else 0) 256, sum_Ico_eq_sum_range,
    show a + 256 - (a + s) = 256 - s by omega, ← sum_range_add_sum_Ico _ hs, sum_Ico_eq_sum_range]
  rw [sum_eq_zero, zero_add]
  · refine sum_congr rfl fun t _ => ?_
    simp only [Nat.le_add_right, true_and, add_assoc]
  · intro t ht
    rw [mem_range] at ht
    rw [if_neg (by omega)]

/-- A block's keys followed by the ones behind it. -/
theorem block_tail {M : Type*} [AddCommMonoid M] (f : ℕ → M) (a e : ℕ) (h : a + 256 ≤ e) :
    ∑ j ∈ Ico (a + 256) e, f j + ∑ t : Fin 256, f (a + t) = ∑ j ∈ Ico a e, f j := by
  rw [← sum_Ico_consecutive _ (show a ≤ a + 256 by omega) h, add_comm]
  congr 1
  rw [Fin.sum_univ_eq_sum_range (fun t => f (a + t)) 256, sum_Ico_eq_sum_range, show a + 256 - a = 256 by omega]

/-- The weight of key `j` in row `n`, of a row's scores `z`. -/
def weight (z : ℕ → ℝ) (n j : ℕ) : ℝ := if j < n then Real.exp (z j - ∑ s ∈ Ico j n, soft (z s)) else 0

theorem weight_of_le (z : ℕ → ℝ) {n j : ℕ} (h : n ≤ j) : weight z n j = 0 := if_neg (by omega)

/-- All of a sequence's keys give what the keys up to the row's own block give. -/
theorem sum_weight (z : ℕ → ℝ) (v : ℕ → EReal) (n a e : ℕ) (hn : n ≤ e) (he : e ≤ a + 8192) (ha : a ≤ e) :
    ∑ t : Fin 8192, v (a + t) * (weight z n (a + t) : EReal) = ∑ j ∈ Ico a e, (weight z n j : EReal) * v j := by
  rw [Fin.sum_univ_eq_sum_range (fun t => v (a + t) * (weight z n (a + t) : EReal)) 8192]
  have h := sum_Ico_eq_sum_range (fun j => v j * (weight z n j : EReal)) a (a + 8192)
  rw [show a + 8192 - a = 8192 by omega] at h
  rw [← h, ← sum_Ico_consecutive _ ha he, sum_congr rfl fun j _ => mul_comm (v j) _]
  refine (congrArg _ ?_).trans (add_zero _)
  · refine sum_eq_zero fun j hj => ?_
    rw [mem_Ico] at hj
    rw [weight_of_le z (by omega)]
    simp

end Cert.Sb

end
-- ==== Proof.Lin.LatentMath.lean ====
/-
The latent layer's projections: a row norm over 512 columns and the rotation of the shared key.
-/
module

public import proofs.«01_k».proof.Proof.Lin.Math
public import proofs.«01_k».proof.Proof.Sb.Math

@[expose] public section

noncomputable section

namespace Cert.Lin

open Idealize.ShloMosaic Finset

/-- 512 elements over the root of their mean square, scaled. -/
def nrm512 (a g : Fin 512 → EReal) (d : Fin 512) : EReal :=
  a d * Ideal.rsqrt (Ideal.div (∑ k, a k * a k) (Ideal.ofBits .f32 0x44000000#32) + Ideal.ofBits .f32 0x358637BD#32) * g d

/-- The angle of position `p` at frequency `e`. -/
def angle (p : BitVec 32) (e : ℕ) : EReal :=
  FloatOps.sitofp (F := Ideal) FTy.f32 p * Ideal.pow (Ideal.ofBits FTy.f32 0x461C4000#32)
    (Ideal.div (-FloatOps.sitofp (F := Ideal) FTy.f32 (BitVec.ofNat 32 e) * Ideal.ofBits FTy.f32 0x40000000#32)
      (Ideal.ofBits FTy.f32 0x42800000#32))

/-- Element `e` of the rotated key of row `n`, which lies at position `p`. -/
def turn {N : ℕ} [NeZero N] (h : (⟨2, ![N, 2048]⟩ : Shape).Idx → EReal) (w : (⟨2, ![2048, 1088]⟩ : Shape).Idx → EReal)
    (p : BitVec 32) (n e : ℕ) : EReal :=
  if e < 32 then prod h w n (1024 + e) * Ideal.cos (angle p (e % 32)) - prod h w n (1056 + e) * Ideal.sin (angle p (e % 32))
  else prod h w n (992 + e) * Ideal.sin (angle p (e % 32)) + prod h w n (1024 + e) * Ideal.cos (angle p (e % 32))

/-- A sum of real products with the second factors negated. -/
theorem sum_neg {K : ℕ} (a b : Fin K → EReal) (ha : ∀ k, a k = ((a k).toReal : EReal)) (hb : ∀ k, b k = ((b k).toReal : EReal)) :
    ∑ k, a k * -(b k) = -∑ k, a k * b k := by
  have e1 : ∀ k, a k * b k = (((a k).toReal * (b k).toReal : ℝ) : EReal) := fun k => by
    rw [EReal.coe_mul, ← ha k, ← hb k]
  have e2 : ∀ k, a k * -(b k) = ((-((a k).toReal * (b k).toReal) : ℝ) : EReal) := fun k => by
    rw [EReal.coe_neg, ← e1 k, mul_comm, EReal.neg_mul, mul_comm]
  rw [sum_congr rfl fun k _ => e1 k, sum_congr rfl fun k _ => e2 k, ← Cert.Sb.coe_sum, ← Cert.Sb.coe_sum, ← EReal.coe_neg,
    sum_neg_distrib]

/-- The rotation as the kernel takes it, from the columns turned by a quarter. -/
theorem turn_eq {N : ℕ} [NeZero N] (h : (⟨2, ![N, 2048]⟩ : Shape).Idx → EReal) (w : (⟨2, ![2048, 1088]⟩ : Shape).Idx → EReal)
    (hh : ∀ i, h i = ((h i).toReal : EReal)) (hw : ∀ i, w i = ((w i).toReal : EReal)) (p : BitVec 32) (n e : ℕ)
    (v : Fin 2048 → EReal)
    (hv : ∀ k, v k = if e < 32 then -(w (ix2 k (Fin.ofNat 1088 (1056 + e)))) else w (ix2 k (Fin.ofNat 1088 (992 + e)))) :
    prod h w n (1024 + e) * Ideal.cos (angle p (e % 32))
      + (∑ k, h (ix2 (Fin.ofNat N n) k) * v k) * Ideal.sin (angle p (e % 32)) = turn h w p n e := by
  unfold turn
  by_cases h32 : e < 32
  · rw [if_pos h32, sum_congr rfl fun k _ => by rw [hv k, if_pos h32], sum_neg _ _ (fun k => hh _) (fun k => hw _), EReal.neg_mul,
      ← sub_eq_add_neg]
    rfl
  · rw [if_neg h32, sum_congr rfl fun k _ => by rw [hv k, if_neg h32], add_comm]
    rfl

end Cert.Lin

end
-- ==== Proof.Lin.Latent.lean ====
/-
The latent layer's projections of the prompt.
-/
module

public import proofs.«01_k».proof.Proof.Gen.Kernel12Ideal.Value
public import proofs.«01_k».proof.Proof.Lin.LatentMath
public import Idealize.ShloMosaic.Lib.StableHlo.ReadAt
public import Idealize.ShloMosaic.Lib.Pipeline.ValueKit.Geometry
public import Idealize.ShloMosaic.Lib.Tactic

@[expose] public section

noncomputable section

namespace Cert.Lin.L

open Idealize.ShloMosaic Idealize.ShloMosaic.TcCoe Idealize.SL.Sem
open Cert.Kernel12Ideal Cert.Kernel12Ideal.Gen

variable (m : (ℓ : Loc nD τ sig) → Buf (Elt Ideal) ℓ) (ρ : Dev nD → PrngReg) (c : Dev nD)

/-- The input rows. -/
abbrev argH : S32768x2048.Idx → EReal := m ((c.tc : Thread nD τ).loc main_arg0)
/-- The weights. -/
abbrev argW : S2048x1088.Idx → EReal := m ((c.tc : Thread nD τ).loc main_arg1)
/-- The queries' scale. -/
abbrev argQ : S512.Idx → EReal := m ((c.tc : Thread nD τ).loc main_arg2)
/-- The latent's scale. -/
abbrev argL : S512.Idx → EReal := m ((c.tc : Thread nD τ).loc main_arg3)

/-- Row `n`'s position. -/
def pos (n : ℕ) : BitVec 32 := BitVec.ofNat 32 (n % 8192)

/-- The queries' latent. -/
def queries (h : S32768x2048.Idx → EReal) (w : S2048x1088.Idx → EReal) (g : S512.Idx → EReal) : S32768x512.Idx → EReal :=
  fun y => nrm512 (fun k => prod h w (y 0).val k.val) (fun k => g (ix1 k)) (y 1)
/-- The keys' and values' latent. -/
def latent (h : S32768x2048.Idx → EReal) (w : S2048x1088.Idx → EReal) (g : S512.Idx → EReal) : S32768x512.Idx → EReal :=
  fun y => nrm512 (fun k => prod h w (y 0).val (512 + k.val)) (fun k => g (ix1 k)) (y 1)
/-- The shared key, rotated. -/
def key (h : S32768x2048.Idx → EReal) (w : S2048x1088.Idx → EReal) : S32768x64.Idx → EReal :=
  fun y => turn h w (pos (y 0).val) (y 0).val (y 1).val

theorem pay1_at (x : Vec Ideal S512x2048 .bf16) (w : Vec Ideal S2048x64 .bf16) (a : Vec Ideal S512x64 .f32)
    (w' : Vec Ideal S2048x64 .bf16) (b : Vec Ideal S512x64 .f32) (r : Fin 512) (e : Fin 64) : k0_pay1 x w a w' b (ix2 r e)
      = (∑ k : Fin 2048, x (ix2 r k) * w (ix2 k e)) * a (ix2 r e) + (∑ k : Fin 2048, x (ix2 r k) * w' (ix2 k e)) * b (ix2 r e) := by
  pointwise [k0_pay1]

theorem pay2_at (x : Vec Ideal S512x2048 .bf16) (w : Vec Ideal S2048x512 .bf16) (g : Vec Ideal S1x512 .f32) (r e : Fin 512) :
    k0_pay2 x w g (ix2 r e) = nrm512 (fun j => ∑ k : Fin 2048, x (ix2 r k) * w (ix2 k j)) (fun k => g (ix2 0 k)) e := by
  pointwise [k0_pay2]
  rfl

theorem pay3_at (x : Vec Ideal S512x2048 .bf16) (w : Vec Ideal S2048x512 .bf16) (g : Vec Ideal S1x512 .f32) (r e : Fin 512) :
    k0_pay3 x w g (ix2 r e) = nrm512 (fun j => ∑ k : Fin 2048, x (ix2 r k) * w (ix2 k j)) (fun k => g (ix2 0 k)) e := by
  pointwise [k0_pay3]
  rfl

theorem V_wq (k : Fin 2048) (e : Fin 512) : V m c main_v25 (ix2 k e) = argW m c (ix2 k ⟨e.val, by omega⟩) := by
  unfold V
  simp only [hostOps0, List.flatten_cons, List.flatten_nil, List.append_nil]
  after_reads_at

theorem V_wkv (k : Fin 2048) (e : Fin 512) : V m c main_v27 (ix2 k e) = argW m c (ix2 k ⟨512 + e.val, by omega⟩) := by
  unfold V
  simp only [hostOps0, List.flatten_cons, List.flatten_nil, List.append_nil]
  after_reads_at

theorem V_wr (k : Fin 2048) (e : Fin 64) : V m c main_v28 (ix2 k e) = argW m c (ix2 k ⟨1024 + e.val, by omega⟩) := by
  unfold V
  simp only [hostOps0, List.flatten_cons, List.flatten_nil, List.append_nil]
  after_reads_at

theorem V_low (k : Fin 2048) (e : Fin 64) (h : e.val < 32) :
    V m c main_v35 (ix2 k e) = (-(argW m c (ix2 k ⟨1056 + e.val, by omega⟩)) : EReal) := by
  unfold V
  simp only [hostOps0, List.flatten_cons, List.flatten_nil, List.append_nil]
  after_reads_at
  simp only [h, dif_pos, if_pos]
  after_reads_at
  refine congrArg (fun j : Fin 1088 => (-(argW m c (ix2 k j)) : EReal)) (Fin.ext (?_ : 1024 + (32 + e.val) = 1056 + e.val))
  omega

theorem V_high (k : Fin 2048) (e : Fin 64) (h : ¬e.val < 32) :
    V m c main_v35 (ix2 k e) = argW m c (ix2 k ⟨992 + e.val, by omega⟩) := by
  unfold V
  simp only [hostOps0, List.flatten_cons, List.flatten_nil, List.append_nil]
  after_reads_at
  simp only [h, dif_neg, if_neg, not_false_eq_true]
  after_reads_at
  refine congrArg (fun j : Fin 1088 => argW m c (ix2 k j)) (Fin.ext (?_ : 1024 + (e.val - 32) = 992 + e.val))
  omega

theorem V_gq (e : Fin 512) : V m c main_v36 (ix2 0 e) = argQ m c (ix1 e) := by
  unfold V
  simp only [hostOps0, List.flatten_cons, List.flatten_nil, List.append_nil]
  after_reads_at

theorem V_gkv (e : Fin 512) : V m c main_v37 (ix2 0 e) = argL m c (ix1 e) := by
  unfold V
  simp only [hostOps0, List.flatten_cons, List.flatten_nil, List.append_nil]
  after_reads_at

/-- A row of the cosines' table. -/
theorem V_cos (n : Fin 8192) (e : Fin 64) : V m c main_v19 (ix2 n e) = Ideal.cos (angle (BitVec.ofNat 32 n.val) (e.val % 32)) := by
  unfold V
  simp only [hostOps0, List.flatten_cons, List.flatten_nil, List.append_nil]
  after_reads_at
  rfl

/-- A row of the sines' table. -/
theorem V_sin (n : Fin 8192) (e : Fin 64) : V m c main_v23 (ix2 n e) = Ideal.sin (angle (BitVec.ofNat 32 n.val) (e.val % 32)) := by
  unfold V
  simp only [hostOps0, List.flatten_cons, List.flatten_nil, List.append_nil]
  after_reads_at
  rfl

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![t.val % 16, 0] := (by decide +kernel : ∀ t : Fin grid0.N, win0_7.index t = ![t.val % 16, 0])
theorem idx8 : ∀ t : Fin cfg0.N, win0_8.index t = ![t.val % 16, 0] := (by decide +kernel : ∀ t : Fin grid0.N, win0_8.index t = ![t.val % 16, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem covers9 : (cfg0.win 9).Covers := (by decide +kernel : win0_9.Covers)
theorem covers10 : (cfg0.win 10).Covers := (by decide +kernel : win0_10.Covers)
theorem covers11 : (cfg0.win 11).Covers := (by decide +kernel : win0_11.Covers)

theorem lt_grid (t : Fin cfg0.N) : t.val < 64 := Nat.lt_of_lt_of_eq t.isLt N_0

section Blocks

variable (t : Fin cfg0.N)

theorem blk0 (r : Fin 512) (k : Fin 2048) : iblk m c 0 t (ix2 r k) = argH m c (ix2 (Fin.ofNat 32768 (t.val * 512 + r.val)) k) := by
  have ht := lt_grid t
  unfold iblk
  rw [show V m c (Pipeline.arrRef spec0 0) = m ((c : Thread nD τ).loc main_arg0) from V_main_arg0 m c]
  blk_simp [idx0 t]
  congr 1
  blk_ext [idx0 t]
  rw [Fin.val_ofNat]; omega

theorem blk1 (k : Fin 2048) (e : Fin 512) : iblk m c 1 t (ix2 k e) = argW m c (ix2 k (Fin.ofNat 1088 e.val)) := by
  rw [ofNat_of (⟨e.val, by omega⟩ : Fin 1088) rfl]
  refine Eq.trans ?_ (V_wq m c k e)
  unfold iblk
  blk_simp [idx1 t]
  congr 1
  blk_ext [idx1 t]

theorem blk2 (k : Fin 2048) (e : Fin 512) : iblk m c 2 t (ix2 k e) = argW m c (ix2 k (Fin.ofNat 1088 (512 + e.val))) := by
  rw [ofNat_of (⟨512 + e.val, by omega⟩ : Fin 1088) rfl]
  refine Eq.trans ?_ (V_wkv m c k e)
  unfold iblk
  blk_simp [idx2 t]
  congr 1
  blk_ext [idx2 t]

theorem blk3 (k : Fin 2048) (e : Fin 64) : iblk m c 3 t (ix2 k e) = argW m c (ix2 k (Fin.ofNat 1088 (1024 + e.val))) := by
  rw [ofNat_of (⟨1024 + e.val, by omega⟩ : Fin 1088) rfl]
  refine Eq.trans ?_ (V_wr m c k e)
  unfold iblk
  blk_simp [idx3 t]
  congr 1
  blk_ext [idx3 t]

theorem blk4 (k : Fin 2048) (e : Fin 64) : (iblk m c 4 t (ix2 k e) : EReal)
    = if e.val < 32 then -(argW m c (ix2 k (Fin.ofNat 1088 (1056 + e.val)))) else argW m c (ix2 k (Fin.ofNat 1088 (992 + e.val))) := by
  have base : iblk m c 4 t (ix2 k e) = V m c main_v35 (ix2 k e) := by
    unfold iblk
    blk_simp [idx4 t]
    congr 1
    blk_ext [idx4 t]
  rw [base]
  by_cases h : e.val < 32
  · rw [if_pos h, ofNat_of (⟨1056 + e.val, by omega⟩ : Fin 1088) rfl]
    exact V_low m c k e h
  · rw [if_neg h, ofNat_of (⟨992 + e.val, by omega⟩ : Fin 1088) rfl]
    exact V_high m c k e h

theorem blk5 (e : Fin 512) : iblk m c 5 t (ix2 0 e) = argQ m c (ix1 e) := by
  refine Eq.trans ?_ (V_gq m c e)
  unfold iblk
  blk_simp [idx5 t]
  congr 1
  blk_ext [idx5 t]

theorem blk6 (e : Fin 512) : iblk m c 6 t (ix2 0 e) = argL m c (ix1 e) := by
  refine Eq.trans ?_ (V_gkv m c e)
  unfold iblk
  blk_simp [idx6 t]
  congr 1
  blk_ext [idx6 t]

/-- A tile's row of a table lies at the row's position. -/
theorem pos_row (r : Fin 512) (n : Fin 8192) (hn : n.val = t.val % 16 * 512 + r.val) : BitVec.ofNat 32 n.val = pos (t.val * 512 + r.val) := by
  have ht := lt_grid t
  unfold pos
  congr 1
  omega

theorem blk7 (r : Fin 512) (e : Fin 64) : iblk m c 7 t (ix2 r e) = Ideal.cos (angle (pos (t.val * 512 + r.val)) (e.val % 32)) := by
  have ht := lt_grid t
  rw [← pos_row t r ⟨t.val % 16 * 512 + r.val, by omega⟩ rfl]
  refine Eq.trans ?_ (V_cos m c ⟨t.val % 16 * 512 + r.val, by omega⟩ e)
  unfold iblk
  blk_simp [idx7 t]
  congr 1
  blk_ext [idx7 t]

theorem blk8 (r : Fin 512) (e : Fin 64) : iblk m c 8 t (ix2 r e) = Ideal.sin (angle (pos (t.val * 512 + r.val)) (e.val % 32)) := by
  have ht := lt_grid t
  rw [← pos_row t r ⟨t.val % 16 * 512 + r.val, by omega⟩ rfl]
  refine Eq.trans ?_ (V_sin m c ⟨t.val % 16 * 512 + r.val, by omega⟩ e)
  unfold iblk
  blk_simp [idx8 t]
  congr 1
  blk_ext [idx8 t]

end Blocks

theorem out9_at (t : Fin cfg0.N) (r e : Fin 512) : out0_9 (iblk m c 0 t) (iblk m c 1 t) (iblk m c 2 t) (iblk m c 3 t) (iblk m c 4 t) (iblk m c 5 t) (iblk m c 6 t) (iblk m c 7 t) (iblk m c 8 t) (ix2 r e)
    = nrm512 (fun k => prod (argH m c) (argW m c) (t.val * 512 + r.val) k.val) (fun k => argQ m c (ix1 k)) e := by
  unfold out0_9
  rw [View.canon_unit_zero z2, View.ld_unit_zero (S := S512x2048) z2, View.ld_unit_zero (S := S2048x512) z2,
    View.ld_unit_zero (S := S1x512) z2, pay2_at]
  refine congrArg₂ (fun a g => nrm512 a g e) (funext fun j => ?_) (funext fun k => blk5 m c t k)
  exact Finset.sum_congr rfl fun k _ => congrArg₂ (· * ·) (blk0 m c t r k) (blk1 m c t k j)

theorem out10_at (t : Fin cfg0.N) (r e : Fin 512) : out0_10 (iblk m c 0 t) (iblk m c 1 t) (iblk m c 2 t) (iblk m c 3 t) (iblk m c 4 t) (iblk m c 5 t) (iblk m c 6 t) (iblk m c 7 t) (iblk m c 8 t) (ix2 r e)
    = nrm512 (fun k => prod (argH m c) (argW m c) (t.val * 512 + r.val) (512 + k.val)) (fun k => argL m c (ix1 k)) e := by
  unfold out0_10
  rw [View.canon_unit_zero z2, View.ld_unit_zero (S := S512x2048) z2, View.ld_unit_zero (S := S2048x512) z2,
    View.ld_unit_zero (S := S1x512) z2, pay3_at]
  refine congrArg₂ (fun a g => nrm512 a g e) (funext fun j => ?_) (funext fun k => blk6 m c t k)
  exact Finset.sum_congr rfl fun k _ => congrArg₂ (· * ·) (blk0 m c t r k) (blk2 m c t k j)

theorem out11_at (hh : ∀ i, argH m c i = ((argH m c i).toReal : EReal)) (hw : ∀ i, argW m c i = ((argW m c i).toReal : EReal))
    (t : Fin cfg0.N) (r : Fin 512) (e : Fin 64) : out0_11 (iblk m c 0 t) (iblk m c 1 t) (iblk m c 2 t) (iblk m c 3 t) (iblk m c 4 t) (iblk m c 5 t) (iblk m c 6 t) (iblk m c 7 t) (iblk m c 8 t) (ix2 r e)
    = turn (argH m c) (argW m c) (pos (t.val * 512 + r.val)) (t.val * 512 + r.val) e.val := by
  unfold out0_11
  rw [View.canon_unit_zero z2, View.ld_unit_zero (S := S512x2048) z2, View.ld_unit_zero (S := S2048x64) z2,
    View.ld_unit_zero (S := S2048x64) z2, View.ld_unit_zero (S := S512x64) z2, View.ld_unit_zero (S := S512x64) z2, pay1_at]
  refine Eq.trans ?_ (turn_eq (argH m c) (argW m c) hh hw (pos (t.val * 512 + r.val)) (t.val * 512 + r.val) e.val
    (fun k => iblk m c 4 t (ix2 k e)) fun k => blk4 m c t k e)
  rw [blk7, blk8]
  refine congrArg₂ (fun a b => a * _ + b * _) ?_ ?_
  · exact Finset.sum_congr rfl fun k _ => congrArg₂ (· * ·) (blk0 m c t r k) (blk3 m c t k e)
  · exact Finset.sum_congr rfl fun k _ => congrArg (· * _) (blk0 m c t r k)

theorem emb9_0 (t : Fin cfg0.N) (y : S512x512.Idx) : (((cfg0.win 9).blk t).view.emb y 0).val = t.val * 512 + (y 0).val := by
  blk_simp [idx9 t]
theorem emb9_1 (t : Fin cfg0.N) (y : S512x512.Idx) : (((cfg0.win 9).blk t).view.emb y 1).val = (y 1).val := by blk_simp [idx9 t]

theorem final9 : (dats m 0 c).arrAt 9 cfg0.N = queries (argH m c) (argW m c) (argQ m c) := by
  refine (dats m 0 c).arrAt_eq_of_covers 9 (queries (argH m c) (argW m c) (argQ m c)) covers9 fun t hf y => ?_
  refine (congrFun (after0_9 m c t) y).trans ?_
  have e0 := emb9_0 t y
  have e1 := emb9_1 t y
  revert e0 e1
  generalize ((cfg0.win 9).blk t).view.emb y = i
  intro e0 e1
  obtain ⟨r, e, rfl⟩ : ∃ (r : Fin 512) (e : Fin 512), y = ix2 r e := ⟨y 0, y 1, eq_ix2 y⟩
  refine (out9_at m c t r e).trans ?_
  show _ = nrm512 (fun k => prod (argH m c) (argW m c) (i 0).val k.val) (fun k => argQ m c (ix1 k)) (i 1)
  rw [e0, show i 1 = e from Fin.ext e1]
  rfl

theorem emb10_0 (t : Fin cfg0.N) (y : S512x512.Idx) : (((cfg0.win 10).blk t).view.emb y 0).val = t.val * 512 + (y 0).val := by
  blk_simp [idx10 t]
theorem emb10_1 (t : Fin cfg0.N) (y : S512x512.Idx) : (((cfg0.win 10).blk t).view.emb y 1).val = (y 1).val := by blk_simp [idx10 t]

theorem final10 : (dats m 0 c).arrAt 10 cfg0.N = latent (argH m c) (argW m c) (argL m c) := by
  refine (dats m 0 c).arrAt_eq_of_covers 10 (latent (argH m c) (argW m c) (argL m c)) covers10 fun t hf y => ?_
  refine (congrFun (after0_10 m c t) y).trans ?_
  have e0 := emb10_0 t y
  have e1 := emb10_1 t y
  revert e0 e1
  generalize ((cfg0.win 10).blk t).view.emb y = i
  intro e0 e1
  obtain ⟨r, e, rfl⟩ : ∃ (r : Fin 512) (e : Fin 512), y = ix2 r e := ⟨y 0, y 1, eq_ix2 y⟩
  refine (out10_at m c t r e).trans ?_
  show _ = nrm512 (fun k => prod (argH m c) (argW m c) (i 0).val (512 + k.val)) (fun k => argL m c (ix1 k)) (i 1)
  rw [e0, show i 1 = e from Fin.ext e1]
  rfl

theorem emb11_0 (t : Fin cfg0.N) (y : S512x64.Idx) : (((cfg0.win 11).blk t).view.emb y 0).val = t.val * 512 + (y 0).val := by
  blk_simp [idx11 t]
theorem emb11_1 (t : Fin cfg0.N) (y : S512x64.Idx) : (((cfg0.win 11).blk t).view.emb y 1).val = (y 1).val := by blk_simp [idx11 t]

theorem final11 (hh : ∀ i, argH m c i = ((argH m c i).toReal : EReal)) (hw : ∀ i, argW m c i = ((argW m c i).toReal : EReal)) : (dats m 0 c).arrAt 11 cfg0.N = key (argH m c) (argW m c) := by
  refine (dats m 0 c).arrAt_eq_of_covers 11 (key (argH m c) (argW m c)) covers11 fun t hf y => ?_
  refine (congrFun (after0_11 m c t) y).trans ?_
  have e0 := emb11_0 t y
  have e1 := emb11_1 t y
  revert e0 e1
  generalize ((cfg0.win 11).blk t).view.emb y = i
  intro e0 e1
  obtain ⟨r, e, rfl⟩ : ∃ (r : Fin 512) (e : Fin 64), y = ix2 r e := ⟨y 0, y 1, eq_ix2 y⟩
  refine (out11_at m c hh hw t r e).trans ?_
  show _ = turn (argH m c) (argW m c) (pos (i 0).val) (i 0).val (i 1).val
  rw [e0, e1]
  rfl

/-- The run: the results hold the latents and the rotated key, the arguments are unchanged. -/
theorem run (hh : ∀ c i, argH m c i = ((argH m c i).toReal : EReal)) (hw : ∀ c i, argW m c i = ((argW m c i).toReal : EReal)) :
    θ_run defs (onTc (τ := τ) (main (F := Ideal))) ⟨m, fun _ => 0, ρ⟩ fun r => ∀ c : Dev nD,
      r.2.mem ((c.tc : Thread nD τ).loc main_v38_0) = queries (argH m c) (argW m c) (argQ m c)
      ∧ r.2.mem ((c.tc : Thread nD τ).loc main_v38_1) = latent (argH m c) (argW m c) (argL m c)
      ∧ r.2.mem ((c.tc : Thread nD τ).loc main_v38_2) = key (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final9 m c), (h c).2.1.trans (final10 m c),
    (h c).2.2.1.trans (final11 m c (hh c) (hw c)), (h c).2.2.2⟩) (Value.run_blocks m ρ)

end Cert.Lin.L

end
-- ==== Proof.Lin.LatentRef.lean ====
/-
The reference of the latent layer's projections of the prompt: its results are the kernel's.
-/
module

public import proofs.«01_k».proof.Proof.Gen.Reference12Ideal.Run
public import proofs.«01_k».proof.Proof.Lin.Latent

@[expose] public section

noncomputable section

namespace Cert.Lin.L.Ref

open Idealize.ShloMosaic Idealize.ShloMosaic.TcCoe Cert.Reference12Ideal Cert.Reference12Ideal.Gen

/-- The product. -/
def mul (h : FVec Ideal S32768x2048 .bf16) (w : FVec Ideal S2048x1088 .f32) : FVec Ideal S32768x1088 .f32 :=
  Host.dotGeneral dot_S32768x2048_S2048x1088_S32768x1088_1_0_0_1_n_n none (extf .f32 h bitsLt_bf16_f32) w

/-- The norm. -/
def nrm (y : FVec Ideal S32768x512 .f32) (g : FVec Ideal S512 .f32) : FVec Ideal S32768x512 .f32 :=
  mulf (mulf y (broadcastInDim S32768x512 ![0, 1] bcast_S32768x1_S32768x512_0_1 (Host.rsqrt (addf (Host.divf
    (broadcastInDim S32768x1 ![0] bcast_S32768_S32768x1_0
      (Host.reduceAdd (mulf y y) (constant S_ .f32 0x00000000#32) reducesTo_S32768x512_S32768_d1 h_S_))
    (broadcastInDim S32768x1 ![] bcast_S_S32768x1 (constant S_ .f32 0x44000000#32)))
    (broadcastInDim S32768x1 ![] bcast_S_S32768x1 (constant S_ .f32 0x358637BD#32))))))
    (broadcastInDim S32768x512 ![0, 1] bcast_S1x512_S32768x512_0_1 (broadcastInDim S1x512 ![1] bcast_S512_S1x512_1 g))

/-- The angles. -/
def angles : FVec Ideal S32768x32 .f32 :=
  mulf (broadcastInDim S32768x32 ![0, 1] bcast_S32768x1_S32768x32_0_1 (broadcastInDim S32768x1 ![0] bcast_S32768_S32768x1_0 (sitofp .f32
    (shapeCast _ (broadcastInDim S4x8192 ![0, 1] bcast_S1x8192_S4x8192_0_1 (shapeCast _ (iotaInDim S8192 32 0) shapeCasts_S8192_S1x8192)) shapeCasts_S4x8192_S32768))))
    (broadcastInDim S32768x32 ![0, 1] bcast_S1x32_S32768x32_0_1 (broadcastInDim S1x32 ![1] bcast_S32_S1x32_1
      (Host.powf (broadcastInDim S32 ![] bcast_S_S32 (constant S_ .f32 0x461C4000#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

/-- The key's earlier columns, before the rotation. -/
def low (y : FVec Ideal S32768x1088 .f32) : FVec Ideal S32768x32 .f32 :=
  extractStridedSlice S32768x32 ![0, 0] (extractStridedSlice S32768x64 ![0, 1024] y slices_S32768x1088_S32768x64_0_1024) slices_S32768x64_S32768x32_0_0
/-- The key's later columns, before the rotation. -/
def high (y : FVec Ideal S32768x1088 .f32) : FVec Ideal S32768x32 .f32 :=
  extractStridedSlice S32768x32 ![0, 32] (extractStridedSlice S32768x64 ![0, 1024] y slices_S32768x1088_S32768x64_0_1024) slices_S32768x64_S32768x32_0_32

theorem nrm_at (y : FVec Ideal S32768x512 .f32) (g : FVec Ideal S512 .f32) (n : Fin 32768) (d : Fin 512) :
    nrm y g (ix2 n d) = nrm512 (fun k => y (ix2 n k)) (fun k => g (ix1 k)) d := by
  pointwise [nrm]
  rfl

theorem mul_at (h : FVec Ideal S32768x2048 .bf16) (w : FVec Ideal S2048x1088 .f32) (n : Fin 32768) (e : Fin 1088) (j : ℕ) (hj : j = e.val) :
    mul h w (ix2 n e) = prod h w n.val j := by
  refine Eq.trans ?_ (prod_of h w n.val j n e rfl hj).symm
  pointwise [mul]

theorem angles_at (n : Fin 32768) (e : Fin 32) : angles (ix2 n e) = angle (pos n.val) e.val := by
  pointwise [angles]
  rfl

theorem low_at (y : FVec Ideal S32768x1088 .f32) (n : Fin 32768) (e : Fin 32) : low y (ix2 n e) = y (ix2 n ⟨1024 + e.val, by omega⟩) := by
  pointwise [low]
theorem high_at (y : FVec Ideal S32768x1088 .f32) (n : Fin 32768) (e : Fin 32) :
    high y (ix2 n e) = y (ix2 n ⟨1024 + (32 + e.val), by omega⟩) := by
  pointwise [high]

theorem queries_eq (h : FVec Ideal S32768x2048 .bf16) (w : FVec Ideal S2048x1088 .f32) (g : FVec Ideal S512 .f32) :
    truncf .bf16 (nrm (extractStridedSlice S32768x512 ![0, 0] (mul h w) slices_S32768x1088_S32768x512_0_0) g) bitsLt_bf16_f32 = queries h w g := by
  funext y
  obtain ⟨n, d, rfl⟩ : ∃ (n : Fin 32768) (d : Fin 512), y = ix2 n d := ⟨y 0, y 1, eq_ix2 y⟩
  have cast : truncf .bf16 (nrm (extractStridedSlice S32768x512 ![0, 0] (mul h w) slices_S32768x1088_S32768x512_0_0) g) bitsLt_bf16_f32 (ix2 n d)
      = nrm (extractStridedSlice S32768x512 ![0, 0] (mul h w) slices_S32768x1088_S32768x512_0_0) g (ix2 n d) := by pointwise []
  rw [cast, nrm_at]
  refine congrArg (fun z => nrm512 z _ d) (funext fun k => ?_)
  refine Eq.trans ?_ (mul_at h w n ⟨k.val, by omega⟩ k.val rfl)
  pointwise []

theorem latent_eq (h : FVec Ideal S32768x2048 .bf16) (w : FVec Ideal S2048x1088 .f32) (g : FVec Ideal S512 .f32) :
    nrm (extractStridedSlice S32768x512 ![0, 512] (mul h w) slices_S32768x1088_S32768x512_0_512) g = latent h w g := by
  funext y
  obtain ⟨n, d, rfl⟩ : ∃ (n : Fin 32768) (d : Fin 512), y = ix2 n d := ⟨y 0, y 1, eq_ix2 y⟩
  rw [nrm_at]
  refine congrArg (fun z => nrm512 z _ d) (funext fun k => ?_)
  refine Eq.trans ?_ (mul_at h w n ⟨512 + k.val, by omega⟩ (512 + k.val) rfl)
  pointwise []

/-- The rotated key. -/
def rot (y : FVec Ideal S32768x1088 .f32) : FVec Ideal S32768x64 .f32 :=
  concatenate S32768x64 1 [⟨S32768x32, subf (mulf (low y) (Host.cos angles)) (mulf (high y) (Host.sin angles))⟩,
    ⟨S32768x32, addf (mulf (low y) (Host.sin angles)) (mulf (high y) (Host.cos angles))⟩] concatenates_S32768x32_S32768x32_S32768x64_d1

theorem rot_low (y : FVec Ideal S32768x1088 .f32) (n : Fin 32768) (e : Fin 64) (h : e.val < 32) :
    rot y (ix2 n e) = (low y (ix2 n ⟨e.val, h⟩) * Ideal.cos (angles (ix2 n ⟨e.val, h⟩))
      - high y (ix2 n ⟨e.val, h⟩) * Ideal.sin (angles (ix2 n ⟨e.val, h⟩)) : EReal) := by
  pointwise [rot]
  simp only [h, dif_pos, if_pos]
  try pointwise []

theorem rot_high (y : FVec Ideal S32768x1088 .f32) (n : Fin 32768) (e : Fin 64) (h : ¬e.val < 32) :
    rot y (ix2 n e) = (low y (ix2 n ⟨e.val - 32, by omega⟩) * Ideal.sin (angles (ix2 n ⟨e.val - 32, by omega⟩))
      + high y (ix2 n ⟨e.val - 32, by omega⟩) * Ideal.cos (angles (ix2 n ⟨e.val - 32, by omega⟩)) : EReal) := by
  pointwise [rot]
  simp only [h, dif_neg, if_neg, not_false_eq_true]
  try pointwise []

theorem key_eq (h : FVec Ideal S32768x2048 .bf16) (w : FVec Ideal S2048x1088 .f32) : rot (mul h w) = key h w := by
  funext y
  obtain ⟨n, e, rfl⟩ : ∃ (n : Fin 32768) (e : Fin 64), y = ix2 n e := ⟨y 0, y 1, eq_ix2 y⟩
  show _ = turn h w (pos n.val) n.val e.val
  unfold turn
  by_cases h32 : e.val < 32
  · rw [if_pos h32, rot_low _ _ _ h32, low_at, high_at, angles_at,
      mul_at h w n ⟨1024 + e.val, by omega⟩ (1024 + e.val) rfl,
      mul_at h w n ⟨1024 + (32 + e.val), by omega⟩ (1056 + e.val) (by show _ = 1024 + (32 + e.val); omega),
      show e.val % 32 = e.val by omega]
  · rw [if_neg h32, rot_high _ _ _ h32, low_at, high_at, angles_at,
      mul_at h w n ⟨1024 + (e.val - 32), by omega⟩ (992 + e.val) (by show _ = 1024 + (e.val - 32); omega),
      mul_at h w n ⟨1024 + (32 + (e.val - 32)), by omega⟩ (1024 + e.val) (by show _ = 1024 + (32 + (e.val - 32)); omega),
      show e.val % 32 = e.val - 32 by omega]

/-- The reference's run: its results are the kernel's, the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = queries (m ((c.tc : Thread nD τ).loc main_arg0)) (m ((c.tc : Thread nD τ).loc main_arg1))
        (m ((c.tc : Thread nD τ).loc main_arg2))
      ∧ r.2.mem ((c.tc : Thread nD τ).loc main_v35) = latent (m ((c.tc : Thread nD τ).loc main_arg0)) (m ((c.tc : Thread nD τ).loc main_arg1))
        (m ((c.tc : Thread nD τ).loc main_arg3))
      ∧ r.2.mem ((c.tc : Thread nD τ).loc main_v60) = key (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (queries_eq _ _ _), (h c).2.1.trans (latent_eq _ _ _),
    (h c).2.2.1.trans ((show _ = rot (mul _ _) from rfl).trans (key_eq _ _)), (h c).2.2.2⟩) (Value.run m ρ)

end Cert.Lin.L.Ref

end
-- ==== Proof.Sb.Loop.lean ====
/-
  One key block of the stick-breaking attention, as the kernel's loop over the sixteen heads leaves it: the two
  scratch buffers (the running stick length `r` and the running output `acc`) after the loop, as functions of the
  buffers before it and of the query, key and value blocks. Every head is read once and written once, so the loop's
  effect is a function applied head by head.
-/
module

public import proofs.«01_k».proof.Proof.Gen.KernelIdeal.Loops
public import proofs.«01_k».proof.Proof.Gen.KernelIdeal.Frame
public import Idealize.ShloMosaic.Lib.WritesUnit
public import Idealize.ShloMosaic.Lib.Pipeline.Value
public import Idealize.ShloMosaic.Lib.Tactic
public import Idealize.ShloMosaic.Lib.Pointwise
public import Idealize.ShloMosaic.Lib.Pipeline.ValueKit.Tiles

@[expose] public section

set_option maxRecDepth 16384

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- Head `h` of a `[16, 256, 128]` array. -/
def head {e : EltTy} (X : Vec F S16x256x128 e) (h : Fin 16) : Vec F S1x256x128 e :=
  fun j => X (ix3 h (j 1) (j 2))

/-- Head `h` of a `[16, 256, 1]` array. -/
def head1 {e : EltTy} (X : Vec F S16x256x1 e) (h : Fin 16) : Vec F S1x256x1 e :=
  fun j => X (ix3 h (j 1) (j 2))

/-- The running stick length of every head after one more key block. -/
def stepR (i : grid0.Coords) (q k : Vec F S16x256x128 .bf16) (r : Vec F S16x256x1 .f32) : Vec F S16x256x1 .f32 :=
  fun j => k0_pay6 (k0_pay12 (head1 r (j 0))) (k0_pay14 (k0_pay3 i) k0_pay4 (head q (j 0)) (head k (j 0)))
    (ix3 0 (j 1) (j 2))

/-- The running output of every head after one more key block. -/
def stepA (i : grid0.Coords) (q k v : Vec F S16x256x128 .bf16) (r : Vec F S16x256x1 .f32) (a : Vec F S16x256x128 .f32) :
    Vec F S16x256x128 .f32 :=
  fun j => k0_pay5 (k0_pay11 (head v (j 0))) (k0_pay15 (k0_pay3 i) k0_pay4 (head q (j 0)) (head k (j 0)) (head1 r (j 0)))
    (constant S256x128 .f32 0x00000000#32) (head a (j 0)) (ix3 0 (j 1) (j 2))

theorem off1_eq : ∀ k : Fin k0_t1_loop.trips, k0_off1 k = ![k.val, 0, 0] := by decide +kernel
theorem off2_eq : ∀ k : Fin k0_t1_loop.trips, k0_off2 k = ![k.val, 0, 0] := by decide +kernel
theorem trips_eq : k0_t1_loop.trips = 16 := by decide +kernel

/-- A load at offsets `(k, 0, 0)` of one head's extents reads head `k`. -/
theorem ld_head {e : EltTy} (X : Vec F S16x256x128 e) (k : Fin 16) (off : Fin 3 → Nat) (ho : off = ![k.val, 0, 0]) (inb) :
    View.ld (Val := Elt F) X (Rect.unit (s := S16x256x128) off S1x256x128.size inb) = head X k := by
  subst ho
  funext x
  refine View.ld_unit_apply_of X _ _ inb x _ fun a => ?_
  idx_vars x
  fin_cases a <;> simp

theorem ld_head1 {e : EltTy} (X : Vec F S16x256x1 e) (k : Fin 16) (off : Fin 3 → Nat) (ho : off = ![k.val, 0, 0]) (inb) :
    View.ld (Val := Elt F) X (Rect.unit (s := S16x256x1) off S1x256x1.size inb) = head1 X k := by
  subst ho
  funext x
  refine View.ld_unit_apply_of X _ _ inb x _ fun a => ?_
  idx_vars x
  fin_cases a <;> simp

/-- One head stored over a buffer changes that head alone. -/
theorem read_head_store {n : Nat} {e : EltTy} {κ : Kind} {sp : Space} (v : View sig κ sp ⟨3, ![16, 256, n]⟩ e)
    (f : v.ty.Contents (Elt F)) (k : Fin 16) (off : Fin 3 → Nat) (ho : off = ![k.val, 0, 0]) (inb)
    (w : (⟨3, ![1, 256, n]⟩ : Shape).Idx → Elt F e) (j : (⟨3, ![16, 256, n]⟩ : Shape).Idx) :
    v.read (Elt F) (v.writes (Elt F) f [⟨Rect.unit off ![1, 256, n] inb, w⟩]) j
      = if (j 0).val = k.val then w (ix3 0 (j 1) (j 2)) else v.read (Elt F) f j := by
  subst ho
  obtain ⟨j0, j1, j2, rfl⟩ : ∃ (a : Fin 16) (b : Fin 256) (c : Fin n), j = ix3 a b c := ⟨j 0, j 1, j 2, eq_ix3 j⟩
  split_ifs with h
  · refine View.read_writes_cons_unit_of_mem v f inb w [] _ (ix3 0 j1 j2) rfl fun a => ?_
    fin_cases a <;> simp_all
  · rw [View.read_writes_cons_unit_of_not_mem v f inb w [] _ rfl 0 (by
      simp only [Matrix.cons_val_zero, ix3_0] at h ⊢; omega)]
    rfl

section Trip

variable (𝒱 : Variants) (c : Dev nD) (bd : Option 𝒱.V) (i : grid0.Coords)
  (arg3 : Memref sig .tc .vmem S16x256x128 .bf16) (harg3 : arg3.IsWhole) (arg4 : Memref sig .tc .vmem S16x256x128 .bf16) (harg4 : arg4.IsWhole)
  (arg5 : Memref sig .tc .vmem S16x256x128 .bf16) (harg5 : arg5.IsWhole) (arg6 : Memref sig .tc .vmem S256x2048 .bf16) (harg6 : arg6.IsWhole)
  (arg7 : Memref sig .tc .vmem S16x256x1 .f32) (harg7 : arg7.IsWhole) (arg8 : Memref sig .tc .vmem S16x256x128 .f32) (harg8 : arg8.IsWhole)
  (k0_h2 : k0_cond2 i = 1#1)
  (X3 : BufTy.Contents (Elt F) arg3.view.ty) (X4 : BufTy.Contents (Elt F) arg4.view.ty) (X5 : BufTy.Contents (Elt F) arg5.view.ty)
  (G7 : BufTy.Contents (Elt F) arg7.view.ty) (G8 : BufTy.Contents (Elt F) arg8.view.ty)

/-- What one trip stores into the running stick lengths. -/
theorem trip7 (k : Fin k0_t1_loop.trips) (j : S16x256x1.Idx) :
    arg7.view.read (Elt F) (arg7.view.writes (Elt F) G7
        (tripL_k0_t1 (F := F) 𝒱 c bd i arg3 harg3 arg4 harg4 arg5 harg5 arg6 harg6 arg7 harg7 arg8 harg8 k0_h2 X3 X4 X5 k G7 G8).1) j
      = if (j 0).val = k.val then stepR i (arg3.view.read (Elt F) X3) (arg4.view.read (Elt F) X4) (arg7.view.read (Elt F) G7) j
        else arg7.view.read (Elt F) G7 j := by
  have hk : k.val < 16 := lt_of_lt_of_eq k.isLt trips_eq
  unfold tripL_k0_t1 trip_k0_t1
  dsimp only
  sl_unfold_words
  refine (read_head_store arg7.view G7 ⟨k.val, hk⟩ _ (off2_eq k) _ _ j).trans ?_
  split_ifs with h
  · have e : (j 0 : Fin 16) = ⟨k.val, hk⟩ := Fin.ext h
    unfold stepR
    rw [e]
    exact congrFun (congrArg₂ k0_pay6 (congrArg k0_pay12 (ld_head1 _ ⟨k.val, hk⟩ _ (off2_eq k) _))
      (congrArg₂ (k0_pay14 (k0_pay3 i) k0_pay4) (ld_head _ ⟨k.val, hk⟩ _ (off1_eq k) _) (ld_head _ ⟨k.val, hk⟩ _ (off1_eq k) _))) _
  · rfl

/-- What one trip stores into the running outputs. -/
theorem trip8 (k : Fin k0_t1_loop.trips) (j : S16x256x128.Idx) :
    arg8.view.read (Elt F) (arg8.view.writes (Elt F) G8
        (tripL_k0_t1 (F := F) 𝒱 c bd i arg3 harg3 arg4 harg4 arg5 harg5 arg6 harg6 arg7 harg7 arg8 harg8 k0_h2 X3 X4 X5 k G7 G8).2) j
      = if (j 0).val = k.val then stepA i (arg3.view.read (Elt F) X3) (arg4.view.read (Elt F) X4) (arg5.view.read (Elt F) X5)
          (arg7.view.read (Elt F) G7) (arg8.view.read (Elt F) G8) j
        else arg8.view.read (Elt F) G8 j := by
  have hk : k.val < 16 := lt_of_lt_of_eq k.isLt trips_eq
  unfold tripL_k0_t1 trip_k0_t1
  dsimp only
  sl_unfold_words
  refine (read_head_store arg8.view G8 ⟨k.val, hk⟩ _ (off1_eq k) _ _ j).trans ?_
  split_ifs with h
  · have e : (j 0 : Fin 16) = ⟨k.val, hk⟩ := Fin.ext h
    unfold stepA
    rw [e]
    refine congrFun (congr (congrArg (fun f : FVec F S256x128 .f32 → Vec F S1x256x128 .f32 → FVec F S1x256x128 .f32 => f (constant S256x128 .f32 0x00000000#32)) (congrArg₂ k0_pay5 (congrArg k0_pay11 (ld_head _ ⟨k.val, hk⟩ _ (off1_eq k) _)) ?_))
      (ld_head _ ⟨k.val, hk⟩ _ (off1_eq k) _)) _
    exact congr (congrArg₂ (k0_pay15 (k0_pay3 i) k0_pay4) (ld_head _ ⟨k.val, hk⟩ _ (off1_eq k) _) (ld_head _ ⟨k.val, hk⟩ _ (off1_eq k) _))
      (ld_head1 _ ⟨k.val, hk⟩ _ (off2_eq k) _)
  · rfl

/-- The loop's pieces after `n` trips. -/
abbrev pieces (n : Nat) :=
  pb_k0_t1 (F := F) 𝒱 c bd i arg3 harg3 arg4 harg4 arg5 harg5 arg6 harg6 arg7 harg7 arg8 harg8 k0_h2 X3 X4 X5 G7 G8 n

/-- After `n` trips the heads below `n` have taken the step and the others are as they were. -/
theorem loop_reads (n : Nat) (hn : n ≤ k0_t1_loop.trips) :
    (∀ j, arg7.view.read (Elt F) (arg7.view.writes (Elt F) G7 (pieces 𝒱 c bd i arg3 harg3 arg4 harg4 arg5 harg5 arg6 harg6 arg7 harg7 arg8 harg8 k0_h2 X3 X4 X5 G7 G8 n).1) j
        = if (j 0).val < n then stepR i (arg3.view.read (Elt F) X3) (arg4.view.read (Elt F) X4) (arg7.view.read (Elt F) G7) j
          else arg7.view.read (Elt F) G7 j)
      ∧ ∀ j, arg8.view.read (Elt F) (arg8.view.writes (Elt F) G8 (pieces 𝒱 c bd i arg3 harg3 arg4 harg4 arg5 harg5 arg6 harg6 arg7 harg7 arg8 harg8 k0_h2 X3 X4 X5 G7 G8 n).2) j
        = if (j 0).val < n then stepA i (arg3.view.read (Elt F) X3) (arg4.view.read (Elt F) X4) (arg5.view.read (Elt F) X5)
            (arg7.view.read (Elt F) G7) (arg8.view.read (Elt F) G8) j
          else arg8.view.read (Elt F) G8 j := by
  induction n with
  | zero => exact ⟨fun j => by simp [pieces, pb_k0_t1], fun j => by simp [pieces, pb_k0_t1]⟩
  | succ n ih =>
    obtain ⟨ih7, ih8⟩ := ih (Nat.le_of_succ_le hn)
    have e := pb_k0_t1_succ (F := F) 𝒱 c bd i arg3 harg3 arg4 harg4 arg5 harg5 arg6 harg6 arg7 harg7 arg8 harg8 k0_h2 X3 X4 X5 G7 G8 ⟨n, hn⟩
    dsimp only at e
    unfold pieces
    rw [e]
    dsimp only
    refine ⟨fun j => ?_, fun j => ?_⟩
    · rw [View.writes_append, trip7]
      by_cases h : (j 0).val = n
      · rw [if_pos h, if_pos (by omega)]
        have h0 : head1 (arg7.view.read (Elt F) (arg7.view.writes (Elt F) G7 (pieces 𝒱 c bd i arg3 harg3 arg4 harg4 arg5 harg5 arg6 harg6 arg7 harg7 arg8 harg8 k0_h2 X3 X4 X5 G7 G8 n).1)) (j 0)
            = head1 (arg7.view.read (Elt F) G7) (j 0) := by
          funext x
          unfold head1
          rw [ih7, if_neg]
          show ¬ (j 0).val < n
          omega
        unfold stepR
        rw [h0]
      · rw [if_neg h, ih7]
        by_cases h' : (j 0).val < n
        · rw [if_pos h', if_pos (by omega)]
        · rw [if_neg h', if_neg (by omega)]
    · rw [View.writes_append, trip8]
      by_cases h : (j 0).val = n
      · rw [if_pos h, if_pos (by omega)]
        have h0 : head1 (arg7.view.read (Elt F) (arg7.view.writes (Elt F) G7 (pieces 𝒱 c bd i arg3 harg3 arg4 harg4 arg5 harg5 arg6 harg6 arg7 harg7 arg8 harg8 k0_h2 X3 X4 X5 G7 G8 n).1)) (j 0)
            = head1 (arg7.view.read (Elt F) G7) (j 0) := by
          funext x
          unfold head1
          rw [ih7, if_neg]
          show ¬ (j 0).val < n
          omega
        have h1 : head (arg8.view.read (Elt F) (arg8.view.writes (Elt F) G8 (pieces 𝒱 c bd i arg3 harg3 arg4 harg4 arg5 harg5 arg6 harg6 arg7 harg7 arg8 harg8 k0_h2 X3 X4 X5 G7 G8 n).2)) (j 0)
            = head (arg8.view.read (Elt F) G8) (j 0) := by
          funext x
          unfold head
          rw [ih8, if_neg]
          show ¬ (j 0).val < n
          omega
        unfold stepA
        rw [h0, h1]
      · rw [if_neg h, ih8]
        by_cases h' : (j 0).val < n
        · rw [if_pos h', if_pos (by omega)]
        · rw [if_neg h', if_neg (by omega)]

/-- After the loop every head has taken the step: the running stick lengths, -/
theorem loop7 : arg7.view.read (Elt F) (arg7.view.writes (Elt F) G7 (pieces 𝒱 c bd i arg3 harg3 arg4 harg4 arg5 harg5 arg6 harg6 arg7 harg7 arg8 harg8 k0_h2 X3 X4 X5 G7 G8 k0_t1_loop.trips).1)
    = stepR i (arg3.view.read (Elt F) X3) (arg4.view.read (Elt F) X4) (arg7.view.read (Elt F) G7) :=
  funext fun j => ((loop_reads 𝒱 c bd i arg3 harg3 arg4 harg4 arg5 harg5 arg6 harg6 arg7 harg7 arg8 harg8 k0_h2 X3 X4 X5 G7 G8 _ le_rfl).1 j).trans
    (if_pos (lt_of_lt_of_eq (j 0).isLt trips_eq.symm))

/-- and the running outputs. -/
theorem loop8 : arg8.view.read (Elt F) (arg8.view.writes (Elt F) G8 (pieces 𝒱 c bd i arg3 harg3 arg4 harg4 arg5 harg5 arg6 harg6 arg7 harg7 arg8 harg8 k0_h2 X3 X4 X5 G7 G8 k0_t1_loop.trips).2)
    = stepA i (arg3.view.read (Elt F) X3) (arg4.view.read (Elt F) X4) (arg5.view.read (Elt F) X5) (arg7.view.read (Elt F) G7) (arg8.view.read (Elt F) G8) :=
  funext fun j => ((loop_reads 𝒱 c bd i arg3 harg3 arg4 harg4 arg5 harg5 arg6 harg6 arg7 harg7 arg8 harg8 k0_h2 X3 X4 X5 G7 G8 _ le_rfl).2 j).trans
    (if_pos (lt_of_lt_of_eq (j 0).isLt trips_eq.symm))

end Trip

end Cert.Sb

end
-- ==== Proof.Sb.Body.lean ====
/-
  One grid point of the stick-breaking attention: what the kernel's body leaves in the running stick lengths, the
  running outputs and the output block, case by case of its three conditions (the first key block of a row resets the
  running values; a key block not after the query block is folded in; the diagonal step writes the block out).
-/
module

public import proofs.«01_k».proof.Proof.Sb.Loop
public import Idealize.ShloMosaic.Lib.VecWindow

@[expose] public section

set_option maxRecDepth 16384

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The first condition: the key block is the row's first. -/
abbrev isFirst (i : grid0.Coords) : Prop := (Scalar.cmpi .ne (Scalar.extui (Scalar.cmpi .eq (BitVec.ofNat 32 (i 2).val) 0#32)) 0#32) = 1#1
/-- The second: the key block is not after the query block. -/
abbrev isLive (i : grid0.Coords) : Prop := k0_cond2 i = 1#1
/-- The third: the row's last live key block. -/
abbrev isLast (i : grid0.Coords) : Prop := k0_cond3 i = 1#1

/-- The output block: the heads side by side. -/
def outBlk (a : Vec F S16x256x128 .f32) : Vec F S256x2048 .bf16 :=
  fun j => truncf .bf16 a bitsLt_bf16_f32 (ix3 ⟨(j 1).val / 128, by have := (j 1).isLt; exact Nat.div_lt_of_lt_mul this⟩ (j 0) ⟨(j 1).val % 128, Nat.mod_lt _ (by decide)⟩)

/-- One head's store into the output block: the running output's head, rounded, in its columns. -/
theorem out_piece (A : Vec F S16x256x128 .f32) (h : Fin 16) (off : Fin 3 → Nat) (ho : off = ![h.val, 0, 0]) (inb)
    (off6 : Fin 2 → Nat) (ho6 : off6 = ![0, 128 * h.val]) (inb6) (x : (Rect.unit (s := S256x2048) off6 S256x128.size inb6).shape.Idx) :
    k0_pay7 (View.ld A (Rect.unit off S1x256x128.size inb)) x = outBlk A ((Rect.unit (s := S256x2048) off6 S256x128.size inb6).emb x) := by
  subst ho6
  obtain ⟨x0, x1, rfl⟩ : ∃ (a : Fin 256) (b : Fin 128), x = ix2 a b := ⟨x 0, x 1, eq_ix2 x⟩
  have hx : ((Rect.unit (s := S256x2048) ![0, 128 * h.val] S256x128.size inb6).emb (ix2 x0 x1))
      = ix2 x0 (⟨128 * h.val + x1.val, by have := h.isLt; have := x1.isLt; omega⟩ : Fin 2048) := by
    funext a; apply Fin.ext
    fin_cases a
    · show 0 + 1 * x0.val = x0.val; omega
    · show 128 * h.val + 1 * x1.val = 128 * h.val + x1.val; omega
  rw [hx, ld_head A h off ho inb]
  unfold k0_pay7 outBlk
  show FloatOps.truncf .bf16 bitsLt_bf16_f32 (shapeCast S256x128 (head A h) shapeCasts_S1x256x128_S256x128 (ix2 x0 x1)) = FloatOps.truncf .bf16 bitsLt_bf16_f32 (A _)
  congr 1
  rw [shapeCast_apply (head A h) shapeCasts_S1x256x128_S256x128 (ix2 x0 x1) (ix3 0 x0 x1) (by show (Shape.rowMajor _ _).val = (Shape.rowMajor _ _).val; rw [Shape.rowMajor_val_three, Shape.rowMajor_val_two]; show (0 * 256 + x0.val) * 128 + x1.val = x0.val * 128 + x1.val; omega)]
  unfold head
  congr 1
  have h1 := h.isLt; have h2 := x1.isLt
  refine (congr (congr (congrArg ix3 ?_) rfl) ?_) <;> apply Fin.ext
  · show h.val = (128 * h.val + x1.val) / 128; omega
  · show x1.val = (128 * h.val + x1.val) % 128; omega

/-- The same of a store's payload as the body loads it, from a buffer that reads `A`. -/
theorem out_store {κ : Kind} {sp : Space} (w : View sig κ sp S16x256x128 .f32) (f : w.ty.Contents (Elt F)) {A : Vec F S16x256x128 .f32}
    (hf : w.read (Elt F) f = A) (h : Fin 16) (off : Fin 3 → Nat) (ho : off = ![h.val, 0, 0]) (inb)
    (off6 : Fin 2 → Nat) (ho6 : off6 = ![0, 128 * h.val]) (inb6) (x : (Rect.unit (s := S256x2048) off6 S256x128.size inb6).shape.Idx) :
    k0_pay7 (View.readAt (Elt F) w (Rect.unit (s := S16x256x128) off S1x256x128.size inb).toLoadRect f) x
      = outBlk A ((Rect.unit (s := S256x2048) off6 S256x128.size inb6).emb x) := by
  subst hf
  exact out_piece _ h off ho inb off6 ho6 inb6 x

section Runs

variable (c : Dev nD) (i : grid0.Coords)
  (arg3 : Memref sig .tc .vmem S16x256x128 .bf16) (harg3 : arg3.IsWhole) (arg4 : Memref sig .tc .vmem S16x256x128 .bf16) (harg4 : arg4.IsWhole)
  (arg5 : Memref sig .tc .vmem S16x256x128 .bf16) (harg5 : arg5.IsWhole) (arg6 : Memref sig .tc .vmem S256x2048 .bf16) (harg6 : arg6.IsWhole)
  (arg7 : Memref sig .tc .vmem S16x256x1 .f32) (harg7 : arg7.IsWhole) (arg8 : Memref sig .tc .vmem S16x256x128 .f32) (harg8 : arg8.IsWhole)

/-- The body's buffers at stated contents. -/
abbrev held (q k v : Vec F S16x256x128 .bf16) (o : Vec F S256x2048 .bf16) (r : Vec F S16x256x1 .f32) (a : Vec F S16x256x128 .f32) : sProp 𝕄 :=
  iprop(owns (c : Thread nD τ) arg3 fullShare q ∗ owns (c : Thread nD τ) arg4 fullShare k ∗ owns (c : Thread nD τ) arg5 fullShare v
    ∗ owns (c : Thread nD τ) arg6 fullShare o ∗ owns (c : Thread nD τ) arg7 fullShare r ∗ owns (c : Thread nD τ) arg8 fullShare a)

/-- The body runs from the buffers at `q k v o r a` to the buffers at `q k v o' r' a'`. -/
abbrev Runs (q k v : Vec F S16x256x128 .bf16) (o o' : Vec F S256x2048 .bf16) (r r' : Vec F S16x256x1 .f32) (a a' : Vec F S16x256x128 .f32) : Prop :=
  ∀ (E : Set ℕ) (K : PUnit → sProp 𝕄),
    iprop(held c arg3 arg4 arg5 arg6 arg7 arg8 q k v o r a ∗ (held c arg3 arg4 arg5 arg6 arg7 arg8 q k v o' r' a' -∗ K ⟨⟩))
      ⊢ wp frame (wpE (defs₀ (F := F)) Variants.none c none) E (cc0_sb_flash i arg3 harg3 arg4 harg4 arg5 harg5 arg6 harg6 arg7 harg7 arg8 harg8) K

variable (q k v : Vec F S16x256x128 .bf16) (o : Vec F S256x2048 .bf16) (r : Vec F S16x256x1 .f32) (a : Vec F S16x256x128 .f32)

/-- A dead key block changes nothing. -/
theorem run_dead (h0 : ¬ isFirst i) (h1 : ¬ isLive i) (h2 : ¬ isLast i) :
    Runs c i arg3 harg3 arg4 harg4 arg5 harg5 arg6 harg6 arg7 harg7 arg8 harg8 q k v o o r r a a := fun E K => by
  simp only [cc0_sb_flash_eq_skeleton]; unfold cc0_sb_flash_skel
  unfold held owns
  iintro ⟨⟨⟨%f3, %e3, H3⟩, ⟨%f4, %e4, H4⟩, ⟨%f5, %e5, H5⟩, ⟨%f6, %e6, H6⟩, ⟨%f7, %e7, H7⟩, ⟨%f8, %e8, H8⟩⟩, Hk⟩
  sl_exec (disch := first | sl_exact h0 | sl_exact h1 | sl_exact h2)
  sl_step
  iapply Hk
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  iexists f8; isplitr; · ipureintro; exact e8
  iexact H8

/-- A live key block inside the row is folded in. -/
theorem run_mid (h0 : ¬ isFirst i) (h1 : isLive i) (h2 : ¬ isLast i) :
    Runs c i arg3 harg3 arg4 harg4 arg5 harg5 arg6 harg6 arg7 harg7 arg8 harg8 q k v o o r (stepR i q k r) a (stepA i q k v r a) := fun E K => by
  simp only [cc0_sb_flash_eq_skeleton]; unfold cc0_sb_flash_skel
  unfold held owns
  iintro ⟨⟨⟨%f3, %e3, H3⟩, ⟨%f4, %e4, H4⟩, ⟨%f5, %e5, H5⟩, ⟨%f6, %e6, H6⟩, ⟨%f7, %e7, H7⟩, ⟨%f8, %e8, H8⟩⟩, Hk⟩
  sl_exec (disch := first | sl_exact h0 | sl_exact h1 | sl_exact h2)
  sl_step
  iapply Hk
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]
  · iexists _; isplitr
    swap; · iexact H7
    ipureintro
    refine (loop7 _ _ _ _ _ _ _ _ _ _ _ _ _ _ _ _ h1 _ _ _ _ _).trans ?_
    rw [e3, e4, e7]
  iexists _; isplitr
  swap; · iexact H8
  ipureintro
  refine (loop8 _ _ _ _ _ _ _ _ _ _ _ _ _ _ _ _ h1 _ _ _ _ _).trans ?_
  rw [e3, e4, e5, e7, e8]

/-- The first key block of a row of several. -/
theorem run_first (h0 : isFirst i) (h1 : isLive i) (h2 : ¬ isLast i) :
    Runs c i arg3 harg3 arg4 harg4 arg5 harg5 arg6 harg6 arg7 harg7 arg8 harg8 q k v o o r (stepR i q k k0_pay1) a (stepA i q k v k0_pay1 k0_pay2) := fun E K => by
  simp only [cc0_sb_flash_eq_skeleton]; unfold cc0_sb_flash_skel
  unfold held owns
  iintro ⟨⟨⟨%f3, %e3, H3⟩, ⟨%f4, %e4, H4⟩, ⟨%f5, %e5, H5⟩, ⟨%f6, %e6, H6⟩, ⟨%f7, %e7, H7⟩, ⟨%f8, %e8, H8⟩⟩, Hk⟩
  sl_exec (disch := first | sl_exact h0 | sl_exact h1 | sl_exact h2)
  sl_step
  iapply Hk
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]
  · iexists _; isplitr
    swap; · iexact H7
    ipureintro
    rw [View.writes_append]
    refine (loop7 _ _ _ _ _ _ _ _ _ _ _ _ _ _ _ _ h1 _ _ _ _ _).trans ?_
    sl_unfold_words
    rw [e3, e4]
    exact congrArg _ (View.read_writes_full _ _ _ _ _)
  iexists _; isplitr
  swap; · iexact H8
  ipureintro
  rw [View.writes_append]
  refine (loop8 _ _ _ _ _ _ _ _ _ _ _ _ _ _ _ _ h1 _ _ _ _ _).trans ?_
  sl_unfold_words
  rw [e3, e4, e5]
  exact congrArg₂ _ (View.read_writes_full _ _ _ _ _) (View.read_writes_full _ _ _ _ _)

/-- The last live key block of a row of several: the output block is written. -/
theorem run_last (h0 : ¬ isFirst i) (h1 : isLive i) (h2 : isLast i) :
    Runs c i arg3 harg3 arg4 harg4 arg5 harg5 arg6 harg6 arg7 harg7 arg8 harg8 q k v o (outBlk (stepA i q k v r a)) r (stepR i q k r) a (stepA i q k v r a) := fun E K => by
  simp only [cc0_sb_flash_eq_skeleton]; unfold cc0_sb_flash_skel
  unfold held owns
  iintro ⟨⟨⟨%f3, %e3, H3⟩, ⟨%f4, %e4, H4⟩, ⟨%f5, %e5, H5⟩, ⟨%f6, %e6, H6⟩, ⟨%f7, %e7, H7⟩, ⟨%f8, %e8, H8⟩⟩, Hk⟩
  sl_exec (disch := first | sl_exact h0 | sl_exact h1 | sl_exact h2)
  sl_step
  iapply Hk
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]
  · iexists _; isplitr
    swap; · iexact H6
    ipureintro
    have hA := (loop8 Variants.none c none i arg3 harg3 arg4 harg4 arg5 harg5 arg6 harg6 arg7 harg7 arg8 harg8 h1 f3 f4 f5 f7 f8).trans
      (show stepA i _ _ _ _ _ = stepA i q k v r a by rw [e3, e4, e5, e7, e8])
    sl_unfold_words
    funext y
    refine View.read_writes_apply_of_pieces _ _ (outBlk _) _ ?_ y ?_
    · simp only [List.forall_mem_cons]
      exact ⟨
        fun x => out_store arg8.view _ hA 15 _ rfl _ _ rfl _ x,
        fun x => out_store arg8.view _ hA 14 _ rfl _ _ rfl _ x,
        fun x => out_store arg8.view _ hA 13 _ rfl _ _ rfl _ x,
        fun x => out_store arg8.view _ hA 12 _ rfl _ _ rfl _ x,
        fun x => out_store arg8.view _ hA 11 _ rfl _ _ rfl _ x,
        fun x => out_store arg8.view _ hA 10 _ rfl _ _ rfl _ x,
        fun x => out_store arg8.view _ hA 9 _ rfl _ _ rfl _ x,
        fun x => out_store arg8.view _ hA 8 _ rfl _ _ rfl _ x,
        fun x => out_store arg8.view _ hA 7 _ rfl _ _ rfl _ x,
        fun x => out_store arg8.view _ hA 6 _ rfl _ _ rfl _ x,
        fun x => out_store arg8.view _ hA 5 _ rfl _ _ rfl _ x,
        fun x => out_store arg8.view _ hA 4 _ rfl _ _ rfl _ x,
        fun x => out_store arg8.view _ hA 3 _ rfl _ _ rfl _ x,
        fun x => out_store arg8.view _ hA 2 _ rfl _ _ rfl _ x,
        fun x => out_store arg8.view _ hA 1 _ rfl _ _ rfl _ x,
        fun x => out_store arg8.view _ hA 0 _ rfl _ _ rfl _ x,
        fun p hp => absurd hp List.not_mem_nil⟩
    exact View.cover_of_tiled (s := S256x2048) _ S256x128.size rfl y
  isplitl [H7]
  · iexists _; isplitr
    swap; · iexact H7
    ipureintro
    refine (loop7 _ _ _ _ _ _ _ _ _ _ _ _ _ _ _ _ h1 _ _ _ _ _).trans ?_
    rw [e3, e4, e7]
  iexists _; isplitr
  swap; · iexact H8
  ipureintro
  refine (loop8 _ _ _ _ _ _ _ _ _ _ _ _ _ _ _ _ h1 _ _ _ _ _).trans ?_
  rw [e3, e4, e5, e7, e8]

/-- The row of one key block: the first is the last. -/
theorem run_only (h0 : isFirst i) (h1 : isLive i) (h2 : isLast i) :
    Runs c i arg3 harg3 arg4 harg4 arg5 harg5 arg6 harg6 arg7 harg7 arg8 harg8 q k v o (outBlk (stepA i q k v k0_pay1 k0_pay2)) r (stepR i q k k0_pay1) a (stepA i q k v k0_pay1 k0_pay2) := fun E K => by
  simp only [cc0_sb_flash_eq_skeleton]; unfold cc0_sb_flash_skel
  unfold held owns
  iintro ⟨⟨⟨%f3, %e3, H3⟩, ⟨%f4, %e4, H4⟩, ⟨%f5, %e5, H5⟩, ⟨%f6, %e6, H6⟩, ⟨%f7, %e7, H7⟩, ⟨%f8, %e8, H8⟩⟩, Hk⟩
  sl_exec (disch := first | sl_exact h0 | sl_exact h1 | sl_exact h2)
  sl_step
  iapply Hk
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]
  · iexists _; isplitr
    swap; · iexact H6
    ipureintro
    have hA := fun f7 f8 (h7 : View.read (Elt F) arg7.view f7 = k0_pay1) (h8 : View.read (Elt F) arg8.view f8 = k0_pay2) => (loop8 Variants.none c none i arg3 harg3 arg4 harg4 arg5 harg5 arg6 harg6 arg7 harg7 arg8 harg8 h1 f3 f4 f5 f7 f8).trans
      (show stepA i _ _ _ _ _ = stepA i q k v k0_pay1 k0_pay2 by rw [e3, e4, e5, h7, h8])
    sl_unfold_words
    have hB := hA (arg7.view.writes (Elt F) arg7.view.junk [⟨Rect.unit (s := S16x256x1) ![0, 0, 0] S16x256x1.size inb_S16x256x1_S16x256x1_0_0_0, k0_pay1⟩])
      (arg8.view.writes (Elt F) arg8.view.junk [⟨Rect.unit (s := S16x256x128) ![0, 0, 0] S16x256x128.size inb_S16x256x128_S16x256x128_0_0_0, k0_pay2⟩])
      (View.read_writes_full _ _ _ _ _) (View.read_writes_full _ _ _ _ _)
    rw [← View.writes_append] at hB
    funext y
    refine View.read_writes_apply_of_pieces _ _ (outBlk _) _ ?_ y ?_
    · simp only [List.forall_mem_cons]
      exact ⟨
        fun x => out_store arg8.view _ hB 15 _ rfl _ _ rfl _ x,
        fun x => out_store arg8.view _ hB 14 _ rfl _ _ rfl _ x,
        fun x => out_store arg8.view _ hB 13 _ rfl _ _ rfl _ x,
        fun x => out_store arg8.view _ hB 12 _ rfl _ _ rfl _ x,
        fun x => out_store arg8.view _ hB 11 _ rfl _ _ rfl _ x,
        fun x => out_store arg8.view _ hB 10 _ rfl _ _ rfl _ x,
        fun x => out_store arg8.view _ hB 9 _ rfl _ _ rfl _ x,
        fun x => out_store arg8.view _ hB 8 _ rfl _ _ rfl _ x,
        fun x => out_store arg8.view _ hB 7 _ rfl _ _ rfl _ x,
        fun x => out_store arg8.view _ hB 6 _ rfl _ _ rfl _ x,
        fun x => out_store arg8.view _ hB 5 _ rfl _ _ rfl _ x,
        fun x => out_store arg8.view _ hB 4 _ rfl _ _ rfl _ x,
        fun x => out_store arg8.view _ hB 3 _ rfl _ _ rfl _ x,
        fun x => out_store arg8.view _ hB 2 _ rfl _ _ rfl _ x,
        fun x => out_store arg8.view _ hB 1 _ rfl _ _ rfl _ x,
        fun x => out_store arg8.view _ hB 0 _ rfl _ _ rfl _ x,
        fun p hp => absurd hp List.not_mem_nil⟩
    exact View.cover_of_tiled (s := S256x2048) _ S256x128.size rfl y
  isplitl [H7]
  · iexists _; isplitr
    swap; · iexact H7
    ipureintro
    rw [View.writes_append]
    refine (loop7 _ _ _ _ _ _ _ _ _ _ _ _ _ _ _ _ h1 _ _ _ _ _).trans ?_
    sl_unfold_words
    rw [e3, e4]
    exact congrArg _ (View.read_writes_full _ _ _ _ _)
  iexists _; isplitr
  swap; · iexact H8
  ipureintro
  rw [View.writes_append]
  refine (loop8 _ _ _ _ _ _ _ _ _ _ _ _ _ _ _ _ h1 _ _ _ _ _).trans ?_
  sl_unfold_words
  rw [e3, e4, e5]
  exact congrArg₂ _ (View.read_writes_full _ _ _ _ _) (View.read_writes_full _ _ _ _ _)

end Runs

end Cert.Sb

end
-- ==== Proof.Sb.Run.lean ====
/-
  The stick-breaking attention's run. After each grid point the two scratch buffers hold the state `st`: reset at the
  first key block of a row, one more key block folded in at every live point, unchanged after the diagonal. The output
  block of a row is the state's output at the row's diagonal point. From the per-point facts of `Body.lean` this gives
  the run of the whole grid: the result array at `result`, the arguments unchanged.
-/
module

public import proofs.«01_k».proof.Proof.Sb.Body
public import Idealize.ShloMosaic.Lib.Claim
public import Idealize.ShloMosaic.Lib.Pipeline.ValueKit.Geometry

@[expose] public section

set_option maxRecDepth 16384

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three conditions at a point -/

theorem coord0 (t : Fin cfg0.N) : (grid0.coords t 0).val = t.val / 1024 % 4 := Pipeline.Grid.coords_val t 0 (by decide) rfl
theorem coord1 (t : Fin cfg0.N) : (grid0.coords t 1).val = t.val / 32 % 32 := Pipeline.Grid.coords_val t 1 (by decide) rfl
theorem coord2 (t : Fin cfg0.N) : (grid0.coords t 2).val = t.val % 32 := by
  have h : (grid0.coords t 2).val = t.val / 1 % 32 := Pipeline.Grid.coords_val t 2 (by decide) rfl
  rw [h, Nat.div_one]

theorem first_iff (t : Fin cfg0.N) : isFirst (grid0.coords t) ↔ t.val % 32 = 0 := by
  have ht : t.val < 4096 := Nat.lt_of_lt_of_eq t.isLt N_0
  simp only [isFirst, coord2]
  word_cmp
theorem live_iff : ∀ t : Fin cfg0.N, isLive (grid0.coords t) ↔ t.val % 32 ≤ t.val / 32 % 32 :=
  (by decide +kernel : ∀ t : Fin grid0.N, isLive (grid0.coords t) ↔ t.val % 32 ≤ t.val / 32 % 32)
theorem last_iff : ∀ t : Fin cfg0.N, isLast (grid0.coords t) ↔ t.val / 32 % 32 = t.val % 32 :=
  (by decide +kernel : ∀ t : Fin grid0.N, isLast (grid0.coords t) ↔ t.val / 32 % 32 = t.val % 32)

theorem idle_of (t : Fin cfg0.N) (h : ¬ t.val / 32 % 32 = t.val % 32) : cfg0.idle 3 (grid0.coords t) = true := by
  show (!(k0_cond3 (grid0.coords t) == 1#1)) = true
  rw [Bool.not_eq_true', beq_eq_false_iff_ne]
  exact fun e => h ((last_iff t).mp e)
theorem live_of (t : Fin cfg0.N) (h : t.val / 32 % 32 = t.val % 32) : cfg0.idle 3 (grid0.coords t) = false := by
  show (!(k0_cond3 (grid0.coords t) == 1#1)) = false
  rw [Bool.not_eq_false', beq_iff_eq]
  exact (last_iff t).mpr h

/-! ## The state after each point -/

/-- The running stick lengths and outputs after the body at point `n`. -/
def st (c : Dev nD) : (n : ℕ) → n < cfg0.N → Vec F S16x256x1 .f32 × Vec F S16x256x128 .f32
  | 0, h => (stepR (grid0.coords ⟨0, h⟩) (iblk m c 0 ⟨0, h⟩) (iblk m c 1 ⟨0, h⟩) k0_pay1,
      stepA (grid0.coords ⟨0, h⟩) (iblk m c 0 ⟨0, h⟩) (iblk m c 1 ⟨0, h⟩) (iblk m c 2 ⟨0, h⟩) k0_pay1 k0_pay2)
  | n + 1, h =>
    if (n + 1) % 32 = 0 then
      (stepR (grid0.coords ⟨n + 1, h⟩) (iblk m c 0 ⟨n + 1, h⟩) (iblk m c 1 ⟨n + 1, h⟩) k0_pay1,
        stepA (grid0.coords ⟨n + 1, h⟩) (iblk m c 0 ⟨n + 1, h⟩) (iblk m c 1 ⟨n + 1, h⟩) (iblk m c 2 ⟨n + 1, h⟩) k0_pay1 k0_pay2)
    else if (n + 1) % 32 ≤ (n + 1) / 32 % 32 then
      (stepR (grid0.coords ⟨n + 1, h⟩) (iblk m c 0 ⟨n + 1, h⟩) (iblk m c 1 ⟨n + 1, h⟩) (st c n (Nat.lt_of_succ_lt h)).1,
        stepA (grid0.coords ⟨n + 1, h⟩) (iblk m c 0 ⟨n + 1, h⟩) (iblk m c 1 ⟨n + 1, h⟩) (iblk m c 2 ⟨n + 1, h⟩) (st c n (Nat.lt_of_succ_lt h)).1 (st c n (Nat.lt_of_succ_lt h)).2)
    else st c n (Nat.lt_of_succ_lt h)

theorem st_first (c : Dev nD) (t : Fin cfg0.N) (h : t.val % 32 = 0) :
    st m c t.val t.isLt = (stepR (grid0.coords t) (iblk m c 0 t) (iblk m c 1 t) k0_pay1,
      stepA (grid0.coords t) (iblk m c 0 t) (iblk m c 1 t) (iblk m c 2 t) k0_pay1 k0_pay2) := by
  obtain ⟨n, hn⟩ := t
  cases n with
  | zero => rfl
  | succ n => unfold st; rw [if_pos h]

theorem st_live (c : Dev nD) (t : Fin cfg0.N) (h0 : ¬ t.val % 32 = 0) (h : t.val % 32 ≤ t.val / 32 % 32) :
    st m c t.val t.isLt = (stepR (grid0.coords t) (iblk m c 0 t) (iblk m c 1 t) (st m c (t.val - 1) (by omega)).1,
      stepA (grid0.coords t) (iblk m c 0 t) (iblk m c 1 t) (iblk m c 2 t) (st m c (t.val - 1) (by omega)).1 (st m c (t.val - 1) (by omega)).2) := by
  obtain ⟨n, hn⟩ := t
  cases n with
  | zero => exact absurd (Nat.zero_mod _) h0
  | succ n => rw [st]; rw [if_neg h0, if_pos h]; rfl

theorem st_dead (c : Dev nD) (t : Fin cfg0.N) (h0 : ¬ t.val % 32 = 0) (h : ¬ t.val % 32 ≤ t.val / 32 % 32) :
    st m c t.val t.isLt = st m c (t.val - 1) (by omega) := by
  obtain ⟨n, hn⟩ := t
  cases n with
  | zero => exact absurd (Nat.zero_mod _) h0
  | succ n => rw [st]; rw [if_neg h0, if_neg h]; rfl

/-- The diagonal point of the row of point `n`. -/
theorem diag_lt {n : ℕ} (h : n < cfg0.N) : n / 32 * 32 + n / 32 % 32 < cfg0.N := by
  have hN : cfg0.N = 4096 := N_0
  omega

/-- The output block of the row of point `t`. -/
def rowOut (c : Dev nD) (t : Fin cfg0.N) : Vec F S256x2048 .bf16 :=
  outBlk (st m c (t.val / 32 * 32 + t.val / 32 % 32) (diag_lt t.isLt)).2

theorem rowOut_diag (c : Dev nD) (t : Fin cfg0.N) (h : t.val / 32 % 32 = t.val % 32) :
    rowOut m c t = outBlk (st m c t.val t.isLt).2 := by
  unfold rowOut
  congr 2
  simp only [show t.val / 32 * 32 + t.val / 32 % 32 = t.val by omega]

theorem rowOut_pred (c : Dev nD) (t t' : Fin cfg0.N) (h : t'.val / 32 = t.val / 32) : rowOut m c t' = rowOut m c t := by
  unfold rowOut; simp only [h]

/-! ## The proof data -/

abbrev ms0 (t : Fin cfg0.N) : Memref sig .tc .vmem S16x256x128 .bf16 := win0_0.stage (cfg0.slots t 0)
abbrev ms1 (t : Fin cfg0.N) : Memref sig .tc .vmem S16x256x128 .bf16 := win0_1.stage (cfg0.slots t 1)
abbrev ms2 (t : Fin cfg0.N) : Memref sig .tc .vmem S16x256x128 .bf16 := win0_2.stage (cfg0.slots t 2)
abbrev ms3 (t : Fin cfg0.N) : Memref sig .tc .vmem S256x2048 .bf16 := win0_3.stage (cfg0.slots t 3)
abbrev scR : Memref sig .tc .vmem S16x256x1 .f32 := Memref.whole cc0_scratch0
abbrev scA : Memref sig .tc .vmem S16x256x128 .f32 := Memref.whole cc0_scratch1

theorem ΦA_eq (c : Dev nD) :
    (Pipeline.ΦA spec0 c : sProp 𝕄)
      = iprop(iprop((∃ d, owns (c : Thread nD τ) scR fullShare d) ∗ (∃ d, owns (c : Thread nD τ) scA fullShare d)) ∗ (∃ r, prngReg c r)) := by
  unfold Pipeline.ΦA; rw [scopedRest0_eq]; simp only [scR, scA, owns_whole]; try rfl

/-- Before position `n`: the scratch buffers at the state the point before left. -/
def Φat (c : Dev nD) : (n : ℕ) → n ≤ cfg0.N → sProp 𝕄
  | 0, _ => Pipeline.ΦA spec0 c
  | n + 1, h => iprop(iprop(owns (c : Thread nD τ) scR fullShare (st m c n h).1 ∗ owns (c : Thread nD τ) scA fullShare (st m c n h).2) ∗ (∃ r, prngReg c r))

theorem Φat_succ (c : Dev nD) (n : ℕ) (h : n + 1 ≤ cfg0.N) :
    Φat m c (n + 1) h = iprop(iprop(owns (c : Thread nD τ) scR fullShare (st m c n h).1 ∗ owns (c : Thread nD τ) scA fullShare (st m c n h).2) ∗ (∃ r, prngReg c r)) := rfl
theorem Φat_pos (c : Dev nD) (n : ℕ) (h : n ≤ cfg0.N) (hz : n ≠ 0) :
    Φat m c n h = iprop(iprop(owns (c : Thread nD τ) scR fullShare (st m c (n - 1) (by omega)).1 ∗ owns (c : Thread nD τ) scA fullShare (st m c (n - 1) (by omega)).2) ∗ (∃ r, prngReg c r)) := by
  cases n with
  | zero => exact absurd rfl hz
  | succ n => rfl

/-- The scratch buffers are owned at some contents in any case. -/
theorem Φat_some (c : Dev nD) (n : ℕ) (h : n ≤ cfg0.N) :
    Φat m c n h ⊢ iprop(iprop((∃ d, owns (c : Thread nD τ) scR fullShare d) ∗ (∃ d, owns (c : Thread nD τ) scA fullShare d)) ∗ (∃ r, prngReg c r)) := by
  by_cases hz : n = 0
  · subst hz
    rw [show Φat m c 0 h = Pipeline.ΦA spec0 c from rfl, ΦA_eq]
  · rw [Φat_pos m c n h hz]
    iintro ⟨⟨H0, H1⟩, Hg⟩
    isplitl [H0 H1]
    · isplitl [H0]
      · iexists _; iexact H0
      iexists _; iexact H1
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rowOut m c t
  Φ t := Φat m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Φ_cast (c : Dev nD) (t : Fin cfg0.N) : (dats m 0 c).Φ t.castSucc = Φat m c t.val (Nat.le_of_lt t.isLt) := by
  dsimp only [dats]; exact Pipeline.Dat.Φ_castSucc (Φat m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = rowOut m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem noflush (t : Fin cfg0.N) (h : ¬ t.val % 32 = 31) : (cfg0.win 3).flush t = false := by
  cases e : (cfg0.win 3).flush t
  · rfl
  · exact absurd ((flush0_3 t).mp e) h

/-- After its diagonal point a row's output buffer holds the row's output block, until it is written back. -/
theorem before3 (c : Dev nD) : ∀ (n : ℕ) (h : n < cfg0.N), n / 32 % 32 < n % 32 → ∀ d, (dats m 0 c).before 3 ⟨n, h⟩ d = rowOut m c ⟨n, h⟩
  | 0, _, hd, _ => absurd hd (by simp)
  | n + 1, h, hd, d => by
    have hN : cfg0.N = 4096 := N_0
    have h' : n < cfg0.N := Nat.lt_of_succ_lt h
    rw [Dat.before_of_pos _ 3 ⟨n + 1, h⟩ (Nat.succ_ne_zero n) rfl d]
    rw [if_neg (by
      show ¬ (cfg0.win 3).flush ⟨n, h'⟩ = true
      rw [noflush ⟨n, h'⟩ (by show ¬ n % 32 = 31; omega)]; simp)]
    show (dats m 0 c).left 3 ⟨n, h'⟩ d = _
    rw [rowOut_pred m c ⟨n, h'⟩ ⟨n + 1, h⟩ (by show (n + 1) / 32 = n / 32; omega)]
    unfold Dat.left
    by_cases hl : n / 32 % 32 = n % 32
    · rw [live_of ⟨n, h'⟩ hl]
      exact after3 m c ⟨n, h'⟩
    · rw [idle_of ⟨n, h'⟩ hl]
      exact before3 c n h' (by omega) d

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- From the buffers' contents before and after the body at a point to the obligation there. -/
theorem sound_of (c : Dev nD) (t : Fin cfg0.N)
    (h : ∀ (r : Vec F S16x256x1 .f32) (a : Vec F S16x256x128 .f32), (∀ hz : t.val % 32 ≠ 0, r = (st m c (t.val - 1) (by omega)).1 ∧ a = (st m c (t.val - 1) (by omega)).2) →
      ∀ d, ∃ o', Runs c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3))
        scR (Memref.isWhole_whole _) scA (Memref.isWhole_whole _) (iblk m c 0 t) (iblk m c 1 t) (iblk m c 2 t) ((dats m 0 c).before 3 t d) o' r (st m c t.val t.isLt).1 a (st m c t.val t.isLt).2
        ∧ (owns (c : Thread nD τ) (ms3 t) fullShare o' ⊢ (dats m 0 c).leavesExact 3 t)) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = Φat m c (t.val + 1) t.isLt from rfl, Φat_succ, Φ_cast]
  have l0 : (dats m 0 c).leavesExact 0 t = owns (c : Thread nD τ) (ms0 t) fullShare (iblk m c 0 t) := by rw [← after0]
  have l1 : (dats m 0 c).leavesExact 1 t = owns (c : Thread nD τ) (ms1 t) fullShare (iblk m c 1 t) := by rw [← after1]
  have l2 : (dats m 0 c).leavesExact 2 t = owns (c : Thread nD τ) (ms2 t) fullShare (iblk m c 2 t) := by rw [← after2]
  rw [l0, l1, l2]
  have key : ∀ (r : Vec F S16x256x1 .f32) (a : Vec F S16x256x128 .f32), (∀ hz : t.val % 32 ≠ 0, r = (st m c (t.val - 1) (by omega)).1 ∧ a = (st m c (t.val - 1) (by omega)).2) →
      iprop((iprop(owns (c : Thread nD τ) scR fullShare r ∗ owns (c : Thread nD τ) scA fullShare a) ∗ (∃ r, prngReg c r)) ∗ (dats m 0 c).owesAt () t.castSucc
        ∗ (∃ d : (cfg0.win 0).block.Idx → Elt F (cfg0.win 0).elt, owns (c : Thread nD τ) (ms0 t) fullShare (iblk m c 0 t)) ∗ (∃ d : (cfg0.win 1).block.Idx → Elt F (cfg0.win 1).elt, owns (c : Thread nD τ) (ms1 t) fullShare (iblk m c 1 t))
        ∗ (∃ d : (cfg0.win 2).block.Idx → Elt F (cfg0.win 2).elt, owns (c : Thread nD τ) (ms2 t) fullShare (iblk m c 2 t))
        ∗ (∃ d, owns (c : Thread nD τ) (ms3 t) fullShare ((dats m 0 c).before 3 t d)))
      ⊢ wp frame (wpE (defs₀ (F := F)) Variants.none c none) Set.univ (bodyAt0 t) (fun _ =>
        iprop(iprop(iprop(owns (c : Thread nD τ) scR fullShare (st m c t.val t.isLt).1 ∗ owns (c : Thread nD τ) scA fullShare (st m c t.val t.isLt).2) ∗ (∃ r, prngReg c r))
          ∗ (dats m 0 c).owesAt () t.castSucc
          ∗ owns (c : Thread nD τ) (ms0 t) fullShare (iblk m c 0 t) ∗ owns (c : Thread nD τ) (ms1 t) fullShare (iblk m c 1 t) ∗ owns (c : Thread nD τ) (ms2 t) fullShare (iblk m c 2 t)
          ∗ (dats m 0 c).leavesExact 3 t)) := fun r a hra => by
    iintro ⟨⟨⟨HS0, HS1⟩, Hg⟩, Ho, ⟨%d0, H0⟩, ⟨%d1, H1⟩, ⟨%d2, H2⟩, ⟨%d3, H3⟩⟩
    obtain ⟨o', hrun, hl⟩ := h r a hra d3
    iapply (hrun Set.univ _)
    isplitl [H0 H1 H2 H3 HS0 HS1]
    · unfold held
      isplitl [H0]; · iexact H0
      isplitl [H1]; · iexact H1
      isplitl [H2]; · iexact H2
      isplitl [H3]; · iexact H3
      isplitl [HS0]; · iexact HS0
      iexact HS1
    unfold held
    iintro ⟨H0, H1, H2, H3, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    iapply hl
    iexact H3
  by_cases hz : t.val = 0
  · refine (sep_mono_left (Φat_some m c _ _)).trans ?_
    iintro ⟨⟨⟨⟨%r, HS0⟩, ⟨%a, HS1⟩⟩, Hg⟩, HR⟩
    iapply (key r a fun h => absurd (by rw [hz]) h)
    isplitl [HS0 HS1 Hg]
    · isplitl [HS0 HS1]
      · isplitl [HS0]
        · iexact HS0
        iexact HS1
      iexact Hg
    iexact HR
  · rw [Φat_pos m c _ _ hz]
    exact key _ _ fun _ => ⟨rfl, rfl⟩

theorem sound_body (c : Dev nD) (t : Fin cfg0.N) :
    bodyPre m c t ⊢ wp frame (wpE (defs₀ (F := F)) Variants.none c none) Set.univ (bodyAt0 t) (fun _ => bodyPost m c t) := by
  have hN : t.val < 4096 := lt_of_lt_of_eq t.isLt (show cfg0.N = 4096 from N_0)
  refine sound_of m c t fun r a hra d => ?_
  by_cases h2 : t.val / 32 % 32 = t.val % 32
  · have hl : (dats m 0 c).leavesExact 3 t = owns (c : Thread nD τ) (ms3 t) fullShare (rowOut m c t) := by
      unfold Dat.leavesExact; rw [live_of t h2, after3]
    have h1 : t.val % 32 ≤ t.val / 32 % 32 := by omega
    refine ⟨rowOut m c t, ?_, by rw [hl]⟩
    rw [rowOut_diag m c t h2]
    by_cases h0 : t.val % 32 = 0
    · rw [st_first m c t h0]
      exact run_only c _ _ _ _ _ _ _ _ _ _ _ _ _ _ _ _ _ _ _ ((first_iff t).mpr h0) ((live_iff t).mpr h1) ((last_iff t).mpr h2)
    · rw [st_live m c t h0 h1]
      obtain ⟨rfl, rfl⟩ := hra h0
      exact run_last c _ _ _ _ _ _ _ _ _ _ _ _ _ _ _ _ _ _ _ (fun h => h0 ((first_iff t).mp h)) ((live_iff t).mpr h1) ((last_iff t).mpr h2)
  · refine ⟨(dats m 0 c).before 3 t d, ?_, ?_⟩
    · by_cases h1 : t.val % 32 ≤ t.val / 32 % 32
      · by_cases h0 : t.val % 32 = 0
        · rw [st_first m c t h0]
          exact run_first c _ _ _ _ _ _ _ _ _ _ _ _ _ _ _ _ _ _ _ ((first_iff t).mpr h0) ((live_iff t).mpr h1) (fun h => h2 ((last_iff t).mp h))
        · rw [st_live m c t h0 h1]
          obtain ⟨rfl, rfl⟩ := hra h0
          exact run_mid c _ _ _ _ _ _ _ _ _ _ _ _ _ _ _ _ _ _ _ (fun h => h0 ((first_iff t).mp h)) ((live_iff t).mpr h1) (fun h => h2 ((last_iff t).mp h))
      · have h0 : ¬ t.val % 32 = 0 := by omega
        rw [st_dead m c t h0 h1]
        obtain ⟨rfl, rfl⟩ := hra h0
        exact run_dead c _ _ _ _ _ _ _ _ _ _ _ _ _ _ _ _ _ _ _ (fun h => h0 ((first_iff t).mp h)) (fun h => h1 ((live_iff t).mp h)) (fun h => h2 ((last_iff t).mp h))
    · by_cases h3 : t.val % 32 = 31
      · have hf : (cfg0.win 3).flush t = true := (flush0_3 t).mpr h3
        have hl : (dats m 0 c).leavesExact 3 t = owns (c : Thread nD τ) (ms3 t) fullShare (rowOut m c t) := by
          unfold Dat.leavesExact; rw [idle_of t h2, hf, after3]
        rw [hl, before3 m c t.val t.isLt (by omega) d]
      · rw [Dat.leavesExact_idle _ 3 t (idle_of t h2) (noflush t h3)]
        iintro H
        iexists d
        iexact H

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Φat m c 0 (Nat.zero_le _) from rfl, show Φat m c 0 (Nat.zero_le _) = Pipeline.ΦA spec0 c from rfl]
theorem Φ_out (c : Dev nD) (t : Fin (cfg0.N + 1)) :
    (dats m 0 c).Φ t ⊢ iprop(iprop((∃ d, owns (c : Thread nD τ) scR fullShare d) ∗ (∃ d, owns (c : Thread nD τ) scA fullShare d)) ∗ (∃ r, prngReg c r)) := by
  rw [show (dats m 0 c).Φ t = Φat m c t.val (Nat.le_of_lt_succ t.isLt) from rfl]
  exact Φat_some m c _ _
theorem hout (c : Dev nD) : (dats m 0 c).Φ (Fin.last cfg0.N) ⊢ Pipeline.ΦA spec0 c := by
  rw [ΦA_eq]; exact Φ_out m c _

/-! ## The run and the frame -/

-- the launch theorem's implicit arguments are found by unifying its conclusion with this one
set_option backward.isDefEq.respectTransparency.types false in
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Sb

end
-- ==== Proof.Sb.Step.lean ====
/-
One key block of the stick-breaking attention over the extended reals, when the queries and the keys are real numbers:
the running stick length grows by the block's softplus sum, and the running output by the block's weights times values.
-/
module

public import proofs.«01_k».proof.Proof.Sb.Run
public import proofs.«01_k».proof.Proof.Sb.Math
public import Idealize.ShloMosaic.Lib.WordCmp

@[expose] public section

noncomputable section

namespace Cert.Sb

open Idealize.ShloMosaic Idealize.ShloMosaic.WordCmp Cert.KernelIdeal Cert.KernelIdeal.Gen

/-- The mask of a point: the key lies before the row, or the block before the diagonal block. -/
theorem mask_eq (t : Fin cfg0.N) (p s : Fin 256) :
    k0_pay3 (grid0.coords t) (ix2 p s) = BitVec.ofBool (decide (s.val < p.val ∨ 0 < t.val % 32)) := by
  pointwise [k0_pay3]
  have h2 := coord2 t
  rw [h2]
  rw [cmpi_slt_ofNat (by omega) (by omega)]
  show IntOp.ori _ (IntOp.cmpi .sgt (BitVec.ofNat 32 (t.val % 32)) (BitVec.ofNat 32 0)) = _
  rw [cmpi_sgt_ofNat (by omega) (by omega), ori_ofBool]
  simp only [Bool.decide_or]

/-- The triangle: one where the summed key is not before the key. -/
theorem tri_eq (s t : Fin 256) : k0_pay4 (F := Ideal) (ix2 s t) = if t.val ≤ s.val then (1 : EReal) else 0 := by
  pointwise [k0_pay4]
  rw [cmpi_sge_ofNat (by omega) (by omega)]
  by_cases h : t.val ≤ s.val
  · rw [if_pos h, decide_eq_true h]
    show (((BitVec.setWidth 32 1#1).toInt : ℝ) : EReal) = 1
    norm_num
  · rw [if_neg h, decide_eq_false h]
    show (((BitVec.setWidth 32 0#1).toInt : ℝ) : EReal) = 0
    norm_num

/-- A product over the 128 lanes of two real rows, scaled. -/
def dot (q k : Fin 128 → ℝ) : ℝ := (∑ d, q d * k d) * scale

theorem pay13_eq (q k : Vec Ideal S1x256x128 .bf16) (qr kr : Fin 256 → Fin 128 → ℝ)
    (hq : ∀ p d, q (ix3 0 p d) = ((qr p d : ℝ) : EReal)) (hk : ∀ p d, k (ix3 0 p d) = ((kr p d : ℝ) : EReal)) (p s : Fin 256) :
    k0_pay13 (F := Ideal) q k (ix2 p s) = ((dot (qr p) (kr s) : ℝ) : EReal) := by
  pointwise [k0_pay13]
  simp only [hq, hk]
  rw [ofBits_scale, dot, EReal.coe_mul, coe_sum]
  simp only [EReal.coe_mul]

variable (M : IVec S256x256 1) (mk : Fin 256 → Fin 256 → Prop) [∀ p s, Decidable (mk p s)]

/-- The block's masked softplus summed from key `s` on. -/
def csum (Z : Fin 256 → Fin 256 → ℝ) (p s : Fin 256) : ℝ :=
  ∑ t : Fin 256, if s.val ≤ t.val ∧ mk p t then soft (Z p t) else 0

theorem pay14_eq (hM : ∀ p s, M (ix2 p s) = BitVec.ofBool (decide (mk p s)))
    (q k : Vec Ideal S1x256x128 .bf16) (Z : Fin 256 → Fin 256 → ℝ)
    (hz : ∀ p s, k0_pay13 (F := Ideal) q k (ix2 p s) = ((Z p s : ℝ) : EReal)) (p s : Fin 256) :
    k0_pay14 (F := Ideal) M k0_pay4 q k (ix2 p s) = ((csum mk Z p s : ℝ) : EReal) := by
  pointwise [k0_pay14]
  simp only [hz, hM, tri_eq]
  have e : ∀ t : Fin 256, Scalar.select (BitVec.ofBool (decide (mk p t)))
      (max (Z p t : EReal) 0 + Ideal.log (1 + Ideal.exp (0 - FloatOps.absf (F := Ideal) (φ := .f32) (Z p t : EReal)))) 0
      = (((if mk p t then soft (Z p t) else 0 : ℝ)) : EReal) := by
    intro t
    rw [Ideal.absf_def, soft_kernel]
    by_cases h : mk p t
    · rw [decide_eq_true h, if_pos h]; rfl
    · rw [decide_eq_false h, if_neg h]; rfl
  have z : ∀ t : Fin 256, (((if mk p t then soft (Z p t) else 0 : ℝ) : EReal) - ((if mk p t then soft (Z p t) else 0 : ℝ) : EReal))
      * (if s.val ≤ t.val then (1 : EReal) else 0) = 0 := by
    intro t
    rw [← EReal.coe_sub, sub_self, EReal.coe_zero, zero_mul]
  have e' : ∀ t : Fin 256, Scalar.select (BitVec.ofBool (decide (mk p t)))
      ((max (Z p t : EReal) 0 + Ideal.log (1 + Ideal.exp (0 - FloatOps.absf (F := Ideal) (φ := .f32) (Z p t : EReal))))
        * (if s.val ≤ t.val then (1 : EReal) else 0)) 0
      = (((if s.val ≤ t.val ∧ mk p t then soft (Z p t) else 0 : ℝ)) : EReal) := by
    intro t
    rw [Ideal.absf_def, soft_kernel]
    by_cases h : mk p t
    · rw [decide_eq_true h]
      show (soft (Z p t) : EReal) * _ = _
      by_cases h1 : s.val ≤ t.val <;> simp [h1, h]
    · rw [decide_eq_false h, if_neg (show ¬ (s.val ≤ t.val ∧ mk p t) from fun w => h w.2)]; rfl
  refine (congrArg₂ (· + ·) (Finset.sum_congr rfl fun t _ => e' t)
    (Finset.sum_eq_zero fun t _ => (congrArg (fun w : EReal => (w - w) * (if s.val ≤ t.val then (1 : EReal) else 0)) (e t)).trans
      (z t))).trans ?_
  rw [add_zero, csum, coe_sum]

theorem pay15_eq (hM : ∀ p s, M (ix2 p s) = BitVec.ofBool (decide (mk p s)))
    (q k : Vec Ideal S1x256x128 .bf16) (r : Vec Ideal S1x256x1 .f32) (Z : Fin 256 → Fin 256 → ℝ) (R : Fin 256 → ℝ)
    (hz : ∀ p s, k0_pay13 (F := Ideal) q k (ix2 p s) = ((Z p s : ℝ) : EReal))
    (hr : ∀ p, r (ix3 0 p 0) = ((R p : ℝ) : EReal)) (p s : Fin 256) :
    k0_pay15 (F := Ideal) M k0_pay4 q k r (ix2 p s)
      = ((if mk p s then Real.exp (Z p s - (csum mk Z p s + R p)) else 0 : ℝ) : EReal) := by
  have hr' : k0_pay12 r (ix2 p 0) = ((R p : ℝ) : EReal) := by
    pointwise [k0_pay12]
    exact hr p
  pointwise [k0_pay15]
  rw [hz, pay14_eq M mk hM q k Z hz, hr', hM, ofBits_bot, ← EReal.coe_sub, ← EReal.coe_sub]
  by_cases h : mk p s
  · rw [if_pos h, decide_eq_true h]
    show Ideal.exp ((Z p s - csum mk Z p s - R p : ℝ) : EReal) = _
    rw [Ideal.exp_coe, sub_sub]
  · rw [if_neg h, decide_eq_false h]
    show Ideal.exp ⊥ = _
    rfl

end Cert.Sb

end
-- ==== Proof.Sb.Value.lean ====
/-
The value of the stick-breaking attention's kernel over the extended reals: after the point that folds in key block `κ`
of block row `ρ`, the running stick length of a row is the sum of the softplus of its scores from key `256 κ` up to the
row, and the running output is the sum of weights times values over the keys from `256 κ` to the end of the row's block.
-/
module

public import proofs.«01_k».proof.Proof.Sb.Step

@[expose] public section

noncomputable section

namespace Cert.Sb

open Idealize.ShloMosaic Idealize.ShloMosaic.TcCoe Cert.KernelIdeal Cert.KernelIdeal.Gen Finset

/-- Element `(h, n, d)` of a heads × rows × lanes array, the row a natural number. -/
def at3 {α : Type} (x : S16x32768x128.Idx → α) (h : Fin 16) (n : ℕ) (d : Fin 128) : α := x (ix3 h (Fin.ofNat 32768 n) d)

/-- The score of row `n` at key `j` in head `h`, the arrays' elements read as real numbers. -/
def score (q k : S16x32768x128.Idx → EReal) (h : Fin 16) (n j : ℕ) : ℝ :=
  dot (fun d => (at3 q h n d).toReal) (fun d => (at3 k h j d).toReal)

/-- Keys `a` to `e`'s part of row `n`'s output. -/
def partOut (q k v : S16x32768x128.Idx → EReal) (h : Fin 16) (n : ℕ) (d : Fin 128) (a e : ℕ) : EReal :=
  ∑ j ∈ Ico a e, (weight (score q k h n) n j : EReal) * at3 v h j d

/-- An array of real numbers. -/
def AllReal (x : S16x32768x128.Idx → EReal) : Prop := ∀ i, x i = ((x i).toReal : EReal)

/-! ### The blocks of a point -/

variable (m : (ℓ : Loc nD τ sig) → Buf (Elt Ideal) ℓ)

/-- The queries. -/
abbrev argQ (c : Dev nD) : S16x32768x128.Idx → EReal := m ((c.tc : Thread nD τ).loc main_arg0)
/-- The keys. -/
abbrev argK (c : Dev nD) : S16x32768x128.Idx → EReal := m ((c.tc : Thread nD τ).loc main_arg1)
/-- The values. -/
abbrev argV (c : Dev nD) : S16x32768x128.Idx → EReal := m ((c.tc : Thread nD τ).loc main_arg2)

theorem idx0 : ∀ t : Fin cfg0.N, win0_0.index t = ![0, t.val / 32, 0] :=
  (by decide +kernel : ∀ t : Fin grid0.N, win0_0.index t = ![0, t.val / 32, 0])
theorem idx1 : ∀ t : Fin cfg0.N, win0_1.index t = ![0, t.val / 1024 * 32 + (t.val / 32 % 32 - t.val % 32), 0] :=
  (by decide +kernel : ∀ t : Fin grid0.N, win0_1.index t = ![0, t.val / 1024 * 32 + (t.val / 32 % 32 - t.val % 32), 0])
theorem idx2 : ∀ t : Fin cfg0.N, win0_2.index t = ![0, t.val / 1024 * 32 + (t.val / 32 % 32 - t.val % 32), 0] :=
  (by decide +kernel : ∀ t : Fin grid0.N, win0_2.index t = ![0, t.val / 1024 * 32 + (t.val / 32 % 32 - t.val % 32), 0])
theorem idx3 : ∀ t : Fin cfg0.N, win0_3.index t = ![t.val / 32, 0] :=
  (by decide +kernel : ∀ t : Fin grid0.N, win0_3.index t = ![t.val / 32, 0])

theorem blkQ (c : Dev nD) (t : Fin cfg0.N) (h : Fin 16) (p : Fin 256) (d : Fin 128) :
    iblk m c 0 t (ix3 h p d) = at3 (argQ m c) h (t.val / 32 * 256 + p.val) d := by
  have ht : t.val < 4096 := Nat.lt_of_lt_of_eq t.isLt N_0
  unfold at3 argQ
  blk_simp [iblk, V, idx0 t]
  congr 1
  blk_ext [idx0 t]
  rw [Fin.val_ofNat]; omega

theorem blkK (c : Dev nD) (t : Fin cfg0.N) (hl : t.val % 32 ≤ t.val / 32 % 32) (h : Fin 16) (p : Fin 256) (d : Fin 128) :
    iblk m c 1 t (ix3 h p d) = at3 (argK m c) h ((t.val / 32 - t.val % 32) * 256 + p.val) d := by
  have ht : t.val < 4096 := Nat.lt_of_lt_of_eq t.isLt N_0
  unfold at3 argK
  blk_simp [iblk, V, idx1 t]
  congr 1
  blk_ext [idx1 t]
  have hd : t.val / 1024 = t.val / 32 / 32 := by rw [Nat.div_div_eq_div_mul]
  rw [Fin.val_ofNat]; omega

theorem blkV (c : Dev nD) (t : Fin cfg0.N) (hl : t.val % 32 ≤ t.val / 32 % 32) (h : Fin 16) (p : Fin 256) (d : Fin 128) :
    iblk m c 2 t (ix3 h p d) = at3 (argV m c) h ((t.val / 32 - t.val % 32) * 256 + p.val) d := by
  have ht : t.val < 4096 := Nat.lt_of_lt_of_eq t.isLt N_0
  unfold at3 argV
  blk_simp [iblk, V, idx2 t]
  congr 1
  blk_ext [idx2 t]
  have hd : t.val / 1024 = t.val / 32 / 32 := by rw [Nat.div_div_eq_div_mul]
  rw [Fin.val_ofNat]; omega

/-! ### One point -/

section step

variable (c : Dev nD) (t : Fin cfg0.N) (hl : t.val % 32 ≤ t.val / 32 % 32)
  (hq : AllReal (argQ m c)) (hk : AllReal (argK m c))
include hl hq hk

theorem pay13_at (h : Fin 16) (p s : Fin 256) :
    k0_pay13 (F := Ideal) (head (iblk m c 0 t) h) (head (iblk m c 1 t) h) (ix2 p s)
      = ((score (argQ m c) (argK m c) h (t.val / 32 * 256 + p.val) (((t.val / 32 - t.val % 32) * 256) + s.val) : ℝ) : EReal) := by
  refine pay13_eq _ _ (fun p d => (at3 (argQ m c) h (t.val / 32 * 256 + p.val) d).toReal) (fun s d => (at3 (argK m c) h (((t.val / 32 - t.val % 32) * 256) + s.val) d).toReal) ?_ ?_ p s
  · intro p d
    exact (blkQ m c t h p d).trans (hq _)
  · intro p d
    exact (blkK m c t hl h p d).trans (hk _)

/-- The mask says that the key lies before the row. -/
theorem before_iff (p s : Fin 256) : (s.val < p.val ∨ 0 < t.val % 32) ↔ ((t.val / 32 - t.val % 32) * 256) + s.val < t.val / 32 * 256 + p.val := by
  omega

/-- The block's part of a row's stick length, from key `s` on, with the part behind the block. -/
theorem csum_at (h : Fin 16) (p s : Fin 256) :
    csum (fun p s : Fin 256 => s.val < p.val ∨ 0 < t.val % 32)
        (fun p s : Fin 256 => score (argQ m c) (argK m c) h (t.val / 32 * 256 + p.val) (((t.val / 32 - t.val % 32) * 256) + s.val)) p s
      + ∑ j ∈ Ico (((t.val / 32 - t.val % 32) * 256) + 256) (t.val / 32 * 256 + p.val), soft (score (argQ m c) (argK m c) h (t.val / 32 * 256 + p.val) j)
      = ∑ j ∈ Ico (((t.val / 32 - t.val % 32) * 256) + s.val) (t.val / 32 * 256 + p.val), soft (score (argQ m c) (argK m c) h (t.val / 32 * 256 + p.val) j) := by
  rw [← tail_block _ ((t.val / 32 - t.val % 32) * 256) (t.val / 32 * 256 + p.val) s.val (by omega), csum]
  congr 1
  refine sum_congr rfl fun u _ => ?_
  have := before_iff m c t hl hq hk p u
  simp only [this]

theorem stepR_at (r : Vec Ideal S16x256x1 .f32)
    (hr : ∀ h p, r (ix3 h p 0) = ((∑ j ∈ Ico (((t.val / 32 - t.val % 32) * 256) + 256) (t.val / 32 * 256 + p.val), soft (score (argQ m c) (argK m c) h (t.val / 32 * 256 + p.val) j) : ℝ) : EReal))
    (h : Fin 16) (p : Fin 256) :
    stepR (grid0.coords t) (iblk m c 0 t) (iblk m c 1 t) r (ix3 h p 0)
      = ((∑ j ∈ Ico ((t.val / 32 - t.val % 32) * 256) (t.val / 32 * 256 + p.val), soft (score (argQ m c) (argK m c) h (t.val / 32 * 256 + p.val) j) : ℝ) : EReal) := by
  show k0_pay6 (k0_pay12 (head1 r h)) (k0_pay14 (k0_pay3 (grid0.coords t)) k0_pay4 (head (iblk m c 0 t) h) (head (iblk m c 1 t) h)) (ix3 0 p 0) = _
  pointwise [k0_pay6, k0_pay12]
  rw [pay14_eq _ (fun p s : Fin 256 => s.val < p.val ∨ 0 < t.val % 32) (mask_eq t) _ _ _ (pay13_at m c t hl hq hk h)]
  have e := csum_at m c t hl hq hk h p 0
  rw [show ((t.val / 32 - t.val % 32) * 256) + (0 : Fin 256).val = ((t.val / 32 - t.val % 32) * 256) from Nat.add_zero _] at e
  rw [← e, EReal.coe_add, add_comm]
  exact congrArg _ (hr h p)

theorem stepA_at (r : Vec Ideal S16x256x1 .f32) (a : Vec Ideal S16x256x128 .f32)
    (hr : ∀ h p, r (ix3 h p 0) = ((∑ j ∈ Ico (((t.val / 32 - t.val % 32) * 256) + 256) (t.val / 32 * 256 + p.val), soft (score (argQ m c) (argK m c) h (t.val / 32 * 256 + p.val) j) : ℝ) : EReal))
    (ha : ∀ h p d, a (ix3 h p d) = partOut (argQ m c) (argK m c) (argV m c) h (t.val / 32 * 256 + p.val) d (((t.val / 32 - t.val % 32) * 256) + 256) (t.val / 32 * 256 + 256))
    (h : Fin 16) (p : Fin 256) (d : Fin 128) :
    stepA (grid0.coords t) (iblk m c 0 t) (iblk m c 1 t) (iblk m c 2 t) r a (ix3 h p d)
      = partOut (argQ m c) (argK m c) (argV m c) h (t.val / 32 * 256 + p.val) d ((t.val / 32 - t.val % 32) * 256) (t.val / 32 * 256 + 256) := by
  show k0_pay5 (k0_pay11 (head (iblk m c 2 t) h)) (k0_pay15 (k0_pay3 (grid0.coords t)) k0_pay4 (head (iblk m c 0 t) h) (head (iblk m c 1 t) h) (head1 r h))
    (constant S256x128 .f32 0x00000000#32) (head a h) (ix3 0 p d) = _
  pointwise [k0_pay5, k0_pay11]
  rw [partOut, ← block_tail _ ((t.val / 32 - t.val % 32) * 256) _ (by omega)]
  refine congrArg₂ (· + ·) (ha h p d) (sum_congr rfl fun s _ => ?_)
  rw [pay15_eq _ (fun p s : Fin 256 => s.val < p.val ∨ 0 < t.val % 32) (mask_eq t) _ _ _ _
    (fun p : Fin 256 => ∑ j ∈ Ico (((t.val / 32 - t.val % 32) * 256) + 256) (t.val / 32 * 256 + p.val), soft (score (argQ m c) (argK m c) h (t.val / 32 * 256 + p.val) j))
    (pay13_at m c t hl hq hk h) (fun p => hr h p)]
  refine congrArg₂ (· * ·) ?_ (blkV m c t hl h s d)
  rw [weight, csum_at m c t hl hq hk h p s]
  have := before_iff m c t hl hq hk p s
  simp only [this]

end step

/-! ### All points of a row -/

theorem st_at (c : Dev nD) (hq : AllReal (argQ m c)) (hk : AllReal (argK m c)) :
    ∀ (k n : ℕ) (hn : n < cfg0.N), n % 32 = k → n % 32 ≤ n / 32 % 32 →
      (∀ h p, (st m c n hn).1 (ix3 h p 0)
        = ((∑ j ∈ Ico ((n / 32 - n % 32) * 256) (n / 32 * 256 + p.val),
            soft (score (argQ m c) (argK m c) h (n / 32 * 256 + p.val) j) : ℝ) : EReal))
      ∧ ∀ h p d, (st m c n hn).2 (ix3 h p d)
        = partOut (argQ m c) (argK m c) (argV m c) h (n / 32 * 256 + p.val) d ((n / 32 - n % 32) * 256) (n / 32 * 256 + 256) := by
  intro k
  induction k with
  | zero =>
    intro n hn h0 hl
    have hr : ∀ (h : Fin 16) (p : Fin 256), (k0_pay1 (F := Ideal)) (ix3 h p 0)
        = ((∑ j ∈ Ico ((n / 32 - n % 32) * 256 + 256) (n / 32 * 256 + p.val),
            soft (score (argQ m c) (argK m c) h (n / 32 * 256 + p.val) j) : ℝ) : EReal) := by
      intro h p
      rw [Ico_eq_empty (by omega), sum_empty]
      pointwise [k0_pay1]
      exact EReal.coe_zero.symm
    have ha : ∀ (h : Fin 16) (p : Fin 256) (d : Fin 128), (k0_pay2 (F := Ideal)) (ix3 h p d)
        = partOut (argQ m c) (argK m c) (argV m c) h (n / 32 * 256 + p.val) d ((n / 32 - n % 32) * 256 + 256) (n / 32 * 256 + 256) := by
      intro h p d
      rw [partOut, Ico_eq_empty (by omega), sum_empty]
      pointwise [k0_pay2]
    have e := st_first m c ⟨n, hn⟩ h0
    rw [show st m c n hn = _ from e]
    exact ⟨stepR_at m c ⟨n, hn⟩ hl hq hk _ hr, stepA_at m c ⟨n, hn⟩ hl hq hk _ _ hr ha⟩
  | succ k ih =>
    intro n hn h0 hl
    have hn' : n - 1 < cfg0.N := by omega
    have e1 : (n - 1) / 32 = n / 32 := by omega
    have e2 : (n - 1) % 32 = k := by omega
    obtain ⟨hr, ha⟩ := ih (n - 1) hn' e2 (by rw [e1, e2]; omega)
    rw [e1,
      show (n / 32 - (n - 1) % 32) * 256 = (n / 32 - n % 32) * 256 + 256 by omega] at hr ha
    have h1 : ¬ n % 32 = 0 := by omega
    have e := st_live m c ⟨n, hn⟩ h1 hl
    rw [show st m c n hn = _ from e]
    exact ⟨stepR_at m c ⟨n, hn⟩ hl hq hk _ hr, stepA_at m c ⟨n, hn⟩ hl hq hk _ _ hr ha⟩

end Cert.Sb

end
-- ==== Proof.Sb.Result.lean ====
/-
The kernel's result array over the extended reals, and its run: element `(n, 128 h + d)` is the sum of weights times
values over the keys from the start of row `n`'s sequence to the end of the row's block.
-/
module

public import proofs.«01_k».proof.Proof.Sb.Value

@[expose] public section

noncomputable section

namespace Cert.Sb

open Idealize.ShloMosaic Idealize.ShloMosaic.TcCoe Idealize.SL.Sem Cert.KernelIdeal Cert.KernelIdeal.Gen Finset

/-- The attention's output array. -/
def result (q k v : S16x32768x128.Idx → EReal) : S32768x2048.Idx → EReal := fun y =>
  partOut q k v ⟨(y 1).val / 128, Nat.div_lt_of_lt_mul (y 1).isLt⟩ (y 0).val ⟨(y 1).val % 128, Nat.mod_lt _ (by decide)⟩
    ((y 0).val / 8192 * 8192) ((y 0).val / 256 * 256 + 256)

variable (m : (ℓ : Loc nD τ sig) → Buf (Elt Ideal) ℓ) (ρ : Dev nD → PrngReg)

theorem rowOut_at (c : Dev nD) (hq : AllReal (argQ m c)) (hk : AllReal (argK m c)) (t : Fin cfg0.N) (p : Fin 256) (e : Fin 2048) :
    rowOut m c t (ix2 p e) = partOut (argQ m c) (argK m c) (argV m c) ⟨e.val / 128, Nat.div_lt_of_lt_mul e.isLt⟩
      (t.val / 32 * 256 + p.val) ⟨e.val % 128, Nat.mod_lt _ (by decide)⟩ ((t.val / 32 - t.val / 32 % 32) * 256) (t.val / 32 * 256 + 256) := by
  have e1 : (t.val / 32 * 32 + t.val / 32 % 32) / 32 = t.val / 32 := by omega
  have e2 : (t.val / 32 * 32 + t.val / 32 % 32) % 32 = t.val / 32 % 32 := by omega
  have h := (st_at m c hq hk _ (t.val / 32 * 32 + t.val / 32 % 32) (diag_lt t.isLt) rfl (by rw [e1, e2])).2
    ⟨e.val / 128, Nat.div_lt_of_lt_mul e.isLt⟩ p ⟨e.val % 128, Nat.mod_lt _ (by decide)⟩
  rw [e1, e2] at h
  exact h

theorem covers : (cfg0.win 3).Covers := (by decide +kernel : win0_3.Covers)

theorem emb0 (t : Fin cfg0.N) (y : S256x2048.Idx) :
    (((cfg0.win 3).blk t).view.emb y 0).val = t.val / 32 * 256 + (y 0).val := by blk_simp [idx3 t]
theorem emb1 (t : Fin cfg0.N) (y : S256x2048.Idx) : (((cfg0.win 3).blk t).view.emb y 1).val = (y 1).val := by blk_simp [idx3 t]

/-- A row's output block is the result array's. -/
theorem rowOut_eq (c : Dev nD) (hq : AllReal (argQ m c)) (hk : AllReal (argK m c)) (t : Fin cfg0.N) (y : S256x2048.Idx)
    (i : S32768x2048.Idx) (e0 : (i 0).val = t.val / 32 * 256 + (y 0).val) (e1 : (i 1).val = (y 1).val) :
    rowOut m c t y = result (argQ m c) (argK m c) (argV m c) i := by
  obtain ⟨p, e, rfl⟩ : ∃ (p : Fin 256) (e : Fin 2048), y = ix2 p e := ⟨y 0, y 1, eq_ix2 y⟩
  refine (rowOut_at m c hq hk t p e).trans ?_
  have e0' : (i 0).val = t.val / 32 * 256 + p.val := e0
  have e1' : (i 1).val = e.val := e1
  have hp : p.val < 256 := p.isLt
  unfold result
  simp only [e0', e1']
  rw [show (t.val / 32 * 256 + p.val) / 8192 * 8192 = (t.val / 32 - t.val / 32 % 32) * 256 by omega,
    show (t.val / 32 * 256 + p.val) / 256 * 256 = t.val / 32 * 256 by omega]

theorem final (c : Dev nD) (hq : AllReal (argQ m c)) (hk : AllReal (argK m c)) :
    (dats m 0 c).arrAt 3 cfg0.N = result (argQ m c) (argK m c) (argV m c) := by
  refine (dats m 0 c).arrAt_eq_of_covers 3 (result (argQ m c) (argK m c) (argV m c)) covers fun t hf y => ?_
  refine (congrFun (after3 m c t) y).trans ?_
  exact rowOut_eq m c hq hk t y _ (emb0 t y) (emb1 t y)

/-- The run: the result array holds `result`, the arguments are unchanged. -/
theorem run (hreal : ∀ c, AllReal (argQ m c) ∧ AllReal (argK m c)) :
    θ_run defs (onTc (τ := τ) (main (F := Ideal))) ⟨m, fun _ => 0, ρ⟩ fun r => ∀ c : Dev nD,
      r.2.mem ((c.tc : Thread nD τ).loc main_v0) = result (argQ m c) (argK m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c (hreal c).1 (hreal c).2),
    ((h c).1 0).trans ((dats m 0 c).arrAt_in 0 rfl _), ((h c).1 1).trans ((dats m 0 c).arrAt_in 1 rfl _),
    ((h c).1 2).trans ((dats m 0 c).arrAt_in 2 rfl _)⟩) (run_main m ρ)

end Cert.Sb

end
-- ==== Proof.Sb.Pre.lean ====
/-
The precondition: where it holds, every query and every key is a real number.
-/
module

public import proofs.«01_k».proof.Pre_finite
public import proofs.«01_k».proof.Proof.Sb.Result

@[expose] public section

noncomputable section

namespace Cert.Sb

open Idealize.ShloMosaic

/-- The side conditions of the precondition's own operations. -/
theorem preFacts : Cert.Pre_finite.Facts := ⟨by decide, by decide⟩

/-- A number whose absolute value is below infinity is real. -/
theorem real_of_abs_lt {x : EReal} (h : max x (-x) < ⊤) : x = ((x.toReal : ℝ) : EReal) := by
  refine (EReal.coe_toReal ?_ ?_).symm
  · rintro rfl; simp at h
  · rintro rfl; simp at h

theorem allReal_of {x : FVec Ideal Cert.KernelIdeal.S16x32768x128 .bf16} (hb : FTy.bits .bf16 < FTy.bits .f32)
    (hc : (⟨0, ![]⟩ : Shape).BroadcastsInDim ⟨3, ![16, 32768, 128]⟩ (![] : Fin 0 → Fin 3))
    (h : cmpf .olt (Host.absf (extf .f32 x hb)) (broadcastInDim ⟨3, ![16, 32768, 128]⟩ ![] hc (constant ⟨0, ![]⟩ .f32 0x7F800000#32))
      = fun _ => 1#1) : AllReal x := by
  intro i
  refine real_of_abs_lt ?_
  have e : Ideal.cmp .olt (max (x i : EReal) (-(x i : EReal))) (Ideal.ofBits .f32 0x7F800000#32) = 1#1 := congrFun h i
  rw [show Ideal.ofBits .f32 0x7F800000#32 = ⊤ from ofBits_top] at e
  exact (Ideal.cmp_olt_eq_one _ _).mp e

theorem allReal [Cert.Pre_finite.Facts] {q k v : FVec Ideal Cert.KernelIdeal.S16x32768x128 .bf16}
    (h1 : (Cert.Pre_finite.fn (F := Ideal) q k v).1 = fun _ => 1#1) (h2 : (Cert.Pre_finite.fn (F := Ideal) q k v).2 = fun _ => 1#1) :
    AllReal q ∧ AllReal k :=
  ⟨allReal_of _ Cert.Pre_finite.Facts.bcast_S_S16x32768x128 h1, allReal_of _ Cert.Pre_finite.Facts.bcast_S_S16x32768x128 h2⟩

end Cert.Sb

end
-- ==== Proof.Lin.LatentPre.lean ====
/-
The precondition of the latent layer's projections: where it holds, every row and every weight is a real number.
-/
module

public import proofs.«01_k».proof.Pre_real_rows
public import proofs.«01_k».proof.Pre_real_sample_rows
public import proofs.«01_k».proof.Proof.Sb.Pre

@[expose] public section

noncomputable section

namespace Cert.Lin

open Idealize.ShloMosaic

/-- The side conditions of the precondition's own operations, for the prompt's rows. -/
theorem rowsFacts : Cert.Pre_real_rows.Facts := ⟨by decide, by decide, by decide⟩
/-- The side conditions of the precondition's own operations, for the sample's rows. -/
theorem sampleRowsFacts : Cert.Pre_real_sample_rows.Facts := ⟨by decide, by decide, by decide⟩

/-- An array whose elements' absolute values are below infinity holds real numbers. -/
theorem real_of_below {S : Shape} (x : S.Idx → EReal) (hc : (⟨0, ![]⟩ : Shape).BroadcastsInDim S (![] : Fin 0 → Fin S.rank))
    (h : cmpf (F := Ideal) (φ := .f32) .olt (Host.absf x) (broadcastInDim S ![] hc (constant ⟨0, ![]⟩ .f32 0x7F800000#32)) = fun _ => 1#1)
    (i : S.Idx) : x i = ((x i).toReal : EReal) := by
  refine Cert.Sb.real_of_abs_lt ?_
  have e : Ideal.cmp .olt (max (x i) (-(x i))) (Ideal.ofBits .f32 0x7F800000#32) = 1#1 := congrFun h i
  rw [show Ideal.ofBits .f32 0x7F800000#32 = ⊤ from Cert.Sb.ofBits_top] at e
  exact (Ideal.cmp_olt_eq_one _ _).mp e

theorem rows_real [Cert.Pre_real_rows.Facts] (h : FVec Ideal Cert.Pre_real_rows.S32768x2048 .bf16)
    (w : FVec Ideal Cert.Pre_real_rows.S2048x1088 .f32) (g g' : FVec Ideal Cert.Pre_real_rows.S512 .f32)
    (h1 : (Cert.Pre_real_rows.fn (F := Ideal) h w g g').1 = fun _ => 1#1) (h2 : (Cert.Pre_real_rows.fn (F := Ideal) h w g g').2 = fun _ => 1#1) :
    (∀ i, (h i : EReal) = ((h i : EReal).toReal : EReal)) ∧ ∀ i, (w i : EReal) = ((w i : EReal).toReal : EReal) :=
  ⟨real_of_below h Cert.Pre_real_rows.Facts.bcast_S_S32768x2048 h1, real_of_below w Cert.Pre_real_rows.Facts.bcast_S_S2048x1088 h2⟩

theorem sampleRows_real [Cert.Pre_real_sample_rows.Facts] (h : FVec Ideal Cert.Pre_real_sample_rows.S1024x2048 .bf16)
    (w : FVec Ideal Cert.Pre_real_sample_rows.S2048x1088 .f32) (g g' : FVec Ideal Cert.Pre_real_sample_rows.S512 .f32)
    (h1 : (Cert.Pre_real_sample_rows.fn (F := Ideal) h w g g').1 = fun _ => 1#1)
    (h2 : (Cert.Pre_real_sample_rows.fn (F := Ideal) h w g g').2 = fun _ => 1#1) :
    (∀ i, (h i : EReal) = ((h i : EReal).toReal : EReal)) ∧ ∀ i, (w i : EReal) = ((w i : EReal).toReal : EReal) :=
  ⟨real_of_below h Cert.Pre_real_sample_rows.Facts.bcast_S_S1024x2048 h1,
    real_of_below w Cert.Pre_real_sample_rows.Facts.bcast_S_S2048x1088 h2⟩

end Cert.Lin

end
-- ==== Proof.Lin.SampleLatent.lean ====
/-
The latent layer's projections of the sample.
-/
module

public import proofs.«01_k».proof.Proof.Gen.Kernel13Ideal.Value
public import proofs.«01_k».proof.Proof.Lin.LatentMath
public import Idealize.ShloMosaic.Lib.StableHlo.ReadAt
public import Idealize.ShloMosaic.Lib.Pipeline.ValueKit.Geometry
public import Idealize.ShloMosaic.Lib.Tactic

@[expose] public section

noncomputable section

namespace Cert.Lin.SL

open Idealize.ShloMosaic Idealize.ShloMosaic.TcCoe Idealize.SL.Sem
open Cert.Kernel13Ideal Cert.Kernel13Ideal.Gen

variable (m : (ℓ : Loc nD τ sig) → Buf (Elt Ideal) ℓ) (ρ : Dev nD → PrngReg) (c : Dev nD)

/-- The input rows. -/
abbrev argH : S1024x2048.Idx → EReal := m ((c.tc : Thread nD τ).loc main_arg0)
/-- The weights. -/
abbrev argW : S2048x1088.Idx → EReal := m ((c.tc : Thread nD τ).loc main_arg1)
/-- The queries' scale. -/
abbrev argQ : S512.Idx → EReal := m ((c.tc : Thread nD τ).loc main_arg2)
/-- The latent's scale. -/
abbrev argL : S512.Idx → EReal := m ((c.tc : Thread nD τ).loc main_arg3)

/-- Row `n`'s position. -/
def pos (n : ℕ) : BitVec 32 := 2048#32 + BitVec.ofNat 32 (n % 32)

/-- The queries' latent. -/
def queries (h : S1024x2048.Idx → EReal) (w : S2048x1088.Idx → EReal) (g : S512.Idx → EReal) : S1024x512.Idx → EReal :=
  fun y => nrm512 (fun k => prod h w (y 0).val k.val) (fun k => g (ix1 k)) (y 1)
/-- The keys' and values' latent. -/
def latent (h : S1024x2048.Idx → EReal) (w : S2048x1088.Idx → EReal) (g : S512.Idx → EReal) : S1024x512.Idx → EReal :=
  fun y => nrm512 (fun k => prod h w (y 0).val (512 + k.val)) (fun k => g (ix1 k)) (y 1)
/-- The shared key, rotated. -/
def key (h : S1024x2048.Idx → EReal) (w : S2048x1088.Idx → EReal) : S1024x64.Idx → EReal :=
  fun y => turn h w (pos (y 0).val) (y 0).val (y 1).val

theorem pay1_at (x : Vec Ideal S512x2048 .bf16) (w : Vec Ideal S2048x64 .bf16) (a : Vec Ideal S512x64 .f32)
    (w' : Vec Ideal S2048x64 .bf16) (b : Vec Ideal S512x64 .f32) (r : Fin 512) (e : Fin 64) : k0_pay1 x w a w' b (ix2 r e)
      = (∑ k : Fin 2048, x (ix2 r k) * w (ix2 k e)) * a (ix2 r e) + (∑ k : Fin 2048, x (ix2 r k) * w' (ix2 k e)) * b (ix2 r e) := by
  pointwise [k0_pay1]

theorem pay2_at (x : Vec Ideal S512x2048 .bf16) (w : Vec Ideal S2048x512 .bf16) (g : Vec Ideal S1x512 .f32) (r e : Fin 512) :
    k0_pay2 x w g (ix2 r e) = nrm512 (fun j => ∑ k : Fin 2048, x (ix2 r k) * w (ix2 k j)) (fun k => g (ix2 0 k)) e := by
  pointwise [k0_pay2]
  rfl

theorem pay3_at (x : Vec Ideal S512x2048 .bf16) (w : Vec Ideal S2048x512 .bf16) (g : Vec Ideal S1x512 .f32) (r e : Fin 512) :
    k0_pay3 x w g (ix2 r e) = nrm512 (fun j => ∑ k : Fin 2048, x (ix2 r k) * w (ix2 k j)) (fun k => g (ix2 0 k)) e := by
  pointwise [k0_pay3]
  rfl

theorem V_wq (k : Fin 2048) (e : Fin 512) : V m c main_v30 (ix2 k e) = argW m c (ix2 k ⟨e.val, by omega⟩) := by
  unfold V
  simp only [hostOps0, List.flatten_cons, List.flatten_nil, List.append_nil]
  after_reads_at

theorem V_wkv (k : Fin 2048) (e : Fin 512) : V m c main_v32 (ix2 k e) = argW m c (ix2 k ⟨512 + e.val, by omega⟩) := by
  unfold V
  simp only [hostOps0, List.flatten_cons, List.flatten_nil, List.append_nil]
  after_reads_at

theorem V_wr (k : Fin 2048) (e : Fin 64) : V m c main_v33 (ix2 k e) = argW m c (ix2 k ⟨1024 + e.val, by omega⟩) := by
  unfold V
  simp only [hostOps0, List.flatten_cons, List.flatten_nil, List.append_nil]
  after_reads_at

theorem V_low (k : Fin 2048) (e : Fin 64) (h : e.val < 32) :
    V m c main_v40 (ix2 k e) = (-(argW m c (ix2 k ⟨1056 + e.val, by omega⟩)) : EReal) := by
  unfold V
  simp only [hostOps0, List.flatten_cons, List.flatten_nil, List.append_nil]
  after_reads_at
  simp only [h, dif_pos, if_pos]
  after_reads_at
  refine congrArg (fun j : Fin 1088 => (-(argW m c (ix2 k j)) : EReal)) (Fin.ext (?_ : 1024 + (32 + e.val) = 1056 + e.val))
  omega

theorem V_high (k : Fin 2048) (e : Fin 64) (h : ¬e.val < 32) :
    V m c main_v40 (ix2 k e) = argW m c (ix2 k ⟨992 + e.val, by omega⟩) := by
  unfold V
  simp only [hostOps0, List.flatten_cons, List.flatten_nil, List.append_nil]
  after_reads_at
  simp only [h, dif_neg, if_neg, not_false_eq_true]
  after_reads_at
  refine congrArg (fun j : Fin 1088 => argW m c (ix2 k j)) (Fin.ext (?_ : 1024 + (e.val - 32) = 992 + e.val))
  omega

theorem V_gq (e : Fin 512) : V m c main_v41 (ix2 0 e) = argQ m c (ix1 e) := by
  unfold V
  simp only [hostOps0, List.flatten_cons, List.flatten_nil, List.append_nil]
  after_reads_at

theorem V_gkv (e : Fin 512) : V m c main_v42 (ix2 0 e) = argL m c (ix1 e) := by
  unfold V
  simp only [hostOps0, List.flatten_cons, List.flatten_nil, List.append_nil]
  after_reads_at

/-- A row of the cosines' table. -/
theorem V_cos (n : Fin 1024) (e : Fin 64) : V m c main_v24 (ix2 n e) = Ideal.cos (angle (2048#32 + BitVec.ofNat 32 (n.val % 32)) (e.val % 32)) := by
  unfold V
  simp only [hostOps0, List.flatten_cons, List.flatten_nil, List.append_nil]
  after_reads_at
  rfl

/-- A row of the sines' table. -/
theorem V_sin (n : Fin 1024) (e : Fin 64) : V m c main_v28 (ix2 n e) = Ideal.sin (angle (2048#32 + BitVec.ofNat 32 (n.val % 32)) (e.val % 32)) := by
  unfold V
  simp only [hostOps0, List.flatten_cons, List.flatten_nil, List.append_nil]
  after_reads_at
  rfl

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![t.val % 2, 0] := (by decide +kernel : ∀ t : Fin grid0.N, win0_7.index t = ![t.val % 2, 0])
theorem idx8 : ∀ t : Fin cfg0.N, win0_8.index t = ![t.val % 2, 0] := (by decide +kernel : ∀ t : Fin grid0.N, win0_8.index t = ![t.val % 2, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem covers9 : (cfg0.win 9).Covers := (by decide +kernel : win0_9.Covers)
theorem covers10 : (cfg0.win 10).Covers := (by decide +kernel : win0_10.Covers)
theorem covers11 : (cfg0.win 11).Covers := (by decide +kernel : win0_11.Covers)

theorem lt_grid (t : Fin cfg0.N) : t.val < 2 := Nat.lt_of_lt_of_eq t.isLt N_0

section Blocks

variable (t : Fin cfg0.N)

theorem blk0 (r : Fin 512) (k : Fin 2048) : iblk m c 0 t (ix2 r k) = argH m c (ix2 (Fin.ofNat 1024 (t.val * 512 + r.val)) k) := by
  have ht := lt_grid t
  unfold iblk
  rw [show V m c (Pipeline.arrRef spec0 0) = m ((c : Thread nD τ).loc main_arg0) from V_main_arg0 m c]
  blk_simp [idx0 t]
  congr 1
  blk_ext [idx0 t]
  rw [Fin.val_ofNat]; omega

theorem blk1 (k : Fin 2048) (e : Fin 512) : iblk m c 1 t (ix2 k e) = argW m c (ix2 k (Fin.ofNat 1088 e.val)) := by
  rw [ofNat_of (⟨e.val, by omega⟩ : Fin 1088) rfl]
  refine Eq.trans ?_ (V_wq m c k e)
  unfold iblk
  blk_simp [idx1 t]
  congr 1
  blk_ext [idx1 t]

theorem blk2 (k : Fin 2048) (e : Fin 512) : iblk m c 2 t (ix2 k e) = argW m c (ix2 k (Fin.ofNat 1088 (512 + e.val))) := by
  rw [ofNat_of (⟨512 + e.val, by omega⟩ : Fin 1088) rfl]
  refine Eq.trans ?_ (V_wkv m c k e)
  unfold iblk
  blk_simp [idx2 t]
  congr 1
  blk_ext [idx2 t]

theorem blk3 (k : Fin 2048) (e : Fin 64) : iblk m c 3 t (ix2 k e) = argW m c (ix2 k (Fin.ofNat 1088 (1024 + e.val))) := by
  rw [ofNat_of (⟨1024 + e.val, by omega⟩ : Fin 1088) rfl]
  refine Eq.trans ?_ (V_wr m c k e)
  unfold iblk
  blk_simp [idx3 t]
  congr 1
  blk_ext [idx3 t]

theorem blk4 (k : Fin 2048) (e : Fin 64) : (iblk m c 4 t (ix2 k e) : EReal)
    = if e.val < 32 then -(argW m c (ix2 k (Fin.ofNat 1088 (1056 + e.val)))) else argW m c (ix2 k (Fin.ofNat 1088 (992 + e.val))) := by
  have base : iblk m c 4 t (ix2 k e) = V m c main_v40 (ix2 k e) := by
    unfold iblk
    blk_simp [idx4 t]
    congr 1
    blk_ext [idx4 t]
  rw [base]
  by_cases h : e.val < 32
  · rw [if_pos h, ofNat_of (⟨1056 + e.val, by omega⟩ : Fin 1088) rfl]
    exact V_low m c k e h
  · rw [if_neg h, ofNat_of (⟨992 + e.val, by omega⟩ : Fin 1088) rfl]
    exact V_high m c k e h

theorem blk5 (e : Fin 512) : iblk m c 5 t (ix2 0 e) = argQ m c (ix1 e) := by
  refine Eq.trans ?_ (V_gq m c e)
  unfold iblk
  blk_simp [idx5 t]
  congr 1
  blk_ext [idx5 t]

theorem blk6 (e : Fin 512) : iblk m c 6 t (ix2 0 e) = argL m c (ix1 e) := by
  refine Eq.trans ?_ (V_gkv m c e)
  unfold iblk
  blk_simp [idx6 t]
  congr 1
  blk_ext [idx6 t]

/-- A tile's row of a table lies at the row's position. -/
theorem pos_row (r : Fin 512) (n : Fin 1024) (hn : n.val = t.val % 2 * 512 + r.val) : 2048#32 + BitVec.ofNat 32 (n.val % 32) = pos (t.val * 512 + r.val) := by
  have ht := lt_grid t
  unfold pos
  congr 2
  omega

theorem blk7 (r : Fin 512) (e : Fin 64) : iblk m c 7 t (ix2 r e) = Ideal.cos (angle (pos (t.val * 512 + r.val)) (e.val % 32)) := by
  have ht := lt_grid t
  rw [← pos_row t r ⟨t.val % 2 * 512 + r.val, by omega⟩ rfl]
  refine Eq.trans ?_ (V_cos m c ⟨t.val % 2 * 512 + r.val, by omega⟩ e)
  unfold iblk
  blk_simp [idx7 t]
  congr 1
  blk_ext [idx7 t]

theorem blk8 (r : Fin 512) (e : Fin 64) : iblk m c 8 t (ix2 r e) = Ideal.sin (angle (pos (t.val * 512 + r.val)) (e.val % 32)) := by
  have ht := lt_grid t
  rw [← pos_row t r ⟨t.val % 2 * 512 + r.val, by omega⟩ rfl]
  refine Eq.trans ?_ (V_sin m c ⟨t.val % 2 * 512 + r.val, by omega⟩ e)
  unfold iblk
  blk_simp [idx8 t]
  congr 1
  blk_ext [idx8 t]

end Blocks

theorem out9_at (t : Fin cfg0.N) (r e : Fin 512) : out0_9 (iblk m c 0 t) (iblk m c 1 t) (iblk m c 2 t) (iblk m c 3 t) (iblk m c 4 t) (iblk m c 5 t) (iblk m c 6 t) (iblk m c 7 t) (iblk m c 8 t) (ix2 r e)
    = nrm512 (fun k => prod (argH m c) (argW m c) (t.val * 512 + r.val) k.val) (fun k => argQ m c (ix1 k)) e := by
  unfold out0_9
  rw [View.canon_unit_zero z2, View.ld_unit_zero (S := S512x2048) z2, View.ld_unit_zero (S := S2048x512) z2,
    View.ld_unit_zero (S := S1x512) z2, pay2_at]
  refine congrArg₂ (fun a g => nrm512 a g e) (funext fun j => ?_) (funext fun k => blk5 m c t k)
  exact Finset.sum_congr rfl fun k _ => congrArg₂ (· * ·) (blk0 m c t r k) (blk1 m c t k j)

theorem out10_at (t : Fin cfg0.N) (r e : Fin 512) : out0_10 (iblk m c 0 t) (iblk m c 1 t) (iblk m c 2 t) (iblk m c 3 t) (iblk m c 4 t) (iblk m c 5 t) (iblk m c 6 t) (iblk m c 7 t) (iblk m c 8 t) (ix2 r e)
    = nrm512 (fun k => prod (argH m c) (argW m c) (t.val * 512 + r.val) (512 + k.val)) (fun k => argL m c (ix1 k)) e := by
  unfold out0_10
  rw [View.canon_unit_zero z2, View.ld_unit_zero (S := S512x2048) z2, View.ld_unit_zero (S := S2048x512) z2,
    View.ld_unit_zero (S := S1x512) z2, pay3_at]
  refine congrArg₂ (fun a g => nrm512 a g e) (funext fun j => ?_) (funext fun k => blk6 m c t k)
  exact Finset.sum_congr rfl fun k _ => congrArg₂ (· * ·) (blk0 m c t r k) (blk2 m c t k j)

theorem out11_at (hh : ∀ i, argH m c i = ((argH m c i).toReal : EReal)) (hw : ∀ i, argW m c i = ((argW m c i).toReal : EReal))
    (t : Fin cfg0.N) (r : Fin 512) (e : Fin 64) : out0_11 (iblk m c 0 t) (iblk m c 1 t) (iblk m c 2 t) (iblk m c 3 t) (iblk m c 4 t) (iblk m c 5 t) (iblk m c 6 t) (iblk m c 7 t) (iblk m c 8 t) (ix2 r e)
    = turn (argH m c) (argW m c) (pos (t.val * 512 + r.val)) (t.val * 512 + r.val) e.val := by
  unfold out0_11
  rw [View.canon_unit_zero z2, View.ld_unit_zero (S := S512x2048) z2, View.ld_unit_zero (S := S2048x64) z2,
    View.ld_unit_zero (S := S2048x64) z2, View.ld_unit_zero (S := S512x64) z2, View.ld_unit_zero (S := S512x64) z2, pay1_at]
  refine Eq.trans ?_ (turn_eq (argH m c) (argW m c) hh hw (pos (t.val * 512 + r.val)) (t.val * 512 + r.val) e.val
    (fun k => iblk m c 4 t (ix2 k e)) fun k => blk4 m c t k e)
  rw [blk7, blk8]
  refine congrArg₂ (fun a b => a * _ + b * _) ?_ ?_
  · exact Finset.sum_congr rfl fun k _ => congrArg₂ (· * ·) (blk0 m c t r k) (blk3 m c t k e)
  · exact Finset.sum_congr rfl fun k _ => congrArg (· * _) (blk0 m c t r k)

theorem emb9_0 (t : Fin cfg0.N) (y : S512x512.Idx) : (((cfg0.win 9).blk t).view.emb y 0).val = t.val * 512 + (y 0).val := by
  blk_simp [idx9 t]
theorem emb9_1 (t : Fin cfg0.N) (y : S512x512.Idx) : (((cfg0.win 9).blk t).view.emb y 1).val = (y 1).val := by blk_simp [idx9 t]

theorem final9 : (dats m 0 c).arrAt 9 cfg0.N = queries (argH m c) (argW m c) (argQ m c) := by
  refine (dats m 0 c).arrAt_eq_of_covers 9 (queries (argH m c) (argW m c) (argQ m c)) covers9 fun t hf y => ?_
  refine (congrFun (after0_9 m c t) y).trans ?_
  have e0 := emb9_0 t y
  have e1 := emb9_1 t y
  revert e0 e1
  generalize ((cfg0.win 9).blk t).view.emb y = i
  intro e0 e1
  obtain ⟨r, e, rfl⟩ : ∃ (r : Fin 512) (e : Fin 512), y = ix2 r e := ⟨y 0, y 1, eq_ix2 y⟩
  refine (out9_at m c t r e).trans ?_
  show _ = nrm512 (fun k => prod (argH m c) (argW m c) (i 0).val k.val) (fun k => argQ m c (ix1 k)) (i 1)
  rw [e0, show i 1 = e from Fin.ext e1]
  rfl

theorem emb10_0 (t : Fin cfg0.N) (y : S512x512.Idx) : (((cfg0.win 10).blk t).view.emb y 0).val = t.val * 512 + (y 0).val := by
  blk_simp [idx10 t]
theorem emb10_1 (t : Fin cfg0.N) (y : S512x512.Idx) : (((cfg0.win 10).blk t).view.emb y 1).val = (y 1).val := by blk_simp [idx10 t]

theorem final10 : (dats m 0 c).arrAt 10 cfg0.N = latent (argH m c) (argW m c) (argL m c) := by
  refine (dats m 0 c).arrAt_eq_of_covers 10 (latent (argH m c) (argW m c) (argL m c)) covers10 fun t hf y => ?_
  refine (congrFun (after0_10 m c t) y).trans ?_
  have e0 := emb10_0 t y
  have e1 := emb10_1 t y
  revert e0 e1
  generalize ((cfg0.win 10).blk t).view.emb y = i
  intro e0 e1
  obtain ⟨r, e, rfl⟩ : ∃ (r : Fin 512) (e : Fin 512), y = ix2 r e := ⟨y 0, y 1, eq_ix2 y⟩
  refine (out10_at m c t r e).trans ?_
  show _ = nrm512 (fun k => prod (argH m c) (argW m c) (i 0).val (512 + k.val)) (fun k => argL m c (ix1 k)) (i 1)
  rw [e0, show i 1 = e from Fin.ext e1]
  rfl

theorem emb11_0 (t : Fin cfg0.N) (y : S512x64.Idx) : (((cfg0.win 11).blk t).view.emb y 0).val = t.val * 512 + (y 0).val := by
  blk_simp [idx11 t]
theorem emb11_1 (t : Fin cfg0.N) (y : S512x64.Idx) : (((cfg0.win 11).blk t).view.emb y 1).val = (y 1).val := by blk_simp [idx11 t]

theorem final11 (hh : ∀ i, argH m c i = ((argH m c i).toReal : EReal)) (hw : ∀ i, argW m c i = ((argW m c i).toReal : EReal)) : (dats m 0 c).arrAt 11 cfg0.N = key (argH m c) (argW m c) := by
  refine (dats m 0 c).arrAt_eq_of_covers 11 (key (argH m c) (argW m c)) covers11 fun t hf y => ?_
  refine (congrFun (after0_11 m c t) y).trans ?_
  have e0 := emb11_0 t y
  have e1 := emb11_1 t y
  revert e0 e1
  generalize ((cfg0.win 11).blk t).view.emb y = i
  intro e0 e1
  obtain ⟨r, e, rfl⟩ : ∃ (r : Fin 512) (e : Fin 64), y = ix2 r e := ⟨y 0, y 1, eq_ix2 y⟩
  refine (out11_at m c hh hw t r e).trans ?_
  show _ = turn (argH m c) (argW m c) (pos (i 0).val) (i 0).val (i 1).val
  rw [e0, e1]
  rfl

/-- The run: the results hold the latents and the rotated key, the arguments are unchanged. -/
theorem run (hh : ∀ c i, argH m c i = ((argH m c i).toReal : EReal)) (hw : ∀ c i, argW m c i = ((argW m c i).toReal : EReal)) :
    θ_run defs (onTc (τ := τ) (main (F := Ideal))) ⟨m, fun _ => 0, ρ⟩ fun r => ∀ c : Dev nD,
      r.2.mem ((c.tc : Thread nD τ).loc main_v43_0) = queries (argH m c) (argW m c) (argQ m c)
      ∧ r.2.mem ((c.tc : Thread nD τ).loc main_v43_1) = latent (argH m c) (argW m c) (argL m c)
      ∧ r.2.mem ((c.tc : Thread nD τ).loc main_v43_2) = key (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final9 m c), (h c).2.1.trans (final10 m c),
    (h c).2.2.1.trans (final11 m c (hh c) (hw c)), (h c).2.2.2⟩) (Value.run_blocks m ρ)

end Cert.Lin.SL

end
-- ==== Proof.Lin.SampleLatentRef.lean ====
/-
The reference of the latent layer's projections of the sample: its results are the kernel's.
-/
module

public import proofs.«01_k».proof.Proof.Gen.Reference13Ideal.Run
public import proofs.«01_k».proof.Proof.Lin.SampleLatent

@[expose] public section

noncomputable section

namespace Cert.Lin.SL.Ref

open Idealize.ShloMosaic Idealize.ShloMosaic.TcCoe Cert.Reference13Ideal Cert.Reference13Ideal.Gen

/-- The product. -/
def mul (h : FVec Ideal S1024x2048 .bf16) (w : FVec Ideal S2048x1088 .f32) : FVec Ideal S1024x1088 .f32 :=
  Host.dotGeneral dot_S1024x2048_S2048x1088_S1024x1088_1_0_0_1_n_n none (extf .f32 h bitsLt_bf16_f32) w

/-- The norm. -/
def nrm (y : FVec Ideal S1024x512 .f32) (g : FVec Ideal S512 .f32) : FVec Ideal S1024x512 .f32 :=
  mulf (mulf y (broadcastInDim S1024x512 ![0, 1] bcast_S1024x1_S1024x512_0_1 (Host.rsqrt (addf (Host.divf
    (broadcastInDim S1024x1 ![0] bcast_S1024_S1024x1_0
      (Host.reduceAdd (mulf y y) (constant S_ .f32 0x00000000#32) reducesTo_S1024x512_S1024_d1 h_S_))
    (broadcastInDim S1024x1 ![] bcast_S_S1024x1 (constant S_ .f32 0x44000000#32)))
    (broadcastInDim S1024x1 ![] bcast_S_S1024x1 (constant S_ .f32 0x358637BD#32))))))
    (broadcastInDim S1024x512 ![0, 1] bcast_S1x512_S1024x512_0_1 (broadcastInDim S1x512 ![1] bcast_S512_S1x512_1 g))

/-- The angles. -/
def angles : FVec Ideal S1024x32 .f32 :=
  mulf (broadcastInDim S1024x32 ![0, 1] bcast_S1024x1_S1024x32_0_1 (broadcastInDim S1024x1 ![0] bcast_S1024_S1024x1_0 (sitofp .f32
    (shapeCast _ (broadcastInDim S32x32 ![0, 1] bcast_S1x32_S32x32_0_1 (shapeCast _ (addi (broadcastInDim S32 ![] bcast_S_S32 (constantI S_ 32 2048#32)) (iotaInDim S32 32 0)) shapeCasts_S32_S1x32)) shapeCasts_S32x32_S1024))))
    (broadcastInDim S1024x32 ![0, 1] bcast_S1x32_S1024x32_0_1 (broadcastInDim S1x32 ![1] bcast_S32_S1x32_1
      (Host.powf (broadcastInDim S32 ![] bcast_S_S32 (constant S_ .f32 0x461C4000#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

/-- The key's earlier columns, before the rotation. -/
def low (y : FVec Ideal S1024x1088 .f32) : FVec Ideal S1024x32 .f32 :=
  extractStridedSlice S1024x32 ![0, 0] (extractStridedSlice S1024x64 ![0, 1024] y slices_S1024x1088_S1024x64_0_1024) slices_S1024x64_S1024x32_0_0
/-- The key's later columns, before the rotation. -/
def high (y : FVec Ideal S1024x1088 .f32) : FVec Ideal S1024x32 .f32 :=
  extractStridedSlice S1024x32 ![0, 32] (extractStridedSlice S1024x64 ![0, 1024] y slices_S1024x1088_S1024x64_0_1024) slices_S1024x64_S1024x32_0_32

theorem nrm_at (y : FVec Ideal S1024x512 .f32) (g : FVec Ideal S512 .f32) (n : Fin 1024) (d : Fin 512) :
    nrm y g (ix2 n d) = nrm512 (fun k => y (ix2 n k)) (fun k => g (ix1 k)) d := by
  pointwise [nrm]
  rfl

theorem mul_at (h : FVec Ideal S1024x2048 .bf16) (w : FVec Ideal S2048x1088 .f32) (n : Fin 1024) (e : Fin 1088) (j : ℕ) (hj : j = e.val) :
    mul h w (ix2 n e) = prod h w n.val j := by
  refine Eq.trans ?_ (prod_of h w n.val j n e rfl hj).symm
  pointwise [mul]

theorem angles_at (n : Fin 1024) (e : Fin 32) : angles (ix2 n e) = angle (pos n.val) e.val := by
  pointwise [angles]
  rfl

theorem low_at (y : FVec Ideal S1024x1088 .f32) (n : Fin 1024) (e : Fin 32) : low y (ix2 n e) = y (ix2 n ⟨1024 + e.val, by omega⟩) := by
  pointwise [low]
theorem high_at (y : FVec Ideal S1024x1088 .f32) (n : Fin 1024) (e : Fin 32) :
    high y (ix2 n e) = y (ix2 n ⟨1024 + (32 + e.val), by omega⟩) := by
  pointwise [high]

theorem queries_eq (h : FVec Ideal S1024x2048 .bf16) (w : FVec Ideal S2048x1088 .f32) (g : FVec Ideal S512 .f32) :
    truncf .bf16 (nrm (extractStridedSlice S1024x512 ![0, 0] (mul h w) slices_S1024x1088_S1024x512_0_0) g) bitsLt_bf16_f32 = queries h w g := by
  funext y
  obtain ⟨n, d, rfl⟩ : ∃ (n : Fin 1024) (d : Fin 512), y = ix2 n d := ⟨y 0, y 1, eq_ix2 y⟩
  have cast : truncf .bf16 (nrm (extractStridedSlice S1024x512 ![0, 0] (mul h w) slices_S1024x1088_S1024x512_0_0) g) bitsLt_bf16_f32 (ix2 n d)
      = nrm (extractStridedSlice S1024x512 ![0, 0] (mul h w) slices_S1024x1088_S1024x512_0_0) g (ix2 n d) := by pointwise []
  rw [cast, nrm_at]
  refine congrArg (fun z => nrm512 z _ d) (funext fun k => ?_)
  refine Eq.trans ?_ (mul_at h w n ⟨k.val, by omega⟩ k.val rfl)
  pointwise []

theorem latent_eq (h : FVec Ideal S1024x2048 .bf16) (w : FVec Ideal S2048x1088 .f32) (g : FVec Ideal S512 .f32) :
    nrm (extractStridedSlice S1024x512 ![0, 512] (mul h w) slices_S1024x1088_S1024x512_0_512) g = latent h w g := by
  funext y
  obtain ⟨n, d, rfl⟩ : ∃ (n : Fin 1024) (d : Fin 512), y = ix2 n d := ⟨y 0, y 1, eq_ix2 y⟩
  rw [nrm_at]
  refine congrArg (fun z => nrm512 z _ d) (funext fun k => ?_)
  refine Eq.trans ?_ (mul_at h w n ⟨512 + k.val, by omega⟩ (512 + k.val) rfl)
  pointwise []

/-- The rotated key. -/
def rot (y : FVec Ideal S1024x1088 .f32) : FVec Ideal S1024x64 .f32 :=
  concatenate S1024x64 1 [⟨S1024x32, subf (mulf (low y) (Host.cos angles)) (mulf (high y) (Host.sin angles))⟩,
    ⟨S1024x32, addf (mulf (low y) (Host.sin angles)) (mulf (high y) (Host.cos angles))⟩] concatenates_S1024x32_S1024x32_S1024x64_d1

theorem rot_low (y : FVec Ideal S1024x1088 .f32) (n : Fin 1024) (e : Fin 64) (h : e.val < 32) :
    rot y (ix2 n e) = (low y (ix2 n ⟨e.val, h⟩) * Ideal.cos (angles (ix2 n ⟨e.val, h⟩))
      - high y (ix2 n ⟨e.val, h⟩) * Ideal.sin (angles (ix2 n ⟨e.val, h⟩)) : EReal) := by
  pointwise [rot]
  simp only [h, dif_pos, if_pos]
  try pointwise []

theorem rot_high (y : FVec Ideal S1024x1088 .f32) (n : Fin 1024) (e : Fin 64) (h : ¬e.val < 32) :
    rot y (ix2 n e) = (low y (ix2 n ⟨e.val - 32, by omega⟩) * Ideal.sin (angles (ix2 n ⟨e.val - 32, by omega⟩))
      + high y (ix2 n ⟨e.val - 32, by omega⟩) * Ideal.cos (angles (ix2 n ⟨e.val - 32, by omega⟩)) : EReal) := by
  pointwise [rot]
  simp only [h, dif_neg, if_neg, not_false_eq_true]
  try pointwise []

theorem key_eq (h : FVec Ideal S1024x2048 .bf16) (w : FVec Ideal S2048x1088 .f32) : rot (mul h w) = key h w := by
  funext y
  obtain ⟨n, e, rfl⟩ : ∃ (n : Fin 1024) (e : Fin 64), y = ix2 n e := ⟨y 0, y 1, eq_ix2 y⟩
  show _ = turn h w (pos n.val) n.val e.val
  unfold turn
  by_cases h32 : e.val < 32
  · rw [if_pos h32, rot_low _ _ _ h32, low_at, high_at, angles_at,
      mul_at h w n ⟨1024 + e.val, by omega⟩ (1024 + e.val) rfl,
      mul_at h w n ⟨1024 + (32 + e.val), by omega⟩ (1056 + e.val) (by show _ = 1024 + (32 + e.val); omega),
      show e.val % 32 = e.val by omega]
  · rw [if_neg h32, rot_high _ _ _ h32, low_at, high_at, angles_at,
      mul_at h w n ⟨1024 + (e.val - 32), by omega⟩ (992 + e.val) (by show _ = 1024 + (e.val - 32); omega),
      mul_at h w n ⟨1024 + (32 + (e.val - 32)), by omega⟩ (1024 + e.val) (by show _ = 1024 + (32 + (e.val - 32)); omega),
      show e.val % 32 = e.val - 32 by omega]

/-- The reference's run: its results are the kernel's, the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = queries (m ((c.tc : Thread nD τ).loc main_arg0)) (m ((c.tc : Thread nD τ).loc main_arg1))
        (m ((c.tc : Thread nD τ).loc main_arg2))
      ∧ r.2.mem ((c.tc : Thread nD τ).loc main_v37) = latent (m ((c.tc : Thread nD τ).loc main_arg0)) (m ((c.tc : Thread nD τ).loc main_arg1))
        (m ((c.tc : Thread nD τ).loc main_arg3))
      ∧ r.2.mem ((c.tc : Thread nD τ).loc main_v62) = key (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (queries_eq _ _ _), (h c).2.1.trans (latent_eq _ _ _),
    (h c).2.2.1.trans ((show _ = rot (mul _ _) from rfl).trans (key_eq _ _)), (h c).2.2.2⟩) (Value.run m ρ)

end Cert.Lin.SL.Ref

end
-- ==== Proof.SFfn.Pieces.lean ====
/-
What a grid point of the sample's feed-forward kernel leaves behind, in terms of the values its stores hold.
-/
module

public import proofs.«01_k».proof.Proof.Gen.Kernel14Ideal.Frame
public import Idealize.ShloMosaic.Lib.Pipeline.ValueKit.Basic
public import Idealize.ShloMosaic.Lib.WritesUnit

@[expose] public section

noncomputable section

namespace Cert.SFfn

open Idealize.ShloMosaic Idealize.ShloMosaic.TcCoe Idealize.ShloMosaic.Tactic Idealize.SL.Sem Cert.Kernel14Ideal Cert.Kernel14Ideal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (m : (ℓ : Loc nD τ sig) → Buf (Elt F) ℓ)

/-- The state's elder row of every sequence. -/
def elder (x : Vec F S16x2x512 .f32) : Vec F S16x1x512 .f32 :=
  View.ld x (Rect.unit (s := S16x2x512) ![0, 0, 0] S16x1x512.size inb_S16x2x512_S16x1x512_0_0_0)

/-- The state's younger row of every sequence. -/
def younger (x : Vec F S16x2x512 .f32) : Vec F S16x1x512 .f32 :=
  View.ld x (Rect.unit (s := S16x2x512) ![0, 1, 0] S16x1x512.size inb_S16x2x512_S16x1x512_0_1_0)

/-- The filtered value columns of a point. -/
def vals (x0 : Vec F S512x2048 .bf16) (x2 : Vec F S2048x512 .bf16) (x4 : Vec F S3x512 .f32) (x6 : Vec F S1x512 .f32)
    (s : Vec F S16x2x512 .f32) : FVec F S512x512 .f32 :=
  k0_pay7 (k0_pay2 x0 x2) (k0_pay3 x0 x2 (younger s)) x4 (k0_pay5 x6) (k0_pay6 x0 x2 (younger s) (elder s) x4)

/-- The down product after a point, from its input blocks and the down product before it. -/
def step (x0 : Vec F S512x2048 .bf16) (x2 x3 : Vec F S2048x512 .bf16) (x4 x5 : Vec F S3x512 .f32) (x6 x7 : Vec F S1x512 .f32)
    (x8 : Vec F S512x2048 .bf16) (s s' : Vec F S16x2x512 .f32) (a : Vec F S512x2048 .f32) : FVec F S512x2048 .f32 :=
  k0_pay13 (vals x0 x2 x4 x6 s) (k0_pay8 x0 x3) (k0_pay9 x0 x3 (younger s')) (k0_pay10 x0 x3 (younger s') (elder s')) x5 x7 a x8

/-- The same over the point's input blocks. -/
abbrev stepAt (c : Dev nD) (t : Fin cfg0.N) (a : Vec F S512x2048 .f32) : FVec F S512x2048 .f32 :=
  step (iblk m c 0 t) (iblk m c 2 t) (iblk m c 3 t) (iblk m c 4 t) (iblk m c 5 t) (iblk m c 6 t) (iblk m c 7 t) (iblk m c 8 t)
    (iblk m c 11 t) (iblk m c 12 t) a

/-- What the point before left. -/
abbrev prev (c : Dev nD) (t : Fin cfg0.N) := outsAt0 m c (t.val - 1) (Nat.lt_of_le_of_lt (Nat.sub_le _ _) t.isLt)

theorem read_scratch (h : (scM0_0).IsWhole) (X : Vec F S512x2048 .f32) :
    View.read (Elt F) (View.whole cc0_scratch0) (h.unread X) = X := Memref.IsWhole.read_unread _ _

theorem tailV_A (c : Dev nD) (t : Fin cfg0.N) (h0 : t.val % 11 = 0) (h1 : ¬t.val % 11 = 10) :
    (outsAt0 m c t.val t.isLt).2.1 = k0_pay4 (iblk m c 0 t) (iblk m c 2 t) := by
  rw [outsAt0_A m c t h0 h1]
  dsimp only
  unfold out0_A_14
  rw [View.read_writes_junk_eq_canon]
  unfold kernelRun0_A
  dsimp only
  sl_unfold_words
  rw [View.canon_cons_unit_zero (S := S16x2x512) zero3]
  simp only [View.readAt_eq_ld, Memref.IsWhole.read_unread, View.ld_unit_zero (S := S512x2048) zero2, View.ld_unit_zero (S := S2048x512) zero2,
    View.ld_unit_zero (S := S3x512) zero2, View.ld_unit_zero (S := S1x512) zero2, View.ld_unit_zero (S := S1x2048) zero2]

theorem tailG_A (c : Dev nD) (t : Fin cfg0.N) (h0 : t.val % 11 = 0) (h1 : ¬t.val % 11 = 10) :
    (outsAt0 m c t.val t.isLt).2.2.1 = k0_pay11 (iblk m c 0 t) (iblk m c 3 t) := by
  rw [outsAt0_A m c t h0 h1]
  dsimp only
  unfold out0_A_15
  rw [View.read_writes_junk_eq_canon]
  unfold kernelRun0_A
  dsimp only
  sl_unfold_words
  rw [View.canon_cons_unit_zero (S := S16x2x512) zero3]
  simp only [View.readAt_eq_ld, Memref.IsWhole.read_unread, View.ld_unit_zero (S := S512x2048) zero2, View.ld_unit_zero (S := S2048x512) zero2,
    View.ld_unit_zero (S := S3x512) zero2, View.ld_unit_zero (S := S1x512) zero2, View.ld_unit_zero (S := S1x2048) zero2]

theorem acc_A (c : Dev nD) (t : Fin cfg0.N) (h0 : t.val % 11 = 0) (h1 : ¬t.val % 11 = 10) :
    (outsAt0 m c t.val t.isLt).2.2.2 = stepAt m c t (k0_pay12 (F := F)) := by
  rw [outsAt0_A m c t h0 h1]
  dsimp only
  unfold sout0_A_0
  rw [View.read_writes_junk_eq_canon]
  unfold kernelRun0_A
  dsimp only
  sl_unfold_words
  rw [View.canon_cons_unit_zero (S := S512x2048) zero2]
  rw [View.readCov_unit_zero (S := S512x2048) _ zero2]
  simp only [View.readAt_eq_ld, Memref.IsWhole.read_unread, View.ld_unit_zero (S := S512x2048) zero2, View.ld_unit_zero (S := S2048x512) zero2,
    View.ld_unit_zero (S := S3x512) zero2, View.ld_unit_zero (S := S1x512) zero2, View.ld_unit_zero (S := S1x2048) zero2, read_scratch]
  unfold stepAt step vals younger elder
  rfl

theorem tailV_B (c : Dev nD) (t : Fin cfg0.N) (h0 : ¬t.val % 11 = 0) (h1 : ¬t.val % 11 = 10) :
    (outsAt0 m c t.val t.isLt).2.1 = k0_pay4 (iblk m c 0 t) (iblk m c 2 t) := by
  rw [outsAt0_B m c t h0 h1]
  dsimp only
  unfold out0_B_14
  rw [View.read_writes_junk_eq_canon]
  unfold kernelRun0_B
  dsimp only
  sl_unfold_words
  rw [View.canon_cons_unit_zero (S := S16x2x512) zero3]
  simp only [View.readAt_eq_ld, Memref.IsWhole.read_unread, View.ld_unit_zero (S := S512x2048) zero2, View.ld_unit_zero (S := S2048x512) zero2,
    View.ld_unit_zero (S := S3x512) zero2, View.ld_unit_zero (S := S1x512) zero2, View.ld_unit_zero (S := S1x2048) zero2]

theorem tailG_B (c : Dev nD) (t : Fin cfg0.N) (h0 : ¬t.val % 11 = 0) (h1 : ¬t.val % 11 = 10) :
    (outsAt0 m c t.val t.isLt).2.2.1 = k0_pay11 (iblk m c 0 t) (iblk m c 3 t) := by
  rw [outsAt0_B m c t h0 h1]
  dsimp only
  unfold out0_B_15
  rw [View.read_writes_junk_eq_canon]
  unfold kernelRun0_B
  dsimp only
  sl_unfold_words
  rw [View.canon_cons_unit_zero (S := S16x2x512) zero3]
  simp only [View.readAt_eq_ld, Memref.IsWhole.read_unread, View.ld_unit_zero (S := S512x2048) zero2, View.ld_unit_zero (S := S2048x512) zero2,
    View.ld_unit_zero (S := S3x512) zero2, View.ld_unit_zero (S := S1x512) zero2, View.ld_unit_zero (S := S1x2048) zero2]

theorem acc_B (c : Dev nD) (t : Fin cfg0.N) (h0 : ¬t.val % 11 = 0) (h1 : ¬t.val % 11 = 10) :
    (outsAt0 m c t.val t.isLt).2.2.2 = stepAt m c t (prev m c t).2.2.2 := by
  rw [outsAt0_B m c t h0 h1]
  dsimp only
  unfold sout0_B_0
  rw [View.read_writes_junk_eq_canon]
  unfold kernelRun0_B
  dsimp only
  sl_unfold_words
  rw [View.canon_cons_unit_zero (S := S512x2048) zero2]
  simp only [View.readAt_eq_ld, Memref.IsWhole.read_unread, View.ld_unit_zero (S := S512x2048) zero2, View.ld_unit_zero (S := S2048x512) zero2,
    View.ld_unit_zero (S := S3x512) zero2, View.ld_unit_zero (S := S1x512) zero2, View.ld_unit_zero (S := S1x2048) zero2, read_scratch]
  unfold stepAt step vals younger elder
  rfl

theorem tailV_C (c : Dev nD) (t : Fin cfg0.N) (h0 : ¬t.val % 11 = 0) (h1 : t.val % 11 = 10) :
    (outsAt0 m c t.val t.isLt).2.1 = k0_pay4 (iblk m c 0 t) (iblk m c 2 t) := by
  rw [outsAt0_C m c t h0 h1]
  dsimp only
  unfold out0_C_14
  rw [View.read_writes_junk_eq_canon]
  unfold kernelRun0_C
  dsimp only
  sl_unfold_words
  rw [View.canon_cons_unit_zero (S := S16x2x512) zero3]
  simp only [View.readAt_eq_ld, Memref.IsWhole.read_unread, View.ld_unit_zero (S := S512x2048) zero2, View.ld_unit_zero (S := S2048x512) zero2,
    View.ld_unit_zero (S := S3x512) zero2, View.ld_unit_zero (S := S1x512) zero2, View.ld_unit_zero (S := S1x2048) zero2]

theorem tailG_C (c : Dev nD) (t : Fin cfg0.N) (h0 : ¬t.val % 11 = 0) (h1 : t.val % 11 = 10) :
    (outsAt0 m c t.val t.isLt).2.2.1 = k0_pay11 (iblk m c 0 t) (iblk m c 3 t) := by
  rw [outsAt0_C m c t h0 h1]
  dsimp only
  unfold out0_C_15
  rw [View.read_writes_junk_eq_canon]
  unfold kernelRun0_C
  dsimp only
  sl_unfold_words
  rw [View.canon_cons_unit_zero (S := S16x2x512) zero3]
  simp only [View.readAt_eq_ld, Memref.IsWhole.read_unread, View.ld_unit_zero (S := S512x2048) zero2, View.ld_unit_zero (S := S2048x512) zero2,
    View.ld_unit_zero (S := S3x512) zero2, View.ld_unit_zero (S := S1x512) zero2, View.ld_unit_zero (S := S1x2048) zero2]

theorem acc_C (c : Dev nD) (t : Fin cfg0.N) (h0 : ¬t.val % 11 = 0) (h1 : t.val % 11 = 10) :
    (outsAt0 m c t.val t.isLt).2.2.2 = stepAt m c t (prev m c t).2.2.2 := by
  rw [outsAt0_C m c t h0 h1]
  dsimp only
  unfold sout0_C_0
  rw [View.read_writes_junk_eq_canon]
  unfold kernelRun0_C
  dsimp only
  sl_unfold_words
  rw [View.canon_cons_unit_zero (S := S512x2048) zero2]
  simp only [View.readAt_eq_ld, Memref.IsWhole.read_unread, View.ld_unit_zero (S := S512x2048) zero2, View.ld_unit_zero (S := S2048x512) zero2,
    View.ld_unit_zero (S := S3x512) zero2, View.ld_unit_zero (S := S1x512) zero2, View.ld_unit_zero (S := S1x2048) zero2, read_scratch]
  unfold stepAt step vals younger elder
  rfl

theorem out_C (c : Dev nD) (t : Fin cfg0.N) (h0 : ¬t.val % 11 = 0) (h1 : t.val % 11 = 10) :
    (outsAt0 m c t.val t.isLt).1 = k0_pay1 (iblk m c 1 t) (outsAt0 m c t.val t.isLt).2.2.2 (iblk m c 9 t) := by
  rw [acc_C m c t h0 h1, outsAt0_C m c t h0 h1]
  dsimp only
  unfold out0_C_13
  rw [View.read_writes_junk_eq_canon]
  unfold kernelRun0_C
  dsimp only
  sl_unfold_words
  rw [View.canon_cons_unit_zero (S := S512x2048) zero2, View.readCov_unit_zero (S := S512x2048) _ zero2]
  simp only [View.readAt_eq_ld, Memref.IsWhole.read_unread, View.ld_unit_zero (S := S512x2048) zero2, View.ld_unit_zero (S := S2048x512) zero2,
    View.ld_unit_zero (S := S3x512) zero2, View.ld_unit_zero (S := S1x512) zero2, View.ld_unit_zero (S := S1x2048) zero2, read_scratch]
  unfold stepAt step vals younger elder
  rfl

end Cert.SFfn

end
-- ==== Proof.Ffn.Math.lean ====
/-
The feed-forward layer as formulas over the extended reals: the up product, the causal filter of three taps, the gated
activation, the down product in parts, and the normalized result.
-/
module

public import proofs.«01_k».proof.Proof.Ffn.Step

@[expose] public section

noncomputable section

namespace Cert.Ffn

open Idealize.ShloMosaic Finset

variable (h x : ℕ → Fin 2048 → EReal) (w : Fin 2048 → ℕ → EReal) (cw : Fin 3 → ℕ → EReal) (cb : ℕ → EReal)
  (wd : ℕ → Fin 2048 → EReal) (g : Fin 2048 → EReal)

/-- The up product of row `n` at column `e`. -/
def up (n e : ℕ) : EReal := ∑ k, h n k * w k e

/-- The up product `δ` rows back in row `n`'s sequence, zero before its start. -/
def upm (δ n e : ℕ) : EReal := if δ ≤ n % 8192 then up h w (n - δ) e else 0

/-- The filtered up product. -/
def conv (n e : ℕ) : EReal := tap (cb e) (cw 0 e) (cw 1 e) (cw 2 e) (upm h w 2 n e) (upm h w 1 n e) (up h w n e)

/-- The gated activation of row `n` at column `f`: the gate's columns lie 5632 after the value's. -/
def hid (n f : ℕ) : EReal := gelu (conv h w cw cb n (5632 + f)) * conv h w cw cb n f

/-- The down product over the first `K` columns. -/
def mix (n K : ℕ) (d : Fin 2048) : EReal := ∑ f ∈ range K, hid h w cw cb n f * wd f d

/-- The layer's output. -/
def out (n : ℕ) (d : Fin 2048) : EReal := x n d + norm (mix h w cw cb wd n 5632) g d

theorem mix_zero (n : ℕ) (d : Fin 2048) : mix h w cw cb wd n 0 d = 0 := by
  unfold mix
  rw [range_zero, sum_empty]

theorem mix_step (n j : ℕ) (d : Fin 2048) :
    mix h w cw cb wd n (512 * (j + 1)) d
      = mix h w cw cb wd n (512 * j) d + ∑ f : Fin 512, hid h w cw cb n (j * 512 + f.val) * wd (j * 512 + f.val) d := by
  unfold mix
  rw [show 512 * (j + 1) = j * 512 + 512 by ring, sum_range_add, show 512 * j = j * 512 by ring, sum_range (n := 512)]

/-- The element one row back of a block of rows, with the block's predecessor carried over. -/
theorem back1_eq (t : Fin Cert.Kernel2Ideal.cfg0.N) (v : Fin 8 → EReal) (e : ℕ)
    (hv : 0 < t.val / 11 → ∀ s, v s = up h w ((t.val / 11 - 1) * 512 + (504 + s.val)) e) (r : Fin 512) :
    back1 t (fun s => up h w (t.val / 11 * 512 + s.val) e) v r = upm h w 1 (t.val / 11 * 512 + r.val) e := by
  unfold back1 upm
  by_cases h0 : r.val = 0
  · rw [if_pos h0]
    by_cases h1 : t.val / 11 % 16 = 0
    · rw [if_pos h1, if_neg (by omega)]
    · rw [if_neg h1, if_pos (by omega), hv (by omega)]
      congr 1
      show (t.val / 11 - 1) * 512 + (504 + 7) = _
      omega
  · rw [if_neg h0, if_pos (by omega)]
    refine congrArg (fun n => up h w n e) (?_ : t.val / 11 * 512 + (r.val - 1) = _)
    omega

theorem back2_eq (t : Fin Cert.Kernel2Ideal.cfg0.N) (v : Fin 8 → EReal) (e : ℕ)
    (hv : 0 < t.val / 11 → ∀ s, v s = up h w ((t.val / 11 - 1) * 512 + (504 + s.val)) e) (r : Fin 512) :
    back2 t (fun s => up h w (t.val / 11 * 512 + s.val) e) v r = upm h w 2 (t.val / 11 * 512 + r.val) e := by
  unfold back2 upm
  by_cases h0 : r.val = 0
  · rw [if_pos h0]
    by_cases h1 : t.val / 11 % 16 = 0
    · rw [if_pos h1, if_neg (by omega)]
    · rw [if_neg h1, if_pos (by omega), hv (by omega)]
      congr 1
      show (t.val / 11 - 1) * 512 + (504 + 6) = _
      omega
  · rw [if_neg h0]
    by_cases h2 : r.val = 1
    · rw [if_pos h2]
      by_cases h1 : t.val / 11 % 16 = 0
      · rw [if_pos h1, if_neg (by omega)]
      · rw [if_neg h1, if_pos (by omega), hv (by omega)]
        congr 1
        show (t.val / 11 - 1) * 512 + (504 + 7) = _
        omega
    · rw [if_neg h2, if_pos (by omega)]
      refine congrArg (fun n => up h w n e) (?_ : t.val / 11 * 512 + (r.val - 2) = _)
      omega

end Cert.Ffn

end
-- ==== Proof.SFfn.Step.lean ====
/-
The values a grid point of the sample's feed-forward kernel computes, element by element over the extended reals.
-/
module

public import proofs.«01_k».proof.Proof.SFfn.Pieces
public import proofs.«01_k».proof.Proof.Ffn.Math
public import Idealize.ShloMosaic.PureOps.Ideal
public import Idealize.ShloMosaic.Lib.Pointwise
public import Idealize.ShloMosaic.Lib.WordCmp

@[expose] public section

noncomputable section

namespace Cert.SFfn

open Idealize.ShloMosaic Idealize.ShloMosaic.TcCoe Idealize.ShloMosaic.WordCmp Cert.Kernel14Ideal Cert.Kernel14Ideal.Gen
open Cert.Ffn (tap gelu norm)

/-- Row `s` of the tile's sequence `q`. -/
abbrev row (q : Fin 16) (s : Fin 32) : Fin 512 := ⟨q.val * 32 + s.val, by omega⟩
/-- The sequence of a tile's row. -/
abbrev seqOf (r : Fin 512) : Fin 16 := ⟨r.val / 32, by omega⟩
/-- A tile's row in its sequence. -/
abbrev posOf (r : Fin 512) : Fin 32 := ⟨r.val % 32, by omega⟩

theorem pay2_at (x : Vec Ideal S512x2048 .bf16) (w : Vec Ideal S2048x512 .bf16) (q : Fin 16) (s : Fin 32) (e : Fin 512) :
    k0_pay2 x w (ix3 q s e) = ∑ k : Fin 2048, x (ix2 (row q s) k) * w (ix2 k e) := by
  pointwise [k0_pay2]

theorem pay8_at (x : Vec Ideal S512x2048 .bf16) (w : Vec Ideal S2048x512 .bf16) (q : Fin 16) (s : Fin 32) (e : Fin 512) :
    k0_pay8 x w (ix3 q s e) = ∑ k : Fin 2048, x (ix2 (row q s) k) * w (ix2 k e) := by
  pointwise [k0_pay8]

theorem pay4_at (x : Vec Ideal S512x2048 .bf16) (w : Vec Ideal S2048x512 .bf16) (q : Fin 16) (s : Fin 2) (e : Fin 512) :
    k0_pay4 x w (ix3 q s e) = k0_pay2 x w (ix3 q ⟨30 + s.val, by omega⟩ e) := by
  pointwise [k0_pay4]

theorem pay11_at (x : Vec Ideal S512x2048 .bf16) (w : Vec Ideal S2048x512 .bf16) (q : Fin 16) (s : Fin 2) (e : Fin 512) :
    k0_pay11 x w (ix3 q s e) = k0_pay8 x w (ix3 q ⟨30 + s.val, by omega⟩ e) := by
  pointwise [k0_pay11]

theorem pay12_at (y : S512x2048.Idx) : k0_pay12 (F := Ideal) y = 0 := by
  pointwise [k0_pay12]

theorem pay1_at (x a : Vec Ideal S512x2048 .f32) (g : Vec Ideal S1x2048 .f32) (r : Fin 512) (d : Fin 2048) :
    k0_pay1 x a g (ix2 r d) = x (ix2 r d) + norm (fun k => a (ix2 r k)) (fun k => g (ix2 0 k)) d := by
  pointwise [k0_pay1]
  rfl

/-- A choice by the row's number: at row `k` the first, elsewhere the second. -/
theorem pick {α : Type} (s : Fin 32) (k : ℕ) (hk : k < 32) (a b : α) :
    Scalar.select (IntOp.cmpi .eq (BitVec.ofNat 32 s.val) (BitVec.ofNat 32 k)) a b = if s.val = k then a else b := by
  have hr := s.isLt
  by_cases h : s.val = k
  · subst h
    rw [if_pos rfl, show IntOp.cmpi .eq (BitVec.ofNat 32 s.val) (BitVec.ofNat 32 s.val) = 1#1 from by simp [IntOp.cmpi]]
    rfl
  · have hne : BitVec.ofNat 32 s.val ≠ BitVec.ofNat 32 k := fun w => h (by
      have := congrArg BitVec.toNat w
      rwa [BitVec.toNat_ofNat, BitVec.toNat_ofNat, Nat.mod_eq_of_lt (by omega), Nat.mod_eq_of_lt (by omega)] at this)
    rw [if_neg h, show IntOp.cmpi .eq (BitVec.ofNat 32 s.val) (BitVec.ofNat 32 k) = 0#1 from by
      show BitVec.ofBool (BitVec.ofNat 32 s.val == BitVec.ofNat 32 k) = 0#1
      rw [beq_false_of_ne hne]; rfl]
    rfl

theorem pick0 {α : Type} (s : Fin 32) (a b : α) :
    Scalar.select (IntOp.cmpi .eq (BitVec.ofNat 32 s.val) 0#32) a b = if s.val = 0 then a else b := pick s 0 (by omega) a b

theorem pick1 {α : Type} (s : Fin 32) (a b : α) :
    Scalar.select (IntOp.cmpi .eq (BitVec.ofNat 32 s.val) 1#32) a b = if s.val = 1 then a else b := pick s 1 (by omega) a b

/-- A rotated row reads the row before it, away from the rows the rotation wraps. -/
theorem turned (s : Fin 32) (k : ℕ) (hk : k < 32) (x : Fin 32 → EReal) (h : (s.val + 32 - k) % 32 < 32) (hr : k ≤ s.val) :
    x ⟨(s.val + 32 - k) % 32, h⟩ = x ⟨s.val - k, by omega⟩ := by
  congr 1
  apply Fin.ext
  show (s.val + 32 - k) % 32 = s.val - k
  omega

/-- The element one row back in a sequence: of its rows, or the state's younger row. -/
def back1 (u : Fin 32 → EReal) (y : EReal) (s : Fin 32) : EReal := if s.val = 0 then y else u ⟨s.val - 1, by omega⟩

/-- The element two rows back in a sequence: of its rows, or one of the state's two rows. -/
def back2 (u : Fin 32 → EReal) (y z : EReal) (s : Fin 32) : EReal :=
  if s.val = 0 then z else if s.val = 1 then y else u ⟨s.val - 2, by omega⟩

theorem pay3_at (x : Vec Ideal S512x2048 .bf16) (w : Vec Ideal S2048x512 .bf16) (y : Vec Ideal S16x1x512 .f32) (q : Fin 16)
    (s : Fin 32) (e : Fin 512) :
    k0_pay3 x w y (ix3 q s e) = back1 (fun i => k0_pay2 x w (ix3 q i e)) (y (ix3 q 0 e)) s := by
  pointwise [k0_pay3]
  unfold back1
  rw [pick0]
  by_cases h0 : s.val = 0
  · rw [if_pos h0, if_pos h0]
  · rw [if_neg h0, if_neg h0]
    exact turned s 1 (by omega) (fun i => k0_pay2 x w (ix3 q i e)) (by omega) (by omega)

theorem pay9_at (x : Vec Ideal S512x2048 .bf16) (w : Vec Ideal S2048x512 .bf16) (y : Vec Ideal S16x1x512 .f32) (q : Fin 16)
    (s : Fin 32) (e : Fin 512) :
    k0_pay9 x w y (ix3 q s e) = back1 (fun i => k0_pay8 x w (ix3 q i e)) (y (ix3 q 0 e)) s := by
  pointwise [k0_pay9]
  unfold back1
  rw [pick0]
  by_cases h0 : s.val = 0
  · rw [if_pos h0, if_pos h0]
  · rw [if_neg h0, if_neg h0]
    exact turned s 1 (by omega) (fun i => k0_pay8 x w (ix3 q i e)) (by omega) (by omega)

theorem pay6_at (x : Vec Ideal S512x2048 .bf16) (w : Vec Ideal S2048x512 .bf16) (y z : Vec Ideal S16x1x512 .f32)
    (cw : Vec Ideal S3x512 .f32) (q : Fin 16) (s : Fin 32) (e : Fin 512) :
    k0_pay6 x w y z cw (ix3 q s e)
      = cw (ix2 0 e) * back2 (fun i => k0_pay2 x w (ix3 q i e)) (y (ix3 q 0 e)) (z (ix3 q 0 e)) s := by
  pointwise [k0_pay6]
  unfold back2
  rw [pick0, pick1]
  by_cases h0 : s.val = 0
  · rw [if_pos h0, if_pos h0]
  · rw [if_neg h0, if_neg h0]
    by_cases h1 : s.val = 1
    · rw [if_pos h1, if_pos h1]
    · rw [if_neg h1, if_neg h1]
      exact congrArg (cw (ix2 0 e) * ·) (turned s 2 (by omega) (fun i => k0_pay2 x w (ix3 q i e)) (by omega) (by omega))

theorem pay10_at (x : Vec Ideal S512x2048 .bf16) (w : Vec Ideal S2048x512 .bf16) (y z : Vec Ideal S16x1x512 .f32)
    (q : Fin 16) (s : Fin 32) (e : Fin 512) :
    k0_pay10 x w y z (ix3 q s e) = back2 (fun i => k0_pay8 x w (ix3 q i e)) (y (ix3 q 0 e)) (z (ix3 q 0 e)) s := by
  pointwise [k0_pay10]
  unfold back2
  rw [pick0, pick1]
  by_cases h0 : s.val = 0
  · rw [if_pos h0, if_pos h0]
  · rw [if_neg h0, if_neg h0]
    by_cases h1 : s.val = 1
    · rw [if_pos h1, if_pos h1]
    · rw [if_neg h1, if_neg h1]
      exact turned s 2 (by omega) (fun i => k0_pay8 x w (ix3 q i e)) (by omega) (by omega)

theorem pay7_at (u p : FVec Ideal S16x32x512 .f32) (cw : Vec Ideal S3x512 .f32) (cb : Vec Ideal S1x512 .f32)
    (o : FVec Ideal S16x32x512 .f32) (r e : Fin 512) :
    k0_pay7 u p cw (k0_pay5 cb) o (ix2 r e)
      = (cb (ix2 0 e) + o (ix3 (seqOf r) (posOf r) e) + cw (ix2 1 e) * p (ix3 (seqOf r) (posOf r) e)
        + cw (ix2 2 e) * u (ix3 (seqOf r) (posOf r) e) : EReal) := by
  pointwise [k0_pay7, k0_pay5]

theorem vals_at (x : Vec Ideal S512x2048 .bf16) (w : Vec Ideal S2048x512 .bf16) (cw : Vec Ideal S3x512 .f32)
    (cb : Vec Ideal S1x512 .f32) (st : Vec Ideal S16x2x512 .f32) (r e : Fin 512) :
    vals x w cw cb st (ix2 r e)
      = tap (cb (ix2 0 e)) (cw (ix2 0 e)) (cw (ix2 1 e)) (cw (ix2 2 e))
          (back2 (fun i => k0_pay2 x w (ix3 (seqOf r) i e)) (younger st (ix3 (seqOf r) 0 e)) (elder st (ix3 (seqOf r) 0 e)) (posOf r))
          (back1 (fun i => k0_pay2 x w (ix3 (seqOf r) i e)) (younger st (ix3 (seqOf r) 0 e)) (posOf r))
          (k0_pay2 x w (ix3 (seqOf r) (posOf r) e)) := by
  unfold vals tap
  rw [pay7_at, pay6_at, pay3_at]

theorem pay13_at (v : FVec Ideal S512x512 .f32) (u p o : FVec Ideal S16x32x512 .f32) (cw : Vec Ideal S3x512 .f32)
    (cb : Vec Ideal S1x512 .f32) (a : Vec Ideal S512x2048 .f32) (wd : Vec Ideal S512x2048 .bf16) (r : Fin 512) (d : Fin 2048) :
    k0_pay13 v u p o cw cb a wd (ix2 r d)
      = (a (ix2 r d) + ∑ f : Fin 512, gelu (tap (cb (ix2 0 f)) (cw (ix2 0 f)) (cw (ix2 1 f)) (cw (ix2 2 f))
          (o (ix3 (seqOf r) (posOf r) f)) (p (ix3 (seqOf r) (posOf r) f)) (u (ix3 (seqOf r) (posOf r) f)))
        * v (ix2 r f) * wd (ix2 f d) : EReal) := by
  pointwise [k0_pay13]
  rfl

theorem elder_at (x : Vec Ideal S16x2x512 .f32) (q : Fin 16) (e : Fin 512) : elder x (ix3 q 0 e) = x (ix3 q 0 e) := by
  unfold elder
  refine congrArg x (funext fun a => Fin.ext ?_)
  match a with
  | 0 => show 0 + 1 * q.val = q.val; omega
  | 1 => rfl
  | 2 => show 0 + 1 * e.val = e.val; omega

theorem younger_at (x : Vec Ideal S16x2x512 .f32) (q : Fin 16) (e : Fin 512) : younger x (ix3 q 0 e) = x (ix3 q 1 e) := by
  unfold younger
  refine congrArg x (funext fun a => Fin.ext ?_)
  match a with
  | 0 => show 0 + 1 * q.val = q.val; omega
  | 1 => rfl
  | 2 => show 0 + 1 * e.val = e.val; omega

end Cert.SFfn

end
-- ==== Proof.SFfn.Math.lean ====
/-
The sample's feed-forward layer as formulas over the extended reals: the filter of three taps over every sequence's rows and
the two rows of its state before them, the gated activation, the down product in parts, and the normalized result.
-/
module

public import proofs.«01_k».proof.Proof.SFfn.Step

@[expose] public section

noncomputable section

namespace Cert.SFfn

open Idealize.ShloMosaic Finset
open Cert.Ffn (tap gelu norm up)

variable (h x : ℕ → Fin 2048 → EReal) (w : Fin 2048 → ℕ → EReal) (cw : Fin 3 → ℕ → EReal) (cb : ℕ → EReal)
  (wd : ℕ → Fin 2048 → EReal) (g : Fin 2048 → EReal) (st : ℕ → ℕ → ℕ → EReal)

/-- The up product `δ` rows back in row `n`'s sequence of 32 rows, of the state before its start. -/
def upm (δ n e : ℕ) : EReal := if δ ≤ n % 32 then up h w (n - δ) e else st (n / 32) (n % 32 + 2 - δ) e

/-- The filtered up product. -/
def conv (n e : ℕ) : EReal := tap (cb e) (cw 0 e) (cw 1 e) (cw 2 e) (upm h w st 2 n e) (upm h w st 1 n e) (up h w n e)

/-- The gated activation of row `n` at column `f`: the gate's columns lie 5632 after the value's. -/
def hid (n f : ℕ) : EReal := gelu (conv h w cw cb st n (5632 + f)) * conv h w cw cb st n f

/-- The down product over the first `K` columns. -/
def mix (n K : ℕ) (d : Fin 2048) : EReal := ∑ f ∈ range K, hid h w cw cb st n f * wd f d

/-- The layer's output. -/
def out (n : ℕ) (d : Fin 2048) : EReal := x n d + norm (mix h w cw cb wd st n 5632) g d

theorem mix_zero (n : ℕ) (d : Fin 2048) : mix h w cw cb wd st n 0 d = 0 := by
  unfold mix
  rw [range_zero, sum_empty]

theorem mix_step (n j : ℕ) (d : Fin 2048) :
    mix h w cw cb wd st n (512 * (j + 1)) d
      = mix h w cw cb wd st n (512 * j) d + ∑ f : Fin 512, hid h w cw cb st n (j * 512 + f.val) * wd (j * 512 + f.val) d := by
  unfold mix
  rw [show 512 * (j + 1) = j * 512 + 512 by ring, sum_range_add, show 512 * j = j * 512 by ring, sum_range (n := 512)]

theorem back1_eq (b e : ℕ) (s : Fin 32) :
    back1 (fun i => up h w (b * 32 + i.val) e) (st b 1 e) s = upm h w st 1 (b * 32 + s.val) e := by
  unfold back1 upm
  by_cases h0 : s.val = 0
  · rw [if_pos h0, if_neg (by omega), show (b * 32 + s.val) / 32 = b by omega, show (b * 32 + s.val) % 32 + 2 - 1 = 1 by omega]
  · rw [if_neg h0, if_pos (by omega)]
    exact congrArg (fun n => up h w n e) (by show b * 32 + (s.val - 1) = _; omega)

theorem back2_eq (b e : ℕ) (s : Fin 32) :
    back2 (fun i => up h w (b * 32 + i.val) e) (st b 1 e) (st b 0 e) s = upm h w st 2 (b * 32 + s.val) e := by
  unfold back2 upm
  by_cases h0 : s.val = 0
  · rw [if_pos h0, if_neg (by omega), show (b * 32 + s.val) / 32 = b by omega, show (b * 32 + s.val) % 32 + 2 - 2 = 0 by omega]
  · rw [if_neg h0]
    by_cases h1 : s.val = 1
    · rw [if_pos h1, if_neg (by omega), show (b * 32 + s.val) / 32 = b by omega, show (b * 32 + s.val) % 32 + 2 - 2 = 1 by omega]
    · rw [if_neg h1, if_pos (by omega)]
      exact congrArg (fun n => up h w n e) (by show b * 32 + (s.val - 2) = _; omega)

end Cert.SFfn

end
-- ==== Proof.SFfn.Blocks.lean ====
/-
The blocks a grid point of the sample's feed-forward kernel reads, as elements of the argument arrays.
-/
module

public import proofs.«01_k».proof.Proof.SFfn.Math
public import Idealize.ShloMosaic.Lib.Pipeline.ValueKit.Geometry
public import Idealize.ShloMosaic.Lib.Tactic
public import Idealize.ShloMosaic.Lib.StableHlo.ReadAt

@[expose] public section

noncomputable section

namespace Cert.SFfn

open Idealize.ShloMosaic Idealize.ShloMosaic.TcCoe Cert.Kernel14Ideal Cert.Kernel14Ideal.Gen

variable (m : (ℓ : Loc nD τ sig) → Buf (Elt Ideal) ℓ) (c : Dev nD)

/-- The sample's normed input rows. -/
def sH (n : ℕ) (k : Fin 2048) : EReal := (m ((c.tc : Thread nD τ).loc main_arg0) : S1024x2048.Idx → EReal) (ix2 (Fin.ofNat 1024 n) k)
/-- The sample's residual rows. -/
def sX (n : ℕ) (k : Fin 2048) : EReal := (m ((c.tc : Thread nD τ).loc main_arg1) : S1024x2048.Idx → EReal) (ix2 (Fin.ofNat 1024 n) k)
/-- The up weights. -/
def sW (k : Fin 2048) (e : ℕ) : EReal := (m ((c.tc : Thread nD τ).loc main_arg2) : S2048x11264.Idx → EReal) (ix2 k (Fin.ofNat 11264 e))
/-- The filter's taps. -/
def sC (s : Fin 3) (e : ℕ) : EReal := (m ((c.tc : Thread nD τ).loc main_arg3) : S3x11264.Idx → EReal) (ix2 s (Fin.ofNat 11264 e))
/-- The filter's bias. -/
def sB (e : ℕ) : EReal := (m ((c.tc : Thread nD τ).loc main_arg4) : S11264.Idx → EReal) (ix1 (Fin.ofNat 11264 e))
/-- The down weights. -/
def sD (f : ℕ) (d : Fin 2048) : EReal := (m ((c.tc : Thread nD τ).loc main_arg5) : S5632x2048.Idx → EReal) (ix2 (Fin.ofNat 5632 f) d)
/-- The norm's scale. -/
def sG (d : Fin 2048) : EReal := (m ((c.tc : Thread nD τ).loc main_arg6) : S2048.Idx → EReal) (ix1 d)
/-- The state's rows of the filter. -/
def sS (b i e : ℕ) : EReal :=
  (m ((c.tc : Thread nD τ).loc main_arg8) : S32x2x11264.Idx → EReal) (ix3 (Fin.ofNat 32 b) (Fin.ofNat 2 i) (Fin.ofNat 11264 e))

theorem at0 : ∀ t : Fin cfg0.N, win0_0.index t = ![t.val / 11, 0] := (by decide +kernel : ∀ t : Fin grid0.N, win0_0.index t = ![t.val / 11, 0])
theorem at1 : ∀ t : Fin cfg0.N, win0_1.index t = ![t.val / 11, 0] := (by decide +kernel : ∀ t : Fin grid0.N, win0_1.index t = ![t.val / 11, 0])
theorem at2 : ∀ t : Fin cfg0.N, win0_2.index t = ![0, t.val % 11] := (by decide +kernel : ∀ t : Fin grid0.N, win0_2.index t = ![0, t.val % 11])
theorem at3 : ∀ t : Fin cfg0.N, win0_3.index t = ![0, 11 + t.val % 11] := (by decide +kernel : ∀ t : Fin grid0.N, win0_3.index t = ![0, 11 + t.val % 11])
theorem at4 : ∀ t : Fin cfg0.N, win0_4.index t = ![0, t.val % 11] := (by decide +kernel : ∀ t : Fin grid0.N, win0_4.index t = ![0, t.val % 11])
theorem at5 : ∀ t : Fin cfg0.N, win0_5.index t = ![0, 11 + t.val % 11] := (by decide +kernel : ∀ t : Fin grid0.N, win0_5.index t = ![0, 11 + t.val % 11])
theorem at6 : ∀ t : Fin cfg0.N, win0_6.index t = ![0, t.val % 11] := (by decide +kernel : ∀ t : Fin grid0.N, win0_6.index t = ![0, t.val % 11])
theorem at7 : ∀ t : Fin cfg0.N, win0_7.index t = ![0, 11 + t.val % 11] := (by decide +kernel : ∀ t : Fin grid0.N, win0_7.index t = ![0, 11 + t.val % 11])
theorem at8 : ∀ t : Fin cfg0.N, win0_8.index t = ![t.val % 11, 0] := (by decide +kernel : ∀ t : Fin grid0.N, win0_8.index t = ![t.val % 11, 0])
theorem at9 : ∀ t : Fin cfg0.N, win0_9.index t = ![0, 0] := (by decide +kernel : ∀ t : Fin grid0.N, win0_9.index t = ![0, 0])
theorem at11 : ∀ t : Fin cfg0.N, win0_11.index t = ![t.val / 11, 0, t.val % 11] := (by decide +kernel : ∀ t : Fin grid0.N, win0_11.index t = ![t.val / 11, 0, t.val % 11])
theorem at12 : ∀ t : Fin cfg0.N, win0_12.index t = ![t.val / 11, 0, 11 + t.val % 11] := (by decide +kernel : ∀ t : Fin grid0.N, win0_12.index t = ![t.val / 11, 0, 11 + t.val % 11])
theorem at13 : ∀ t : Fin cfg0.N, win0_13.index t = ![t.val / 11, 0] := (by decide +kernel : ∀ t : Fin grid0.N, win0_13.index t = ![t.val / 11, 0])
theorem at14 : ∀ t : Fin cfg0.N, win0_14.index t = ![t.val / 11, 0, t.val % 11] := (by decide +kernel : ∀ t : Fin grid0.N, win0_14.index t = ![t.val / 11, 0, t.val % 11])
theorem at15 : ∀ t : Fin cfg0.N, win0_15.index t = ![t.val / 11, 0, t.val % 11] := (by decide +kernel : ∀ t : Fin grid0.N, win0_15.index t = ![t.val / 11, 0, t.val % 11])

variable (t : Fin cfg0.N)

theorem lt22 : t.val < 22 := Nat.lt_of_lt_of_eq t.isLt N_0

theorem in0 (r : Fin 512) (k : Fin 2048) : iblk m c 0 t (ix2 r k) = sH m c (t.val / 11 * 512 + r.val) k := by
  have ht := lt22 t
  unfold sH iblk
  rw [show V m c (Pipeline.arrRef spec0 0) = m ((c : Thread nD τ).loc main_arg0) from V_main_arg0 m c]
  blk_simp [at0 t]
  congr 1
  blk_ext [at0 t]
  rw [Fin.val_ofNat]; omega

theorem in1 (r : Fin 512) (k : Fin 2048) : iblk m c 1 t (ix2 r k) = sX m c (t.val / 11 * 512 + r.val) k := by
  have ht := lt22 t
  unfold sX iblk
  rw [show V m c (Pipeline.arrRef spec0 1) = m ((c : Thread nD τ).loc main_arg1) from V_main_arg1 m c]
  blk_simp [at1 t]
  congr 1
  blk_ext [at1 t]
  rw [Fin.val_ofNat]; omega

theorem in2 (k : Fin 2048) (e : Fin 512) : iblk m c 2 t (ix2 k e) = sW m c k (t.val % 11 * 512 + e.val) := by
  have ht := lt22 t
  unfold sW iblk
  rw [show V m c (Pipeline.arrRef spec0 2) = m ((c : Thread nD τ).loc main_arg2) from V_main_arg2 m c]
  blk_simp [at2 t]
  congr 1
  blk_ext [at2 t]
  rw [Fin.val_ofNat]; omega

theorem in3 (k : Fin 2048) (e : Fin 512) : iblk m c 3 t (ix2 k e) = sW m c k (5632 + (t.val % 11 * 512 + e.val)) := by
  have ht := lt22 t
  unfold sW iblk
  rw [show V m c (Pipeline.arrRef spec0 3) = m ((c : Thread nD τ).loc main_arg2) from V_main_arg2 m c]
  blk_simp [at3 t]
  congr 1
  blk_ext [at3 t]
  rw [Fin.val_ofNat]; omega

theorem in4 (s : Fin 3) (e : Fin 512) : iblk m c 4 t (ix2 s e) = sC m c s (t.val % 11 * 512 + e.val) := by
  have ht := lt22 t
  unfold sC iblk
  rw [show V m c (Pipeline.arrRef spec0 4) = m ((c : Thread nD τ).loc main_arg3) from V_main_arg3 m c]
  blk_simp [at4 t]
  congr 1
  blk_ext [at4 t]
  rw [Fin.val_ofNat]; omega

theorem in5 (s : Fin 3) (e : Fin 512) : iblk m c 5 t (ix2 s e) = sC m c s (5632 + (t.val % 11 * 512 + e.val)) := by
  have ht := lt22 t
  unfold sC iblk
  rw [show V m c (Pipeline.arrRef spec0 5) = m ((c : Thread nD τ).loc main_arg3) from V_main_arg3 m c]
  blk_simp [at5 t]
  congr 1
  blk_ext [at5 t]
  rw [Fin.val_ofNat]; omega

theorem in8 (f : Fin 512) (d : Fin 2048) : iblk m c 8 t (ix2 f d) = sD m c (t.val % 11 * 512 + f.val) d := by
  have ht := lt22 t
  unfold sD iblk
  rw [show V m c (Pipeline.arrRef spec0 8) = m ((c : Thread nD τ).loc main_arg5) from V_main_arg5 m c]
  blk_simp [at8 t]
  congr 1
  blk_ext [at8 t]
  rw [Fin.val_ofNat]; omega

theorem in11 (q : Fin 16) (s : Fin 2) (e : Fin 512) : iblk m c 11 t (ix3 q s e) = sS m c (t.val / 11 * 16 + q.val) s.val (t.val % 11 * 512 + e.val) := by
  have ht := lt22 t
  unfold sS iblk
  rw [show V m c (Pipeline.arrRef spec0 11) = m ((c : Thread nD τ).loc main_arg8) from V_main_arg8 m c]
  blk_simp [at11 t]
  congr 1
  blk_ext [at11 t]
  all_goals (rw [Fin.val_ofNat]; omega)

theorem in12 (q : Fin 16) (s : Fin 2) (e : Fin 512) : iblk m c 12 t (ix3 q s e) = sS m c (t.val / 11 * 16 + q.val) s.val (5632 + (t.val % 11 * 512 + e.val)) := by
  have ht := lt22 t
  unfold sS iblk
  rw [show V m c (Pipeline.arrRef spec0 12) = m ((c : Thread nD τ).loc main_arg8) from V_main_arg8 m c]
  blk_simp [at12 t]
  congr 1
  blk_ext [at12 t]
  all_goals (rw [Fin.val_ofNat]; omega)

/-- The bias as one row. -/
theorem row_bias (e : Fin 11264) : V m c main_v0 (ix2 0 e) = m ((c : Thread nD τ).loc main_arg4) (ix1 e) := by
  unfold V V0
  simp only [hostOps0, List.flatten_cons, List.flatten_nil, List.append_nil]
  after_reads_at

/-- The bias as one row, a second copy. -/
theorem row_bias' (e : Fin 11264) : V m c main_v1 (ix2 0 e) = m ((c : Thread nD τ).loc main_arg4) (ix1 e) := by
  unfold V V0
  simp only [hostOps0, List.flatten_cons, List.flatten_nil, List.append_nil]
  after_reads_at

/-- The scale as one row. -/
theorem row_scale (d : Fin 2048) : V m c main_v2 (ix2 0 d) = m ((c : Thread nD τ).loc main_arg6) (ix1 d) := by
  unfold V V0
  simp only [hostOps0, List.flatten_cons, List.flatten_nil, List.append_nil]
  after_reads_at

theorem in6 (e : Fin 512) : iblk m c 6 t (ix2 0 e) = sB m c (t.val % 11 * 512 + e.val) := by
  have ht := lt22 t
  refine Eq.trans ?_ (row_bias m c (Fin.ofNat 11264 (t.val % 11 * 512 + e.val)))
  unfold iblk
  blk_simp [at6 t]
  congr 1
  blk_ext [at6 t]
  rw [Fin.val_ofNat]; omega

theorem in7 (e : Fin 512) : iblk m c 7 t (ix2 0 e) = sB m c (5632 + (t.val % 11 * 512 + e.val)) := by
  have ht := lt22 t
  refine Eq.trans ?_ (row_bias' m c (Fin.ofNat 11264 (5632 + (t.val % 11 * 512 + e.val))))
  unfold iblk
  blk_simp [at7 t]
  congr 1
  blk_ext [at7 t]
  rw [Fin.val_ofNat]; omega

theorem in9 (d : Fin 2048) : iblk m c 9 t (ix2 0 d) = sG m c d := by
  refine Eq.trans ?_ (row_scale m c d)
  unfold iblk
  blk_simp [at9 t]
  congr 1
  blk_ext [at9 t]

end Cert.SFfn

end
-- ==== Proof.SFfn.Value.lean ====
/-
What the grid points of the sample's feed-forward kernel leave: the down product so far, the tails and, at the last column
of tiles, the output rows.
-/
module

public import proofs.«01_k».proof.Proof.SFfn.Blocks

@[expose] public section

noncomputable section

namespace Cert.SFfn

open Idealize.ShloMosaic Idealize.ShloMosaic.TcCoe Cert.Kernel14Ideal Cert.Kernel14Ideal.Gen

variable (m : (ℓ : Loc nD τ sig) → Buf (Elt Ideal) ℓ) (c : Dev nD)

/-- The up product of the argument arrays. -/
abbrev U (n e : ℕ) : EReal := Cert.Ffn.up (sH m c) (sW m c) n e

theorem val_at (t : Fin cfg0.N) (q : Fin 16) (s : Fin 32) (e : Fin 512) :
    k0_pay2 (iblk m c 0 t) (iblk m c 2 t) (ix3 q s e)
      = U m c ((t.val / 11 * 16 + q.val) * 32 + s.val) (t.val % 11 * 512 + e.val) := by
  rw [pay2_at, show (t.val / 11 * 16 + q.val) * 32 + s.val = t.val / 11 * 512 + (q.val * 32 + s.val) by omega]
  exact Finset.sum_congr rfl fun k _ => congrArg₂ (· * ·) (in0 m c t (row q s) k) (in2 m c t k e)

theorem gate_at (t : Fin cfg0.N) (q : Fin 16) (s : Fin 32) (e : Fin 512) :
    k0_pay8 (iblk m c 0 t) (iblk m c 3 t) (ix3 q s e)
      = U m c ((t.val / 11 * 16 + q.val) * 32 + s.val) (5632 + (t.val % 11 * 512 + e.val)) := by
  rw [pay8_at, show (t.val / 11 * 16 + q.val) * 32 + s.val = t.val / 11 * 512 + (q.val * 32 + s.val) by omega]
  exact Finset.sum_congr rfl fun k _ => congrArg₂ (· * ·) (in0 m c t (row q s) k) (in3 m c t k e)

/-- The gated activation of the argument arrays. -/
abbrev H (n f : ℕ) : EReal := hid (sH m c) (sW m c) (sC m c) (sB m c) (sS m c) n f

/-- The down product over the first columns of the argument arrays. -/
abbrev M (n K : ℕ) (d : Fin 2048) : EReal := mix (sH m c) (sW m c) (sC m c) (sB m c) (sD m c) (sS m c) n K d

theorem row_eq (t : Fin cfg0.N) (r : Fin 512) :
    (t.val / 11 * 16 + (seqOf r).val) * 32 + (posOf r).val = t.val / 11 * 512 + r.val := by
  show (t.val / 11 * 16 + r.val / 32) * 32 + r.val % 32 = _
  omega

/-- A point's activation, times its down weight. -/
theorem step_at (t : Fin cfg0.N) (a : Vec Ideal S512x2048 .f32) (r : Fin 512) (d : Fin 2048) :
    stepAt m c t a (ix2 r d) = (a (ix2 r d) + ∑ f : Fin 512, H m c (t.val / 11 * 512 + r.val) (t.val % 11 * 512 + f.val)
      * sD m c (t.val % 11 * 512 + f.val) d : EReal) := by
  unfold stepAt step
  rw [pay13_at]
  refine congrArg (a (ix2 r d) + ·) (Finset.sum_congr rfl fun f _ => ?_)
  rw [vals_at, pay9_at, pay10_at, in8]
  simp only [younger_at, elder_at, in4, in5, in6, in7, in11, in12, val_at, gate_at]
  have e1 := back1_eq (sH m c) (sW m c) (sS m c) (t.val / 11 * 16 + (seqOf r).val) (t.val % 11 * 512 + f.val) (posOf r)
  have e2 := back2_eq (sH m c) (sW m c) (sS m c) (t.val / 11 * 16 + (seqOf r).val) (t.val % 11 * 512 + f.val) (posOf r)
  have e3 := back1_eq (sH m c) (sW m c) (sS m c) (t.val / 11 * 16 + (seqOf r).val) (5632 + (t.val % 11 * 512 + f.val)) (posOf r)
  have e4 := back2_eq (sH m c) (sW m c) (sS m c) (t.val / 11 * 16 + (seqOf r).val) (5632 + (t.val % 11 * 512 + f.val)) (posOf r)
  rw [row_eq] at e1 e2 e3 e4 ⊢
  unfold H hid conv
  rw [← e1, ← e2, ← e3, ← e4]
  rfl

/-- Every point adds its columns to the down product, which the first of a row of tiles starts at zero. -/
theorem acc_form (t : Fin cfg0.N) : ∃ a : Vec Ideal S512x2048 .f32,
    (t.val % 11 = 0 → a = k0_pay12 (F := Ideal)) ∧ (t.val % 11 ≠ 0 → a = (prev m c t).2.2.2) ∧
    (outsAt0 m c t.val t.isLt).2.2.2 = stepAt m c t a := by
  by_cases h1 : t.val % 11 = 0
  · exact ⟨k0_pay12 (F := Ideal), fun _ => rfl, fun h => absurd h1 h, acc_A m c t h1 (by omega)⟩
  · by_cases h2 : t.val % 11 = 10
    · exact ⟨_, fun h => absurd h h1, fun _ => rfl, acc_C m c t h1 h2⟩
    · exact ⟨_, fun h => absurd h h1, fun _ => rfl, acc_B m c t h1 h2⟩

theorem acc_step (t : Fin cfg0.N) (h : t.val % 11 ≠ 0 → ∀ (r : Fin 512) (d : Fin 2048),
      (prev m c t).2.2.2 (ix2 r d) = M m c ((t.val - 1) / 11 * 512 + r.val) (512 * ((t.val - 1) % 11 + 1)) d)
    (r : Fin 512) (d : Fin 2048) :
    (outsAt0 m c t.val t.isLt).2.2.2 (ix2 r d) = M m c (t.val / 11 * 512 + r.val) (512 * (t.val % 11 + 1)) d := by
  obtain ⟨a, ha, ha', he⟩ := acc_form m c t
  rw [he, step_at]
  refine Eq.trans ?_ (mix_step _ _ _ _ _ _ _ _ _).symm
  refine congrArg (· + _) ?_
  by_cases h1 : t.val % 11 = 0
  · rw [ha h1, pay12_at, h1, Nat.mul_zero]
    exact (mix_zero _ _ _ _ _ _ _ _).symm
  · rw [ha' h1, h h1, show (t.val - 1) / 11 = t.val / 11 by omega, show (t.val - 1) % 11 + 1 = t.val % 11 by omega]

/-- After point `n`, the down product over the columns up to its tile's. -/
theorem acc (n : ℕ) : ∀ (hn : n < cfg0.N) (r : Fin 512) (d : Fin 2048),
    (outsAt0 m c n hn).2.2.2 (ix2 r d) = M m c (n / 11 * 512 + r.val) (512 * (n % 11 + 1)) d := by
  induction n with
  | zero => exact fun hn => acc_step m c ⟨0, hn⟩ fun h => absurd rfl h
  | succ n ih => exact fun hn => acc_step m c ⟨n + 1, hn⟩ fun _ => ih _

/-- The output of the argument arrays. -/
abbrev O (n : ℕ) (d : Fin 2048) : EReal :=
  out (sH m c) (sX m c) (sW m c) (sC m c) (sB m c) (sD m c) (sG m c) (sS m c) n d

/-- The output rows of a tile, at its last point. -/
theorem out_at (t : Fin cfg0.N) (h : t.val % 11 = 10) (r : Fin 512) (d : Fin 2048) :
    (outsAt0 m c t.val t.isLt).1 (ix2 r d) = O m c (t.val / 11 * 512 + r.val) d := by
  rw [out_C m c t (by omega) h, pay1_at, in1]
  unfold O out
  refine congrArg (fun z => sX m c (t.val / 11 * 512 + r.val) d + z) ?_
  refine congrArg₂ (fun a b => Cert.Ffn.norm a b d) (funext fun k => ?_) (funext fun k => in9 m c t k)
  rw [acc, h]

/-- The value rows that end a tile's sequences. -/
theorem tailV_at (t : Fin cfg0.N) (q : Fin 16) (s : Fin 2) (e : Fin 512) :
    (outsAt0 m c t.val t.isLt).2.1 (ix3 q s e)
      = U m c ((t.val / 11 * 16 + q.val) * 32 + (30 + s.val)) (t.val % 11 * 512 + e.val) := by
  have key : (outsAt0 m c t.val t.isLt).2.1 = k0_pay4 (iblk m c 0 t) (iblk m c 2 t) := by
    by_cases h1 : t.val % 11 = 0
    · exact tailV_A m c t h1 (by omega)
    · by_cases h2 : t.val % 11 = 10
      · exact tailV_C m c t h1 h2
      · exact tailV_B m c t h1 h2
  rw [key, pay4_at, val_at]

/-- The gate rows that end a tile's sequences. -/
theorem tailG_at (t : Fin cfg0.N) (q : Fin 16) (s : Fin 2) (e : Fin 512) :
    (outsAt0 m c t.val t.isLt).2.2.1 (ix3 q s e)
      = U m c ((t.val / 11 * 16 + q.val) * 32 + (30 + s.val)) (5632 + (t.val % 11 * 512 + e.val)) := by
  have key : (outsAt0 m c t.val t.isLt).2.2.1 = k0_pay11 (iblk m c 0 t) (iblk m c 3 t) := by
    by_cases h1 : t.val % 11 = 0
    · exact tailG_A m c t h1 (by omega)
    · by_cases h2 : t.val % 11 = 10
      · exact tailG_C m c t h1 h2
      · exact tailG_B m c t h1 h2
  rw [key, pay11_at, gate_at]

end Cert.SFfn

end
-- ==== Proof.SFfn.Result.lean ====
/-
The arrays that the sample's feed-forward kernel's program returns over the extended reals, and its run.
-/
module

public import proofs.«01_k».proof.Proof.SFfn.Value

@[expose] public section

noncomputable section

namespace Cert.SFfn

open Idealize.ShloMosaic Idealize.ShloMosaic.TcCoe Idealize.SL.Sem Cert.Kernel14Ideal Cert.Kernel14Ideal.Gen

variable (m : (ℓ : Loc nD τ sig) → Buf (Elt Ideal) ℓ) (ρ : Dev nD → PrngReg) (c : Dev nD)

/-- The output array. -/
def rows : S1024x2048.Idx → EReal := fun y => O m c (y 0).val (y 1)

/-- The last two up rows of every sequence, the columns starting `o` later. -/
def tails (o : ℕ) : S32x2x5632.Idx → EReal := fun y => U m c ((y 0).val * 32 + (30 + (y 1).val)) (o + (y 2).val)

/-- The last two up rows of every sequence. -/
def last : S32x2x11264.Idx → EReal := fun y => U m c ((y 0).val * 32 + (30 + (y 1).val)) (y 2).val

theorem covers13 : (cfg0.win 13).Covers := (by decide +kernel : win0_13.Covers)
theorem covers14 : (cfg0.win 14).Covers := (by decide +kernel : win0_14.Covers)
theorem covers15 : (cfg0.win 15).Covers := (by decide +kernel : win0_15.Covers)

theorem emb13_0 (t : Fin cfg0.N) (y : S512x2048.Idx) :
    (((cfg0.win 13).blk t).view.emb y 0).val = t.val / 11 * 512 + (y 0).val := by blk_simp [at13 t]
theorem emb13_1 (t : Fin cfg0.N) (y : S512x2048.Idx) : (((cfg0.win 13).blk t).view.emb y 1).val = (y 1).val := by
  blk_simp [at13 t]
theorem emb14_0 (t : Fin cfg0.N) (y : S16x2x512.Idx) :
    (((cfg0.win 14).blk t).view.emb y 0).val = t.val / 11 * 16 + (y 0).val := by blk_simp [at14 t]
theorem emb14_1 (t : Fin cfg0.N) (y : S16x2x512.Idx) : (((cfg0.win 14).blk t).view.emb y 1).val = (y 1).val := by
  blk_simp [at14 t]
theorem emb14_2 (t : Fin cfg0.N) (y : S16x2x512.Idx) :
    (((cfg0.win 14).blk t).view.emb y 2).val = t.val % 11 * 512 + (y 2).val := by blk_simp [at14 t]
theorem emb15_0 (t : Fin cfg0.N) (y : S16x2x512.Idx) :
    (((cfg0.win 15).blk t).view.emb y 0).val = t.val / 11 * 16 + (y 0).val := by blk_simp [at15 t]
theorem emb15_1 (t : Fin cfg0.N) (y : S16x2x512.Idx) : (((cfg0.win 15).blk t).view.emb y 1).val = (y 1).val := by
  blk_simp [at15 t]
theorem emb15_2 (t : Fin cfg0.N) (y : S16x2x512.Idx) :
    (((cfg0.win 15).blk t).view.emb y 2).val = t.val % 11 * 512 + (y 2).val := by blk_simp [at15 t]

theorem rows_eq (t : Fin cfg0.N) (h : t.val % 11 = 10) (y : S512x2048.Idx) (i : S1024x2048.Idx)
    (e0 : (i 0).val = t.val / 11 * 512 + (y 0).val) (e1 : (i 1).val = (y 1).val) :
    (outsAt0 m c t.val t.isLt).1 y = rows m c i := by
  obtain ⟨r, d, rfl⟩ : ∃ (r : Fin 512) (d : Fin 2048), y = ix2 r d := ⟨y 0, y 1, eq_ix2 y⟩
  rw [out_at m c t h]
  unfold rows
  rw [e0]
  exact congrArg _ (Fin.ext e1.symm)

theorem final13 : (dats m 0 c).arrAt 13 cfg0.N = rows m c := by
  refine (dats m 0 c).arrAt_eq_of_covers 13 (rows m c) covers13 fun t hf y => ?_
  refine (congrFun (after0_13 m c t) y).trans ?_
  exact rows_eq m c t ((flush0_13 t).mp hf) y _ (emb13_0 t y) (emb13_1 t y)

theorem final14 : (dats m 0 c).arrAt 14 cfg0.N = tails m c 0 := by
  refine (dats m 0 c).arrAt_eq_of_covers 14 (tails m c 0) covers14 fun t hf y => ?_
  refine (congrFun (after0_14 m c t) y).trans ?_
  have e0 := emb14_0 t y
  have e1 := emb14_1 t y
  have e2 := emb14_2 t y
  revert e0 e1 e2
  generalize ((cfg0.win 14).blk t).view.emb y = i
  intro e0 e1 e2
  obtain ⟨q, s, e, rfl⟩ : ∃ (q : Fin 16) (s : Fin 2) (e : Fin 512), y = ix3 q s e := ⟨y 0, y 1, y 2, eq_ix3 y⟩
  refine (tailV_at m c t q s e).trans ?_
  show _ = U m c ((i 0).val * 32 + (30 + (i 1).val)) (0 + (i 2).val)
  rw [e0, e1, e2, Nat.zero_add]
  rfl

theorem final15 : (dats m 0 c).arrAt 15 cfg0.N = tails m c 5632 := by
  refine (dats m 0 c).arrAt_eq_of_covers 15 (tails m c 5632) covers15 fun t hf y => ?_
  refine (congrFun (after0_15 m c t) y).trans ?_
  have e0 := emb15_0 t y
  have e1 := emb15_1 t y
  have e2 := emb15_2 t y
  revert e0 e1 e2
  generalize ((cfg0.win 15).blk t).view.emb y = i
  intro e0 e1 e2
  obtain ⟨q, s, e, rfl⟩ : ∃ (q : Fin 16) (s : Fin 2) (e : Fin 512), y = ix3 q s e := ⟨y 0, y 1, y 2, eq_ix3 y⟩
  refine (tailG_at m c t q s e).trans ?_
  show _ = U m c ((i 0).val * 32 + (30 + (i 1).val)) (5632 + (i 2).val)
  rw [e0, e1, e2]
  rfl

/-- The second result: the tails, value columns before gate columns. -/
theorem suffix (b : Fin 32) (s : Fin 2) (e : Fin 11264) :
    Pipeline.afterTail₀ cfgs (dats m) 0 (V0 m) [hostOps1] c main_v5 (ix3 b s e) = last m c (ix3 b s e) := by
  unfold Pipeline.afterTail₀
  have h14 := (Pipeline.withArrays_arr_shared spec0 c (V0 m c) (fun w => (dats m 0 c).arrAt w cfg0.N) (Pipeline.Dat.arrAt_sharedIn (dats m 0 c) sharedIn0 (V0 m c) (fun _ => rfl) cfg0.N) 14).trans (final14 m c)
  have h15 := (Pipeline.withArrays_arr_shared spec0 c (V0 m c) (fun w => (dats m 0 c).arrAt w cfg0.N) (Pipeline.Dat.arrAt_sharedIn (dats m 0 c) sharedIn0 (V0 m c) (fun _ => rfl) cfg0.N) 15).trans (final15 m c)
  simp only [hostOps1, List.flatten_cons, List.flatten_nil, List.append_nil]
  after_reads_at
  unfold last
  split
  · rename_i h
    refine (congrFun h14 _).trans ?_
    unfold tails
    exact congrArg (U m c _) (Nat.zero_add _)
  · rename_i h
    refine (congrFun h15 _).trans ?_
    unfold tails
    exact congrArg (U m c _) (by show 5632 + (e.val - 5632) = e.val; omega)

theorem suffix_eq : Pipeline.afterTail₀ cfgs (dats m) 0 (V0 m) [hostOps1] c main_v5 = last m c := by
  funext y
  obtain ⟨b, s, e, rfl⟩ : ∃ (b : Fin 32) (s : Fin 2) (e : Fin 11264), y = ix3 b s e := ⟨y 0, y 1, y 2, eq_ix3 y⟩
  exact suffix m c b s e

/-- The run: the result arrays hold `rows` and `last`, the arguments are unchanged. -/
theorem run :
    θ_run defs (onTc (τ := τ) (main (F := Ideal))) ⟨m, fun _ => 0, ρ⟩ fun r => ∀ c : Dev nD,
      r.2.mem ((c.tc : Thread nD τ).loc main_v4_0) = rows m c
      ∧ r.2.mem ((c.tc : Thread nD τ).loc main_v5) = last m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).1 13).trans (final13 m c),
    ((h c).2 main_v5 (Pipeline.mem_restRefs_of main_v5 (by decide) (by decide))).trans (suffix_eq m c),
    ((h c).1 0).trans (((dats m 0 c).arrAt_in 0 rfl _).trans (V_main_arg0 m c)),
    ((h c).1 1).trans (((dats m 0 c).arrAt_in 1 rfl _).trans (V_main_arg1 m c)),
    ((h c).1 2).trans (((dats m 0 c).arrAt_in 2 rfl _).trans (V_main_arg2 m c)),
    ((h c).1 4).trans (((dats m 0 c).arrAt_in 4 rfl _).trans (V_main_arg3 m c)),
    ((h c).2 main_arg4 (Pipeline.mem_restRefs_of main_arg4 (by decide) (by decide))).trans (W_main_arg4 m (dats m) c),
    ((h c).1 8).trans (((dats m 0 c).arrAt_in 8 rfl _).trans (V_main_arg5 m c)),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).1 11).trans (((dats m 0 c).arrAt_in 11 rfl _).trans (V_main_arg8 m c))⟩)
    (run_main m ρ)

end Cert.SFfn

end
-- ==== Proof.Ffn.Blocks.lean ====
/-
The blocks a grid point of the feed-forward kernel reads, as elements of the argument arrays.
-/
module

public import proofs.«01_k».proof.Proof.Ffn.Math
public import Idealize.ShloMosaic.Lib.Pipeline.ValueKit.Geometry
public import Idealize.ShloMosaic.Lib.Tactic
public import Idealize.ShloMosaic.Lib.StableHlo.ReadAt

@[expose] public section

noncomputable section

namespace Cert.Ffn

open Idealize.ShloMosaic Idealize.ShloMosaic.TcCoe Cert.Kernel2Ideal Cert.Kernel2Ideal.Gen

variable (m : (ℓ : Loc nD τ sig) → Buf (Elt Ideal) ℓ) (c : Dev nD)

/-- The normed input rows. -/
def aH (n : ℕ) (k : Fin 2048) : EReal := (m ((c.tc : Thread nD τ).loc main_arg0) : S32768x2048.Idx → EReal) (ix2 (Fin.ofNat 32768 n) k)
/-- The residual rows. -/
def aX (n : ℕ) (k : Fin 2048) : EReal := (m ((c.tc : Thread nD τ).loc main_arg1) : S32768x2048.Idx → EReal) (ix2 (Fin.ofNat 32768 n) k)
/-- The up weights. -/
def aW (k : Fin 2048) (e : ℕ) : EReal := (m ((c.tc : Thread nD τ).loc main_arg2) : S2048x11264.Idx → EReal) (ix2 k (Fin.ofNat 11264 e))
/-- The filter's taps. -/
def aC (s : Fin 3) (e : ℕ) : EReal := (m ((c.tc : Thread nD τ).loc main_arg3) : S3x11264.Idx → EReal) (ix2 s (Fin.ofNat 11264 e))
/-- The filter's bias. -/
def aB (e : ℕ) : EReal := (m ((c.tc : Thread nD τ).loc main_arg4) : S11264.Idx → EReal) (ix1 (Fin.ofNat 11264 e))
/-- The down weights. -/
def aD (f : ℕ) (d : Fin 2048) : EReal := (m ((c.tc : Thread nD τ).loc main_arg5) : S5632x2048.Idx → EReal) (ix2 (Fin.ofNat 5632 f) d)
/-- The norm's scale. -/
def aG (d : Fin 2048) : EReal := (m ((c.tc : Thread nD τ).loc main_arg6) : S2048.Idx → EReal) (ix1 d)

theorem idx0 : ∀ t : Fin cfg0.N, win0_0.index t = ![t.val / 11, 0] := (by decide +kernel : ∀ t : Fin grid0.N, win0_0.index t = ![t.val / 11, 0])
theorem idx1 : ∀ t : Fin cfg0.N, win0_1.index t = ![t.val / 11, 0] := (by decide +kernel : ∀ t : Fin grid0.N, win0_1.index t = ![t.val / 11, 0])
theorem idx2 : ∀ t : Fin cfg0.N, win0_2.index t = ![0, t.val % 11] := (by decide +kernel : ∀ t : Fin grid0.N, win0_2.index t = ![0, t.val % 11])
theorem idx3 : ∀ t : Fin cfg0.N, win0_3.index t = ![0, 11 + t.val % 11] := (by decide +kernel : ∀ t : Fin grid0.N, win0_3.index t = ![0, 11 + t.val % 11])
theorem idx4 : ∀ t : Fin cfg0.N, win0_4.index t = ![0, t.val % 11] := (by decide +kernel : ∀ t : Fin grid0.N, win0_4.index t = ![0, t.val % 11])
theorem idx5 : ∀ t : Fin cfg0.N, win0_5.index t = ![0, 11 + t.val % 11] := (by decide +kernel : ∀ t : Fin grid0.N, win0_5.index t = ![0, 11 + t.val % 11])
theorem idx6 : ∀ t : Fin cfg0.N, win0_6.index t = ![0, t.val % 11] := (by decide +kernel : ∀ t : Fin grid0.N, win0_6.index t = ![0, t.val % 11])
theorem idx7 : ∀ t : Fin cfg0.N, win0_7.index t = ![0, 11 + t.val % 11] := (by decide +kernel : ∀ t : Fin grid0.N, win0_7.index t = ![0, 11 + t.val % 11])
theorem idx8 : ∀ t : Fin cfg0.N, win0_8.index t = ![t.val % 11, 0] := (by decide +kernel : ∀ t : Fin grid0.N, win0_8.index t = ![t.val % 11, 0])
theorem idx9 : ∀ t : Fin cfg0.N, win0_9.index t = ![0, 0] := (by decide +kernel : ∀ t : Fin grid0.N, win0_9.index t = ![0, 0])
theorem idx11 : ∀ t : Fin cfg0.N, win0_11.index t = ![t.val / 11, 0] := (by decide +kernel : ∀ t : Fin grid0.N, win0_11.index t = ![t.val / 11, 0])
theorem idx12 : ∀ t : Fin cfg0.N, win0_12.index t = ![t.val / 11, 0, t.val % 11] := (by decide +kernel : ∀ t : Fin grid0.N, win0_12.index t = ![t.val / 11, 0, t.val % 11])
theorem idx13 : ∀ t : Fin cfg0.N, win0_13.index t = ![t.val / 11, 0, t.val % 11] := (by decide +kernel : ∀ t : Fin grid0.N, win0_13.index t = ![t.val / 11, 0, t.val % 11])

theorem ofNat_eq {N n : ℕ} [NeZero N] (hn : n < N) : (Fin.ofNat N n).val = n := Nat.mod_eq_of_lt hn

variable (t : Fin cfg0.N)

theorem lt704 : t.val < 704 := Nat.lt_of_lt_of_eq t.isLt N_0

theorem blk0 (r : Fin 512) (k : Fin 2048) : iblk m c 0 t (ix2 r k) = aH m c (t.val / 11 * 512 + r.val) k := by
  have ht := lt704 t
  unfold aH
  unfold iblk
  rw [show V m c (Pipeline.arrRef spec0 0) = m ((c : Thread nD τ).loc main_arg0) from V_main_arg0 m c]
  blk_simp [idx0 t]
  congr 1
  blk_ext [idx0 t]
  rw [Fin.val_ofNat]; omega

theorem blk1 (r : Fin 512) (k : Fin 2048) : iblk m c 1 t (ix2 r k) = aX m c (t.val / 11 * 512 + r.val) k := by
  have ht := lt704 t
  unfold aX iblk
  rw [show V m c (Pipeline.arrRef spec0 1) = m ((c : Thread nD τ).loc main_arg1) from V_main_arg1 m c]
  blk_simp [idx1 t]
  congr 1
  blk_ext [idx1 t]
  rw [Fin.val_ofNat]; omega

theorem blk2 (k : Fin 2048) (e : Fin 512) : iblk m c 2 t (ix2 k e) = aW m c k (t.val % 11 * 512 + e.val) := by
  have ht := lt704 t
  unfold aW iblk
  rw [show V m c (Pipeline.arrRef spec0 2) = m ((c : Thread nD τ).loc main_arg2) from V_main_arg2 m c]
  blk_simp [idx2 t]
  congr 1
  blk_ext [idx2 t]
  rw [Fin.val_ofNat]; omega

theorem blk3 (k : Fin 2048) (e : Fin 512) : iblk m c 3 t (ix2 k e) = aW m c k (5632 + (t.val % 11 * 512 + e.val)) := by
  have ht := lt704 t
  unfold aW iblk
  rw [show V m c (Pipeline.arrRef spec0 3) = m ((c : Thread nD τ).loc main_arg2) from V_main_arg2 m c]
  blk_simp [idx3 t]
  congr 1
  blk_ext [idx3 t]
  rw [Fin.val_ofNat]; omega

theorem blk4 (s : Fin 3) (e : Fin 512) : iblk m c 4 t (ix2 s e) = aC m c s (t.val % 11 * 512 + e.val) := by
  have ht := lt704 t
  unfold aC iblk
  rw [show V m c (Pipeline.arrRef spec0 4) = m ((c : Thread nD τ).loc main_arg3) from V_main_arg3 m c]
  blk_simp [idx4 t]
  congr 1
  blk_ext [idx4 t]
  rw [Fin.val_ofNat]; omega

theorem blk5 (s : Fin 3) (e : Fin 512) : iblk m c 5 t (ix2 s e) = aC m c s (5632 + (t.val % 11 * 512 + e.val)) := by
  have ht := lt704 t
  unfold aC iblk
  rw [show V m c (Pipeline.arrRef spec0 5) = m ((c : Thread nD τ).loc main_arg3) from V_main_arg3 m c]
  blk_simp [idx5 t]
  congr 1
  blk_ext [idx5 t]
  rw [Fin.val_ofNat]; omega

theorem blk8 (f : Fin 512) (d : Fin 2048) : iblk m c 8 t (ix2 f d) = aD m c (t.val % 11 * 512 + f.val) d := by
  have ht := lt704 t
  unfold aD iblk
  rw [show V m c (Pipeline.arrRef spec0 8) = m ((c : Thread nD τ).loc main_arg5) from V_main_arg5 m c]
  blk_simp [idx8 t]
  congr 1
  blk_ext [idx8 t]
  rw [Fin.val_ofNat]; omega

/-- The bias as one row. -/
theorem V_bias (e : Fin 11264) : V m c main_v0 (ix2 0 e) = m ((c : Thread nD τ).loc main_arg4) (ix1 e) := by
  unfold V V0
  simp only [hostOps0, List.flatten_cons, List.flatten_nil, List.append_nil]
  after_reads_at
/-- The bias as one row, a second copy. -/
theorem V_bias' (e : Fin 11264) : V m c main_v1 (ix2 0 e) = m ((c : Thread nD τ).loc main_arg4) (ix1 e) := by
  unfold V V0
  simp only [hostOps0, List.flatten_cons, List.flatten_nil, List.append_nil]
  after_reads_at

/-- The scale as one row. -/
theorem V_scale (d : Fin 2048) : V m c main_v2 (ix2 0 d) = m ((c : Thread nD τ).loc main_arg6) (ix1 d) := by
  unfold V V0
  simp only [hostOps0, List.flatten_cons, List.flatten_nil, List.append_nil]
  after_reads_at

theorem blk6 (e : Fin 512) : iblk m c 6 t (ix2 0 e) = aB m c (t.val % 11 * 512 + e.val) := by
  have ht := lt704 t
  refine Eq.trans ?_ (V_bias m c (Fin.ofNat 11264 (t.val % 11 * 512 + e.val)))
  unfold iblk
  blk_simp [idx6 t]
  congr 1
  blk_ext [idx6 t]
  rw [Fin.val_ofNat]; omega

theorem blk7 (e : Fin 512) : iblk m c 7 t (ix2 0 e) = aB m c (5632 + (t.val % 11 * 512 + e.val)) := by
  have ht := lt704 t
  refine Eq.trans ?_ (V_bias' m c (Fin.ofNat 11264 (5632 + (t.val % 11 * 512 + e.val))))
  unfold iblk
  blk_simp [idx7 t]
  congr 1
  blk_ext [idx7 t]
  rw [Fin.val_ofNat]; omega

theorem blk9 (d : Fin 2048) : iblk m c 9 t (ix2 0 d) = aG m c d := by
  refine Eq.trans ?_ (V_scale m c d)
  unfold iblk
  blk_simp [idx9 t]
  congr 1
  blk_ext [idx9 t]

end Cert.Ffn

end
-- ==== Proof.Ffn.Value.lean ====
/-
What the grid points of the feed-forward kernel leave: the carried rows, the down product so far, the tails and, at the
last column of tiles, the output rows.
-/
module

public import proofs.«01_k».proof.Proof.Ffn.Blocks

@[expose] public section

noncomputable section

namespace Cert.Ffn

open Idealize.ShloMosaic Idealize.ShloMosaic.TcCoe Cert.Kernel2Ideal Cert.Kernel2Ideal.Gen

variable (m : (ℓ : Loc nD τ sig) → Buf (Elt Ideal) ℓ) (c : Dev nD)

theorem off1_eq : ∀ t : Fin cfg0.N, k0_off1 (grid0.coords t) = ![t.val % 11, 0, 0] :=
  (by decide +kernel : ∀ t : Fin grid0.N, k0_off1 (grid0.coords t) = ![t.val % 11, 0, 0])

/-- A point's slab of carried rows is its column of tiles. -/
theorem slab_at (t : Fin cfg0.N) (xs : Vec Ideal S11x8x512 .f32) (s : Fin 8) (e : Fin 512) :
    slab t xs (ix3 0 s e) = xs (ix3 ⟨t.val % 11, Nat.mod_lt _ (by decide)⟩ s e) := by
  unfold slab
  refine congrArg xs (funext fun a => Fin.ext ?_)
  have ho := congrFun (off1_eq t) a
  match a with
  | 0 => show k0_off1 (grid0.coords t) 0 + 1 * 0 = t.val % 11; rw [ho]; rfl
  | 1 => show k0_off1 (grid0.coords t) 1 + 1 * s.val = s.val; rw [ho]; show 0 + 1 * s.val = s.val; omega
  | 2 => show k0_off1 (grid0.coords t) 2 + 1 * e.val = e.val; rw [ho]; show 0 + 1 * e.val = e.val; omega

theorem put_same (t : Fin cfg0.N) (w : Vec Ideal S1x8x512 .f32) (xs : Vec Ideal S11x8x512 .f32) (p : Fin 11) (s : Fin 8)
    (e : Fin 512) (hp : p.val = t.val % 11) : put t w xs (ix3 p s e) = w (ix3 0 s e) := by
  have ho := off1_eq t
  unfold put
  rw [dif_pos (by
    rw [ho]
    intro a
    match a with
    | 0 => exact ⟨hp.ge, by show p.val < t.val % 11 + 1; omega⟩
    | 1 => exact ⟨Nat.zero_le _, by show s.val < 0 + 8; omega⟩
    | 2 => exact ⟨Nat.zero_le _, by show e.val < 0 + 512; omega⟩)]
  refine congrArg w (funext fun a => Fin.ext ?_)
  rw [Rect.unitLocal_val, ho]
  match a with
  | 0 => show p.val - t.val % 11 = 0; omega
  | 1 => rfl
  | 2 => rfl

theorem put_other (t : Fin cfg0.N) (w : Vec Ideal S1x8x512 .f32) (xs : Vec Ideal S11x8x512 .f32) (p : Fin 11) (s : Fin 8)
    (e : Fin 512) (hp : p.val ≠ t.val % 11) : put t w xs (ix3 p s e) = xs (ix3 p s e) := by
  have ho := off1_eq t
  unfold put
  rw [dif_neg]
  rw [ho]
  intro h
  have h1 : t.val % 11 ≤ p.val := (h 0).1
  have h2 : p.val < t.val % 11 + 1 := (h 0).2
  omega

/-- The up product of the argument arrays. -/
abbrev U (n e : ℕ) : EReal := up (aH m c) (aW m c) n e

theorem val_at (t : Fin cfg0.N) (r : Fin 512) (e : Fin 512) :
    k0_pay5 (iblk m c 0 t) (iblk m c 2 t) (ix3 0 r e) = U m c (t.val / 11 * 512 + r.val) (t.val % 11 * 512 + e.val) := by
  rw [pay5_at]
  exact Finset.sum_congr rfl fun k _ => congrArg₂ (· * ·) (blk0 m c t r k) (blk2 m c t k e)

theorem gate_at (t : Fin cfg0.N) (r : Fin 512) (e : Fin 512) :
    k0_pay12 (iblk m c 0 t) (iblk m c 3 t) (ix3 0 r e)
      = U m c (t.val / 11 * 512 + r.val) (5632 + (t.val % 11 * 512 + e.val)) := by
  rw [pay12_at]
  exact Finset.sum_congr rfl fun k _ => congrArg₂ (· * ·) (blk0 m c t r k) (blk3 m c t k e)

/-- Every point puts the last eight value rows of its tile in its slab. -/
theorem carryV (t : Fin cfg0.N) : ∃ z : Vec Ideal S11x8x512 .f32, (t.val ≠ 0 → z = (prev m c t).2.2.2.2.1) ∧
    ∀ y, (outsAt0 m c t.val t.isLt).2.2.2.2.1 y = put t (k0_pay9 (iblk m c 0 t) (iblk m c 2 t)) z y := by
  have ht := lt704 t
  by_cases h1 : t.val % 11 = 0
  · by_cases h0 : t.val % 704 = 0
    · exact ⟨k0_pay3 (F := Ideal), fun h => absurd h (by omega), carryV_A m c t h0 h1 (by omega)⟩
    · exact ⟨_, fun _ => rfl, carryV_D m c t h0 h1 (by omega)⟩
  · by_cases h2 : t.val % 11 = 10
    · exact ⟨_, fun _ => rfl, carryV_C m c t (by omega) h1 h2⟩
    · exact ⟨_, fun _ => rfl, carryV_B m c t (by omega) h1 h2⟩

/-- Every point puts the last eight gate rows of its tile in its slab. -/
theorem carryG (t : Fin cfg0.N) : ∃ z : Vec Ideal S11x8x512 .f32, (t.val ≠ 0 → z = (prev m c t).2.2.2.2.2) ∧
    ∀ y, (outsAt0 m c t.val t.isLt).2.2.2.2.2 y
      = put t (k0_pay15 (k0_pay12 (iblk m c 0 t) (iblk m c 3 t))) z y := by
  have ht := lt704 t
  by_cases h1 : t.val % 11 = 0
  · by_cases h0 : t.val % 704 = 0
    · exact ⟨k0_pay4 (F := Ideal), fun h => absurd h (by omega), carryG_A m c t h0 h1 (by omega)⟩
    · exact ⟨_, fun _ => rfl, carryG_D m c t h0 h1 (by omega)⟩
  · by_cases h2 : t.val % 11 = 10
    · exact ⟨_, fun _ => rfl, carryG_C m c t (by omega) h1 h2⟩
    · exact ⟨_, fun _ => rfl, carryG_B m c t (by omega) h1 h2⟩

/-- What the carried rows hold after point `n`, the columns starting `o` later. -/
def Carried (o n : ℕ) (x : Vec Ideal S11x8x512 .f32) : Prop :=
  ∀ (p : Fin 11) (s : Fin 8) (e : Fin 512),
    (p.val ≤ n % 11 → x (ix3 p s e) = U m c (n / 11 * 512 + (504 + s.val)) (o + (p.val * 512 + e.val))) ∧
    (n % 11 < p.val → 0 < n / 11 → x (ix3 p s e) = U m c ((n / 11 - 1) * 512 + (504 + s.val)) (o + (p.val * 512 + e.val)))

theorem carried_step (o : ℕ) (t : Fin cfg0.N) (x z : Vec Ideal S11x8x512 .f32) (w : Vec Ideal S1x8x512 .f32)
    (hz : t.val ≠ 0 → Carried m c o (t.val - 1) z) (hx : ∀ y, x y = put t w z y)
    (hw : ∀ s e, w (ix3 0 s e) = U m c (t.val / 11 * 512 + (504 + s.val)) (o + (t.val % 11 * 512 + e.val))) :
    Carried m c o t.val x := by
  intro p s e
  rw [hx]
  by_cases hp : p.val = t.val % 11
  · rw [put_same t w z p s e hp, hw, hp]
    exact ⟨fun _ => rfl, fun h => absurd h (lt_irrefl _)⟩
  · rw [put_other t w z p s e hp]
    refine ⟨fun h => ?_, fun h h' => ?_⟩
    · have h0 : t.val ≠ 0 := by omega
      rw [(hz h0 p s e).1 (by omega), show (t.val - 1) / 11 = t.val / 11 by omega]
    · have h0 : t.val ≠ 0 := by omega
      by_cases h1 : t.val % 11 = 0
      · rw [(hz h0 p s e).1 (by omega), show (t.val - 1) / 11 = t.val / 11 - 1 by omega]
      · rw [(hz h0 p s e).2 (by omega) (by omega), show (t.val - 1) / 11 = t.val / 11 by omega]

theorem carried (n : ℕ) : ∀ hn : n < cfg0.N,
    Carried m c 0 n (outsAt0 m c n hn).2.2.2.2.1 ∧ Carried m c 5632 n (outsAt0 m c n hn).2.2.2.2.2 := by
  induction n with
  | zero =>
    intro hn
    obtain ⟨z, _, hx⟩ := carryV m c ⟨0, hn⟩
    obtain ⟨z', _, hx'⟩ := carryG m c ⟨0, hn⟩
    exact ⟨carried_step m c 0 ⟨0, hn⟩ _ z _ (fun h => absurd rfl h) hx fun s e => by
        rw [pay9_at, val_at, Nat.zero_add],
      carried_step m c 5632 ⟨0, hn⟩ _ z' _ (fun h => absurd rfl h) hx' fun s e => by
        rw [pay15_at, gate_at]⟩
  | succ n ih =>
    intro hn
    obtain ⟨z, hz, hx⟩ := carryV m c ⟨n + 1, hn⟩
    obtain ⟨z', hz', hx'⟩ := carryG m c ⟨n + 1, hn⟩
    refine ⟨carried_step m c 0 ⟨n + 1, hn⟩ _ z _ (fun h => ?_) hx fun s e => by
        rw [pay9_at, val_at, Nat.zero_add],
      carried_step m c 5632 ⟨n + 1, hn⟩ _ z' _ (fun h => ?_) hx' fun s e => by
        rw [pay15_at, gate_at]⟩
    · rw [hz h]; exact (ih _).1
    · rw [hz' h]; exact (ih _).2

/-- The slab a point reads, before it puts its own rows: the row tile before it, if there is one. -/
theorem slab_carried (o : ℕ) (t : Fin cfg0.N) (z : Vec Ideal S11x8x512 .f32)
    (hz : t.val ≠ 0 → Carried m c o (t.val - 1) z) (h : 0 < t.val / 11) (s : Fin 8) (e : Fin 512) :
    slab t z (ix3 0 s e) = U m c ((t.val / 11 - 1) * 512 + (504 + s.val)) (o + (t.val % 11 * 512 + e.val)) := by
  have h0 : t.val ≠ 0 := by omega
  rw [slab_at]
  by_cases h1 : t.val % 11 = 0
  · rw [(hz h0 _ s e).1 (by show t.val % 11 ≤ _; omega), show (t.val - 1) / 11 = t.val / 11 - 1 by omega]
  · rw [(hz h0 _ s e).2 (by show _ < t.val % 11; omega) (by omega), show (t.val - 1) / 11 = t.val / 11 by omega]

/-- The gated activation of the argument arrays. -/
abbrev H (n f : ℕ) : EReal := hid (aH m c) (aW m c) (aC m c) (aB m c) n f

theorem act_eq (t : Fin cfg0.N) (z z' : Vec Ideal S11x8x512 .f32) (hz : t.val ≠ 0 → Carried m c 0 (t.val - 1) z)
    (hz' : t.val ≠ 0 → Carried m c 5632 (t.val - 1) z') (r : Fin 512) (e : Fin 512) :
    actAt m c t (slab t z) (slab t z') (ix2 r e) = H m c (t.val / 11 * 512 + r.val) (t.val % 11 * 512 + e.val) := by
  unfold actAt
  rw [act_at]
  unfold H hid conv
  rw [blk4, blk4, blk4, blk5, blk5, blk5, blk6, blk7]
  simp only [val_at, gate_at]
  rw [back1_eq (aH m c) (aW m c) t _ _ (fun h s => (slab_carried m c 0 t z hz h s e).trans (by rw [Nat.zero_add])) r,
    back2_eq (aH m c) (aW m c) t _ _ (fun h s => (slab_carried m c 0 t z hz h s e).trans (by rw [Nat.zero_add])) r,
    back1_eq (aH m c) (aW m c) t _ _ (fun h s => slab_carried m c 5632 t z' hz' h s e) r,
    back2_eq (aH m c) (aW m c) t _ _ (fun h s => slab_carried m c 5632 t z' hz' h s e) r]

/-- The down product over the first columns of the argument arrays. -/
abbrev M (n K : ℕ) (d : Fin 2048) : EReal := mix (aH m c) (aW m c) (aC m c) (aB m c) (aD m c) n K d

/-- Every point adds its columns to the down product, which the first of a row of tiles starts at zero. -/
theorem acc_form (t : Fin cfg0.N) : ∃ (z z' : Vec Ideal S11x8x512 .f32) (a : Vec Ideal S512x2048 .f32),
    (t.val ≠ 0 → Carried m c 0 (t.val - 1) z) ∧ (t.val ≠ 0 → Carried m c 5632 (t.val - 1) z') ∧
    (t.val % 11 = 0 → a = k0_pay22 (F := Ideal)) ∧ (t.val % 11 ≠ 0 → a = (prev m c t).2.2.2.1) ∧
    (outsAt0 m c t.val t.isLt).2.2.2.1 = k0_pay1 (actAt m c t (slab t z) (slab t z')) a (iblk m c 8 t) := by
  have ht := lt704 t
  have hp := carried m c (t.val - 1) (Nat.lt_of_le_of_lt (Nat.sub_le _ _) t.isLt)
  by_cases h1 : t.val % 11 = 0
  · by_cases h0 : t.val % 704 = 0
    · exact ⟨k0_pay3 (F := Ideal), k0_pay4 (F := Ideal), k0_pay22 (F := Ideal), fun h => absurd h (by omega), fun h => absurd h (by omega), fun _ => rfl, fun h => absurd h1 h,
        acc_A m c t h0 h1 (by omega)⟩
    · exact ⟨_, _, k0_pay22 (F := Ideal), fun _ => hp.1, fun _ => hp.2, fun _ => rfl, fun h => absurd h1 h, acc_D m c t h0 h1 (by omega)⟩
  · by_cases h2 : t.val % 11 = 10
    · exact ⟨_, _, _, fun _ => hp.1, fun _ => hp.2, fun h => absurd h h1, fun _ => rfl, acc_C m c t (by omega) h1 h2⟩
    · exact ⟨_, _, _, fun _ => hp.1, fun _ => hp.2, fun h => absurd h h1, fun _ => rfl, acc_B m c t (by omega) h1 h2⟩

theorem acc_step (t : Fin cfg0.N) (h : t.val % 11 ≠ 0 → ∀ (r : Fin 512) (d : Fin 2048),
      (prev m c t).2.2.2.1 (ix2 r d) = M m c ((t.val - 1) / 11 * 512 + r.val) (512 * ((t.val - 1) % 11 + 1)) d)
    (r : Fin 512) (d : Fin 2048) :
    (outsAt0 m c t.val t.isLt).2.2.2.1 (ix2 r d) = M m c (t.val / 11 * 512 + r.val) (512 * (t.val % 11 + 1)) d := by
  obtain ⟨z, z', a, hz, hz', ha, ha', he⟩ := acc_form m c t
  rw [he, pay1_at]
  refine Eq.trans ?_ (mix_step _ _ _ _ _ _ _ _).symm
  refine congrArg₂ (· + ·) ?_ (Finset.sum_congr rfl fun f _ =>
    congrArg₂ (· * ·) (act_eq m c t z z' hz hz' r f) (blk8 m c t f d))
  by_cases h1 : t.val % 11 = 0
  · rw [ha h1, pay22_at, h1, Nat.mul_zero]
    exact (mix_zero _ _ _ _ _ _ _).symm
  · rw [ha' h1, h h1, show (t.val - 1) / 11 = t.val / 11 by omega, show (t.val - 1) % 11 + 1 = t.val % 11 by omega]

/-- After point `n`, the down product over the columns up to its tile's. -/
theorem acc (n : ℕ) : ∀ (hn : n < cfg0.N) (r : Fin 512) (d : Fin 2048),
    (outsAt0 m c n hn).2.2.2.1 (ix2 r d) = M m c (n / 11 * 512 + r.val) (512 * (n % 11 + 1)) d := by
  induction n with
  | zero => exact fun hn => acc_step m c ⟨0, hn⟩ fun h => absurd rfl h
  | succ n ih => exact fun hn => acc_step m c ⟨n + 1, hn⟩ fun _ => ih _

/-- The output of the argument arrays. -/
abbrev O (n : ℕ) (d : Fin 2048) : EReal := out (aH m c) (aX m c) (aW m c) (aC m c) (aB m c) (aD m c) (aG m c) n d

/-- The output rows of a tile, at its last point. -/
theorem out_at (t : Fin cfg0.N) (h : t.val % 11 = 10) (r : Fin 512) (d : Fin 2048) :
    (outsAt0 m c t.val t.isLt).1 (ix2 r d) = O m c (t.val / 11 * 512 + r.val) d := by
  rw [out_C m c t (by omega) (by omega) h, pay2_at, blk1]
  unfold O out
  refine congrArg (fun z => aX m c (t.val / 11 * 512 + r.val) d + z) ?_
  refine congrArg₂ (fun a b => norm a b d) (funext fun k => ?_) (funext fun k => blk9 m c t k)
  rw [acc, h]

/-- The value rows that end a tile. -/
theorem tailV_at (t : Fin cfg0.N) (s : Fin 2) (e : Fin 512) :
    (outsAt0 m c t.val t.isLt).2.1 (ix3 0 s e) = U m c (t.val / 11 * 512 + (510 + s.val)) (t.val % 11 * 512 + e.val) := by
  have ht := lt704 t
  have key : (outsAt0 m c t.val t.isLt).2.1 = k0_pay10 (k0_pay5 (iblk m c 0 t) (iblk m c 2 t)) := by
    by_cases h1 : t.val % 11 = 0
    · by_cases h0 : t.val % 704 = 0
      · exact tailV_A m c t h0 h1 (by omega)
      · exact tailV_D m c t h0 h1 (by omega)
    · by_cases h2 : t.val % 11 = 10
      · exact tailV_C m c t (by omega) h1 h2
      · exact tailV_B m c t (by omega) h1 h2
  rw [key, pay10_at, val_at]

/-- The gate rows that end a tile. -/
theorem tailG_at (t : Fin cfg0.N) (s : Fin 2) (e : Fin 512) :
    (outsAt0 m c t.val t.isLt).2.2.1 (ix3 0 s e)
      = U m c (t.val / 11 * 512 + (510 + s.val)) (5632 + (t.val % 11 * 512 + e.val)) := by
  have ht := lt704 t
  have key : (outsAt0 m c t.val t.isLt).2.2.1 = k0_pay20 (k0_pay12 (iblk m c 0 t) (iblk m c 3 t)) := by
    by_cases h1 : t.val % 11 = 0
    · by_cases h0 : t.val % 704 = 0
      · exact tailG_A m c t h0 h1 (by omega)
      · exact tailG_D m c t h0 h1 (by omega)
    · by_cases h2 : t.val % 11 = 10
      · exact tailG_C m c t (by omega) h1 h2
      · exact tailG_B m c t (by omega) h1 h2
  rw [key, pay20_at, gate_at]

end Cert.Ffn

end
-- ==== Proof.Ffn.Result.lean ====
/-
The arrays that the feed-forward kernel's program returns over the extended reals, and its run.
-/
module

public import proofs.«01_k».proof.Proof.Ffn.Value

@[expose] public section

noncomputable section

namespace Cert.Ffn

open Idealize.ShloMosaic Idealize.ShloMosaic.TcCoe Idealize.SL.Sem Cert.Kernel2Ideal Cert.Kernel2Ideal.Gen

variable (m : (ℓ : Loc nD τ sig) → Buf (Elt Ideal) ℓ) (ρ : Dev nD → PrngReg) (c : Dev nD)

/-- The output array. -/
def rows : S32768x2048.Idx → EReal := fun y => O m c (y 0).val (y 1)

/-- The last two up rows of every tile, the columns starting `o` later. -/
def tails (o : ℕ) : S64x2x5632.Idx → EReal := fun y => U m c ((y 0).val * 512 + (510 + (y 1).val)) (o + (y 2).val)

/-- The last two up rows of every sequence. -/
def last : S4x2x11264.Idx → EReal := fun y => U m c ((y 0).val * 8192 + (8190 + (y 1).val)) (y 2).val

theorem covers11 : (cfg0.win 11).Covers := (by decide +kernel : win0_11.Covers)
theorem covers12 : (cfg0.win 12).Covers := (by decide +kernel : win0_12.Covers)
theorem covers13 : (cfg0.win 13).Covers := (by decide +kernel : win0_13.Covers)

theorem emb11_0 (t : Fin cfg0.N) (y : S512x2048.Idx) :
    (((cfg0.win 11).blk t).view.emb y 0).val = t.val / 11 * 512 + (y 0).val := by blk_simp [idx11 t]
theorem emb11_1 (t : Fin cfg0.N) (y : S512x2048.Idx) : (((cfg0.win 11).blk t).view.emb y 1).val = (y 1).val := by
  blk_simp [idx11 t]
theorem emb12_0 (t : Fin cfg0.N) (y : S1x2x512.Idx) : (((cfg0.win 12).blk t).view.emb y 0).val = t.val / 11 + (y 0).val := by
  blk_simp [idx12 t]
theorem emb12_1 (t : Fin cfg0.N) (y : S1x2x512.Idx) : (((cfg0.win 12).blk t).view.emb y 1).val = (y 1).val := by
  blk_simp [idx12 t]
theorem emb12_2 (t : Fin cfg0.N) (y : S1x2x512.Idx) :
    (((cfg0.win 12).blk t).view.emb y 2).val = t.val % 11 * 512 + (y 2).val := by blk_simp [idx12 t]
theorem emb13_0 (t : Fin cfg0.N) (y : S1x2x512.Idx) : (((cfg0.win 13).blk t).view.emb y 0).val = t.val / 11 + (y 0).val := by
  blk_simp [idx13 t]
theorem emb13_1 (t : Fin cfg0.N) (y : S1x2x512.Idx) : (((cfg0.win 13).blk t).view.emb y 1).val = (y 1).val := by
  blk_simp [idx13 t]
theorem emb13_2 (t : Fin cfg0.N) (y : S1x2x512.Idx) :
    (((cfg0.win 13).blk t).view.emb y 2).val = t.val % 11 * 512 + (y 2).val := by blk_simp [idx13 t]

theorem rows_eq (t : Fin cfg0.N) (h : t.val % 11 = 10) (y : S512x2048.Idx) (i : S32768x2048.Idx)
    (e0 : (i 0).val = t.val / 11 * 512 + (y 0).val) (e1 : (i 1).val = (y 1).val) :
    (outsAt0 m c t.val t.isLt).1 y = rows m c i := by
  obtain ⟨r, d, rfl⟩ : ∃ (r : Fin 512) (d : Fin 2048), y = ix2 r d := ⟨y 0, y 1, eq_ix2 y⟩
  rw [out_at m c t h]
  unfold rows
  rw [e0]
  exact congrArg _ (Fin.ext e1.symm)

theorem final11 : (dats m 0 c).arrAt 11 cfg0.N = rows m c := by
  refine (dats m 0 c).arrAt_eq_of_covers 11 (rows m c) covers11 fun t hf y => ?_
  refine (congrFun (after0_11 m c t) y).trans ?_
  exact rows_eq m c t ((flush0_11 t).mp hf) y _ (emb11_0 t y) (emb11_1 t y)

theorem final12 : (dats m 0 c).arrAt 12 cfg0.N = tails m c 0 := by
  refine (dats m 0 c).arrAt_eq_of_covers 12 (tails m c 0) covers12 fun t hf y => ?_
  refine (congrFun (after0_12 m c t) y).trans ?_
  have e0 := emb12_0 t y
  have e1 := emb12_1 t y
  have e2 := emb12_2 t y
  revert e0 e1 e2
  generalize ((cfg0.win 12).blk t).view.emb y = i
  intro e0 e1 e2
  obtain ⟨z, s, e, rfl⟩ : ∃ (z : Fin 1) (s : Fin 2) (e : Fin 512), y = ix3 z s e := ⟨y 0, y 1, y 2, eq_ix3 y⟩
  obtain rfl : z = 0 := Subsingleton.elim _ _
  refine (tailV_at m c t s e).trans ?_
  show _ = U m c ((i 0).val * 512 + (510 + (i 1).val)) (0 + (i 2).val)
  rw [e0, e1, e2, Nat.zero_add]
  rfl

theorem final13 : (dats m 0 c).arrAt 13 cfg0.N = tails m c 5632 := by
  refine (dats m 0 c).arrAt_eq_of_covers 13 (tails m c 5632) covers13 fun t hf y => ?_
  refine (congrFun (after0_13 m c t) y).trans ?_
  have e0 := emb13_0 t y
  have e1 := emb13_1 t y
  have e2 := emb13_2 t y
  revert e0 e1 e2
  generalize ((cfg0.win 13).blk t).view.emb y = i
  intro e0 e1 e2
  obtain ⟨z, s, e, rfl⟩ : ∃ (z : Fin 1) (s : Fin 2) (e : Fin 512), y = ix3 z s e := ⟨y 0, y 1, y 2, eq_ix3 y⟩
  obtain rfl : z = 0 := Subsingleton.elim _ _
  refine (tailG_at m c t s e).trans ?_
  show _ = U m c ((i 0).val * 512 + (510 + (i 1).val)) (5632 + (i 2).val)
  rw [e0, e1, e2]
  rfl

/-- The second result: the tails of the sequences' last tiles, value columns before gate columns. -/
theorem suffix (b : Fin 4) (s : Fin 2) (e : Fin 11264) :
    Pipeline.afterTail₀ cfgs (dats m) 0 (V0 m) [hostOps1] c main_v6 (ix3 b s e) = last m c (ix3 b s e) := by
  unfold Pipeline.afterTail₀
  have h12 := (Pipeline.withArrays_arr_shared spec0 c (V0 m c) (fun w => (dats m 0 c).arrAt w cfg0.N) (Pipeline.Dat.arrAt_sharedIn (dats m 0 c) sharedIn0 (V0 m c) (fun _ => rfl) cfg0.N) 12).trans (final12 m c)
  have h13 := (Pipeline.withArrays_arr_shared spec0 c (V0 m c) (fun w => (dats m 0 c).arrAt w cfg0.N) (Pipeline.Dat.arrAt_sharedIn (dats m 0 c) sharedIn0 (V0 m c) (fun _ => rfl) cfg0.N) 13).trans (final13 m c)
  simp only [hostOps1, List.flatten_cons, List.flatten_nil, List.append_nil]
  after_reads_at
  unfold last
  split
  · rename_i h
    refine (congrFun h12 _).trans ?_
    unfold tails
    exact congrArg₂ (U m c) (by show (15 + 16 * b.val) * 512 + (510 + s.val) = b.val * 8192 + (8190 + s.val); omega)
      (Nat.zero_add _)
  · rename_i h
    refine (congrFun h13 _).trans ?_
    unfold tails
    exact congrArg₂ (U m c) (by show (15 + 16 * b.val) * 512 + (510 + s.val) = b.val * 8192 + (8190 + s.val); omega)
      (by show 5632 + (e.val - 5632) = e.val; omega)

theorem suffix_eq : Pipeline.afterTail₀ cfgs (dats m) 0 (V0 m) [hostOps1] c main_v6 = last m c := by
  funext y
  obtain ⟨b, s, e, rfl⟩ : ∃ (b : Fin 4) (s : Fin 2) (e : Fin 11264), y = ix3 b s e := ⟨y 0, y 1, y 2, eq_ix3 y⟩
  exact suffix m c b s e

/-- The run: the result arrays hold `rows` and `last`, the arguments are unchanged. -/
theorem run :
    θ_run defs (onTc (τ := τ) (main (F := Ideal))) ⟨m, fun _ => 0, ρ⟩ fun r => ∀ c : Dev nD,
      r.2.mem ((c.tc : Thread nD τ).loc main_v4_0) = rows m c
      ∧ r.2.mem ((c.tc : Thread nD τ).loc main_v6) = last m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 11).trans (final11 m c),
    ((h c).2 main_v6 (Pipeline.mem_restRefs_of main_v6 (by decide) (by decide))).trans (suffix_eq m c),
    ((h c).1 0).trans (((dats m 0 c).arrAt_in 0 rfl _).trans (V_main_arg0 m c)),
    ((h c).1 1).trans (((dats m 0 c).arrAt_in 1 rfl _).trans (V_main_arg1 m c)),
    ((h c).1 3).trans (((dats m 0 c).arrAt_in 3 rfl _).trans (V_main_arg2 m c)),
    ((h c).1 5).trans (((dats m 0 c).arrAt_in 5 rfl _).trans (V_main_arg3 m c)),
    ((h c).2 main_arg4 (Pipeline.mem_restRefs_of main_arg4 (by decide) (by decide))).trans (W_main_arg4 m (dats m) c),
    ((h c).1 8).trans (((dats m 0 c).arrAt_in 8 rfl _).trans (V_main_arg5 m c)),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩)
    (run_main m ρ)

end Cert.Ffn

end
-- ==== Proof.Ffn.Ref.lean ====
/-
The reference of the feed-forward layer over the extended reals: its results are the layer's formulas.
-/
module

public import proofs.«01_k».proof.Proof.Gen.Reference2Ideal.Run
public import proofs.«01_k».proof.Proof.Ffn.Result

@[expose] public section

noncomputable section

namespace Cert.Ffn.Ref

open Idealize.ShloMosaic Idealize.ShloMosaic.TcCoe Cert.Reference2Ideal Cert.Reference2Ideal.Gen Finset

/-! ### The reference in stages -/

/-- The up product, batch by row by column. -/
def upB (x : FVec Ideal S32768x2048 .bf16) (w : FVec Ideal S2048x11264 .bf16) : FVec Ideal S4x8192x11264 .f32 :=
  Host.dotGeneral dot_S4x8192x2048_S2048x11264_S4x8192x11264_2_0_01_1_n_n none
    (shapeCast _ (extf .f32 x bitsLt_bf16_f32) shapeCasts_S32768x2048_S4x8192x2048) (extf .f32 w bitsLt_bf16_f32)

/-- The up product after two rows of zeros. -/
def ext (u : FVec Ideal S4x8192x11264 .f32) : FVec Ideal S4x8194x11264 .f32 :=
  concatenate S4x8194x11264 1 [⟨S4x2x11264, broadcastInDim S4x2x11264 ![] bcast_S_S4x2x11264 (constant S_ .f32 0x00000000#32)⟩,
    ⟨S4x8192x11264, u⟩] concatenates_S4x2x11264_S4x8192x11264_S4x8194x11264_d1

/-- A row for every batch and row. -/
def every (v : FVec Ideal S11264 .f32) : FVec Ideal S4x8192x11264 .f32 :=
  broadcastInDim S4x8192x11264 ![0, 1, 2] bcast_S1x1x11264_S4x8192x11264_0_1_2 (broadcastInDim S1x1x11264 ![2] bcast_S11264_S1x1x11264_2 v)

/-- The filtered up product. -/
def filt (u : FVec Ideal S4x8194x11264 .f32) (cw : FVec Ideal S3x11264 .f32) (cb : FVec Ideal S11264 .f32) : FVec Ideal S4x8192x11264 .f32 :=
  addf (every cb) (addf (addf (addf (broadcastInDim S4x8192x11264 ![] bcast_S_S4x8192x11264 (constant S_ .f32 0x00000000#32))
    (mulf (every (shapeCast _ (extractStridedSlice S1x11264 ![0, 0] cw slices_S3x11264_S1x11264_0_0) shapeCasts_S1x11264_S11264))
      (extractStridedSlice S4x8192x11264 ![0, 0, 0] u slices_S4x8194x11264_S4x8192x11264_0_0_0)))
    (mulf (every (shapeCast _ (extractStridedSlice S1x11264 ![1, 0] cw slices_S3x11264_S1x11264_1_0) shapeCasts_S1x11264_S11264))
      (extractStridedSlice S4x8192x11264 ![0, 1, 0] u slices_S4x8194x11264_S4x8192x11264_0_1_0)))
    (mulf (every (shapeCast _ (extractStridedSlice S1x11264 ![2, 0] cw slices_S3x11264_S1x11264_2_0) shapeCasts_S1x11264_S11264))
      (extractStridedSlice S4x8192x11264 ![0, 2, 0] u slices_S4x8194x11264_S4x8192x11264_0_2_0)))

/-- One number everywhere. -/
def num (w : BitVec 32) : FVec Ideal S4x8192x5632 .f32 := broadcastInDim S4x8192x5632 ![] bcast_S_S4x8192x5632 (constant S_ .f32 w)

/-- The activation of the gate. -/
def actv (g : FVec Ideal S4x8192x5632 .f32) : FVec Ideal S4x8192x5632 .f32 :=
  mulf g (mulf (num 0x3F000000#32) (addf (num 0x3F800000#32) (Host.tanh (mulf (num 0x3F4C422A#32)
    (addf g (mulf (num 0x3D372713#32) (mulf (mulf g g) g)))))))

/-- The gated activation. -/
def glu (v : FVec Ideal S4x8192x11264 .f32) : FVec Ideal S4x8192x5632 .f32 :=
  mulf (actv (extractStridedSlice S4x8192x5632 ![0, 0, 5632] v slices_S4x8192x11264_S4x8192x5632_0_0_5632))
    (extractStridedSlice S4x8192x5632 ![0, 0, 0] v slices_S4x8192x11264_S4x8192x5632_0_0_0)

/-- The down product. -/
def down (a : FVec Ideal S4x8192x5632 .f32) (w : FVec Ideal S5632x2048 .bf16) : FVec Ideal S4x8192x2048 .f32 :=
  Host.dotGeneral dot_S4x8192x5632_S5632x2048_S4x8192x2048_2_0_01_1_n_n none a (extf .f32 w bitsLt_bf16_f32)

/-- The norm. -/
def nrm (y : FVec Ideal S4x8192x2048 .f32) (g : FVec Ideal S2048 .f32) : FVec Ideal S4x8192x2048 .f32 :=
  mulf (mulf y (broadcastInDim S4x8192x2048 ![0, 1, 2] bcast_S4x8192x1_S4x8192x2048_0_1_2 (Host.rsqrt (addf (Host.divf
    (broadcastInDim S4x8192x1 ![0, 1] bcast_S4x8192_S4x8192x1_0_1
      (Host.reduceAdd (mulf y y) (constant S_ .f32 0x00000000#32) reducesTo_S4x8192x2048_S4x8192_d2 h_S_))
    (broadcastInDim S4x8192x1 ![] bcast_S_S4x8192x1 (constant S_ .f32 0x45000000#32)))
    (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 g))

theorem res_eq (m : (ℓ : Loc nD τ sig) → Buf (Elt Ideal) ℓ) (c : Dev nD) :
    Value.res_out0 (F := Ideal) m c = addf (m ((c.tc : Thread nD τ).loc main_arg1)) (shapeCast _ (nrm (down (glu (filt
      (ext (upB (m ((c.tc : Thread nD τ).loc main_arg0)) (m ((c.tc : Thread nD τ).loc main_arg2))))
      (m ((c.tc : Thread nD τ).loc main_arg3)) (m ((c.tc : Thread nD τ).loc main_arg4))))
      (m ((c.tc : Thread nD τ).loc main_arg5))) (m ((c.tc : Thread nD τ).loc main_arg6)))
      shapeCasts_S4x8192x2048_S32768x2048) := by
  unfold Value.res_out0 Value.res_main_v63 nrm down glu actv num filt every ext upB
  rfl

/-! ### The stages at an index -/

/-- An array's rows by number. -/
def rd {N K : ℕ} [NeZero N] (x : (⟨2, ![N, K]⟩ : Shape).Idx → EReal) (n : ℕ) (k : Fin K) : EReal := x (ix2 (Fin.ofNat N n) k)
/-- An array's columns by number. -/
def cd {N K : ℕ} [NeZero K] (x : (⟨2, ![N, K]⟩ : Shape).Idx → EReal) (n : Fin N) (k : ℕ) : EReal := x (ix2 n (Fin.ofNat K k))
/-- A row's elements by number. -/
def vd {K : ℕ} [NeZero K] (x : (⟨1, ![K]⟩ : Shape).Idx → EReal) (k : ℕ) : EReal := x (ix1 (Fin.ofNat K k))

theorem ofNat_self {K : ℕ} [NeZero K] (e : Fin K) : Fin.ofNat K e.val = e := Fin.ext (Nat.mod_eq_of_lt e.isLt)

theorem upB_at (x : FVec Ideal S32768x2048 .bf16) (w : FVec Ideal S2048x11264 .bf16) (b : Fin 4) (i : Fin 8192) (e : Fin 11264) :
    upB x w (ix3 b i e) = up (rd x) (cd w) (b.val * 8192 + i.val) e.val := by
  pointwise [upB]
  unfold up rd cd
  refine sum_congr rfl fun k _ => congrArg₂ (· * ·) (congrArg x (congrArg (fun n => ix2 n k) (Fin.ext ?_)))
    (congrArg w (congrArg (fun n => ix2 k n) (ofNat_self e).symm))
  rw [Fin.val_ofNat]
  simp only [Nat.mod_eq_of_lt (show b.val * 8192 + i.val < 32768 by omega)]

theorem ext_at (x : FVec Ideal S32768x2048 .bf16) (w : FVec Ideal S2048x11264 .bf16) (b : Fin 4) (j : Fin 8194) (e : Fin 11264) :
    ext (upB x w) (ix3 b j e) = if 2 ≤ j.val then up (rd x) (cd w) (b.val * 8192 + (j.val - 2)) e.val else 0 := by
  pointwise [ext]
  by_cases h : j.val < 2
  · rw [dif_pos h, if_neg (by omega)]
  · rw [dif_neg h]
    refine (upB_at x w b ⟨j.val - 2, by omega⟩ e).trans ?_
    exact (if_pos (by omega)).symm

theorem filt_at (x : FVec Ideal S32768x2048 .bf16) (w : FVec Ideal S2048x11264 .bf16) (cw : FVec Ideal S3x11264 .f32)
    (cb : FVec Ideal S11264 .f32) (b : Fin 4) (i : Fin 8192) (e : Fin 11264) :
    filt (ext (upB x w)) cw cb (ix3 b i e) = conv (rd x) (cd w) (cd cw) (vd cb) (b.val * 8192 + i.val) e.val := by
  have h2 : ext (upB x w) (ix3 b ⟨i.val, by omega⟩ e) = upm (rd x) (cd w) 2 (b.val * 8192 + i.val) e.val := by
    rw [ext_at]
    unfold upm
    by_cases h : 2 ≤ i.val
    · rw [if_pos h, if_pos (by omega), Nat.add_sub_assoc h]
    · rw [if_neg h, if_neg (by omega)]
  have h1 : ext (upB x w) (ix3 b ⟨1 + i.val, by omega⟩ e) = upm (rd x) (cd w) 1 (b.val * 8192 + i.val) e.val := by
    rw [ext_at]
    unfold upm
    by_cases h : 1 ≤ i.val
    · rw [if_pos (by show 2 ≤ 1 + i.val; omega), if_pos (by omega)]
      exact congrArg (fun n => up (rd x) (cd w) n e.val) (by show b.val * 8192 + (1 + i.val - 2) = _; omega)
    · rw [if_neg (by show ¬2 ≤ 1 + i.val; omega), if_neg (by omega)]
  have h0 : ext (upB x w) (ix3 b ⟨2 + i.val, by omega⟩ e) = up (rd x) (cd w) (b.val * 8192 + i.val) e.val := by
    rw [ext_at, if_pos (by show 2 ≤ 2 + i.val; omega)]
    exact congrArg (fun n => up (rd x) (cd w) n e.val) (by show b.val * 8192 + (2 + i.val - 2) = _; omega)
  have key : filt (ext (upB x w)) cw cb (ix3 b i e) = (cb (ix1 e) : EReal) + ((cw (ix2 0 e) * ext (upB x w) (ix3 b ⟨i.val, by omega⟩ e)
      + cw (ix2 1 e) * ext (upB x w) (ix3 b ⟨1 + i.val, by omega⟩ e)) + cw (ix2 2 e) * ext (upB x w) (ix3 b ⟨2 + i.val, by omega⟩ e)) := by
    pointwise [filt, every]
  rw [key, h2, h1, h0]
  unfold conv tap cd vd
  rw [ofNat_self, add_assoc, add_assoc, add_assoc]

theorem glu_at (v : FVec Ideal S4x8192x11264 .f32) (b : Fin 4) (i : Fin 8192) (e : Fin 5632) :
    glu v (ix3 b i e) = gelu (v (ix3 b i ⟨5632 + e.val, by omega⟩)) * v (ix3 b i ⟨e.val, by omega⟩) := by
  pointwise [glu, actv, num]
  unfold gelu
  rw [mul_left_comm, ← mul_assoc (Ideal.ofBits FTy.f32 0x3F000000#32)]

theorem down_at (a : FVec Ideal S4x8192x5632 .f32) (w : FVec Ideal S5632x2048 .bf16) (b : Fin 4) (i : Fin 8192) (d : Fin 2048) :
    down a w (ix3 b i d) = ∑ f : Fin 5632, a (ix3 b i f) * rd w f.val d := by
  pointwise [down]
  unfold rd
  exact sum_congr rfl fun f _ => by rw [ofNat_self]

theorem nrm_at (y : FVec Ideal S4x8192x2048 .f32) (g : FVec Ideal S2048 .f32) (b : Fin 4) (i : Fin 8192) (d : Fin 2048) :
    nrm y g (ix3 b i d) = norm (fun k => y (ix3 b i k)) (fun k => g (ix1 k)) d := by
  pointwise [nrm]
  rfl

/-! ### The results -/

/-- The first result. -/
theorem rows_at (h : FVec Ideal S32768x2048 .bf16) (x : FVec Ideal S32768x2048 .f32) (w : FVec Ideal S2048x11264 .bf16)
    (cw : FVec Ideal S3x11264 .f32) (cb : FVec Ideal S11264 .f32) (wd : FVec Ideal S5632x2048 .bf16) (g : FVec Ideal S2048 .f32)
    (n : Fin 32768) (d : Fin 2048) :
    addf x (shapeCast _ (nrm (down (glu (filt (ext (upB h w)) cw cb)) wd) g) shapeCasts_S4x8192x2048_S32768x2048) (ix2 n d)
      = out (rd h) (rd x) (cd w) (cd cw) (vd cb) (rd wd) (fun k => g (ix1 k)) n.val d := by
  have key : addf x (shapeCast _ (nrm (down (glu (filt (ext (upB h w)) cw cb)) wd) g) shapeCasts_S4x8192x2048_S32768x2048) (ix2 n d)
      = (x (ix2 n d) : EReal) + nrm (down (glu (filt (ext (upB h w)) cw cb)) wd) g
        (ix3 ⟨n.val / 8192, by omega⟩ ⟨n.val % 8192, by omega⟩ d) := by
    pointwise []
  rw [key, nrm_at]
  unfold out
  refine congrArg₂ (· + ·) (by unfold rd; rw [ofNat_self]) (congrArg (fun y => norm y _ d) (funext fun k => ?_))
  rw [down_at]
  unfold mix
  rw [sum_range]
  refine sum_congr rfl fun f _ => congrArg (· * rd wd f.val k) ?_
  rw [glu_at, filt_at, filt_at]
  unfold hid
  have e : n.val / 8192 * 8192 + n.val % 8192 = n.val := by omega
  simp only [e]

/-- The second result. -/
theorem last_at (h : FVec Ideal S32768x2048 .bf16) (w : FVec Ideal S2048x11264 .bf16) (b : Fin 4) (s : Fin 2) (e : Fin 11264) :
    extractStridedSlice S4x2x11264 ![0, 8192, 0] (ext (upB h w)) slices_S4x8194x11264_S4x2x11264_0_8192_0 (ix3 b s e)
      = up (rd h) (cd w) (b.val * 8192 + (8190 + s.val)) e.val := by
  have key : extractStridedSlice S4x2x11264 ![0, 8192, 0] (ext (upB h w)) slices_S4x8194x11264_S4x2x11264_0_8192_0 (ix3 b s e)
      = ext (upB h w) (ix3 b ⟨8192 + s.val, by omega⟩ e) := by
    pointwise []
  rw [key, ext_at, if_pos (by show 2 ≤ 8192 + s.val; omega)]
  exact congrArg (fun n => up (rd h) (cd w) n e.val) (by show b.val * 8192 + (8192 + s.val - 2) = _; omega)

end Cert.Ffn.Ref

end
-- ==== Proof.SFfn.Ref.lean ====
/-
The reference of the sample's feed-forward layer over the extended reals: its results are the layer's formulas.
-/
module

public import proofs.«01_k».proof.Proof.Gen.Reference14Ideal.Run
public import proofs.«01_k».proof.Proof.SFfn.Result
public import proofs.«01_k».proof.Proof.Ffn.Ref

@[expose] public section

noncomputable section

namespace Cert.SFfn.Ref

open Idealize.ShloMosaic Idealize.ShloMosaic.TcCoe Cert.Reference14Ideal Cert.Reference14Ideal.Gen Finset
open Cert.Ffn (tap gelu norm up)
open Cert.Ffn.Ref (rd cd vd ofNat_self)

/-! ### The reference in stages -/

/-- The up product, batch by row by column. -/
def upB (x : FVec Ideal S1024x2048 .bf16) (w : FVec Ideal S2048x11264 .bf16) : FVec Ideal S32x32x11264 .f32 :=
  Host.dotGeneral dot_S32x32x2048_S2048x11264_S32x32x11264_2_0_01_1_n_n none
    (shapeCast _ (extf .f32 x bitsLt_bf16_f32) shapeCasts_S1024x2048_S32x32x2048) (extf .f32 w bitsLt_bf16_f32)

/-- The up product after the state's two rows. -/
def ext (st : FVec Ideal S32x2x11264 .f32) (u : FVec Ideal S32x32x11264 .f32) : FVec Ideal S32x34x11264 .f32 :=
  concatenate S32x34x11264 1 [⟨S32x2x11264, st⟩, ⟨S32x32x11264, u⟩] concatenates_S32x2x11264_S32x32x11264_S32x34x11264_d1

/-- A row for every batch and row. -/
def every (v : FVec Ideal S11264 .f32) : FVec Ideal S32x32x11264 .f32 :=
  broadcastInDim S32x32x11264 ![0, 1, 2] bcast_S1x1x11264_S32x32x11264_0_1_2 (broadcastInDim S1x1x11264 ![2] bcast_S11264_S1x1x11264_2 v)

/-- The filtered up product. -/
def filt (u : FVec Ideal S32x34x11264 .f32) (cw : FVec Ideal S3x11264 .f32) (cb : FVec Ideal S11264 .f32) : FVec Ideal S32x32x11264 .f32 :=
  addf (every cb) (addf (addf (addf (broadcastInDim S32x32x11264 ![] bcast_S_S32x32x11264 (constant S_ .f32 0x00000000#32))
    (mulf (every (shapeCast _ (extractStridedSlice S1x11264 ![0, 0] cw slices_S3x11264_S1x11264_0_0) shapeCasts_S1x11264_S11264))
      (extractStridedSlice S32x32x11264 ![0, 0, 0] u slices_S32x34x11264_S32x32x11264_0_0_0)))
    (mulf (every (shapeCast _ (extractStridedSlice S1x11264 ![1, 0] cw slices_S3x11264_S1x11264_1_0) shapeCasts_S1x11264_S11264))
      (extractStridedSlice S32x32x11264 ![0, 1, 0] u slices_S32x34x11264_S32x32x11264_0_1_0)))
    (mulf (every (shapeCast _ (extractStridedSlice S1x11264 ![2, 0] cw slices_S3x11264_S1x11264_2_0) shapeCasts_S1x11264_S11264))
      (extractStridedSlice S32x32x11264 ![0, 2, 0] u slices_S32x34x11264_S32x32x11264_0_2_0)))

/-- One number everywhere. -/
def num (w : BitVec 32) : FVec Ideal S32x32x5632 .f32 := broadcastInDim S32x32x5632 ![] bcast_S_S32x32x5632 (constant S_ .f32 w)

/-- The activation of the gate. -/
def actv (g : FVec Ideal S32x32x5632 .f32) : FVec Ideal S32x32x5632 .f32 :=
  mulf g (mulf (num 0x3F000000#32) (addf (num 0x3F800000#32) (Host.tanh (mulf (num 0x3F4C422A#32)
    (addf g (mulf (num 0x3D372713#32) (mulf (mulf g g) g)))))))

/-- The gated activation. -/
def glu (v : FVec Ideal S32x32x11264 .f32) : FVec Ideal S32x32x5632 .f32 :=
  mulf (actv (extractStridedSlice S32x32x5632 ![0, 0, 5632] v slices_S32x32x11264_S32x32x5632_0_0_5632))
    (extractStridedSlice S32x32x5632 ![0, 0, 0] v slices_S32x32x11264_S32x32x5632_0_0_0)

/-- The down product. -/
def down (a : FVec Ideal S32x32x5632 .f32) (w : FVec Ideal S5632x2048 .bf16) : FVec Ideal S32x32x2048 .f32 :=
  Host.dotGeneral dot_S32x32x5632_S5632x2048_S32x32x2048_2_0_01_1_n_n none a (extf .f32 w bitsLt_bf16_f32)

/-- The norm. -/
def nrm (y : FVec Ideal S32x32x2048 .f32) (g : FVec Ideal S2048 .f32) : FVec Ideal S32x32x2048 .f32 :=
  mulf (mulf y (broadcastInDim S32x32x2048 ![0, 1, 2] bcast_S32x32x1_S32x32x2048_0_1_2 (Host.rsqrt (addf (Host.divf
    (broadcastInDim S32x32x1 ![0, 1] bcast_S32x32_S32x32x1_0_1
      (Host.reduceAdd (mulf y y) (constant S_ .f32 0x00000000#32) reducesTo_S32x32x2048_S32x32_d2 h_S_))
    (broadcastInDim S32x32x1 ![] bcast_S_S32x32x1 (constant S_ .f32 0x45000000#32)))
    (broadcastInDim S32x32x1 ![] bcast_S_S32x32x1 (constant S_ .f32 0x358637BD#32))))))
    (broadcastInDim S32x32x2048 ![0, 1, 2] bcast_S1x1x2048_S32x32x2048_0_1_2 (broadcastInDim S1x1x2048 ![2] bcast_S2048_S1x1x2048_2 g))

theorem res_eq (m : (ℓ : Loc nD τ sig) → Buf (Elt Ideal) ℓ) (c : Dev nD) :
    Value.res_out0 (F := Ideal) m c = addf (m ((c.tc : Thread nD τ).loc main_arg1)) (shapeCast _ (nrm (down (glu (filt
      (ext (m ((c.tc : Thread nD τ).loc main_arg8)) (upB (m ((c.tc : Thread nD τ).loc main_arg0)) (m ((c.tc : Thread nD τ).loc main_arg2))))
      (m ((c.tc : Thread nD τ).loc main_arg3)) (m ((c.tc : Thread nD τ).loc main_arg4))))
      (m ((c.tc : Thread nD τ).loc main_arg5))) (m ((c.tc : Thread nD τ).loc main_arg6)))
      shapeCasts_S32x32x2048_S1024x2048) := by
  unfold Value.res_out0 Value.res_main_v62 nrm down glu actv num filt every ext upB
  rfl

/-! ### The stages at an index -/

theorem upB_at (x : FVec Ideal S1024x2048 .bf16) (w : FVec Ideal S2048x11264 .bf16) (b : Fin 32) (i : Fin 32) (e : Fin 11264) :
    upB x w (ix3 b i e) = up (rd x) (cd w) (b.val * 32 + i.val) e.val := by
  pointwise [upB]
  unfold up rd cd
  refine sum_congr rfl fun k _ => congrArg₂ (· * ·) (congrArg x (congrArg (fun n => ix2 n k) (Fin.ext ?_)))
    (congrArg w (congrArg (fun n => ix2 k n) (ofNat_self e).symm))
  rw [Fin.val_ofNat]
  simp only [Nat.mod_eq_of_lt (show b.val * 32 + i.val < 1024 by omega)]

/-- The state's rows by number. -/
def sd (st : S32x2x11264.Idx → EReal) (b i e : ℕ) : EReal := st (ix3 (Fin.ofNat 32 b) (Fin.ofNat 2 i) (Fin.ofNat 11264 e))

theorem ext_at (st : FVec Ideal S32x2x11264 .f32) (x : FVec Ideal S1024x2048 .bf16) (w : FVec Ideal S2048x11264 .bf16)
    (b : Fin 32) (j : Fin 34) (e : Fin 11264) :
    ext st (upB x w) (ix3 b j e)
      = if 2 ≤ j.val then up (rd x) (cd w) (b.val * 32 + (j.val - 2)) e.val else sd st b.val j.val e.val := by
  pointwise [ext]
  by_cases h : j.val < 2
  · rw [dif_pos h, if_neg (by omega)]
    unfold sd
    rw [ofNat_self, ofNat_self]
    exact congrArg (fun i => st (ix3 b i e)) (ofNat_self (K := 2) ⟨j.val, h⟩).symm
  · rw [dif_neg h]
    refine (upB_at x w b ⟨j.val - 2, by omega⟩ e).trans ?_
    exact (if_pos (by omega)).symm

theorem ext_up (st : FVec Ideal S32x2x11264 .f32) (x : FVec Ideal S1024x2048 .bf16) (w : FVec Ideal S2048x11264 .bf16)
    (b : Fin 32) (i : Fin 32) (δ : ℕ) (hδ : δ ≤ 2) (j : Fin 34) (hj : j.val = i.val + 2 - δ) (e : Fin 11264) :
    ext st (upB x w) (ix3 b j e) = upm (rd x) (cd w) (sd st) δ (b.val * 32 + i.val) e.val := by
  rw [ext_at, hj]
  unfold upm
  by_cases h : δ ≤ i.val
  · rw [if_pos (by omega), if_pos (by omega)]
    exact congrArg (fun n => up (rd x) (cd w) n e.val) (by omega)
  · rw [if_neg (by omega), if_neg (by omega), show (b.val * 32 + i.val) / 32 = b.val by omega,
      show (b.val * 32 + i.val) % 32 = i.val by omega]

theorem filt_at (st : FVec Ideal S32x2x11264 .f32) (x : FVec Ideal S1024x2048 .bf16) (w : FVec Ideal S2048x11264 .bf16)
    (cw : FVec Ideal S3x11264 .f32) (cb : FVec Ideal S11264 .f32) (b : Fin 32) (i : Fin 32) (e : Fin 11264) :
    filt (ext st (upB x w)) cw cb (ix3 b i e) = conv (rd x) (cd w) (cd cw) (vd cb) (sd st) (b.val * 32 + i.val) e.val := by
  have h2 := ext_up st x w b i 2 (by omega) ⟨i.val, by omega⟩ (by show i.val = _; omega) e
  have h1 := ext_up st x w b i 1 (by omega) ⟨1 + i.val, by omega⟩ (by show 1 + i.val = _; omega) e
  have h0 : ext st (upB x w) (ix3 b ⟨2 + i.val, by omega⟩ e) = up (rd x) (cd w) (b.val * 32 + i.val) e.val := by
    rw [ext_at, if_pos (by show 2 ≤ 2 + i.val; omega)]
    exact congrArg (fun n => up (rd x) (cd w) n e.val) (by show b.val * 32 + (2 + i.val - 2) = _; omega)
  have key : filt (ext st (upB x w)) cw cb (ix3 b i e) = (cb (ix1 e) : EReal) + ((cw (ix2 0 e) * ext st (upB x w) (ix3 b ⟨i.val, by omega⟩ e)
      + cw (ix2 1 e) * ext st (upB x w) (ix3 b ⟨1 + i.val, by omega⟩ e)) + cw (ix2 2 e) * ext st (upB x w) (ix3 b ⟨2 + i.val, by omega⟩ e)) := by
    pointwise [filt, every]
  rw [key, h2, h1, h0]
  unfold conv tap cd vd
  rw [ofNat_self, add_assoc, add_assoc, add_assoc]

theorem glu_at (v : FVec Ideal S32x32x11264 .f32) (b : Fin 32) (i : Fin 32) (e : Fin 5632) :
    glu v (ix3 b i e) = gelu (v (ix3 b i ⟨5632 + e.val, by omega⟩)) * v (ix3 b i ⟨e.val, by omega⟩) := by
  pointwise [glu, actv, num]
  unfold gelu
  rw [mul_left_comm, ← mul_assoc (Ideal.ofBits FTy.f32 0x3F000000#32)]

theorem down_at (a : FVec Ideal S32x32x5632 .f32) (w : FVec Ideal S5632x2048 .bf16) (b : Fin 32) (i : Fin 32) (d : Fin 2048) :
    down a w (ix3 b i d) = ∑ f : Fin 5632, a (ix3 b i f) * rd w f.val d := by
  pointwise [down]
  unfold rd
  exact sum_congr rfl fun f _ => by rw [ofNat_self]

theorem nrm_at (y : FVec Ideal S32x32x2048 .f32) (g : FVec Ideal S2048 .f32) (b : Fin 32) (i : Fin 32) (d : Fin 2048) :
    nrm y g (ix3 b i d) = norm (fun k => y (ix3 b i k)) (fun k => g (ix1 k)) d := by
  pointwise [nrm]
  rfl

/-! ### The results -/

/-- The first result. -/
theorem rows_at (st : FVec Ideal S32x2x11264 .f32) (h : FVec Ideal S1024x2048 .bf16) (x : FVec Ideal S1024x2048 .f32) (w : FVec Ideal S2048x11264 .bf16)
    (cw : FVec Ideal S3x11264 .f32) (cb : FVec Ideal S11264 .f32) (wd : FVec Ideal S5632x2048 .bf16) (g : FVec Ideal S2048 .f32)
    (n : Fin 1024) (d : Fin 2048) :
    addf x (shapeCast _ (nrm (down (glu (filt (ext st (upB h w)) cw cb)) wd) g) shapeCasts_S32x32x2048_S1024x2048) (ix2 n d)
      = out (rd h) (rd x) (cd w) (cd cw) (vd cb) (rd wd) (fun k => g (ix1 k)) (sd st) n.val d := by
  have key : addf x (shapeCast _ (nrm (down (glu (filt (ext st (upB h w)) cw cb)) wd) g) shapeCasts_S32x32x2048_S1024x2048) (ix2 n d)
      = (x (ix2 n d) : EReal) + nrm (down (glu (filt (ext st (upB h w)) cw cb)) wd) g
        (ix3 ⟨n.val / 32, by omega⟩ ⟨n.val % 32, by omega⟩ d) := by
    pointwise []
  rw [key, nrm_at]
  unfold out
  refine congrArg₂ (· + ·) (by unfold rd; rw [ofNat_self]) (congrArg (fun y => norm y _ d) (funext fun k => ?_))
  rw [down_at]
  unfold mix
  rw [sum_range]
  refine sum_congr rfl fun f _ => congrArg (· * rd wd f.val k) ?_
  rw [glu_at, filt_at, filt_at]
  unfold hid
  have e : n.val / 32 * 32 + n.val % 32 = n.val := by omega
  simp only [e]

/-- The second result. -/
theorem last_at (st : FVec Ideal S32x2x11264 .f32) (h : FVec Ideal S1024x2048 .bf16) (w : FVec Ideal S2048x11264 .bf16) (b : Fin 32) (s : Fin 2) (e : Fin 11264) :
    extractStridedSlice S32x2x11264 ![0, 32, 0] (ext st (upB h w)) slices_S32x34x11264_S32x2x11264_0_32_0 (ix3 b s e)
      = up (rd h) (cd w) (b.val * 32 + (30 + s.val)) e.val := by
  have key : extractStridedSlice S32x2x11264 ![0, 32, 0] (ext st (upB h w)) slices_S32x34x11264_S32x2x11264_0_32_0 (ix3 b s e)
      = ext st (upB h w) (ix3 b ⟨32 + s.val, by omega⟩ e) := by
    pointwise []
  rw [key, ext_at, if_pos (by show 2 ≤ 32 + s.val; omega)]
  exact congrArg (fun n => up (rd h) (cd w) n e.val) (by show b.val * 32 + (32 + s.val - 2) = _; omega)

end Cert.SFfn.Ref

end
-- ==== Proof.Sb.Window.lean ====
/-
A host window sum over the extended reals is the initial value plus the sum over the window's positions, and jax's
reversed running sum along the last axis of a rank-four array is the sum of the elements from an index on.
-/
module

public import Idealize.ShloMosaic.Lib.Pointwise

@[expose] public section

noncomputable section

namespace Cert.Sb

open Idealize.ShloMosaic Finset

/-- A left fold that adds the values of a function at all positions. -/
theorem foldl_add (n : ℕ) (f : Fin n → EReal) (a : EReal) :
    (List.finRange n).foldl (fun r k => r + f k) a = a + ∑ k, f k := by
  rw [← List.sum_ofFn, List.ofFn_eq_map]
  generalize List.finRange n = l
  induction l generalizing a with
  | nil => simp
  | cons k l ih => rw [List.foldl_cons, ih, List.map_cons, List.sum_cons, add_assoc]

theorem window_sum {s t u : Shape} {φ : FTy} (window strides lo hi : Fin s.rank → ℕ) (x : FVec Ideal s φ) (v : FVec Ideal u φ)
    (h : s.ReduceWindows window strides lo hi t) (hu : 0 < u.numel) (j : t.Idx) :
    Host.reduceWindowAdd window strides lo hi x v h hu j
      = (v (Shape.Idx.first hu) : EReal) + ∑ p : (⟨s.rank, window⟩ : Shape).Idx,
          if hin : ∀ a, lo a ≤ (j (a.cast h.1.symm)).val * strides a + (p a).val
              ∧ (j (a.cast h.1.symm)).val * strides a + (p a).val - lo a < s.size a
            then (x fun a => ⟨(j (a.cast h.1.symm)).val * strides a + (p a).val - lo a, (hin a).2⟩ : EReal)
            else v (Shape.Idx.first hu) := by
  rw [← Equiv.sum_comp (Shape.rowMajor (⟨s.rank, window⟩ : Shape)).symm]
  refine Eq.trans ?_ (foldl_add _ _ _)
  unfold Host.reduceWindowAdd
  rw [Ideal.hostReduceWindowAdd_def]
  unfold Ideal.hostReduceWindowAdd Host.reduceWindow
  dsimp only
  congr 1
  funext r k
  congr 1
  split_ifs <;> rfl

theorem revcum (x : FVec Ideal ⟨4, ![4, 16, 8192, 8192]⟩ .f32) (v : FVec Ideal ⟨0, ![]⟩ .f32)
    (h : (⟨4, ![4, 16, 8192, 8192]⟩ : Shape).ReduceWindows ![1, 1, 1, 8192] ![1, 1, 1, 1] ![0, 0, 0, 0] ![0, 0, 0, 8191] ⟨4, ![4, 16, 8192, 8192]⟩)
    (hu) (b : Fin 4) (g : Fin 16) (i j : Fin 8192) (hv : v (Shape.Idx.first hu) = (0 : EReal)) :
    Host.reduceWindowAdd ![1, 1, 1, 8192] ![1, 1, 1, 1] ![0, 0, 0, 0] ![0, 0, 0, 8191] x v h hu (ix4 b g i j)
      = ∑ w : Fin 8192, if hw : j.val + w.val < 8192 then (x (ix4 b g i ⟨j.val + w.val, hw⟩) : EReal) else 0 := by
  refine (window_sum _ _ _ _ x v h hu _).trans ?_
  rw [hv, zero_add]
  refine (sum_idx4 (n0 := 1) (n1 := 1) (n2 := 1) (n3 := 8192) _).trans ?_
  rw [Fin.sum_univ_one, Fin.sum_univ_one, Fin.sum_univ_one]
  refine sum_congr rfl fun w _ => ?_
  by_cases hw : j.val + w.val < 8192
  · rw [dif_pos hw, dif_pos]
    · refine congrArg x (funext fun a => Fin.ext ?_)
      match a with
      | ⟨0, _⟩ => show b.val * 1 + 0 - 0 = b.val; omega
      | ⟨1, _⟩ => show g.val * 1 + 0 - 0 = g.val; omega
      | ⟨2, _⟩ => show i.val * 1 + 0 - 0 = i.val; omega
      | ⟨3, _⟩ => show j.val * 1 + w.val - 0 = j.val + w.val; omega
    · intro a
      match a with
      | ⟨0, _⟩ => show 0 ≤ b.val * 1 + 0 ∧ b.val * 1 + 0 - 0 < 4; omega
      | ⟨1, _⟩ => show 0 ≤ g.val * 1 + 0 ∧ g.val * 1 + 0 - 0 < 16; omega
      | ⟨2, _⟩ => show 0 ≤ i.val * 1 + 0 ∧ i.val * 1 + 0 - 0 < 8192; omega
      | ⟨3, _⟩ => show 0 ≤ j.val * 1 + w.val ∧ j.val * 1 + w.val - 0 < 8192; omega
  · rw [dif_neg hw, dif_neg]
    intro c
    have c3 := (c 3).2
    apply hw
    have : j.val * 1 + w.val - 0 < 8192 := c3
    omega

end Cert.Sb

end
-- ==== Proof.Sb.Ref.lean ====
/-
The reference's value over the extended reals, when the queries and the keys are real numbers: element `(n, 128 h + d)`
of its result is the sum, over all keys of row `n`'s sequence, of weight times value.
-/
module

public import proofs.«01_k».proof.Proof.Gen.ReferenceIdeal.Run
public import proofs.«01_k».proof.Proof.Sb.Result
public import proofs.«01_k».proof.Proof.Sb.Window

@[expose] public section

noncomputable section

namespace Cert.Sb.Ref

open Idealize.ShloMosaic Idealize.ShloMosaic.TcCoe Idealize.ShloMosaic.WordCmp Cert.ReferenceIdeal Cert.ReferenceIdeal.Gen Finset

/-! ### The reference in stages -/

/-- An argument laid out batch, row, head, lane. -/
def inp (x : FVec Ideal S16x32768x128 .bf16) : FVec Ideal S4x8192x16x128 .f32 :=
  transpose S4x8192x16x128 [1, 2, 0, 3] (shapeCast _ (extf .f32 x bitsLt_bf16_f32) shapeCasts_S16x32768x128_S16x4x8192x128)
    transposes_S16x4x8192x128_S4x8192x16x128_1_2_0_3

/-- The scaled scores. -/
def zz (q k : FVec Ideal S16x32768x128 .bf16) : FVec Ideal S4x16x8192x8192 .f32 :=
  mulf (Host.dotGeneral dot_S4x8192x16x128_S4x8192x16x128_S4x16x8192x8192_3_3_1_1_02_02 none (inp q) (inp k))
    (broadcastInDim S4x16x8192x8192 ![] bcast_S_S4x16x8192x8192 (constant S_ .f32 0x3DB504F3#32))

/-- The strict causal mask. -/
def mask : IVec S4x16x8192x8192 1 :=
  broadcastInDim S4x16x8192x8192 ![2, 3] bcast_S8192x8192_S4x16x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- Zero everywhere. -/
def zeros : FVec Ideal S4x16x8192x8192 .f32 := broadcastInDim S4x16x8192x8192 ![] bcast_S_S4x16x8192x8192 (constant S_ .f32 0x00000000#32)

/-- The softplus. -/
def softp (z : FVec Ideal S4x16x8192x8192 .f32) : FVec Ideal S4x16x8192x8192 .f32 :=
  select (cmpf .une (subf z zeros) (subf z zeros)) (addf z zeros)
    (addf (maximumf z zeros) (Host.log1p (Host.exp (Host.negf (Host.absf (subf z zeros))))))

/-- The masked softplus. -/
def msoft (z : FVec Ideal S4x16x8192x8192 .f32) : FVec Ideal S4x16x8192x8192 .f32 :=
  select mask (softp z) (broadcastInDim S4x16x8192x8192 ![] bcast_S_S4x16x8192x8192 (id (constant S_ .f32 0x00000000#32)))

/-- The reversed running sum. -/
def rcum (x : FVec Ideal S4x16x8192x8192 .f32) : FVec Ideal S4x16x8192x8192 .f32 :=
  Host.reduceWindowAdd ![1, 1, 1, 8192] ![1, 1, 1, 1] ![0, 0, 0, 0] ![0, 0, 0, 8191] x (broadcastInDim S_ ![] bcast_S_S_ (constant S_ .f32 0x00000000#32)) reduceWindows_S4x16x8192x8192_S4x16x8192x8192_w1s1p0_0_w1s1p0_0_w1s1p0_0_w8192s1p0_8191 h_S_

/-- The weights. -/
def ww (z : FVec Ideal S4x16x8192x8192 .f32) : FVec Ideal S4x16x8192x8192 .f32 :=
  Host.exp (select mask (subf z (rcum (msoft z))) (broadcastInDim S4x16x8192x8192 ![] bcast_S_S4x16x8192x8192 (id (constant S_ .f32 0xFF800000#32))))

/-- The output. -/
def out (v : FVec Ideal S16x32768x128 .bf16) (w : FVec Ideal S4x16x8192x8192 .f32) : FVec Ideal S32768x2048 .bf16 :=
  truncf .bf16 (shapeCast _ (transpose S4x8192x16x128 [0, 3, 1, 2] (Host.dotGeneral dot_S4x8192x16x128_S4x16x8192x8192_S4x16x128x8192_1_3_3_2_02_01 none (inp v) w) transposes_S4x16x128x8192_S4x8192x16x128_0_3_1_2) shapeCasts_S4x8192x16x128_S32768x2048) bitsLt_bf16_f32

theorem res_eq (m : (ℓ : Loc nD τ sig) → Buf (Elt Ideal) ℓ) (c : Dev nD) :
    Value.res_out0 (F := Ideal) m c = out (m ((c.tc : Thread nD τ).loc main_arg2))
      (ww (zz (m ((c.tc : Thread nD τ).loc main_arg0)) (m ((c.tc : Thread nD τ).loc main_arg1)))) := by
  unfold Value.res_out0 Value.res_main_v27 out ww rcum msoft softp zeros mask zz inp
  rfl

/-! ### The stages at an index -/

theorem inp_at (x : FVec Ideal S16x32768x128 .bf16) (b : Fin 4) (i : Fin 8192) (h : Fin 16) (d : Fin 128) :
    inp x (ix4 b i h d) = at3 x h (b.val * 8192 + i.val) d := by
  pointwise [inp]
  unfold at3
  exact congrArg x (congrArg (fun n => ix3 h n d) (Fin.ext (by rw [Fin.val_ofNat]; simp only; omega)))

theorem zz_at (q k : FVec Ideal S16x32768x128 .bf16) (hq : AllReal q) (hk : AllReal k) (b : Fin 4) (h : Fin 16) (i j : Fin 8192) :
    zz q k (ix4 b h i j) = ((score q k h (b.val * 8192 + i.val) (b.val * 8192 + j.val) : ℝ) : EReal) := by
  pointwise [zz]
  simp only [inp_at]
  rw [ofBits_scale, score, dot, EReal.coe_mul, coe_sum]
  refine congrArg (· * (scale : EReal)) (sum_congr rfl fun d _ => ?_)
  rw [EReal.coe_mul]
  exact congrArg₂ (· * ·) (hq _) (hk _)

theorem mask_at (b : Fin 4) (h : Fin 16) (i j : Fin 8192) : mask (ix4 b h i j) = BitVec.ofBool (decide (j.val < i.val)) := by
  pointwise [mask]
  rw [cmpi_slt_ofNat (by omega) (by omega)]

theorem softp_at (z : FVec Ideal S4x16x8192x8192 .f32) (a : S4x16x8192x8192.Idx) (x : ℝ) (hx : z a = (x : EReal)) :
    softp z a = (soft x : EReal) := by
  pointwise [softp, zeros]
  rw [if_neg (by simp), hx, Ideal.absf_def]
  show max (x : EReal) 0 + Ideal.log (1 + Ideal.exp (-(max (x : EReal) (-(x : EReal))))) = _
  rw [← soft_kernel, zero_sub]

theorem msoft_at (z : FVec Ideal S4x16x8192x8192 .f32) (b : Fin 4) (h : Fin 16) (i j : Fin 8192) (x : ℝ)
    (hx : z (ix4 b h i j) = (x : EReal)) :
    msoft z (ix4 b h i j) = ((if j.val < i.val then soft x else 0 : ℝ) : EReal) := by
  have e : msoft z (ix4 b h i j) = Scalar.select (mask (ix4 b h i j)) (softp z (ix4 b h i j)) (0 : EReal) := by
    pointwise [msoft]
    exact congrArg _ (show Ideal.ofBits .f32 0x00000000#32 = 0 from Ideal.ofBits_zero _)
  rw [e, mask_at, softp_at z _ x hx]
  by_cases hij : j.val < i.val
  · rw [decide_eq_true hij, if_pos hij]; rfl
  · rw [decide_eq_false hij, if_neg hij]; rfl

/-- The reversed running sum of the masked softplus of real scores: the sum from the key up to the row. -/
theorem rcum_at (z : FVec Ideal S4x16x8192x8192 .f32) (b : Fin 4) (h : Fin 16) (i j : Fin 8192) (s : ℕ → ℝ)
    (hs : ∀ j : Fin 8192, z (ix4 b h i j) = (s (b.val * 8192 + j.val) : EReal)) :
    rcum (msoft z) (ix4 b h i j)
      = ((∑ l ∈ Ico (b.val * 8192 + j.val) (b.val * 8192 + i.val), soft (s l) : ℝ) : EReal) := by
  refine (revcum (msoft z) _ _ _ b h i j (by pointwise [])).trans ?_
  have e : ∀ w : Fin 8192, (if hw : j.val + w.val < 8192 then (msoft z (ix4 b h i ⟨j.val + w.val, hw⟩) : EReal) else 0)
      = ((if j.val + w.val < i.val then soft (s (b.val * 8192 + (j.val + w.val))) else 0 : ℝ) : EReal) := by
    intro w
    have hi : i.val < 8192 := i.isLt
    by_cases hw : j.val + w.val < 8192
    · rw [dif_pos hw, msoft_at z b h i ⟨j.val + w.val, hw⟩ _ (hs ⟨j.val + w.val, hw⟩)]
    · rw [dif_neg hw, if_neg (by omega)]; rfl
  rw [sum_congr rfl fun w _ => e w, ← coe_sum]
  refine congrArg _ ?_
  rw [Fin.sum_univ_eq_sum_range (fun w => if j.val + w < i.val then soft (s (b.val * 8192 + (j.val + w))) else 0) 8192,
    ← sum_filter, sum_Ico_eq_sum_range]
  refine sum_congr ?_ fun w _ => by rw [add_assoc]
  ext w
  have hi : i.val < 8192 := i.isLt
  simp only [mem_filter, mem_range]
  omega

theorem ww_at (z : FVec Ideal S4x16x8192x8192 .f32) (b : Fin 4) (h : Fin 16) (i j : Fin 8192) (s : ℕ → ℝ)
    (hs : ∀ j : Fin 8192, z (ix4 b h i j) = (s (b.val * 8192 + j.val) : EReal)) :
    ww z (ix4 b h i j) = (weight s (b.val * 8192 + i.val) (b.val * 8192 + j.val) : EReal) := by
  have e : ww z (ix4 b h i j) = Ideal.exp (Scalar.select (mask (ix4 b h i j)) ((z (ix4 b h i j) : EReal) - rcum (msoft z) (ix4 b h i j)) ⊥) := by
    pointwise [ww]
    rw [id, constant_apply, show FloatOps.ofBits (F := Ideal) FTy.f32 4286578688#32 = Ideal.ofBits .f32 4286578688#32 from rfl, ofBits_bot]
  rw [e, mask_at, rcum_at z b h i j s hs, hs, ← EReal.coe_sub, weight]
  by_cases hij : j.val < i.val
  · rw [decide_eq_true hij, if_pos (by omega)]
    show Ideal.exp (((s (b.val * 8192 + j.val) - _ : ℝ)) : EReal) = _
    rw [Ideal.exp_coe]
  · rw [decide_eq_false hij, if_neg (by omega)]
    show Ideal.exp ⊥ = _
    rfl

theorem out_at (v : FVec Ideal S16x32768x128 .bf16) (w : FVec Ideal S4x16x8192x8192 .f32) (n : Fin 32768) (e : Fin 2048) :
    out v w (ix2 n e) = ∑ j : Fin 8192,
      (at3 v ⟨e.val / 128, Nat.div_lt_of_lt_mul e.isLt⟩ (n.val / 8192 * 8192 + j.val) ⟨e.val % 128, Nat.mod_lt _ (by decide)⟩ : EReal)
        * w (ix4 ⟨n.val / 8192, Nat.div_lt_of_lt_mul n.isLt⟩ ⟨e.val / 128, Nat.div_lt_of_lt_mul e.isLt⟩
          ⟨n.val % 8192, Nat.mod_lt _ (by decide)⟩ j) := by
  pointwise [out]
  exact sum_congr rfl fun j _ => by rw [inp_at]

/-- The reference computes the kernel's result. -/
theorem ref_eq (q k v : FVec Ideal S16x32768x128 .bf16) (hq : AllReal q) (hk : AllReal k) :
    out v (ww (zz q k)) = result q k v := by
  funext y
  obtain ⟨n, e, rfl⟩ : ∃ (n : Fin 32768) (e : Fin 2048), y = ix2 n e := ⟨y 0, y 1, eq_ix2 y⟩
  have hn : n.val < 32768 := n.isLt
  refine (out_at v _ n e).trans ?_
  show _ = partOut q k v ⟨e.val / 128, Nat.div_lt_of_lt_mul e.isLt⟩ n.val ⟨e.val % 128, Nat.mod_lt _ (by decide)⟩
    (n.val / 8192 * 8192) (n.val / 256 * 256 + 256)
  rw [partOut, ← sum_weight _ (fun j => at3 v ⟨e.val / 128, Nat.div_lt_of_lt_mul e.isLt⟩ j ⟨e.val % 128, Nat.mod_lt _ (by decide)⟩)
    n.val (n.val / 8192 * 8192) (n.val / 256 * 256 + 256) (by omega) (by omega) (by omega)]
  refine sum_congr rfl fun j _ => congrArg _ ?_
  refine (ww_at _ _ _ _ j (score q k ⟨e.val / 128, Nat.div_lt_of_lt_mul e.isLt⟩ n.val) fun j => ?_).trans ?_
  · refine (zz_at q k hq hk _ _ _ j).trans ?_
    rw [show n.val / 8192 * 8192 + n.val % 8192 = n.val by omega]
  · rw [show n.val / 8192 * 8192 + n.val % 8192 = n.val by omega]

end Cert.Sb.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Lin.Keys
public import proofs.«01_k».proof.Proof.Ret.Ref
public import proofs.«01_k».proof.Proof.Lin.Values
public import proofs.«01_k».proof.Proof.Lin.Queries
public import proofs.«01_k».proof.Proof.Lin.RetValues
public import proofs.«01_k».proof.Proof.Lin.RetGate
public import proofs.«01_k».proof.Proof.Lin.OutRef
public import proofs.«01_k».proof.Proof.Lin.RetOutRef
public import proofs.«01_k».proof.Proof.Lin.SampleKeys
public import proofs.«01_k».proof.Proof.Lin.SampleValues
public import proofs.«01_k».proof.Proof.Lin.LatentRef
public import proofs.«01_k».proof.Proof.Lin.LatentPre
public import proofs.«01_k».proof.Proof.Lin.SampleLatentRef
public import proofs.«01_k».proof.Proof.SFfn.Ref
public import proofs.«01_k».proof.Proof.Sb.Pre
public import proofs.«01_k».proof.Proof.Sb.Ref
public import proofs.«01_k».proof.Proof.SbBits.Run
public import proofs.«01_k».proof.Proof.Ffn.Ref
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments alone, and has no semaphores. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) _⟩) (Cert.ReferenceIdeal.Value.run m ρ)

/-- The attention's value claim. -/
theorem attention [Cert.Pre_finite.Facts] : algebraic_KernelIdeal_ReferenceIdeal_pre_finite := by
  intro m g m' g' hpre hargs
  have hreal := fun c => Cert.Sb.allReal (hpre c).1 (hpre c).2
  refine ⟨fun c => Cert.Sb.result (Cert.Sb.argQ m c) (Cert.Sb.argK m c) (Cert.Sb.argV m c), Cert.Sb.run m g hreal,
    (θ_run _ _ _).mono (fun r h c => ⟨?_, (h c).2⟩) (Cert.ReferenceIdeal.Value.run m' g')⟩
  refine (h c).1.trans ((Cert.Sb.Ref.res_eq m' c).trans ?_)
  rw [(hargs c).1, (hargs c).2.1, (hargs c).2.2]
  exact Cert.Sb.Ref.ref_eq _ _ _ (hreal c).1 (hreal c).2

/-- The feed-forward reference runs, leaves its arguments alone, and has no semaphores. -/
theorem reference2_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal)))
      ⟨m, fun _ => 0, ρ⟩ (fun r => (∀ c : Dev Cert.Reference2Ideal.nD,
        r.2.mem ((c.tc : Thread Cert.Reference2Ideal.nD Cert.Reference2Ideal.τ).loc Cert.Reference2Ideal.main_arg0)
          = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1)
          = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2)
          = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3)
          = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4)
          = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5)
          = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6)
          = m ((c.tc : Thread Cert.Reference2Ideal.nD Cert.Reference2Ideal.τ).loc Cert.Reference2Ideal.main_arg6)
        ∧ r.2.mem ((c.tc : Thread Cert.Reference2Ideal.nD Cert.Reference2Ideal.τ).loc Cert.Reference2Ideal.main_arg7)
          = m ((c.tc : Thread Cert.Reference2Ideal.nD Cert.Reference2Ideal.τ).loc Cert.Reference2Ideal.main_arg7))
        ∧ r.2.sem = fun _ => 0) :=
  (θ_run _ _ _).mono (fun r h => ⟨fun c => (h c).2.2, sem_eq_zero_of_no_sems (by decide) _⟩) (Cert.Reference2Ideal.Value.run m ρ)

/-- The feed-forward layer's value claim. -/
theorem feedForward : algebraic_Kernel2Ideal_Reference2Ideal := by
  intro m g m' g' _ hargs
  refine ⟨fun c => Cert.Ffn.rows m c, fun c => Cert.Ffn.last m c, Cert.Ffn.run m g,
    (θ_run _ _ _).mono (fun r h c => ⟨?_, ?_, (h c).2.2⟩) (Cert.Reference2Ideal.Value.run m' g')⟩
  · refine (h c).1.trans ((Cert.Ffn.Ref.res_eq m' c).trans ?_)
    obtain ⟨h0, h1, h2, h3, h4, h5, h6, _⟩ := hargs c
    rw [h0, h1, h2, h3, h4, h5, h6]
    funext y
    obtain ⟨n, d, rfl⟩ : ∃ (n : Fin 32768) (d : Fin 2048), y = ix2 n d := ⟨y 0, y 1, eq_ix2 y⟩
    exact Cert.Ffn.Ref.rows_at _ _ _ _ _ _ _ n d
  · refine (h c).2.1.trans ?_
    obtain ⟨h0, _, h2, _⟩ := hargs c
    rw [h0, h2]
    funext y
    obtain ⟨b, s, e, rfl⟩ : ∃ (b : Fin 4) (s : Fin 2) (e : Fin 11264), y = ix3 b s e := ⟨y 0, y 1, y 2, eq_ix3 y⟩
    exact Cert.Ffn.Ref.last_at _ _ b s e

theorem reference3_frame : quiescent_Reference3Ideal := fun m ρ _ =>
  (θ_run _ _ _).mono (fun r h => ⟨fun c => (h c).2.2, sem_eq_zero_of_no_sems (by decide) _⟩) (Cert.Reference3Ideal.Value.run m ρ)

/-- The value claim of the stick-breaking keys. -/
theorem linear3 : algebraic_Kernel3Ideal_Reference3Ideal := by
  intro m g m' g' _ hargs
  refine ⟨fun c => Cert.Lin.K.rows (Cert.Lin.K.argH m c) (Cert.Lin.K.argW m c), fun c => Cert.Lin.K.heads (Cert.Lin.K.argH m c) (Cert.Lin.K.argW m c),
    Cert.Lin.K.run m g, (θ_run _ _ _).mono (fun r h c => ⟨?_, ?_, (h c).2.2⟩) (Cert.Reference3Ideal.Value.run m' g')⟩
  · refine (h c).1.trans ?_
    rw [(hargs c).1, (hargs c).2]
    exact Cert.Lin.K.ref_rows _ _
  · refine (h c).2.1.trans ?_
    rw [(hargs c).1, (hargs c).2]
    exact Cert.Lin.K.ref_heads _ _

theorem reference4_frame : quiescent_Reference4Ideal := fun m ρ _ =>
  (θ_run _ _ _).mono (fun r h => ⟨fun c => (h c).2.2, sem_eq_zero_of_no_sems (by decide) _⟩) (Cert.Reference4Ideal.Value.run m ρ)

/-- The value claim of the stick-breaking values. -/
theorem linear4 : algebraic_Kernel4Ideal_Reference4Ideal := by
  intro m g m' g' _ hargs
  refine ⟨fun c => Cert.Lin.V.rows (Cert.Lin.V.argH m c) (Cert.Lin.V.argW m c), fun c => Cert.Lin.V.heads (Cert.Lin.V.argH m c) (Cert.Lin.V.argW m c),
    Cert.Lin.V.run m g, (θ_run _ _ _).mono (fun r h c => ⟨?_, ?_, (h c).2.2⟩) (Cert.Reference4Ideal.Value.run m' g')⟩
  · refine (h c).1.trans ?_
    rw [(hargs c).1, (hargs c).2]
    exact Cert.Lin.V.ref_rows _ _
  · refine (h c).2.1.trans ?_
    rw [(hargs c).1, (hargs c).2]
    exact Cert.Lin.V.ref_heads _ _

theorem reference5_frame : quiescent_Reference5Ideal := fun m ρ _ =>
  (θ_run _ _ _).mono (fun r h => ⟨fun c => (h c).2, sem_eq_zero_of_no_sems (by decide) _⟩) (Cert.Reference5Ideal.Value.run m ρ)

/-- The value claim of the stick-breaking queries. -/
theorem linear5 : algebraic_Kernel5Ideal_Reference5Ideal := by
  intro m g m' g' _ hargs
  refine ⟨fun c => Cert.Lin.Q.heads (Cert.Lin.Q.argH m c) (Cert.Lin.Q.argW m c),
    Cert.Lin.Q.run m g, (θ_run _ _ _).mono (fun r h c => ⟨?_, (h c).2⟩) (Cert.Reference5Ideal.Value.run m' g')⟩
  · refine (h c).1.trans ?_
    rw [(hargs c).1, (hargs c).2]
    exact Cert.Lin.Q.ref_heads _ _

theorem reference6_frame : quiescent_Reference6Ideal := fun m ρ _ =>
  (θ_run _ _ _).mono (fun r h => ⟨fun c => (h c).2, sem_eq_zero_of_no_sems (by decide) _⟩) (Cert.Reference6Ideal.Value.run m ρ)

/-- The value claim of the retention values. -/
theorem linear6 : algebraic_Kernel6Ideal_Reference6Ideal := by
  intro m g m' g' _ hargs
  refine ⟨fun c => Cert.Lin.RV.rows (Cert.Lin.RV.argH m c) (Cert.Lin.RV.argW m c),
    Cert.Lin.RV.run m g, (θ_run _ _ _).mono (fun r h c => ⟨?_, (h c).2⟩) (Cert.Reference6Ideal.Value.run m' g')⟩
  · refine (h c).1.trans ?_
    rw [(hargs c).1, (hargs c).2]
    exact Cert.Lin.RV.ref_rows _ _

theorem reference7_frame : quiescent_Reference7Ideal := fun m ρ _ =>
  (θ_run _ _ _).mono (fun r h => ⟨fun c => (h c).2, sem_eq_zero_of_no_sems (by decide) _⟩) (Cert.Reference7Ideal.Value.run m ρ)

/-- The value claim of the retention gate. -/
theorem linear7 : algebraic_Kernel7Ideal_Reference7Ideal := by
  intro m g m' g' _ hargs
  refine ⟨fun c => Cert.Lin.RG.rows (Cert.Lin.RG.argH m c) (Cert.Lin.RG.argW m c),
    Cert.Lin.RG.run m g, (θ_run _ _ _).mono (fun r h c => ⟨?_, (h c).2⟩) (Cert.Reference7Ideal.Value.run m' g')⟩
  · refine (h c).1.trans ?_
    rw [(hargs c).1, (hargs c).2]
    exact Cert.Lin.RG.ref_rows _ _

theorem reference8_frame : quiescent_Reference8Ideal := fun m ρ _ =>
  (θ_run _ _ _).mono (fun r h => ⟨fun c => (h c).2.2, sem_eq_zero_of_no_sems (by decide) _⟩) (Cert.Reference8Ideal.Value.run m ρ)

/-- The value claim of the output projection. -/
theorem linear8 : algebraic_Kernel8Ideal_Reference8Ideal := by
  intro m g m' g' _ hargs
  refine ⟨fun c => Cert.Lin.O.rows (Cert.Lin.O.argA m c) (Cert.Lin.O.argW m c) (Cert.Lin.O.argX m c) (Cert.Lin.O.argG m c),
    fun c => Cert.Lin.O.normed (Cert.Lin.O.argA m c) (Cert.Lin.O.argW m c) (Cert.Lin.O.argX m c) (Cert.Lin.O.argG m c) (Cert.Lin.O.argG' m c),
    Cert.Lin.O.run m g, (θ_run _ _ _).mono (fun r h c => ⟨?_, ?_, (h c).2.2⟩) (Cert.Lin.O.Ref.run m' g')⟩
  · refine (h c).1.trans ?_
    obtain ⟨h0, h1, h2, h3, _⟩ := hargs c
    rw [h0, h1, h2, h3]
  · refine (h c).2.1.trans ?_
    obtain ⟨h0, h1, h2, h3, h4⟩ := hargs c
    rw [h0, h1, h2, h3, h4]

theorem reference9_frame : quiescent_Reference9Ideal := fun m ρ _ =>
  (θ_run _ _ _).mono (fun r h => ⟨fun c => (h c).2.2, sem_eq_zero_of_no_sems (by decide) _⟩) (Cert.Reference9Ideal.Value.run m ρ)

/-- The value claim of the retention layer's output projection. -/
theorem linear9 : algebraic_Kernel9Ideal_Reference9Ideal := by
  intro m g m' g' _ hargs
  refine ⟨fun c => Cert.Lin.RO.rows (Cert.Lin.RO.argA m c) (Cert.Lin.RO.argW m c) (Cert.Lin.RO.argX m c) (Cert.Lin.RO.argG m c),
    fun c => Cert.Lin.RO.normed (Cert.Lin.RO.argA m c) (Cert.Lin.RO.argW m c) (Cert.Lin.RO.argX m c) (Cert.Lin.RO.argG m c) (Cert.Lin.RO.argG' m c),
    Cert.Lin.RO.run m g, (θ_run _ _ _).mono (fun r h c => ⟨?_, ?_, (h c).2.2⟩) (Cert.Lin.RO.Ref.run m' g')⟩
  · refine (h c).1.trans ?_
    obtain ⟨h0, h1, h2, h3, _⟩ := hargs c
    rw [h0, h1, h2, h3]
  · refine (h c).2.1.trans ?_
    obtain ⟨h0, h1, h2, h3, h4⟩ := hargs c
    rw [h0, h1, h2, h3, h4]

theorem reference10_frame : quiescent_Reference10Ideal := fun m ρ _ =>
  (θ_run _ _ _).mono (fun r h => ⟨fun c => (h c).2.2, sem_eq_zero_of_no_sems (by decide) _⟩) (Cert.Reference10Ideal.Value.run m ρ)

/-- The value claim of the sample's stick-breaking keys. -/
theorem linear10 : algebraic_Kernel10Ideal_Reference10Ideal := by
  intro m g m' g' _ hargs
  refine ⟨fun c => Cert.Lin.SK.rows (Cert.Lin.SK.argH m c) (Cert.Lin.SK.argW m c), fun c => Cert.Lin.SK.heads (Cert.Lin.SK.argH m c) (Cert.Lin.SK.argW m c),
    Cert.Lin.SK.run m g, (θ_run _ _ _).mono (fun r h c => ⟨?_, ?_, (h c).2.2⟩) (Cert.Reference10Ideal.Value.run m' g')⟩
  · refine (h c).1.trans ?_
    rw [(hargs c).1, (hargs c).2]
    exact Cert.Lin.SK.ref_rows _ _
  · refine (h c).2.1.trans ?_
    rw [(hargs c).1, (hargs c).2]
    exact Cert.Lin.SK.ref_heads _ _

theorem reference11_frame : quiescent_Reference11Ideal := fun m ρ _ =>
  (θ_run _ _ _).mono (fun r h => ⟨fun c => (h c).2.2, sem_eq_zero_of_no_sems (by decide) _⟩) (Cert.Reference11Ideal.Value.run m ρ)

/-- The value claim of the sample's stick-breaking values. -/
theorem linear11 : algebraic_Kernel11Ideal_Reference11Ideal := by
  intro m g m' g' _ hargs
  refine ⟨fun c => Cert.Lin.SV.rows (Cert.Lin.SV.argH m c) (Cert.Lin.SV.argW m c), fun c => Cert.Lin.SV.heads (Cert.Lin.SV.argH m c) (Cert.Lin.SV.argW m c),
    Cert.Lin.SV.run m g, (θ_run _ _ _).mono (fun r h c => ⟨?_, ?_, (h c).2.2⟩) (Cert.Reference11Ideal.Value.run m' g')⟩
  · refine (h c).1.trans ?_
    rw [(hargs c).1, (hargs c).2]
    exact Cert.Lin.SV.ref_rows _ _
  · refine (h c).2.1.trans ?_
    rw [(hargs c).1, (hargs c).2]
    exact Cert.Lin.SV.ref_heads _ _

theorem reference12_frame : quiescent_Reference12Ideal := fun m ρ _ =>
  (θ_run _ _ _).mono (fun r h => ⟨fun c => (h c).2.2.2, sem_eq_zero_of_no_sems (by decide) _⟩) (Cert.Reference12Ideal.Value.run m ρ)

theorem reference12_frame_pre [Cert.Pre_real_rows.Facts] : quiescent_Reference12Ideal_pre_real_rows := fun m ρ _ =>
  (θ_run _ _ _).mono (fun r h => ⟨fun c => (h c).2.2.2, sem_eq_zero_of_no_sems (by decide) _⟩) (Cert.Reference12Ideal.Value.run m ρ)

/-- The value claim of the latent layer's projections of the prompt. -/
theorem latent12 [Cert.Pre_real_rows.Facts] : algebraic_Kernel12Ideal_Reference12Ideal_pre_real_rows := by
  intro m g m' g' hpre hargs
  have hreal := fun c => Cert.Lin.rows_real _ _ _ _ (hpre c).1 (hpre c).2
  refine ⟨fun c => Cert.Lin.L.queries (Cert.Lin.L.argH m c) (Cert.Lin.L.argW m c) (Cert.Lin.L.argQ m c),
    fun c => Cert.Lin.L.latent (Cert.Lin.L.argH m c) (Cert.Lin.L.argW m c) (Cert.Lin.L.argL m c), fun c => Cert.Lin.L.key (Cert.Lin.L.argH m c) (Cert.Lin.L.argW m c),
    Cert.Lin.L.run m g (fun c => (hreal c).1) (fun c => (hreal c).2),
    (θ_run _ _ _).mono (fun r h c => ⟨?_, ?_, ?_, (h c).2.2.2⟩) (Cert.Lin.L.Ref.run m' g')⟩
  all_goals obtain ⟨h0, h1, h2, h3⟩ := hargs c
  · refine (h c).1.trans ?_
    rw [h0, h1, h2]
  · refine (h c).2.1.trans ?_
    rw [h0, h1, h3]
  · refine (h c).2.2.1.trans ?_
    rw [h0, h1]

theorem reference13_frame : quiescent_Reference13Ideal := fun m ρ _ =>
  (θ_run _ _ _).mono (fun r h => ⟨fun c => (h c).2.2.2, sem_eq_zero_of_no_sems (by decide) _⟩) (Cert.Reference13Ideal.Value.run m ρ)

theorem reference13_frame_pre [Cert.Pre_real_sample_rows.Facts] : quiescent_Reference13Ideal_pre_real_sample_rows := fun m ρ _ =>
  (θ_run _ _ _).mono (fun r h => ⟨fun c => (h c).2.2.2, sem_eq_zero_of_no_sems (by decide) _⟩) (Cert.Reference13Ideal.Value.run m ρ)

/-- The value claim of the latent layer's projections of the sample. -/
theorem latent13 [Cert.Pre_real_sample_rows.Facts] : algebraic_Kernel13Ideal_Reference13Ideal_pre_real_sample_rows := by
  intro m g m' g' hpre hargs
  have hreal := fun c => Cert.Lin.sampleRows_real _ _ _ _ (hpre c).1 (hpre c).2
  refine ⟨fun c => Cert.Lin.SL.queries (Cert.Lin.SL.argH m c) (Cert.Lin.SL.argW m c) (Cert.Lin.SL.argQ m c),
    fun c => Cert.Lin.SL.latent (Cert.Lin.SL.argH m c) (Cert.Lin.SL.argW m c) (Cert.Lin.SL.argL m c), fun c => Cert.Lin.SL.key (Cert.Lin.SL.argH m c) (Cert.Lin.SL.argW m c),
    Cert.Lin.SL.run m g (fun c => (hreal c).1) (fun c => (hreal c).2),
    (θ_run _ _ _).mono (fun r h c => ⟨?_, ?_, ?_, (h c).2.2.2⟩) (Cert.Lin.SL.Ref.run m' g')⟩
  all_goals obtain ⟨h0, h1, h2, h3⟩ := hargs c
  · refine (h c).1.trans ?_
    rw [h0, h1, h2]
  · refine (h c).2.1.trans ?_
    rw [h0, h1, h3]
  · refine (h c).2.2.1.trans ?_
    rw [h0, h1]

theorem reference14_frame : quiescent_Reference14Ideal := fun m ρ _ =>
  (θ_run _ _ _).mono (fun r h => ⟨fun c => (h c).2.2, sem_eq_zero_of_no_sems (by decide) _⟩) (Cert.Reference14Ideal.Value.run m ρ)

/-- The value claim of the feed-forward part of the sample. -/
theorem sampleFeedForward : algebraic_Kernel14Ideal_Reference14Ideal := by
  intro m g m' g' _ hargs
  refine ⟨fun c => Cert.SFfn.rows m c, fun c => Cert.SFfn.last m c, Cert.SFfn.run m g,
    (θ_run _ _ _).mono (fun r h c => ⟨?_, ?_, (h c).2.2⟩) (Cert.Reference14Ideal.Value.run m' g')⟩
  · refine (h c).1.trans ((Cert.SFfn.Ref.res_eq m' c).trans ?_)
    obtain ⟨h0, h1, h2, h3, h4, h5, h6, _, h8⟩ := hargs c
    rw [h0, h1, h2, h3, h4, h5, h6, h8]
    funext y
    obtain ⟨n, d, rfl⟩ : ∃ (n : Fin 1024) (d : Fin 2048), y = ix2 n d := ⟨y 0, y 1, eq_ix2 y⟩
    exact Cert.SFfn.Ref.rows_at _ _ _ _ _ _ _ _ n d
  · refine (h c).2.1.trans ?_
    obtain ⟨h0, _, h2, _, _, _, _, _, h8⟩ := hargs c
    rw [h0, h2, h8]
    funext y
    obtain ⟨b, s, e, rfl⟩ : ∃ (b : Fin 32) (s : Fin 2) (e : Fin 11264), y = ix3 b s e := ⟨y 0, y 1, y 2, eq_ix3 y⟩
    exact Cert.SFfn.Ref.last_at _ _ _ b s e

theorem reference15_frame : quiescent_Reference15Ideal := fun m ρ _ =>
  (θ_run _ _ _).mono (fun r h => ⟨fun c => (h c).2.2, sem_eq_zero_of_no_sems (by decide) _⟩) (Cert.Reference15Ideal.Value.run m ρ)

/-- The value claim of the retention over the sample. -/
theorem sampleRetention : algebraic_Kernel15Ideal_Reference15Ideal := by
  intro m g m' g' _ hargs
  refine ⟨fun c => Cert.Ret.rows (Cert.Ret.argX m c) (Cert.Ret.argV m c) (Cert.Ret.argG m c) (Cert.Ret.argS m c),
    fun c => Cert.Ret.states (Cert.Ret.argX m c) (Cert.Ret.argV m c) (Cert.Ret.argS m c), Cert.Ret.run m g,
    (θ_run _ _ _).mono (fun r h c => ⟨?_, ?_, (h c).2.2⟩) (Cert.Ret.Ref.run m' g')⟩
  all_goals obtain ⟨h0, h1, h2, h3⟩ := hargs c
  · refine (h c).1.trans ?_
    rw [h0, h1, h2, h3]
  · refine (h c).2.1.trans ?_
    rw [h0, h1, h3]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Sb.preFacts, Cert.Lin.rowsFacts, Cert.Lin.sampleRowsFacts,
  fun m g _ => Cert.SbBits.frame m g, fun m g _ => Cert.Sb.frame m g, fun m g _ => Cert.Sb.frame m g,
  fun m g _ => reference_frame m g, fun m g _ => reference_frame m g,
  fun m g _ => Cert.Kernel2.Gen.frame m g, fun m g _ => Cert.Kernel2Ideal.Gen.frame m g, fun m g _ => reference2_frame m g,
  fun m g _ => Cert.Kernel3.Gen.frame m g, fun m g _ => Cert.Kernel3Ideal.Gen.frame m g, reference3_frame,
  fun m g _ => Cert.Kernel4.Gen.frame m g, fun m g _ => Cert.Kernel4Ideal.Gen.frame m g, reference4_frame,
  fun m g _ => Cert.Kernel5.Gen.frame m g, fun m g _ => Cert.Kernel5Ideal.Gen.frame m g, reference5_frame,
  fun m g _ => Cert.Kernel6.Gen.frame m g, fun m g _ => Cert.Kernel6Ideal.Gen.frame m g, reference6_frame,
  fun m g _ => Cert.Kernel7.Gen.frame m g, fun m g _ => Cert.Kernel7Ideal.Gen.frame m g, reference7_frame,
  fun m g _ => Cert.Kernel8.Gen.frame m g, fun m g _ => Cert.Kernel8Ideal.Gen.frame m g, reference8_frame,
  fun m g _ => Cert.Kernel9.Gen.frame m g, fun m g _ => Cert.Kernel9Ideal.Gen.frame m g, reference9_frame,
  fun m g _ => Cert.Kernel10.Gen.frame m g, fun m g _ => Cert.Kernel10Ideal.Gen.frame m g, reference10_frame,
  fun m g _ => Cert.Kernel11.Gen.frame m g, fun m g _ => Cert.Kernel11Ideal.Gen.frame m g, reference11_frame,
  fun m g _ => Cert.Kernel12.Gen.frame m g, fun m g _ => Cert.Kernel12Ideal.Gen.frame m g, fun m g _ => Cert.Kernel12Ideal.Gen.frame m g, reference12_frame, (letI := Cert.Lin.rowsFacts; reference12_frame_pre),
  fun m g _ => Cert.Kernel13.Gen.frame m g, fun m g _ => Cert.Kernel13Ideal.Gen.frame m g, fun m g _ => Cert.Kernel13Ideal.Gen.frame m g, reference13_frame, (letI := Cert.Lin.sampleRowsFacts; reference13_frame_pre),
  fun m g _ => Cert.Kernel14.Gen.frame m g, fun m g _ => Cert.Kernel14Ideal.Gen.frame m g, reference14_frame,
  fun m g _ => Cert.Kernel15.Gen.frame m g, fun m g _ => Cert.Kernel15Ideal.Gen.frame m g, reference15_frame,
  trivial, (letI := Cert.Sb.preFacts; attention), trivial, feedForward,
  trivial, linear3, trivial, linear4, trivial, linear5, trivial, linear6, trivial, linear7, trivial, linear8, trivial, linear9,
  trivial, linear10, trivial, linear11, trivial, (letI := Cert.Lin.rowsFacts; latent12), trivial, (letI := Cert.Lin.sampleRowsFacts; latent13), trivial, sampleFeedForward, trivial, sampleRetention⟩

end Cert.Proof

end
